-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_KernelAttIdeal_finite_att [hPre_finite_att : Cert.Pre_finite_att.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3))) = (fun _ => 1#1)

def Pre_ReferenceAttIdeal (m : (ℓ : Loc Cert.ReferenceAttIdeal.nD Cert.ReferenceAttIdeal.τ Cert.ReferenceAttIdeal.sig) → Buf (Elt Ideal) ℓ) : Prop :=
  True

def Pre_ReferenceAttIdeal_finite_att [hPre_finite_att : Cert.Pre_finite_att.Facts] (m : (ℓ : Loc Cert.ReferenceAttIdeal.nD Cert.ReferenceAttIdeal.τ Cert.ReferenceAttIdeal.sig) → Buf (Elt Ideal) ℓ) : Prop :=
  ∀ c : Dev Cert.ReferenceAttIdeal.nD,
    (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))) = (fun _ => 1#1)

def Pre_KernelFla (m : (ℓ : Loc Cert.KernelFla.nD Cert.KernelFla.τ Cert.KernelFla.sig) → Buf (Elt Bits) ℓ) : Prop :=
  True

def Pre_KernelFlaIdeal (m : (ℓ : Loc Cert.KernelFlaIdeal.nD Cert.KernelFlaIdeal.τ Cert.KernelFlaIdeal.sig) → Buf (Elt Ideal) ℓ) : Prop :=
  True

def Pre_KernelFlaIdeal_finite_fla [hPre_finite_fla : Cert.Pre_finite_fla.Facts] (m : (ℓ : Loc Cert.KernelFlaIdeal.nD Cert.KernelFlaIdeal.τ Cert.KernelFlaIdeal.sig) → Buf (Elt Ideal) ℓ) : Prop :=
  ∀ c : Dev Cert.KernelFlaIdeal.nD,
    (Cert.Pre_finite_fla.fn (F := Ideal) (m ((c.tc : Thread Cert.KernelFlaIdeal.nD Cert.KernelFlaIdeal.τ).loc Cert.KernelFlaIdeal.main_arg0)) (m ((c.tc : Thread Cert.KernelFlaIdeal.nD Cert.KernelFlaIdeal.τ).loc Cert.KernelFlaIdeal.main_arg1)) (m ((c.tc : Thread Cert.KernelFlaIdeal.nD Cert.KernelFlaIdeal.τ).loc Cert.KernelFlaIdeal.main_arg2))) = (fun _ => 1#1)

def Pre_ReferenceFlaIdeal (m : (ℓ : Loc Cert.ReferenceFlaIdeal.nD Cert.ReferenceFlaIdeal.τ Cert.ReferenceFlaIdeal.sig) → Buf (Elt Ideal) ℓ) : Prop :=
  True

def Pre_ReferenceFlaIdeal_finite_fla [hPre_finite_fla : Cert.Pre_finite_fla.Facts] (m : (ℓ : Loc Cert.ReferenceFlaIdeal.nD Cert.ReferenceFlaIdeal.τ Cert.ReferenceFlaIdeal.sig) → Buf (Elt Ideal) ℓ) : Prop :=
  ∀ c : Dev Cert.ReferenceFlaIdeal.nD,
    (Cert.Pre_finite_fla.fn (F := Ideal) (m ((c.tc : Thread Cert.ReferenceFlaIdeal.nD Cert.ReferenceFlaIdeal.τ).loc Cert.ReferenceFlaIdeal.main_arg0)) (m ((c.tc : Thread Cert.ReferenceFlaIdeal.nD Cert.ReferenceFlaIdeal.τ).loc Cert.ReferenceFlaIdeal.main_arg1)) (m ((c.tc : Thread Cert.ReferenceFlaIdeal.nD Cert.ReferenceFlaIdeal.τ).loc Cert.ReferenceFlaIdeal.main_arg2))) = (fun _ => 1#1)

def Pre_KernelFfnf (m : (ℓ : Loc Cert.KernelFfnf.nD Cert.KernelFfnf.τ Cert.KernelFfnf.sig) → Buf (Elt Bits) ℓ) : Prop :=
  True

def Pre_KernelFfnfIdeal (m : (ℓ : Loc Cert.KernelFfnfIdeal.nD Cert.KernelFfnfIdeal.τ Cert.KernelFfnfIdeal.sig) → Buf (Elt Ideal) ℓ) : Prop :=
  True

def Pre_ReferenceFfnfIdeal (m : (ℓ : Loc Cert.ReferenceFfnfIdeal.nD Cert.ReferenceFfnfIdeal.τ Cert.ReferenceFfnfIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_ReferencePoolIdeal (m : (ℓ : Loc Cert.ReferencePoolIdeal.nD Cert.ReferencePoolIdeal.τ Cert.ReferencePoolIdeal.sig) → Buf (Elt Ideal) ℓ) : Prop :=
  True

def Pre_KernelPoolf (m : (ℓ : Loc Cert.KernelPoolf.nD Cert.KernelPoolf.τ Cert.KernelPoolf.sig) → Buf (Elt Bits) ℓ) : Prop :=
  True

def Pre_KernelPoolfIdeal (m : (ℓ : Loc Cert.KernelPoolfIdeal.nD Cert.KernelPoolfIdeal.τ Cert.KernelPoolfIdeal.sig) → Buf (Elt Ideal) ℓ) : Prop :=
  True

def Pre_ReferencePoolfIdeal (m : (ℓ : Loc Cert.ReferencePoolfIdeal.nD Cert.ReferencePoolfIdeal.τ Cert.ReferencePoolfIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2)
      ∧ r.2.mem ((c.tc : Thread Cert.KernelAtt.nD Cert.KernelAtt.τ).loc Cert.KernelAtt.main_arg3) = m ((c.tc : Thread Cert.KernelAtt.nD Cert.KernelAtt.τ).loc Cert.KernelAtt.main_arg3))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ r.2.sem = fun _ => 0)

def quiescent_KernelAttIdeal_pre_finite_att [hKernelAttIdeal : Cert.KernelAttIdeal.Facts] [hPre_finite_att : Cert.Pre_finite_att.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_finite_att m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3))
      ∧ r.2.sem = fun _ => 0)

def quiescent_ReferenceAttIdeal_pre_finite_att [hReferenceAttIdeal : Cert.ReferenceAttIdeal.Facts] [hPre_finite_att : Cert.Pre_finite_att.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal_finite_att m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelFla [hKernelFla : Cert.KernelFla.Facts] : Prop :=
  ∀ (m : (ℓ : Loc Cert.KernelFla.nD Cert.KernelFla.τ Cert.KernelFla.sig) → Buf (Elt Bits) ℓ) (g : Dev Cert.KernelFla.nD → PrngReg), Pre_KernelFla m →
    θ_run (Cert.KernelFla.defs (F := Bits)) (onTc (τ := Cert.KernelFla.τ) (Cert.KernelFla.main (F := Bits))) ⟨m, fun _ => 0, g⟩ (fun r => (∀ c : Dev Cert.KernelFla.nD,
      r.2.mem ((c.tc : Thread Cert.KernelFla.nD Cert.KernelFla.τ).loc Cert.KernelFla.main_arg0) = m ((c.tc : Thread Cert.KernelFla.nD Cert.KernelFla.τ).loc Cert.KernelFla.main_arg0)
      ∧ r.2.mem ((c.tc : Thread Cert.KernelFla.nD Cert.KernelFla.τ).loc Cert.KernelFla.main_arg1) = m ((c.tc : Thread Cert.KernelFla.nD Cert.KernelFla.τ).loc Cert.KernelFla.main_arg1)
      ∧ r.2.mem ((c.tc : Thread Cert.KernelFla.nD Cert.KernelFla.τ).loc Cert.KernelFla.main_arg2) = m ((c.tc : Thread Cert.KernelFla.nD Cert.KernelFla.τ).loc Cert.KernelFla.main_arg2))
      ∧ r.2.sem = fun _ => 0)

def quiescent_KernelFlaIdeal [hKernelFlaIdeal : Cert.KernelFlaIdeal.Facts] : Prop :=
  ∀ (m : (ℓ : Loc Cert.KernelFlaIdeal.nD Cert.KernelFlaIdeal.τ Cert.KernelFlaIdeal.sig) → Buf (Elt Ideal) ℓ) (g : Dev Cert.KernelFlaIdeal.nD → PrngReg), Pre_KernelFlaIdeal m →
    θ_run (Cert.KernelFlaIdeal.defs (F := Ideal)) (onTc (τ := Cert.KernelFlaIdeal.τ) (Cert.KernelFlaIdeal.main (F := Ideal))) ⟨m, fun _ => 0, g⟩ (fun r => (∀ c : Dev Cert.KernelFlaIdeal.nD,
      r.2.mem ((c.tc : Thread Cert.KernelFlaIdeal.nD Cert.KernelFlaIdeal.τ).loc Cert.KernelFlaIdeal.main_arg0) = m ((c.tc : Thread Cert.KernelFlaIdeal.nD Cert.KernelFlaIdeal.τ).loc Cert.KernelFlaIdeal.main_arg0)
      ∧ r.2.mem ((c.tc : Thread Cert.KernelFlaIdeal.nD Cert.KernelFlaIdeal.τ).loc Cert.KernelFlaIdeal.main_arg1) = m ((c.tc : Thread Cert.KernelFlaIdeal.nD Cert.KernelFlaIdeal.τ).loc Cert.KernelFlaIdeal.main_arg1)
      ∧ r.2.mem ((c.tc : Thread Cert.KernelFlaIdeal.nD Cert.KernelFlaIdeal.τ).loc Cert.KernelFlaIdeal.main_arg2) = m ((c.tc : Thread Cert.KernelFlaIdeal.nD Cert.KernelFlaIdeal.τ).loc Cert.KernelFlaIdeal.main_arg2))
      ∧ r.2.sem = fun _ => 0)

def quiescent_KernelFlaIdeal_pre_finite_fla [hKernelFlaIdeal : Cert.KernelFlaIdeal.Facts] [hPre_finite_fla : Cert.Pre_finite_fla.Facts] : Prop :=
  ∀ (m : (ℓ : Loc Cert.KernelFlaIdeal.nD Cert.KernelFlaIdeal.τ Cert.KernelFlaIdeal.sig) → Buf (Elt Ideal) ℓ) (g : Dev Cert.KernelFlaIdeal.nD → PrngReg), Pre_KernelFlaIdeal_finite_fla m →
    θ_run (Cert.KernelFlaIdeal.defs (F := Ideal)) (onTc (τ := Cert.KernelFlaIdeal.τ) (Cert.KernelFlaIdeal.main (F := Ideal))) ⟨m, fun _ => 0, g⟩ (fun r => (∀ c : Dev Cert.KernelFlaIdeal.nD,
      r.2.mem ((c.tc : Thread Cert.KernelFlaIdeal.nD Cert.KernelFlaIdeal.τ).loc Cert.KernelFlaIdeal.main_arg0) = m ((c.tc : Thread Cert.KernelFlaIdeal.nD Cert.KernelFlaIdeal.τ).loc Cert.KernelFlaIdeal.main_arg0)
      ∧ r.2.mem ((c.tc : Thread Cert.KernelFlaIdeal.nD Cert.KernelFlaIdeal.τ).loc Cert.KernelFlaIdeal.main_arg1) = m ((c.tc : Thread Cert.KernelFlaIdeal.nD Cert.KernelFlaIdeal.τ).loc Cert.KernelFlaIdeal.main_arg1)
      ∧ r.2.mem ((c.tc : Thread Cert.KernelFlaIdeal.nD Cert.KernelFlaIdeal.τ).loc Cert.KernelFlaIdeal.main_arg2) = m ((c.tc : Thread Cert.KernelFlaIdeal.nD Cert.KernelFlaIdeal.τ).loc Cert.KernelFlaIdeal.main_arg2))
      ∧ r.2.sem = fun _ => 0)

def quiescent_ReferenceFlaIdeal [hReferenceFlaIdeal : Cert.ReferenceFlaIdeal.Facts] : Prop :=
  ∀ (m : (ℓ : Loc Cert.ReferenceFlaIdeal.nD Cert.ReferenceFlaIdeal.τ Cert.ReferenceFlaIdeal.sig) → Buf (Elt Ideal) ℓ) (g : Dev Cert.ReferenceFlaIdeal.nD → PrngReg), Pre_ReferenceFlaIdeal m →
    θ_run (Cert.ReferenceFlaIdeal.defs (F := Ideal)) (onTc (τ := Cert.ReferenceFlaIdeal.τ) (Cert.ReferenceFlaIdeal.main (F := Ideal))) ⟨m, fun _ => 0, g⟩ (fun r => (∀ c : Dev Cert.ReferenceFlaIdeal.nD,
      r.2.mem ((c.tc : Thread Cert.ReferenceFlaIdeal.nD Cert.ReferenceFlaIdeal.τ).loc Cert.ReferenceFlaIdeal.main_arg0) = m ((c.tc : Thread Cert.ReferenceFlaIdeal.nD Cert.ReferenceFlaIdeal.τ).loc Cert.ReferenceFlaIdeal.main_arg0)
      ∧ r.2.mem ((c.tc : Thread Cert.ReferenceFlaIdeal.nD Cert.ReferenceFlaIdeal.τ).loc Cert.ReferenceFlaIdeal.main_arg1) = m ((c.tc : Thread Cert.ReferenceFlaIdeal.nD Cert.ReferenceFlaIdeal.τ).loc Cert.ReferenceFlaIdeal.main_arg1)
      ∧ r.2.mem ((c.tc : Thread Cert.ReferenceFlaIdeal.nD Cert.ReferenceFlaIdeal.τ).loc Cert.ReferenceFlaIdeal.main_arg2) = m ((c.tc : Thread Cert.ReferenceFlaIdeal.nD Cert.ReferenceFlaIdeal.τ).loc Cert.ReferenceFlaIdeal.main_arg2))
      ∧ r.2.sem = fun _ => 0)

def quiescent_ReferenceFlaIdeal_pre_finite_fla [hReferenceFlaIdeal : Cert.ReferenceFlaIdeal.Facts] [hPre_finite_fla : Cert.Pre_finite_fla.Facts] : Prop :=
  ∀ (m : (ℓ : Loc Cert.ReferenceFlaIdeal.nD Cert.ReferenceFlaIdeal.τ Cert.ReferenceFlaIdeal.sig) → Buf (Elt Ideal) ℓ) (g : Dev Cert.ReferenceFlaIdeal.nD → PrngReg), Pre_ReferenceFlaIdeal_finite_fla m →
    θ_run (Cert.ReferenceFlaIdeal.defs (F := Ideal)) (onTc (τ := Cert.ReferenceFlaIdeal.τ) (Cert.ReferenceFlaIdeal.main (F := Ideal))) ⟨m, fun _ => 0, g⟩ (fun r => (∀ c : Dev Cert.ReferenceFlaIdeal.nD,
      r.2.mem ((c.tc : Thread Cert.ReferenceFlaIdeal.nD Cert.ReferenceFlaIdeal.τ).loc Cert.ReferenceFlaIdeal.main_arg0) = m ((c.tc : Thread Cert.ReferenceFlaIdeal.nD Cert.ReferenceFlaIdeal.τ).loc Cert.ReferenceFlaIdeal.main_arg0)
      ∧ r.2.mem ((c.tc : Thread Cert.ReferenceFlaIdeal.nD Cert.ReferenceFlaIdeal.τ).loc Cert.ReferenceFlaIdeal.main_arg1) = m ((c.tc : Thread Cert.ReferenceFlaIdeal.nD Cert.ReferenceFlaIdeal.τ).loc Cert.ReferenceFlaIdeal.main_arg1)
      ∧ r.2.mem ((c.tc : Thread Cert.ReferenceFlaIdeal.nD Cert.ReferenceFlaIdeal.τ).loc Cert.ReferenceFlaIdeal.main_arg2) = m ((c.tc : Thread Cert.ReferenceFlaIdeal.nD Cert.ReferenceFlaIdeal.τ).loc Cert.ReferenceFlaIdeal.main_arg2))
      ∧ r.2.sem = fun _ => 0)

def quiescent_KernelFfnf [hKernelFfnf : Cert.KernelFfnf.Facts] : Prop :=
  ∀ (m : (ℓ : Loc Cert.KernelFfnf.nD Cert.KernelFfnf.τ Cert.KernelFfnf.sig) → Buf (Elt Bits) ℓ) (g : Dev Cert.KernelFfnf.nD → PrngReg), Pre_KernelFfnf m →
    θ_run (Cert.KernelFfnf.defs (F := Bits)) (onTc (τ := Cert.KernelFfnf.τ) (Cert.KernelFfnf.main (F := Bits))) ⟨m, fun _ => 0, g⟩ (fun r => (∀ c : Dev Cert.KernelFfnf.nD,
      r.2.mem ((c.tc : Thread Cert.KernelFfnf.nD Cert.KernelFfnf.τ).loc Cert.KernelFfnf.main_arg0) = m ((c.tc : Thread Cert.KernelFfnf.nD Cert.KernelFfnf.τ).loc Cert.KernelFfnf.main_arg0)
      ∧ r.2.mem ((c.tc : Thread Cert.KernelFfnf.nD Cert.KernelFfnf.τ).loc Cert.KernelFfnf.main_arg1) = m ((c.tc : Thread Cert.KernelFfnf.nD Cert.KernelFfnf.τ).loc Cert.KernelFfnf.main_arg1)
      ∧ r.2.mem ((c.tc : Thread Cert.KernelFfnf.nD Cert.KernelFfnf.τ).loc Cert.KernelFfnf.main_arg2) = m ((c.tc : Thread Cert.KernelFfnf.nD Cert.KernelFfnf.τ).loc Cert.KernelFfnf.main_arg2)
      ∧ r.2.mem ((c.tc : Thread Cert.KernelFfnf.nD Cert.KernelFfnf.τ).loc Cert.KernelFfnf.main_arg3) = m ((c.tc : Thread Cert.KernelFfnf.nD Cert.KernelFfnf.τ).loc Cert.KernelFfnf.main_arg3))
      ∧ r.2.sem = fun _ => 0)

def quiescent_KernelFfnfIdeal [hKernelFfnfIdeal : Cert.KernelFfnfIdeal.Facts] : Prop :=
  ∀ (m : (ℓ : Loc Cert.KernelFfnfIdeal.nD Cert.KernelFfnfIdeal.τ Cert.KernelFfnfIdeal.sig) → Buf (Elt Ideal) ℓ) (g : Dev Cert.KernelFfnfIdeal.nD → PrngReg), Pre_KernelFfnfIdeal m →
    θ_run (Cert.KernelFfnfIdeal.defs (F := Ideal)) (onTc (τ := Cert.KernelFfnfIdeal.τ) (Cert.KernelFfnfIdeal.main (F := Ideal))) ⟨m, fun _ => 0, g⟩ (fun r => (∀ c : Dev Cert.KernelFfnfIdeal.nD,
      r.2.mem ((c.tc : Thread Cert.KernelFfnfIdeal.nD Cert.KernelFfnfIdeal.τ).loc Cert.KernelFfnfIdeal.main_arg0) = m ((c.tc : Thread Cert.KernelFfnfIdeal.nD Cert.KernelFfnfIdeal.τ).loc Cert.KernelFfnfIdeal.main_arg0)
      ∧ r.2.mem ((c.tc : Thread Cert.KernelFfnfIdeal.nD Cert.KernelFfnfIdeal.τ).loc Cert.KernelFfnfIdeal.main_arg1) = m ((c.tc : Thread Cert.KernelFfnfIdeal.nD Cert.KernelFfnfIdeal.τ).loc Cert.KernelFfnfIdeal.main_arg1)
      ∧ r.2.mem ((c.tc : Thread Cert.KernelFfnfIdeal.nD Cert.KernelFfnfIdeal.τ).loc Cert.KernelFfnfIdeal.main_arg2) = m ((c.tc : Thread Cert.KernelFfnfIdeal.nD Cert.KernelFfnfIdeal.τ).loc Cert.KernelFfnfIdeal.main_arg2)
      ∧ r.2.mem ((c.tc : Thread Cert.KernelFfnfIdeal.nD Cert.KernelFfnfIdeal.τ).loc Cert.KernelFfnfIdeal.main_arg3) = m ((c.tc : Thread Cert.KernelFfnfIdeal.nD Cert.KernelFfnfIdeal.τ).loc Cert.KernelFfnfIdeal.main_arg3))
      ∧ r.2.sem = fun _ => 0)

def quiescent_ReferenceFfnfIdeal [hReferenceFfnfIdeal : Cert.ReferenceFfnfIdeal.Facts] : Prop :=
  ∀ (m : (ℓ : Loc Cert.ReferenceFfnfIdeal.nD Cert.ReferenceFfnfIdeal.τ Cert.ReferenceFfnfIdeal.sig) → Buf (Elt Ideal) ℓ) (g : Dev Cert.ReferenceFfnfIdeal.nD → PrngReg), Pre_ReferenceFfnfIdeal m →
    θ_run (Cert.ReferenceFfnfIdeal.defs (F := Ideal)) (onTc (τ := Cert.ReferenceFfnfIdeal.τ) (Cert.ReferenceFfnfIdeal.main (F := Ideal))) ⟨m, fun _ => 0, g⟩ (fun r => (∀ c : Dev Cert.ReferenceFfnfIdeal.nD,
      r.2.mem ((c.tc : Thread Cert.ReferenceFfnfIdeal.nD Cert.ReferenceFfnfIdeal.τ).loc Cert.ReferenceFfnfIdeal.main_arg0) = m ((c.tc : Thread Cert.ReferenceFfnfIdeal.nD Cert.ReferenceFfnfIdeal.τ).loc Cert.ReferenceFfnfIdeal.main_arg0)
      ∧ r.2.mem ((c.tc : Thread Cert.ReferenceFfnfIdeal.nD Cert.ReferenceFfnfIdeal.τ).loc Cert.ReferenceFfnfIdeal.main_arg1) = m ((c.tc : Thread Cert.ReferenceFfnfIdeal.nD Cert.ReferenceFfnfIdeal.τ).loc Cert.ReferenceFfnfIdeal.main_arg1)
      ∧ r.2.mem ((c.tc : Thread Cert.ReferenceFfnfIdeal.nD Cert.ReferenceFfnfIdeal.τ).loc Cert.ReferenceFfnfIdeal.main_arg2) = m ((c.tc : Thread Cert.ReferenceFfnfIdeal.nD Cert.ReferenceFfnfIdeal.τ).loc Cert.ReferenceFfnfIdeal.main_arg2)
      ∧ r.2.mem ((c.tc : Thread Cert.ReferenceFfnfIdeal.nD Cert.ReferenceFfnfIdeal.τ).loc Cert.ReferenceFfnfIdeal.main_arg3) = m ((c.tc : Thread Cert.ReferenceFfnfIdeal.nD Cert.ReferenceFfnfIdeal.τ).loc Cert.ReferenceFfnfIdeal.main_arg3))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelPoolf [hKernelPoolf : Cert.KernelPoolf.Facts] : Prop :=
  ∀ (m : (ℓ : Loc Cert.KernelPoolf.nD Cert.KernelPoolf.τ Cert.KernelPoolf.sig) → Buf (Elt Bits) ℓ) (g : Dev Cert.KernelPoolf.nD → PrngReg), Pre_KernelPoolf m →
    θ_run (Cert.KernelPoolf.defs (F := Bits)) (onTc (τ := Cert.KernelPoolf.τ) (Cert.KernelPoolf.main (F := Bits))) ⟨m, fun _ => 0, g⟩ (fun r => (∀ c : Dev Cert.KernelPoolf.nD,
      r.2.mem ((c.tc : Thread Cert.KernelPoolf.nD Cert.KernelPoolf.τ).loc Cert.KernelPoolf.main_arg0) = m ((c.tc : Thread Cert.KernelPoolf.nD Cert.KernelPoolf.τ).loc Cert.KernelPoolf.main_arg0)
      ∧ r.2.mem ((c.tc : Thread Cert.KernelPoolf.nD Cert.KernelPoolf.τ).loc Cert.KernelPoolf.main_arg1) = m ((c.tc : Thread Cert.KernelPoolf.nD Cert.KernelPoolf.τ).loc Cert.KernelPoolf.main_arg1)
      ∧ r.2.mem ((c.tc : Thread Cert.KernelPoolf.nD Cert.KernelPoolf.τ).loc Cert.KernelPoolf.main_arg2) = m ((c.tc : Thread Cert.KernelPoolf.nD Cert.KernelPoolf.τ).loc Cert.KernelPoolf.main_arg2)
      ∧ r.2.mem ((c.tc : Thread Cert.KernelPoolf.nD Cert.KernelPoolf.τ).loc Cert.KernelPoolf.main_arg3) = m ((c.tc : Thread Cert.KernelPoolf.nD Cert.KernelPoolf.τ).loc Cert.KernelPoolf.main_arg3)
      ∧ r.2.mem ((c.tc : Thread Cert.KernelPoolf.nD Cert.KernelPoolf.τ).loc Cert.KernelPoolf.main_arg4) = m ((c.tc : Thread Cert.KernelPoolf.nD Cert.KernelPoolf.τ).loc Cert.KernelPoolf.main_arg4)
      ∧ r.2.mem ((c.tc : Thread Cert.KernelPoolf.nD Cert.KernelPoolf.τ).loc Cert.KernelPoolf.main_arg5) = m ((c.tc : Thread Cert.KernelPoolf.nD Cert.KernelPoolf.τ).loc Cert.KernelPoolf.main_arg5))
      ∧ r.2.sem = fun _ => 0)

def quiescent_KernelPoolfIdeal [hKernelPoolfIdeal : Cert.KernelPoolfIdeal.Facts] : Prop :=
  ∀ (m : (ℓ : Loc Cert.KernelPoolfIdeal.nD Cert.KernelPoolfIdeal.τ Cert.KernelPoolfIdeal.sig) → Buf (Elt Ideal) ℓ) (g : Dev Cert.KernelPoolfIdeal.nD → PrngReg), Pre_KernelPoolfIdeal m →
    θ_run (Cert.KernelPoolfIdeal.defs (F := Ideal)) (onTc (τ := Cert.KernelPoolfIdeal.τ) (Cert.KernelPoolfIdeal.main (F := Ideal))) ⟨m, fun _ => 0, g⟩ (fun r => (∀ c : Dev Cert.KernelPoolfIdeal.nD,
      r.2.mem ((c.tc : Thread Cert.KernelPoolfIdeal.nD Cert.KernelPoolfIdeal.τ).loc Cert.KernelPoolfIdeal.main_arg0) = m ((c.tc : Thread Cert.KernelPoolfIdeal.nD Cert.KernelPoolfIdeal.τ).loc Cert.KernelPoolfIdeal.main_arg0)
      ∧ r.2.mem ((c.tc : Thread Cert.KernelPoolfIdeal.nD Cert.KernelPoolfIdeal.τ).loc Cert.KernelPoolfIdeal.main_arg1) = m ((c.tc : Thread Cert.KernelPoolfIdeal.nD Cert.KernelPoolfIdeal.τ).loc Cert.KernelPoolfIdeal.main_arg1)
      ∧ r.2.mem ((c.tc : Thread Cert.KernelPoolfIdeal.nD Cert.KernelPoolfIdeal.τ).loc Cert.KernelPoolfIdeal.main_arg2) = m ((c.tc : Thread Cert.KernelPoolfIdeal.nD Cert.KernelPoolfIdeal.τ).loc Cert.KernelPoolfIdeal.main_arg2)
      ∧ r.2.mem ((c.tc : Thread Cert.KernelPoolfIdeal.nD Cert.KernelPoolfIdeal.τ).loc Cert.KernelPoolfIdeal.main_arg3) = m ((c.tc : Thread Cert.KernelPoolfIdeal.nD Cert.KernelPoolfIdeal.τ).loc Cert.KernelPoolfIdeal.main_arg3)
      ∧ r.2.mem ((c.tc : Thread Cert.KernelPoolfIdeal.nD Cert.KernelPoolfIdeal.τ).loc Cert.KernelPoolfIdeal.main_arg4) = m ((c.tc : Thread Cert.KernelPoolfIdeal.nD Cert.KernelPoolfIdeal.τ).loc Cert.KernelPoolfIdeal.main_arg4)
      ∧ r.2.mem ((c.tc : Thread Cert.KernelPoolfIdeal.nD Cert.KernelPoolfIdeal.τ).loc Cert.KernelPoolfIdeal.main_arg5) = m ((c.tc : Thread Cert.KernelPoolfIdeal.nD Cert.KernelPoolfIdeal.τ).loc Cert.KernelPoolfIdeal.main_arg5))
      ∧ r.2.sem = fun _ => 0)

def quiescent_ReferencePoolfIdeal [hReferencePoolfIdeal : Cert.ReferencePoolfIdeal.Facts] : Prop :=
  ∀ (m : (ℓ : Loc Cert.ReferencePoolfIdeal.nD Cert.ReferencePoolfIdeal.τ Cert.ReferencePoolfIdeal.sig) → Buf (Elt Ideal) ℓ) (g : Dev Cert.ReferencePoolfIdeal.nD → PrngReg), Pre_ReferencePoolfIdeal m →
    θ_run (Cert.ReferencePoolfIdeal.defs (F := Ideal)) (onTc (τ := Cert.ReferencePoolfIdeal.τ) (Cert.ReferencePoolfIdeal.main (F := Ideal))) ⟨m, fun _ => 0, g⟩ (fun r => (∀ c : Dev Cert.ReferencePoolfIdeal.nD,
      r.2.mem ((c.tc : Thread Cert.ReferencePoolfIdeal.nD Cert.ReferencePoolfIdeal.τ).loc Cert.ReferencePoolfIdeal.main_arg0) = m ((c.tc : Thread Cert.ReferencePoolfIdeal.nD Cert.ReferencePoolfIdeal.τ).loc Cert.ReferencePoolfIdeal.main_arg0)
      ∧ r.2.mem ((c.tc : Thread Cert.ReferencePoolfIdeal.nD Cert.ReferencePoolfIdeal.τ).loc Cert.ReferencePoolfIdeal.main_arg1) = m ((c.tc : Thread Cert.ReferencePoolfIdeal.nD Cert.ReferencePoolfIdeal.τ).loc Cert.ReferencePoolfIdeal.main_arg1)
      ∧ r.2.mem ((c.tc : Thread Cert.ReferencePoolfIdeal.nD Cert.ReferencePoolfIdeal.τ).loc Cert.ReferencePoolfIdeal.main_arg2) = m ((c.tc : Thread Cert.ReferencePoolfIdeal.nD Cert.ReferencePoolfIdeal.τ).loc Cert.ReferencePoolfIdeal.main_arg2)
      ∧ r.2.mem ((c.tc : Thread Cert.ReferencePoolfIdeal.nD Cert.ReferencePoolfIdeal.τ).loc Cert.ReferencePoolfIdeal.main_arg3) = m ((c.tc : Thread Cert.ReferencePoolfIdeal.nD Cert.ReferencePoolfIdeal.τ).loc Cert.ReferencePoolfIdeal.main_arg3)
      ∧ r.2.mem ((c.tc : Thread Cert.ReferencePoolfIdeal.nD Cert.ReferencePoolfIdeal.τ).loc Cert.ReferencePoolfIdeal.main_arg4) = m ((c.tc : Thread Cert.ReferencePoolfIdeal.nD Cert.ReferencePoolfIdeal.τ).loc Cert.ReferencePoolfIdeal.main_arg4)
      ∧ r.2.mem ((c.tc : Thread Cert.ReferencePoolfIdeal.nD Cert.ReferencePoolfIdeal.τ).loc Cert.ReferencePoolfIdeal.main_arg5) = m ((c.tc : Thread Cert.ReferencePoolfIdeal.nD Cert.ReferencePoolfIdeal.τ).loc Cert.ReferencePoolfIdeal.main_arg5))
      ∧ r.2.sem = fun _ => 0)

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v15_0)) (v1 : (c : Dev Cert.KernelMixIdeal.nD) → Buf (Elt Ideal) ((c.tc : Thread Cert.KernelMixIdeal.nD Cert.KernelMixIdeal.τ).loc Cert.KernelMixIdeal.main_v15_1)) (v2 : (c : Dev Cert.KernelMixIdeal.nD) → Buf (Elt Ideal) ((c.tc : Thread Cert.KernelMixIdeal.nD Cert.KernelMixIdeal.τ).loc Cert.KernelMixIdeal.main_v15_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v15_0) = v0 c
          ∧ r.2.mem ((c.tc : Thread Cert.KernelMixIdeal.nD Cert.KernelMixIdeal.τ).loc Cert.KernelMixIdeal.main_v15_1) = v1 c
          ∧ r.2.mem ((c.tc : Thread Cert.KernelMixIdeal.nD Cert.KernelMixIdeal.τ).loc Cert.KernelMixIdeal.main_v15_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v38) = v0 c
          ∧ r.2.mem ((c.tc : Thread Cert.ReferenceMixIdeal.nD Cert.ReferenceMixIdeal.τ).loc Cert.ReferenceMixIdeal.main_v52) = v1 c
          ∧ r.2.mem ((c.tc : Thread Cert.ReferenceMixIdeal.nD Cert.ReferenceMixIdeal.τ).loc Cert.ReferenceMixIdeal.main_v53) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v14_0)) (v1 : (c : Dev Cert.KernelOutIdeal.nD) → Buf (Elt Ideal) ((c.tc : Thread Cert.KernelOutIdeal.nD Cert.KernelOutIdeal.τ).loc Cert.KernelOutIdeal.main_v14_1)) (v2 : (c : Dev Cert.KernelOutIdeal.nD) → Buf (Elt Ideal) ((c.tc : Thread Cert.KernelOutIdeal.nD Cert.KernelOutIdeal.τ).loc Cert.KernelOutIdeal.main_v14_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v14_0) = v0 c
          ∧ r.2.mem ((c.tc : Thread Cert.KernelOutIdeal.nD Cert.KernelOutIdeal.τ).loc Cert.KernelOutIdeal.main_v14_1) = v1 c
          ∧ r.2.mem ((c.tc : Thread Cert.KernelOutIdeal.nD Cert.KernelOutIdeal.τ).loc Cert.KernelOutIdeal.main_v14_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v14) = v0 c
          ∧ r.2.mem ((c.tc : Thread Cert.ReferenceOutIdeal.nD Cert.ReferenceOutIdeal.τ).loc Cert.ReferenceOutIdeal.main_v4) = v1 c
          ∧ r.2.mem ((c.tc : Thread Cert.ReferenceOutIdeal.nD Cert.ReferenceOutIdeal.τ).loc Cert.ReferenceOutIdeal.main_v13) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelAtt_KernelAttIdeal : Prop :=
  IdealRules.named_const.Statement Cert.KernelAttIdeal.κ "ln_2" .f32 0x3F317218#32 ((Real.log 2 : ℝ) : EReal)

def algebraic_KernelAttIdeal_ReferenceAttIdeal_pre_finite_att [hKernelAttIdeal : Cert.KernelAttIdeal.Facts] [hReferenceAttIdeal : Cert.ReferenceAttIdeal.Facts] [hPre_finite_att : Cert.Pre_finite_att.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal_finite_att m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)
      ∧ m' ((c.tc : Thread Cert.ReferenceAttIdeal.nD Cert.ReferenceAttIdeal.τ).loc Cert.ReferenceAttIdeal.main_arg2) = m ((c.tc : Thread Cert.KernelAttIdeal.nD Cert.KernelAttIdeal.τ).loc Cert.KernelAttIdeal.main_arg2)
      ∧ m' ((c.tc : Thread Cert.ReferenceAttIdeal.nD Cert.ReferenceAttIdeal.τ).loc Cert.ReferenceAttIdeal.main_arg3) = m ((c.tc : Thread Cert.KernelAttIdeal.nD Cert.KernelAttIdeal.τ).loc Cert.KernelAttIdeal.main_arg3)) →
    ∃ (v0 : (c : Dev Cert.KernelAttIdeal.nD) → Buf (Elt Ideal) ((c.tc : Thread Cert.KernelAttIdeal.nD Cert.KernelAttIdeal.τ).loc Cert.KernelAttIdeal.main_v40_0)) (v1 : (c : Dev Cert.KernelAttIdeal.nD) → Buf (Elt Ideal) ((c.tc : Thread Cert.KernelAttIdeal.nD Cert.KernelAttIdeal.τ).loc Cert.KernelAttIdeal.main_v40_1)) (v2 : (c : Dev Cert.KernelAttIdeal.nD) → Buf (Elt Ideal) ((c.tc : Thread Cert.KernelAttIdeal.nD Cert.KernelAttIdeal.τ).loc Cert.KernelAttIdeal.main_v40_2)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v40_0) = v0 c
          ∧ r.2.mem ((c.tc : Thread Cert.KernelAttIdeal.nD Cert.KernelAttIdeal.τ).loc Cert.KernelAttIdeal.main_v40_1) = v1 c
          ∧ r.2.mem ((c.tc : Thread Cert.KernelAttIdeal.nD Cert.KernelAttIdeal.τ).loc Cert.KernelAttIdeal.main_v40_2) = v2 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
          ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v56) = v0 c
          ∧ r.2.mem ((c.tc : Thread Cert.ReferenceAttIdeal.nD Cert.ReferenceAttIdeal.τ).loc Cert.ReferenceAttIdeal.main_v59) = v1 c
          ∧ r.2.mem ((c.tc : Thread Cert.ReferenceAttIdeal.nD Cert.ReferenceAttIdeal.τ).loc Cert.ReferenceAttIdeal.main_v62) = v2 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1)
          ∧ r.2.mem ((c.tc : Thread Cert.ReferenceAttIdeal.nD Cert.ReferenceAttIdeal.τ).loc Cert.ReferenceAttIdeal.main_arg2) = m' ((c.tc : Thread Cert.ReferenceAttIdeal.nD Cert.ReferenceAttIdeal.τ).loc Cert.ReferenceAttIdeal.main_arg2)
          ∧ r.2.mem ((c.tc : Thread Cert.ReferenceAttIdeal.nD Cert.ReferenceAttIdeal.τ).loc Cert.ReferenceAttIdeal.main_arg3) = m' ((c.tc : Thread Cert.ReferenceAttIdeal.nD Cert.ReferenceAttIdeal.τ).loc Cert.ReferenceAttIdeal.main_arg3))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v24_0)) (v1 : (c : Dev Cert.KernelFfnIdeal.nD) → Buf (Elt Ideal) ((c.tc : Thread Cert.KernelFfnIdeal.nD Cert.KernelFfnIdeal.τ).loc Cert.KernelFfnIdeal.main_v24_1)) (v2 : (c : Dev Cert.KernelFfnIdeal.nD) → Buf (Elt Ideal) ((c.tc : Thread Cert.KernelFfnIdeal.nD Cert.KernelFfnIdeal.τ).loc Cert.KernelFfnIdeal.main_v24_2)) (v3 : (c : Dev Cert.KernelFfnIdeal.nD) → Buf (Elt Ideal) ((c.tc : Thread Cert.KernelFfnIdeal.nD Cert.KernelFfnIdeal.τ).loc Cert.KernelFfnIdeal.main_v24_3)) (v4 : (c : Dev Cert.KernelFfnIdeal.nD) → Buf (Elt Ideal) ((c.tc : Thread Cert.KernelFfnIdeal.nD Cert.KernelFfnIdeal.τ).loc Cert.KernelFfnIdeal.main_v24_4)) (v5 : (c : Dev Cert.KernelFfnIdeal.nD) → Buf (Elt Ideal) ((c.tc : Thread Cert.KernelFfnIdeal.nD Cert.KernelFfnIdeal.τ).loc Cert.KernelFfnIdeal.main_v24_5)) (v6 : (c : Dev Cert.KernelFfnIdeal.nD) → Buf (Elt Ideal) ((c.tc : Thread Cert.KernelFfnIdeal.nD Cert.KernelFfnIdeal.τ).loc Cert.KernelFfnIdeal.main_v24_6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v24_0) = v0 c
          ∧ r.2.mem ((c.tc : Thread Cert.KernelFfnIdeal.nD Cert.KernelFfnIdeal.τ).loc Cert.KernelFfnIdeal.main_v24_1) = v1 c
          ∧ r.2.mem ((c.tc : Thread Cert.KernelFfnIdeal.nD Cert.KernelFfnIdeal.τ).loc Cert.KernelFfnIdeal.main_v24_2) = v2 c
          ∧ r.2.mem ((c.tc : Thread Cert.KernelFfnIdeal.nD Cert.KernelFfnIdeal.τ).loc Cert.KernelFfnIdeal.main_v24_3) = v3 c
          ∧ r.2.mem ((c.tc : Thread Cert.KernelFfnIdeal.nD Cert.KernelFfnIdeal.τ).loc Cert.KernelFfnIdeal.main_v24_4) = v4 c
          ∧ r.2.mem ((c.tc : Thread Cert.KernelFfnIdeal.nD Cert.KernelFfnIdeal.τ).loc Cert.KernelFfnIdeal.main_v24_5) = v5 c
          ∧ r.2.mem ((c.tc : Thread Cert.KernelFfnIdeal.nD Cert.KernelFfnIdeal.τ).loc Cert.KernelFfnIdeal.main_v24_6) = v6 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v56) = v0 c
          ∧ r.2.mem ((c.tc : Thread Cert.ReferenceFfnIdeal.nD Cert.ReferenceFfnIdeal.τ).loc Cert.ReferenceFfnIdeal.main_v57) = v1 c
          ∧ r.2.mem ((c.tc : Thread Cert.ReferenceFfnIdeal.nD Cert.ReferenceFfnIdeal.τ).loc Cert.ReferenceFfnIdeal.main_v58) = v2 c
          ∧ r.2.mem ((c.tc : Thread Cert.ReferenceFfnIdeal.nD Cert.ReferenceFfnIdeal.τ).loc Cert.ReferenceFfnIdeal.main_v60) = v3 c
          ∧ r.2.mem ((c.tc : Thread Cert.ReferenceFfnIdeal.nD Cert.ReferenceFfnIdeal.τ).loc Cert.ReferenceFfnIdeal.main_v62) = v4 c
          ∧ r.2.mem ((c.tc : Thread Cert.ReferenceFfnIdeal.nD Cert.ReferenceFfnIdeal.τ).loc Cert.ReferenceFfnIdeal.main_v65) = v5 c
          ∧ r.2.mem ((c.tc : Thread Cert.ReferenceFfnIdeal.nD Cert.ReferenceFfnIdeal.τ).loc Cert.ReferenceFfnIdeal.main_v66) = v6 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelFla_KernelFlaIdeal : Prop :=
  IdealRules.named_const.Statement Cert.KernelFlaIdeal.κ "log2_e" .f32 0x3FB8AA3B#32 (((Real.log 2)⁻¹ : ℝ) : EReal)

def algebraic_KernelFlaIdeal_ReferenceFlaIdeal_pre_finite_fla [hKernelFlaIdeal : Cert.KernelFlaIdeal.Facts] [hReferenceFlaIdeal : Cert.ReferenceFlaIdeal.Facts] [hPre_finite_fla : Cert.Pre_finite_fla.Facts] : Prop :=
  ∀ (m : (ℓ : Loc Cert.KernelFlaIdeal.nD Cert.KernelFlaIdeal.τ Cert.KernelFlaIdeal.sig) → Buf (Elt Ideal) ℓ) (g : Dev Cert.KernelFlaIdeal.nD → PrngReg)
    (m' : (ℓ : Loc Cert.ReferenceFlaIdeal.nD Cert.ReferenceFlaIdeal.τ Cert.ReferenceFlaIdeal.sig) → Buf (Elt Ideal) ℓ) (g' : Dev Cert.ReferenceFlaIdeal.nD → PrngReg), Pre_KernelFlaIdeal_finite_fla m →
    (∀ c : Dev Cert.KernelFlaIdeal.nD,
      m' ((c.tc : Thread Cert.ReferenceFlaIdeal.nD Cert.ReferenceFlaIdeal.τ).loc Cert.ReferenceFlaIdeal.main_arg0) = m ((c.tc : Thread Cert.KernelFlaIdeal.nD Cert.KernelFlaIdeal.τ).loc Cert.KernelFlaIdeal.main_arg0)
      ∧ m' ((c.tc : Thread Cert.ReferenceFlaIdeal.nD Cert.ReferenceFlaIdeal.τ).loc Cert.ReferenceFlaIdeal.main_arg1) = m ((c.tc : Thread Cert.KernelFlaIdeal.nD Cert.KernelFlaIdeal.τ).loc Cert.KernelFlaIdeal.main_arg1)
      ∧ m' ((c.tc : Thread Cert.ReferenceFlaIdeal.nD Cert.ReferenceFlaIdeal.τ).loc Cert.ReferenceFlaIdeal.main_arg2) = m ((c.tc : Thread Cert.KernelFlaIdeal.nD Cert.KernelFlaIdeal.τ).loc Cert.KernelFlaIdeal.main_arg2)) →
    ∃ (v0 : (c : Dev Cert.KernelFlaIdeal.nD) → Buf (Elt Ideal) ((c.tc : Thread Cert.KernelFlaIdeal.nD Cert.KernelFlaIdeal.τ).loc Cert.KernelFlaIdeal.main_v15_0)) (v1 : (c : Dev Cert.KernelFlaIdeal.nD) → Buf (Elt Ideal) ((c.tc : Thread Cert.KernelFlaIdeal.nD Cert.KernelFlaIdeal.τ).loc Cert.KernelFlaIdeal.main_v15_1)),
      θ_run (Cert.KernelFlaIdeal.defs (F := Ideal)) (onTc (τ := Cert.KernelFlaIdeal.τ) (Cert.KernelFlaIdeal.main (F := Ideal))) ⟨m, fun _ => 0, g⟩ (fun r => ∀ c : Dev Cert.KernelFlaIdeal.nD,
          r.2.mem ((c.tc : Thread Cert.KernelFlaIdeal.nD Cert.KernelFlaIdeal.τ).loc Cert.KernelFlaIdeal.main_v15_0) = v0 c
          ∧ r.2.mem ((c.tc : Thread Cert.KernelFlaIdeal.nD Cert.KernelFlaIdeal.τ).loc Cert.KernelFlaIdeal.main_v15_1) = v1 c
          ∧ r.2.mem ((c.tc : Thread Cert.KernelFlaIdeal.nD Cert.KernelFlaIdeal.τ).loc Cert.KernelFlaIdeal.main_arg0) = m ((c.tc : Thread Cert.KernelFlaIdeal.nD Cert.KernelFlaIdeal.τ).loc Cert.KernelFlaIdeal.main_arg0)
          ∧ r.2.mem ((c.tc : Thread Cert.KernelFlaIdeal.nD Cert.KernelFlaIdeal.τ).loc Cert.KernelFlaIdeal.main_arg1) = m ((c.tc : Thread Cert.KernelFlaIdeal.nD Cert.KernelFlaIdeal.τ).loc Cert.KernelFlaIdeal.main_arg1)
          ∧ r.2.mem ((c.tc : Thread Cert.KernelFlaIdeal.nD Cert.KernelFlaIdeal.τ).loc Cert.KernelFlaIdeal.main_arg2) = m ((c.tc : Thread Cert.KernelFlaIdeal.nD Cert.KernelFlaIdeal.τ).loc Cert.KernelFlaIdeal.main_arg2))
      ∧ θ_run (Cert.ReferenceFlaIdeal.defs (F := Ideal)) (onTc (τ := Cert.ReferenceFlaIdeal.τ) (Cert.ReferenceFlaIdeal.main (F := Ideal))) ⟨m', fun _ => 0, g'⟩ (fun r => ∀ c : Dev Cert.ReferenceFlaIdeal.nD,
          r.2.mem ((c.tc : Thread Cert.ReferenceFlaIdeal.nD Cert.ReferenceFlaIdeal.τ).loc Cert.ReferenceFlaIdeal.main_v19) = v0 c
          ∧ r.2.mem ((c.tc : Thread Cert.ReferenceFlaIdeal.nD Cert.ReferenceFlaIdeal.τ).loc Cert.ReferenceFlaIdeal.main_v34) = v1 c
          ∧ r.2.mem ((c.tc : Thread Cert.ReferenceFlaIdeal.nD Cert.ReferenceFlaIdeal.τ).loc Cert.ReferenceFlaIdeal.main_arg0) = m' ((c.tc : Thread Cert.ReferenceFlaIdeal.nD Cert.ReferenceFlaIdeal.τ).loc Cert.ReferenceFlaIdeal.main_arg0)
          ∧ r.2.mem ((c.tc : Thread Cert.ReferenceFlaIdeal.nD Cert.ReferenceFlaIdeal.τ).loc Cert.ReferenceFlaIdeal.main_arg1) = m' ((c.tc : Thread Cert.ReferenceFlaIdeal.nD Cert.ReferenceFlaIdeal.τ).loc Cert.ReferenceFlaIdeal.main_arg1)
          ∧ r.2.mem ((c.tc : Thread Cert.ReferenceFlaIdeal.nD Cert.ReferenceFlaIdeal.τ).loc Cert.ReferenceFlaIdeal.main_arg2) = m' ((c.tc : Thread Cert.ReferenceFlaIdeal.nD Cert.ReferenceFlaIdeal.τ).loc Cert.ReferenceFlaIdeal.main_arg2))

def preserves_KernelFfnf_KernelFfnfIdeal : Prop :=
  True

def algebraic_KernelFfnfIdeal_ReferenceFfnfIdeal [hKernelFfnfIdeal : Cert.KernelFfnfIdeal.Facts] [hReferenceFfnfIdeal : Cert.ReferenceFfnfIdeal.Facts] : Prop :=
  ∀ (m : (ℓ : Loc Cert.KernelFfnfIdeal.nD Cert.KernelFfnfIdeal.τ Cert.KernelFfnfIdeal.sig) → Buf (Elt Ideal) ℓ) (g : Dev Cert.KernelFfnfIdeal.nD → PrngReg)
    (m' : (ℓ : Loc Cert.ReferenceFfnfIdeal.nD Cert.ReferenceFfnfIdeal.τ Cert.ReferenceFfnfIdeal.sig) → Buf (Elt Ideal) ℓ) (g' : Dev Cert.ReferenceFfnfIdeal.nD → PrngReg), Pre_KernelFfnfIdeal m →
    (∀ c : Dev Cert.KernelFfnfIdeal.nD,
      m' ((c.tc : Thread Cert.ReferenceFfnfIdeal.nD Cert.ReferenceFfnfIdeal.τ).loc Cert.ReferenceFfnfIdeal.main_arg0) = m ((c.tc : Thread Cert.KernelFfnfIdeal.nD Cert.KernelFfnfIdeal.τ).loc Cert.KernelFfnfIdeal.main_arg0)
      ∧ m' ((c.tc : Thread Cert.ReferenceFfnfIdeal.nD Cert.ReferenceFfnfIdeal.τ).loc Cert.ReferenceFfnfIdeal.main_arg1) = m ((c.tc : Thread Cert.KernelFfnfIdeal.nD Cert.KernelFfnfIdeal.τ).loc Cert.KernelFfnfIdeal.main_arg1)
      ∧ m' ((c.tc : Thread Cert.ReferenceFfnfIdeal.nD Cert.ReferenceFfnfIdeal.τ).loc Cert.ReferenceFfnfIdeal.main_arg2) = m ((c.tc : Thread Cert.KernelFfnfIdeal.nD Cert.KernelFfnfIdeal.τ).loc Cert.KernelFfnfIdeal.main_arg2)
      ∧ m' ((c.tc : Thread Cert.ReferenceFfnfIdeal.nD Cert.ReferenceFfnfIdeal.τ).loc Cert.ReferenceFfnfIdeal.main_arg3) = m ((c.tc : Thread Cert.KernelFfnfIdeal.nD Cert.KernelFfnfIdeal.τ).loc Cert.KernelFfnfIdeal.main_arg3)) →
    ∃ (v0 : (c : Dev Cert.KernelFfnfIdeal.nD) → Buf (Elt Ideal) ((c.tc : Thread Cert.KernelFfnfIdeal.nD Cert.KernelFfnfIdeal.τ).loc Cert.KernelFfnfIdeal.main_v7_0)) (v1 : (c : Dev Cert.KernelFfnfIdeal.nD) → Buf (Elt Ideal) ((c.tc : Thread Cert.KernelFfnfIdeal.nD Cert.KernelFfnfIdeal.τ).loc Cert.KernelFfnfIdeal.main_v7_1)) (v2 : (c : Dev Cert.KernelFfnfIdeal.nD) → Buf (Elt Ideal) ((c.tc : Thread Cert.KernelFfnfIdeal.nD Cert.KernelFfnfIdeal.τ).loc Cert.KernelFfnfIdeal.main_v7_2)),
      θ_run (Cert.KernelFfnfIdeal.defs (F := Ideal)) (onTc (τ := Cert.KernelFfnfIdeal.τ) (Cert.KernelFfnfIdeal.main (F := Ideal))) ⟨m, fun _ => 0, g⟩ (fun r => ∀ c : Dev Cert.KernelFfnfIdeal.nD,
          r.2.mem ((c.tc : Thread Cert.KernelFfnfIdeal.nD Cert.KernelFfnfIdeal.τ).loc Cert.KernelFfnfIdeal.main_v7_0) = v0 c
          ∧ r.2.mem ((c.tc : Thread Cert.KernelFfnfIdeal.nD Cert.KernelFfnfIdeal.τ).loc Cert.KernelFfnfIdeal.main_v7_1) = v1 c
          ∧ r.2.mem ((c.tc : Thread Cert.KernelFfnfIdeal.nD Cert.KernelFfnfIdeal.τ).loc Cert.KernelFfnfIdeal.main_v7_2) = v2 c
          ∧ r.2.mem ((c.tc : Thread Cert.KernelFfnfIdeal.nD Cert.KernelFfnfIdeal.τ).loc Cert.KernelFfnfIdeal.main_arg0) = m ((c.tc : Thread Cert.KernelFfnfIdeal.nD Cert.KernelFfnfIdeal.τ).loc Cert.KernelFfnfIdeal.main_arg0)
          ∧ r.2.mem ((c.tc : Thread Cert.KernelFfnfIdeal.nD Cert.KernelFfnfIdeal.τ).loc Cert.KernelFfnfIdeal.main_arg1) = m ((c.tc : Thread Cert.KernelFfnfIdeal.nD Cert.KernelFfnfIdeal.τ).loc Cert.KernelFfnfIdeal.main_arg1)
          ∧ r.2.mem ((c.tc : Thread Cert.KernelFfnfIdeal.nD Cert.KernelFfnfIdeal.τ).loc Cert.KernelFfnfIdeal.main_arg2) = m ((c.tc : Thread Cert.KernelFfnfIdeal.nD Cert.KernelFfnfIdeal.τ).loc Cert.KernelFfnfIdeal.main_arg2)
          ∧ r.2.mem ((c.tc : Thread Cert.KernelFfnfIdeal.nD Cert.KernelFfnfIdeal.τ).loc Cert.KernelFfnfIdeal.main_arg3) = m ((c.tc : Thread Cert.KernelFfnfIdeal.nD Cert.KernelFfnfIdeal.τ).loc Cert.KernelFfnfIdeal.main_arg3))
      ∧ θ_run (Cert.ReferenceFfnfIdeal.defs (F := Ideal)) (onTc (τ := Cert.ReferenceFfnfIdeal.τ) (Cert.ReferenceFfnfIdeal.main (F := Ideal))) ⟨m', fun _ => 0, g'⟩ (fun r => ∀ c : Dev Cert.ReferenceFfnfIdeal.nD,
          r.2.mem ((c.tc : Thread Cert.ReferenceFfnfIdeal.nD Cert.ReferenceFfnfIdeal.τ).loc Cert.ReferenceFfnfIdeal.main_v21) = v0 c
          ∧ r.2.mem ((c.tc : Thread Cert.ReferenceFfnfIdeal.nD Cert.ReferenceFfnfIdeal.τ).loc Cert.ReferenceFfnfIdeal.main_v22) = v1 c
          ∧ r.2.mem ((c.tc : Thread Cert.ReferenceFfnfIdeal.nD Cert.ReferenceFfnfIdeal.τ).loc Cert.ReferenceFfnfIdeal.main_v23) = v2 c
          ∧ r.2.mem ((c.tc : Thread Cert.ReferenceFfnfIdeal.nD Cert.ReferenceFfnfIdeal.τ).loc Cert.ReferenceFfnfIdeal.main_arg0) = m' ((c.tc : Thread Cert.ReferenceFfnfIdeal.nD Cert.ReferenceFfnfIdeal.τ).loc Cert.ReferenceFfnfIdeal.main_arg0)
          ∧ r.2.mem ((c.tc : Thread Cert.ReferenceFfnfIdeal.nD Cert.ReferenceFfnfIdeal.τ).loc Cert.ReferenceFfnfIdeal.main_arg1) = m' ((c.tc : Thread Cert.ReferenceFfnfIdeal.nD Cert.ReferenceFfnfIdeal.τ).loc Cert.ReferenceFfnfIdeal.main_arg1)
          ∧ r.2.mem ((c.tc : Thread Cert.ReferenceFfnfIdeal.nD Cert.ReferenceFfnfIdeal.τ).loc Cert.ReferenceFfnfIdeal.main_arg2) = m' ((c.tc : Thread Cert.ReferenceFfnfIdeal.nD Cert.ReferenceFfnfIdeal.τ).loc Cert.ReferenceFfnfIdeal.main_arg2)
          ∧ r.2.mem ((c.tc : Thread Cert.ReferenceFfnfIdeal.nD Cert.ReferenceFfnfIdeal.τ).loc Cert.ReferenceFfnfIdeal.main_arg3) = m' ((c.tc : Thread Cert.ReferenceFfnfIdeal.nD Cert.ReferenceFfnfIdeal.τ).loc Cert.ReferenceFfnfIdeal.main_arg3))

def preserves_KernelPool_KernelPoolIdeal : Prop :=
  True

def algebraic_KernelPoolIdeal_ReferencePoolIdeal [hKernelPoolIdeal : Cert.KernelPoolIdeal.Facts] [hReferencePoolIdeal : Cert.ReferencePoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v8_0)) (v1 : (c : Dev Cert.KernelPoolIdeal.nD) → Buf (Elt Ideal) ((c.tc : Thread Cert.KernelPoolIdeal.nD Cert.KernelPoolIdeal.τ).loc Cert.KernelPoolIdeal.main_v8_1)) (v2 : (c : Dev Cert.KernelPoolIdeal.nD) → Buf (Elt Ideal) ((c.tc : Thread Cert.KernelPoolIdeal.nD Cert.KernelPoolIdeal.τ).loc Cert.KernelPoolIdeal.main_v8_2)) (v3 : (c : Dev Cert.KernelPoolIdeal.nD) → Buf (Elt Ideal) ((c.tc : Thread Cert.KernelPoolIdeal.nD Cert.KernelPoolIdeal.τ).loc Cert.KernelPoolIdeal.main_v8_3)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v8_0) = v0 c
          ∧ r.2.mem ((c.tc : Thread Cert.KernelPoolIdeal.nD Cert.KernelPoolIdeal.τ).loc Cert.KernelPoolIdeal.main_v8_1) = v1 c
          ∧ r.2.mem ((c.tc : Thread Cert.KernelPoolIdeal.nD Cert.KernelPoolIdeal.τ).loc Cert.KernelPoolIdeal.main_v8_2) = v2 c
          ∧ r.2.mem ((c.tc : Thread Cert.KernelPoolIdeal.nD Cert.KernelPoolIdeal.τ).loc Cert.KernelPoolIdeal.main_v8_3) = v3 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v67) = v0 c
          ∧ r.2.mem ((c.tc : Thread Cert.ReferencePoolIdeal.nD Cert.ReferencePoolIdeal.τ).loc Cert.ReferencePoolIdeal.main_v69) = v1 c
          ∧ r.2.mem ((c.tc : Thread Cert.ReferencePoolIdeal.nD Cert.ReferencePoolIdeal.τ).loc Cert.ReferencePoolIdeal.main_v70) = v2 c
          ∧ r.2.mem ((c.tc : Thread Cert.ReferencePoolIdeal.nD Cert.ReferencePoolIdeal.τ).loc Cert.ReferencePoolIdeal.main_v71) = v3 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelPoolf_KernelPoolfIdeal : Prop :=
  True

def algebraic_KernelPoolfIdeal_ReferencePoolfIdeal [hKernelPoolfIdeal : Cert.KernelPoolfIdeal.Facts] [hReferencePoolfIdeal : Cert.ReferencePoolfIdeal.Facts] : Prop :=
  ∀ (m : (ℓ : Loc Cert.KernelPoolfIdeal.nD Cert.KernelPoolfIdeal.τ Cert.KernelPoolfIdeal.sig) → Buf (Elt Ideal) ℓ) (g : Dev Cert.KernelPoolfIdeal.nD → PrngReg)
    (m' : (ℓ : Loc Cert.ReferencePoolfIdeal.nD Cert.ReferencePoolfIdeal.τ Cert.ReferencePoolfIdeal.sig) → Buf (Elt Ideal) ℓ) (g' : Dev Cert.ReferencePoolfIdeal.nD → PrngReg), Pre_KernelPoolfIdeal m →
    (∀ c : Dev Cert.KernelPoolfIdeal.nD,
      m' ((c.tc : Thread Cert.ReferencePoolfIdeal.nD Cert.ReferencePoolfIdeal.τ).loc Cert.ReferencePoolfIdeal.main_arg0) = m ((c.tc : Thread Cert.KernelPoolfIdeal.nD Cert.KernelPoolfIdeal.τ).loc Cert.KernelPoolfIdeal.main_arg0)
      ∧ m' ((c.tc : Thread Cert.ReferencePoolfIdeal.nD Cert.ReferencePoolfIdeal.τ).loc Cert.ReferencePoolfIdeal.main_arg1) = m ((c.tc : Thread Cert.KernelPoolfIdeal.nD Cert.KernelPoolfIdeal.τ).loc Cert.KernelPoolfIdeal.main_arg1)
      ∧ m' ((c.tc : Thread Cert.ReferencePoolfIdeal.nD Cert.ReferencePoolfIdeal.τ).loc Cert.ReferencePoolfIdeal.main_arg2) = m ((c.tc : Thread Cert.KernelPoolfIdeal.nD Cert.KernelPoolfIdeal.τ).loc Cert.KernelPoolfIdeal.main_arg2)
      ∧ m' ((c.tc : Thread Cert.ReferencePoolfIdeal.nD Cert.ReferencePoolfIdeal.τ).loc Cert.ReferencePoolfIdeal.main_arg3) = m ((c.tc : Thread Cert.KernelPoolfIdeal.nD Cert.KernelPoolfIdeal.τ).loc Cert.KernelPoolfIdeal.main_arg3)
      ∧ m' ((c.tc : Thread Cert.ReferencePoolfIdeal.nD Cert.ReferencePoolfIdeal.τ).loc Cert.ReferencePoolfIdeal.main_arg4) = m ((c.tc : Thread Cert.KernelPoolfIdeal.nD Cert.KernelPoolfIdeal.τ).loc Cert.KernelPoolfIdeal.main_arg4)
      ∧ m' ((c.tc : Thread Cert.ReferencePoolfIdeal.nD Cert.ReferencePoolfIdeal.τ).loc Cert.ReferencePoolfIdeal.main_arg5) = m ((c.tc : Thread Cert.KernelPoolfIdeal.nD Cert.KernelPoolfIdeal.τ).loc Cert.KernelPoolfIdeal.main_arg5)) →
    ∃ (v0 : (c : Dev Cert.KernelPoolfIdeal.nD) → Buf (Elt Ideal) ((c.tc : Thread Cert.KernelPoolfIdeal.nD Cert.KernelPoolfIdeal.τ).loc Cert.KernelPoolfIdeal.main_v21_0)) (v1 : (c : Dev Cert.KernelPoolfIdeal.nD) → Buf (Elt Ideal) ((c.tc : Thread Cert.KernelPoolfIdeal.nD Cert.KernelPoolfIdeal.τ).loc Cert.KernelPoolfIdeal.main_v21_1)),
      θ_run (Cert.KernelPoolfIdeal.defs (F := Ideal)) (onTc (τ := Cert.KernelPoolfIdeal.τ) (Cert.KernelPoolfIdeal.main (F := Ideal))) ⟨m, fun _ => 0, g⟩ (fun r => ∀ c : Dev Cert.KernelPoolfIdeal.nD,
          r.2.mem ((c.tc : Thread Cert.KernelPoolfIdeal.nD Cert.KernelPoolfIdeal.τ).loc Cert.KernelPoolfIdeal.main_v21_0) = v0 c
          ∧ r.2.mem ((c.tc : Thread Cert.KernelPoolfIdeal.nD Cert.KernelPoolfIdeal.τ).loc Cert.KernelPoolfIdeal.main_v21_1) = v1 c
          ∧ r.2.mem ((c.tc : Thread Cert.KernelPoolfIdeal.nD Cert.KernelPoolfIdeal.τ).loc Cert.KernelPoolfIdeal.main_arg0) = m ((c.tc : Thread Cert.KernelPoolfIdeal.nD Cert.KernelPoolfIdeal.τ).loc Cert.KernelPoolfIdeal.main_arg0)
          ∧ r.2.mem ((c.tc : Thread Cert.KernelPoolfIdeal.nD Cert.KernelPoolfIdeal.τ).loc Cert.KernelPoolfIdeal.main_arg1) = m ((c.tc : Thread Cert.KernelPoolfIdeal.nD Cert.KernelPoolfIdeal.τ).loc Cert.KernelPoolfIdeal.main_arg1)
          ∧ r.2.mem ((c.tc : Thread Cert.KernelPoolfIdeal.nD Cert.KernelPoolfIdeal.τ).loc Cert.KernelPoolfIdeal.main_arg2) = m ((c.tc : Thread Cert.KernelPoolfIdeal.nD Cert.KernelPoolfIdeal.τ).loc Cert.KernelPoolfIdeal.main_arg2)
          ∧ r.2.mem ((c.tc : Thread Cert.KernelPoolfIdeal.nD Cert.KernelPoolfIdeal.τ).loc Cert.KernelPoolfIdeal.main_arg3) = m ((c.tc : Thread Cert.KernelPoolfIdeal.nD Cert.KernelPoolfIdeal.τ).loc Cert.KernelPoolfIdeal.main_arg3)
          ∧ r.2.mem ((c.tc : Thread Cert.KernelPoolfIdeal.nD Cert.KernelPoolfIdeal.τ).loc Cert.KernelPoolfIdeal.main_arg4) = m ((c.tc : Thread Cert.KernelPoolfIdeal.nD Cert.KernelPoolfIdeal.τ).loc Cert.KernelPoolfIdeal.main_arg4)
          ∧ r.2.mem ((c.tc : Thread Cert.KernelPoolfIdeal.nD Cert.KernelPoolfIdeal.τ).loc Cert.KernelPoolfIdeal.main_arg5) = m ((c.tc : Thread Cert.KernelPoolfIdeal.nD Cert.KernelPoolfIdeal.τ).loc Cert.KernelPoolfIdeal.main_arg5))
      ∧ θ_run (Cert.ReferencePoolfIdeal.defs (F := Ideal)) (onTc (τ := Cert.ReferencePoolfIdeal.τ) (Cert.ReferencePoolfIdeal.main (F := Ideal))) ⟨m', fun _ => 0, g'⟩ (fun r => ∀ c : Dev Cert.ReferencePoolfIdeal.nD,
          r.2.mem ((c.tc : Thread Cert.ReferencePoolfIdeal.nD Cert.ReferencePoolfIdeal.τ).loc Cert.ReferencePoolfIdeal.main_v56) = v0 c
          ∧ r.2.mem ((c.tc : Thread Cert.ReferencePoolfIdeal.nD Cert.ReferencePoolfIdeal.τ).loc Cert.ReferencePoolfIdeal.main_v58) = v1 c
          ∧ r.2.mem ((c.tc : Thread Cert.ReferencePoolfIdeal.nD Cert.ReferencePoolfIdeal.τ).loc Cert.ReferencePoolfIdeal.main_arg0) = m' ((c.tc : Thread Cert.ReferencePoolfIdeal.nD Cert.ReferencePoolfIdeal.τ).loc Cert.ReferencePoolfIdeal.main_arg0)
          ∧ r.2.mem ((c.tc : Thread Cert.ReferencePoolfIdeal.nD Cert.ReferencePoolfIdeal.τ).loc Cert.ReferencePoolfIdeal.main_arg1) = m' ((c.tc : Thread Cert.ReferencePoolfIdeal.nD Cert.ReferencePoolfIdeal.τ).loc Cert.ReferencePoolfIdeal.main_arg1)
          ∧ r.2.mem ((c.tc : Thread Cert.ReferencePoolfIdeal.nD Cert.ReferencePoolfIdeal.τ).loc Cert.ReferencePoolfIdeal.main_arg2) = m' ((c.tc : Thread Cert.ReferencePoolfIdeal.nD Cert.ReferencePoolfIdeal.τ).loc Cert.ReferencePoolfIdeal.main_arg2)
          ∧ r.2.mem ((c.tc : Thread Cert.ReferencePoolfIdeal.nD Cert.ReferencePoolfIdeal.τ).loc Cert.ReferencePoolfIdeal.main_arg3) = m' ((c.tc : Thread Cert.ReferencePoolfIdeal.nD Cert.ReferencePoolfIdeal.τ).loc Cert.ReferencePoolfIdeal.main_arg3)
          ∧ r.2.mem ((c.tc : Thread Cert.ReferencePoolfIdeal.nD Cert.ReferencePoolfIdeal.τ).loc Cert.ReferencePoolfIdeal.main_arg4) = m' ((c.tc : Thread Cert.ReferencePoolfIdeal.nD Cert.ReferencePoolfIdeal.τ).loc Cert.ReferencePoolfIdeal.main_arg4)
          ∧ r.2.mem ((c.tc : Thread Cert.ReferencePoolfIdeal.nD Cert.ReferencePoolfIdeal.τ).loc Cert.ReferencePoolfIdeal.main_arg5) = m' ((c.tc : Thread Cert.ReferencePoolfIdeal.nD Cert.ReferencePoolfIdeal.τ).loc Cert.ReferencePoolfIdeal.main_arg5))

def Claim : Prop :=
  ∃ (hKernelLoss : Cert.KernelLoss.Facts) (hKernelLossIdeal : Cert.KernelLossIdeal.Facts) (hReferenceLossIdeal : Cert.ReferenceLossIdeal.Facts) (hKernelMix : Cert.KernelMix.Facts) (hKernelMixIdeal : Cert.KernelMixIdeal.Facts) (hReferenceMixIdeal : Cert.ReferenceMixIdeal.Facts) (hKernelOut : Cert.KernelOut.Facts) (hKernelOutIdeal : Cert.KernelOutIdeal.Facts) (hReferenceOutIdeal : Cert.ReferenceOutIdeal.Facts) (hKernelAtt : Cert.KernelAtt.Facts) (hKernelAttIdeal : Cert.KernelAttIdeal.Facts) (hReferenceAttIdeal : Cert.ReferenceAttIdeal.Facts) (hKernelFfn : Cert.KernelFfn.Facts) (hKernelFfnIdeal : Cert.KernelFfnIdeal.Facts) (hReferenceFfnIdeal : Cert.ReferenceFfnIdeal.Facts) (hKernelFla : Cert.KernelFla.Facts) (hKernelFlaIdeal : Cert.KernelFlaIdeal.Facts) (hReferenceFlaIdeal : Cert.ReferenceFlaIdeal.Facts) (hKernelFfnf : Cert.KernelFfnf.Facts) (hKernelFfnfIdeal : Cert.KernelFfnfIdeal.Facts) (hReferenceFfnfIdeal : Cert.ReferenceFfnfIdeal.Facts) (hKernelPool : Cert.KernelPool.Facts) (hKernelPoolIdeal : Cert.KernelPoolIdeal.Facts) (hReferencePoolIdeal : Cert.ReferencePoolIdeal.Facts) (hKernelPoolf : Cert.KernelPoolf.Facts) (hKernelPoolfIdeal : Cert.KernelPoolfIdeal.Facts) (hReferencePoolfIdeal : Cert.ReferencePoolfIdeal.Facts) (hPre_finite_mix : Cert.Pre_finite_mix.Facts) (hPre_finite_att : Cert.Pre_finite_att.Facts) (hPre_finite_ffn : Cert.Pre_finite_ffn.Facts) (hPre_finite_fla : Cert.Pre_finite_fla.Facts),
    quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAtt (hKernelAtt := hKernelAtt)
    ∧ quiescent_KernelAttIdeal (hKernelAttIdeal := hKernelAttIdeal)
    ∧ quiescent_KernelAttIdeal_pre_finite_att (hKernelAttIdeal := hKernelAttIdeal) (hPre_finite_att := hPre_finite_att)
    ∧ quiescent_ReferenceAttIdeal (hReferenceAttIdeal := hReferenceAttIdeal)
    ∧ quiescent_ReferenceAttIdeal_pre_finite_att (hReferenceAttIdeal := hReferenceAttIdeal) (hPre_finite_att := hPre_finite_att)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelFla (hKernelFla := hKernelFla)
    ∧ quiescent_KernelFlaIdeal (hKernelFlaIdeal := hKernelFlaIdeal)
    ∧ quiescent_KernelFlaIdeal_pre_finite_fla (hKernelFlaIdeal := hKernelFlaIdeal) (hPre_finite_fla := hPre_finite_fla)
    ∧ quiescent_ReferenceFlaIdeal (hReferenceFlaIdeal := hReferenceFlaIdeal)
    ∧ quiescent_ReferenceFlaIdeal_pre_finite_fla (hReferenceFlaIdeal := hReferenceFlaIdeal) (hPre_finite_fla := hPre_finite_fla)
    ∧ quiescent_KernelFfnf (hKernelFfnf := hKernelFfnf)
    ∧ quiescent_KernelFfnfIdeal (hKernelFfnfIdeal := hKernelFfnfIdeal)
    ∧ quiescent_ReferenceFfnfIdeal (hReferenceFfnfIdeal := hReferenceFfnfIdeal)
    ∧ quiescent_KernelPool (hKernelPool := hKernelPool)
    ∧ quiescent_KernelPoolIdeal (hKernelPoolIdeal := hKernelPoolIdeal)
    ∧ quiescent_ReferencePoolIdeal (hReferencePoolIdeal := hReferencePoolIdeal)
    ∧ quiescent_KernelPoolf (hKernelPoolf := hKernelPoolf)
    ∧ quiescent_KernelPoolfIdeal (hKernelPoolfIdeal := hKernelPoolfIdeal)
    ∧ quiescent_ReferencePoolfIdeal (hReferencePoolfIdeal := hReferencePoolfIdeal)
    ∧ preserves_KernelLoss_KernelLossIdeal
    ∧ algebraic_KernelLossIdeal_ReferenceLossIdeal (hKernelLossIdeal := hKernelLossIdeal) (hReferenceLossIdeal := hReferenceLossIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelOut_KernelOutIdeal
    ∧ algebraic_KernelOutIdeal_ReferenceOutIdeal (hKernelOutIdeal := hKernelOutIdeal) (hReferenceOutIdeal := hReferenceOutIdeal)
    ∧ preserves_KernelAtt_KernelAttIdeal
    ∧ algebraic_KernelAttIdeal_ReferenceAttIdeal_pre_finite_att (hKernelAttIdeal := hKernelAttIdeal) (hReferenceAttIdeal := hReferenceAttIdeal) (hPre_finite_att := hPre_finite_att)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelFla_KernelFlaIdeal
    ∧ algebraic_KernelFlaIdeal_ReferenceFlaIdeal_pre_finite_fla (hKernelFlaIdeal := hKernelFlaIdeal) (hReferenceFlaIdeal := hReferenceFlaIdeal) (hPre_finite_fla := hPre_finite_fla)
    ∧ preserves_KernelFfnf_KernelFfnfIdeal
    ∧ algebraic_KernelFfnfIdeal_ReferenceFfnfIdeal (hKernelFfnfIdeal := hKernelFfnfIdeal) (hReferenceFfnfIdeal := hReferenceFfnfIdeal)
    ∧ preserves_KernelPool_KernelPoolIdeal
    ∧ algebraic_KernelPoolIdeal_ReferencePoolIdeal (hKernelPoolIdeal := hKernelPoolIdeal) (hReferencePoolIdeal := hReferencePoolIdeal)
    ∧ preserves_KernelPoolf_KernelPoolfIdeal
    ∧ algebraic_KernelPoolfIdeal_ReferencePoolfIdeal (hKernelPoolfIdeal := hKernelPoolfIdeal) (hReferencePoolfIdeal := hReferencePoolfIdeal)
-- ==== Pre_finite_att.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_

variable [Facts]

def fn_part1 {F : FTy → Type} [FloatOps F] (main_v13 : IVec S_ 1) (main_v16 : IVec S16384x8x64 1) : IVec S_ 1 :=
  let main_c_5 : IVec S_ 1 := constantI S_ 1 1#1
  let main_v17 : IVec S_ 1 := (fun x v => Host.reduce IntOp.andi x v reducesTo_S16384x8x64_S_d0_1_2 h_S_) main_v16 main_c_5
  let main_v18 : IVec S_ 1 := andi main_v13 main_v17
  main_v18

def fn {F : FTy → Type} [FloatOps F] (main_arg0 : FVec F S16384x8x96 .f32) (main_arg1 : FVec F S16384x8x96 .f32) (main_arg2 : FVec F S16384x8x64 .f32) (main_arg3 : FVec F S16384x8x64 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S16384x8x64 .f32 := Host.absf main_arg3
  let main_cst_4 : FVec F S_ .f32 := constant S_ .f32 0x7F800000#32
  let main_v15 : FVec F S16384x8x64 .f32 := broadcastInDim S16384x8x64 ![] bcast_S_S16384x8x64 main_cst_4
  let main_v16 : IVec S16384x8x64 1 := cmpf .olt main_v14 main_v15
  fn_part1 (F := F) main_v13 main_v16
-- ==== Pre_finite_ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1024 .f32) (main_arg3 : FVec F S1024x5632 .f32) (main_arg4 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Pre_finite_fla.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_

variable [Facts]

def fn {F : FTy → Type} [FloatOps F] (main_arg0 : FVec F S16384x8x96 .f32) (main_arg1 : FVec F S16384x8x96 .f32) (main_arg2 : FVec F S16384x8x64 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  main_v13
-- ==== Pre_finite_mix.lean ====
abbrev S16384x1024 : Shape := ⟨2, ![16384, 1024]⟩
abbrev S16384x1184 : Shape := ⟨2, ![16384, 1184]⟩
abbrev S1024 : Shape := ⟨1, ![1024]⟩
abbrev S1024x1184 : Shape := ⟨2, ![1024, 1184]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1184 : S_.BroadcastsInDim S16384x1184 (![] : Fin 0 → Fin S16384x1184.rank)
  reducesTo_S16384x1184_S_d0_1 : S16384x1184.ReducesTo [0, 1] S_
  bcast_S_S1024 : S_.BroadcastsInDim S1024 (![] : Fin 0 → Fin S1024.rank)
  reducesTo_S1024_S_d0 : S1024.ReducesTo [0] S_
  bcast_S_S1024x1184 : S_.BroadcastsInDim S1024x1184 (![] : Fin 0 → Fin S1024x1184.rank)
  reducesTo_S1024x1184_S_d0_1 : S1024x1184.ReducesTo [0, 1] S_

variable [Facts]

def fn_part1 {F : FTy → Type} [FloatOps F] (main_v13 : IVec S_ 1) (main_v16 : IVec S1024x1184 1) : IVec S_ 1 :=
  let main_c_5 : IVec S_ 1 := constantI S_ 1 1#1
  let main_v17 : IVec S_ 1 := (fun x v => Host.reduce IntOp.andi x v reducesTo_S1024x1184_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1184 .f32) (main_arg3 : FVec F S1024 .f32) (main_arg4 : FVec F S1024x1184 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1184 .f32 := Host.absf main_arg2
  let main_cst_0 : FVec F S_ .f32 := constant S_ .f32 0x7F800000#32
  let main_v5 : FVec F S16384x1184 .f32 := broadcastInDim S16384x1184 ![] bcast_S_S16384x1184 main_cst_0
  let main_v6 : IVec S16384x1184 1 := cmpf .olt main_v4 main_v5
  let main_c_1 : IVec S_ 1 := constantI S_ 1 1#1
  let main_v7 : IVec S_ 1 := (fun x v => Host.reduce IntOp.andi x v reducesTo_S16384x1184_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1184 .f32 := Host.absf main_arg4
  let main_cst_4 : FVec F S_ .f32 := constant S_ .f32 0x7F800000#32
  let main_v15 : FVec F S1024x1184 .f32 := broadcastInDim S1024x1184 ![] bcast_S_S1024x1184 main_cst_4
  let main_v16 : IVec S1024x1184 1 := cmpf .olt main_v14 main_v15
  fn_part1 (F := F) main_v13 main_v16
-- ==== KernelLoss.lean ====
abbrev S16384x1024 : Shape := ⟨2, ![16384, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S16384x1024 : Shape := ⟨2, ![16384, 1024]⟩
abbrev S_ : Shape := ⟨0, ![]⟩
abbrev S16384 : Shape := ⟨1, ![16384]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelMix.lean ====
abbrev S16384x1024 : Shape := ⟨2, ![16384, 1024]⟩
abbrev S16384x1184 : Shape := ⟨2, ![16384, 1184]⟩
abbrev S1024 : Shape := ⟨1, ![1024]⟩
abbrev S1024x1184 : Shape := ⟨2, ![1024, 1184]⟩
abbrev S16384x640 : Shape := ⟨2, ![16384, 640]⟩
abbrev S16384x512 : Shape := ⟨2, ![16384, 512]⟩
abbrev S_ : Shape := ⟨0, ![]⟩
abbrev S16384x64 : Shape := ⟨2, ![16384, 64]⟩
abbrev S16384x32 : Shape := ⟨2, ![16384, 32]⟩
abbrev S16384x1280 : Shape := ⟨2, ![16384, 1280]⟩
abbrev S1x1024 : Shape := ⟨2, ![1, 1024]⟩
abbrev S1024x640 : Shape := ⟨2, ![1024, 640]⟩
abbrev S1024x512 : Shape := ⟨2, ![1024, 512]⟩
abbrev S1024x64 : Shape := ⟨2, ![1024, 64]⟩
abbrev S1024x32 : Shape := ⟨2, ![1024, 32]⟩
abbrev S1024x1280 : Shape := ⟨2, ![1024, 1280]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 27
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1184, .f32⟩
  | .hbm, ⟨3, _⟩ => ⟨S1024, .f32⟩
  | .hbm, ⟨4, _⟩ => ⟨S1024x1184, .f32⟩
  | .hbm, ⟨5, _⟩ => ⟨S16384x640, .f32⟩
  | .hbm, ⟨6, _⟩ => ⟨S16384x512, .f32⟩
  | .hbm, ⟨7, _⟩ => ⟨S_, .f32⟩
  | .hbm, ⟨8, _⟩ => ⟨S16384x64, .f32⟩
  | .hbm, ⟨9, _⟩ => ⟨S16384x32, .f32⟩
  | .hbm, ⟨10, _⟩ => ⟨S_, .f32⟩
  | .hbm, ⟨11, _⟩ => ⟨S16384x32, .f32⟩
  | .hbm, ⟨12, _⟩ => ⟨S16384x1280, .f32⟩
  | .hbm, ⟨13, _⟩ => ⟨S16384x1280, .bf16⟩
  | .hbm, ⟨14, _⟩ => ⟨S1x1024, .f32⟩
  | .hbm, ⟨15, _⟩ => ⟨S1024x640, .f32⟩
  | .hbm, ⟨16, _⟩ => ⟨S1024x512, .f32⟩
  | .hbm, ⟨17, _⟩ => ⟨S_, .f32⟩
  | .hbm, ⟨18, _⟩ => ⟨S1024x64, .f32⟩
  | .hbm, ⟨19, _⟩ => ⟨S1024x32, .f32⟩
  | .hbm, ⟨20, _⟩ => ⟨S_, .f32⟩
  | .hbm, ⟨21, _⟩ => ⟨S1024x32, .f32⟩
  | .hbm, ⟨22, _⟩ => ⟨S1024x1280, .f32⟩
  | .hbm, ⟨23, _⟩ => ⟨S1024x1280, .bf16⟩
  | .hbm, ⟨24, _⟩ => ⟨S16384x1024, .f32⟩
  | .hbm, ⟨25, _⟩ => ⟨S16384x1024, .bf16⟩
  | .hbm, ⟨26, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1280, .bf16⟩
  | .local _ .vmem, ⟨5, _⟩ => ⟨S512x1280, .bf16⟩
  | .local _ .vmem, ⟨6, _⟩ => ⟨S1x1024, .f32⟩
  | .local _ .vmem, ⟨7, _⟩ => ⟨S1024x1280, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_21 : BitVec 32 := 0#32
  let v44 : BitVec 1 := Scalar.cmpi .ne v43 c0_i32_21
  v44

def k0_cond2 (i : grid0.Coords) : BitVec 1 :=
  let arg0 : BitVec 32 := BitVec.ofNat 32 (i 0).val
  let c0_i32_22 : BitVec 32 := 0#32
  let v45 : BitVec 1 := Scalar.cmpi .sgt arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMixIdeal.lean ====
abbrev S16384x1024 : Shape := ⟨2, ![16384, 1024]⟩
abbrev S16384x1184 : Shape := ⟨2, ![16384, 1184]⟩
abbrev S1024 : Shape := ⟨1, ![1024]⟩
abbrev S1024x1184 : Shape := ⟨2, ![1024, 1184]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1184, .f32⟩
  | .hbm, ⟨3, _⟩ => ⟨S1024, .f32⟩
  | .hbm, ⟨4, _⟩ => ⟨S1024x1184, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1184, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | .hbm, ⟨70, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== KernelOut.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1536x1024 : Shape := ⟨2, ![1536, 1024]⟩
abbrev S16384x8x64 : Shape := ⟨3, ![16384, 8, 64]⟩
abbrev S16384x8x128 : Shape := ⟨3, ![16384, 8, 128]⟩
abbrev S16384x1536 : Shape := ⟨2, ![16384, 1536]⟩
abbrev S8x16384x1 : Shape := ⟨3, ![8, 16384, 1]⟩
abbrev S512x1536 : Shape := ⟨2, ![512, 1536]⟩
abbrev S512x512 : Shape := ⟨2, ![512, 512]⟩
abbrev S8x512x1 : Shape := ⟨3, ![8, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 25
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S512x1024, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S1536x1024, .f32⟩
  | .hbm, ⟨14, _⟩ => ⟨S1536x1024, .bf16⟩
  | .hbm, ⟨15, _⟩ => ⟨S16384x8x64, .f32⟩
  | .hbm, ⟨16, _⟩ => ⟨S_, .i32⟩
  | .hbm, ⟨17, _⟩ => ⟨S_, .f32⟩
  | .hbm, ⟨18, _⟩ => ⟨S16384x8x128, .f32⟩
  | .hbm, ⟨19, _⟩ => ⟨S16384x1024, .f32⟩
  | .hbm, ⟨20, _⟩ => ⟨S16384x1536, .f32⟩
  | .hbm, ⟨21, _⟩ => ⟨S16384x1536, .bf16⟩
  | .hbm, ⟨22, _⟩ => ⟨S16384x1024, .bf16⟩
  | .hbm, ⟨23, _⟩ => ⟨S16384x512, .f32⟩
  | .hbm, ⟨24, _⟩ => ⟨S8x16384x1, .f32⟩
  | .local _ .vmem, ⟨0, _⟩ => ⟨S512x1024, .f32⟩
  | .local _ .vmem, ⟨1, _⟩ => ⟨S512x1024, .f32⟩
  | .local _ .vmem, ⟨2, _⟩ => ⟨S1536x1024, .bf16⟩
  | .local _ .vmem, ⟨3, _⟩ => ⟨S512x1536, .bf16⟩
  | .local _ .vmem, ⟨4, _⟩ => ⟨S512x1536, .bf16⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S8x512x1, .f32⟩
  | .local _ .vmem, ⟨10, _⟩ => ⟨S8x512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S16384x1024 : Shape := ⟨2, ![16384, 1024]⟩
abbrev S16384x512 : Shape := ⟨2, ![16384, 512]⟩
abbrev S1024x1024 : Shape := ⟨2, ![1024, 1024]⟩
abbrev S16384x8x64 : Shape := ⟨3, ![16384, 8, 64]⟩
abbrev S_ : Shape := ⟨0, ![]⟩
abbrev S16384x8x128 : Shape := ⟨3, ![16384, 8, 128]⟩
abbrev S16384x8 : Shape := ⟨2, ![16384, 8]⟩
abbrev S8x16384 : Shape := ⟨2, ![8, 16384]⟩
abbrev S8x16384x1 : Shape := ⟨3, ![8, 16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x512, .f32⟩
  | .hbm, ⟨8, _⟩ => ⟨S16384x512, .f32⟩
  | .hbm, ⟨9, _⟩ => ⟨S16384x8x64, .f32⟩
  | .hbm, ⟨10, _⟩ => ⟨S16384x8x64, .f32⟩
  | .hbm, ⟨11, _⟩ => ⟨S_, .f32⟩
  | .hbm, ⟨12, _⟩ => ⟨S16384x8x64, .f32⟩
  | .hbm, ⟨13, _⟩ => ⟨S16384x8x128, .f32⟩
  | .hbm, ⟨14, _⟩ => ⟨S16384x1024, .f32⟩
  | .hbm, ⟨15, _⟩ => ⟨S16384x8x64, .f32⟩
  | .hbm, ⟨16, _⟩ => ⟨S_, .f32⟩
  | .hbm, ⟨17, _⟩ => ⟨S16384x8, .f32⟩
  | .hbm, ⟨18, _⟩ => ⟨S8x16384, .f32⟩
  | .hbm, ⟨19, _⟩ => ⟨S8x16384x1, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelAtt.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x1x16384 : Shape := ⟨3, ![8, 1, 16384]⟩
abbrev S16384x8 : Shape := ⟨2, ![16384, 8]⟩
abbrev S16384x8x128 : Shape := ⟨3, ![16384, 8, 128]⟩
abbrev S16384x1024 : Shape := ⟨2, ![16384, 1024]⟩
abbrev S1024x16384 : Shape := ⟨2, ![1024, 16384]⟩
abbrev S16384x128 : Shape := ⟨2, ![16384, 128]⟩
abbrev S1024x128 : Shape := ⟨2, ![1024, 128]⟩
abbrev S1x1x16384 : Shape := ⟨3, ![1, 1, 16384]⟩
abbrev S128x16384 : Shape := ⟨2, ![128, 16384]⟩
abbrev S128x1024 : Shape := ⟨2, ![128, 1024]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 62
  | .vmem => 21
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x8x96, .f32⟩
  | .hbm, ⟨10, _⟩ => ⟨S16384x8x96, .f32⟩
  | .hbm, ⟨11, _⟩ => ⟨S8x16384x16384, .f32⟩
  | .hbm, ⟨12, _⟩ => ⟨S_, .f32⟩
  | .hbm, ⟨13, _⟩ => ⟨S8x16384, .f32⟩
  | .hbm, ⟨14, _⟩ => ⟨S8x16384x1, .f32⟩
  | .hbm, ⟨15, _⟩ => ⟨S8x16384x16384, .f32⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x64x16384, .f32⟩
  | .hbm, ⟨24, _⟩ => ⟨S16384x8x64, .f32⟩
  | .hbm, ⟨25, _⟩ => ⟨S8x16384x1, .f32⟩
  | .hbm, ⟨26, _⟩ => ⟨S8x16384x1, .f32⟩
  | .hbm, ⟨27, _⟩ => ⟨S8x16384x1, .f32⟩
  | .hbm, ⟨28, _⟩ => ⟨S8x16384x1, .f32⟩
  | .hbm, ⟨29, _⟩ => ⟨S8x1x16384, .f32⟩
  | .hbm, ⟨30, _⟩ => ⟨S16384x8x64, .f32⟩
  | .hbm, ⟨31, _⟩ => ⟨S_, .f32⟩
  | .hbm, ⟨32, _⟩ => ⟨S16384x8, .f32⟩
  | .hbm, ⟨33, _⟩ => ⟨S8x16384, .f32⟩
  | .hbm, ⟨34, _⟩ => ⟨S8x1x16384, .f32⟩
  | .hbm, ⟨35, _⟩ => ⟨S_, .f32⟩
  | .hbm, ⟨36, _⟩ => ⟨S_, .f32⟩
  | .hbm, ⟨37, _⟩ => ⟨S16384x8x96, .f32⟩
  | .hbm, ⟨38, _⟩ => ⟨S16384x8x96, .f32⟩
  | .hbm, ⟨39, _⟩ => ⟨S_, .i32⟩
  | .hbm, ⟨40, _⟩ => ⟨S_, .f32⟩
  | .hbm, ⟨41, _⟩ => ⟨S16384x8x128, .f32⟩
  | .hbm, ⟨42, _⟩ => ⟨S16384x1024, .f32⟩
  | .hbm, ⟨43, _⟩ => ⟨S16384x1024, .bf16⟩
  | .hbm, ⟨44, _⟩ => ⟨S_, .i32⟩
  | .hbm, ⟨45, _⟩ => ⟨S_, .f32⟩
  | .hbm, ⟨46, _⟩ => ⟨S16384x8x128, .f32⟩
  | .hbm, ⟨47, _⟩ => ⟨S16384x1024, .f32⟩
  | .hbm, ⟨48, _⟩ => ⟨S16384x1024, .bf16⟩
  | .hbm, ⟨49, _⟩ => ⟨S_, .i32⟩
  | .hbm, ⟨50, _⟩ => ⟨S_, .f32⟩
  | .hbm, ⟨51, _⟩ => ⟨S16384x8x128, .f32⟩
  | .hbm, ⟨52, _⟩ => ⟨S16384x1024, .f32⟩
  | .hbm, ⟨53, _⟩ => ⟨S16384x1024, .bf16⟩
  | .hbm, ⟨54, _⟩ => ⟨S_, .i32⟩
  | .hbm, ⟨55, _⟩ => ⟨S_, .f32⟩
  | .hbm, ⟨56, _⟩ => ⟨S16384x8x128, .f32⟩
  | .hbm, ⟨57, _⟩ => ⟨S16384x1024, .f32⟩
  | .hbm, ⟨58, _⟩ => ⟨S16384x1024, .bf16⟩
  | .hbm, ⟨59, _⟩ => ⟨S1024x16384, .f32⟩
  | .hbm, ⟨60, _⟩ => ⟨S16384x1024, .f32⟩
  | .hbm, ⟨61, _⟩ => ⟨S16384x1024, .f32⟩
  | .local _ .vmem, ⟨0, _⟩ => ⟨S16384x128, .bf16⟩
  | .local _ .vmem, ⟨1, _⟩ => ⟨S16384x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S16384x128, .bf16⟩
  | .local _ .vmem, ⟨7, _⟩ => ⟨S16384x128, .bf16⟩
  | .local _ .vmem, ⟨8, _⟩ => ⟨S1x1x16384, .f32⟩
  | .local _ .vmem, ⟨9, _⟩ => ⟨S1x1x16384, .f32⟩
  | .local _ .vmem, ⟨10, _⟩ => ⟨S1x1x16384, .f32⟩
  | .local _ .vmem, ⟨11, _⟩ => ⟨S1x1x16384, .f32⟩
  | .local _ .vmem, ⟨12, _⟩ => ⟨S128x16384, .f32⟩
  | .local _ .vmem, ⟨13, _⟩ => ⟨S128x16384, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S128x1024, .bf16⟩
  | .local _ .vmem, ⟨19, _⟩ => ⟨S1024x128, .f32⟩
  | .local _ .vmem, ⟨20, _⟩ => ⟨S1024x128, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_call3_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 16, 1], ![false, false, false]⟩

def k0_mult1 (i : grid0.Coords) : BitVec 32 :=
  let arg2 : BitVec 32 := BitVec.ofNat 32 (i 2).val
  let c16384_i32 : BitVec 32 := 16384#32
  let v912 : BitVec 32 := Scalar.muli arg2 c16384_i32
  v912
def k0_cond2 (i : grid0.Coords) : BitVec 1 :=
  let arg1 : BitVec 32 := BitVec.ofNat 32 (i 1).val
  let c0_i32_652 : BitVec 32 := 0#32
  let v914 : BitVec 1 := Scalar.cmpi .eq arg1 c0_i32_652
  let v915 : BitVec 32 := Scalar.extui v914
  let c0_i32_653 : BitVec 32 := 0#32
  let v916 : BitVec 1 := Scalar.cmpi .ne v915 c0_i32_653
  v916

def k0_off1 (i : grid0.Coords) : Fin 2 → Nat :=
  let c0_658 : Index := 0#32
  let arg2 : BitVec 32 := BitVec.ofNat 32 (i 2).val
  let c16384_i32 : BitVec 32 := 16384#32
  let v912 : BitVec 32 := Scalar.muli arg2 c16384_i32
  let v913 : BitVec 32 := v912
  let v923 : Index := Scalar.indexCast v913
  ![0, v923.toNat]
def k0_cond3 (i : grid0.Coords) : BitVec 1 :=
  let arg1 : BitVec 32 := BitVec.ofNat 32 (i 1).val
  let c0_i32_654 : BitVec 32 := 0#32
  let v917 : BitVec 1 := Scalar.cmpi .sgt arg1 c0_i32_654
  let v918 : BitVec 32 := Scalar.extui v917
  let c0_i32_655 : BitVec 32 := 0#32
  let v919 : BitVec 1 := Scalar.cmpi .ne v918 c0_i32_655
  v919

def k0_off2 (i : grid0.Coords) : Fin 2 → Nat :=
  let c0_658 : Index := 0#32
  let arg2 : BitVec 32 := BitVec.ofNat 32 (i 2).val
  let c16384_i32 : BitVec 32 := 16384#32
  let v912 : BitVec 32 := Scalar.muli arg2 c16384_i32
  let v913 : BitVec 32 := v912
  let v923 : Index := Scalar.indexCast v913
  ![0, v923.toNat]
def k0_cond4 (i : grid0.Coords) : BitVec 1 :=
  let arg2 : BitVec 32 := BitVec.ofNat 32 (i 2).val
  let c0_i32_656 : BitVec 32 := 0#32
  let v920 : BitVec 1 := Scalar.cmpi .eq arg2 c0_i32_656
  let v921 : BitVec 32 := Scalar.extui v920
  let c0_i32_657 : BitVec 32 := 0#32
  let v922 : BitVec 1 := Scalar.cmpi .ne v921 c0_i32_657
  v922

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S128x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelAttIdeal.lean ====
variable {F : FTy → Type} [FloatOps F] [Named F]
def κ : String → Option EReal := fun
  | "ln_2" => some ((Real.log 2 : ℝ) : EReal)
  | _ => none
-- ==== ReferenceAttIdeal.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x32 : Shape := ⟨3, ![16384, 8, 32]⟩
abbrev S16384x8x128 : Shape := ⟨3, ![16384, 8, 128]⟩
abbrev S16384x1024 : Shape := ⟨2, ![16384, 1024]⟩
abbrev S1024x16384 : Shape := ⟨2, ![1024, 16384]⟩

abbrev nBuf : Space → Nat
  | .hbm => 83
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .i1⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .i1⟩
  | .hbm, ⟨22, _⟩ => ⟨S_, .f32⟩
  | .hbm, ⟨23, _⟩ => ⟨S8x16384, .f32⟩
  | .hbm, ⟨24, _⟩ => ⟨S8x16384, .i1⟩
  | .hbm, ⟨25, _⟩ => ⟨S_, .f32⟩
  | .hbm, ⟨26, _⟩ => ⟨S8x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x1, .f32⟩
  | .hbm, ⟨43, _⟩ => ⟨S_, .f32⟩
  | .hbm, ⟨44, _⟩ => ⟨S8x16384x1, .f32⟩
  | .hbm, ⟨45, _⟩ => ⟨S8x16384x1, .f32⟩
  | .hbm, ⟨46, _⟩ => ⟨S8x64x16384, .f32⟩
  | .hbm, ⟨47, _⟩ => ⟨S16384x8x64, .f32⟩
  | .hbm, ⟨48, _⟩ => ⟨S8x64x16384, .f32⟩
  | .hbm, ⟨49, _⟩ => ⟨S8x16384x16384, .f32⟩
  | .hbm, ⟨50, _⟩ => ⟨S8x64x16384, .f32⟩
  | .hbm, ⟨51, _⟩ => ⟨S16384x8x64, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S_, .f32⟩
  | .hbm, ⟨56, _⟩ => ⟨S8x16384, .f32⟩
  | .hbm, ⟨57, _⟩ => ⟨S8x16384x1, .f32⟩
  | .hbm, ⟨58, _⟩ => ⟨S8x16384x1, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S8x16384x96, .f32⟩
  | .hbm, ⟨67, _⟩ => ⟨S16384x8x96, .f32⟩
  | .hbm, ⟨68, _⟩ => ⟨S8x16384x96, .f32⟩
  | .hbm, ⟨69, _⟩ => ⟨S16384x8x96, .f32⟩
  | .hbm, ⟨70, _⟩ => ⟨S_, .f32⟩
  | .hbm, ⟨71, _⟩ => ⟨S16384x8x32, .f32⟩
  | .hbm, ⟨72, _⟩ => ⟨S16384x8x128, .f32⟩
  | .hbm, ⟨73, _⟩ => ⟨S16384x1024, .f32⟩
  | .hbm, ⟨74, _⟩ => ⟨S1024x16384, .f32⟩
  | .hbm, ⟨75, _⟩ => ⟨S_, .f32⟩
  | .hbm, ⟨76, _⟩ => ⟨S16384x8x32, .f32⟩
  | .hbm, ⟨77, _⟩ => ⟨S16384x8x128, .f32⟩
  | .hbm, ⟨78, _⟩ => ⟨S16384x1024, .f32⟩
  | .hbm, ⟨79, _⟩ => ⟨S_, .f32⟩
  | .hbm, ⟨80, _⟩ => ⟨S16384x8x64, .f32⟩
  | .hbm, ⟨81, _⟩ => ⟨S16384x8x128, .f32⟩
  | .hbm, ⟨82, _⟩ => ⟨S16384x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S512x1024 : Shape := ⟨2, ![512, 1024]⟩
abbrev S512x1408 : Shape := ⟨2, ![512, 1408]⟩
abbrev S1x1x1024x1408 : Shape := ⟨4, ![1, 1, 1024, 1408]⟩
abbrev S1x1408x1024 : Shape := ⟨3, ![1, 1408, 1024]⟩
abbrev S512 : Shape := ⟨1, ![512]⟩
abbrev S512x1 : Shape := ⟨2, ![512, 1]⟩
abbrev S256x1408 : Shape := ⟨2, ![256, 1408]⟩
abbrev S256x1024 : Shape := ⟨2, ![256, 1024]⟩
abbrev S1408x1024 : Shape := ⟨2, ![1408, 1024]⟩
abbrev S1024x1408 : Shape := ⟨2, ![1024, 1408]⟩

abbrev nBuf : Space → Nat
  | .hbm => 39
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1x1024x1408, .f32⟩
  | .hbm, ⟨8, _⟩ => ⟨S4x1x1024x1408, .bf16⟩
  | .hbm, ⟨9, _⟩ => ⟨S1x2816x1024, .f32⟩
  | .hbm, ⟨10, _⟩ => ⟨S1x2816x1024, .bf16⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x5632, .f32⟩
  | .hbm, ⟨28, _⟩ => ⟨S16384x5632, .bf16⟩
  | .hbm, ⟨29, _⟩ => ⟨S16384x2816, .bf16⟩
  | .hbm, ⟨30, _⟩ => ⟨S16384x2816, .bf16⟩
  | .hbm, ⟨31, _⟩ => ⟨S1x1024, .f32⟩
  | .hbm, ⟨32, _⟩ => ⟨S16384x1024, .f32⟩
  | .hbm, ⟨33, _⟩ => ⟨S16384x1024, .bf16⟩
  | .hbm, ⟨34, _⟩ => ⟨S16384x2816, .bf16⟩
  | .hbm, ⟨35, _⟩ => ⟨S16384x2816, .bf16⟩
  | .hbm, ⟨36, _⟩ => ⟨S16384x2816, .bf16⟩
  | .hbm, ⟨37, _⟩ => ⟨S16384x1024, .bf16⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1x1x1024x1408, .bf16⟩
  | .local _ .vmem, ⟨10, _⟩ => ⟨S1x1x1024x1408, .bf16⟩
  | .local _ .vmem, ⟨11, _⟩ => ⟨S1x1x1024x1408, .bf16⟩
  | .local _ .vmem, ⟨12, _⟩ => ⟨S1x1x1024x1408, .bf16⟩
  | .local _ .vmem, ⟨13, _⟩ => ⟨S1x1408x1024, .bf16⟩
  | .local _ .vmem, ⟨14, _⟩ => ⟨S1x1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | .local _ .vmem, ⟨28, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev main_v24_5 : Ref sig .tc := ⟨.hbm, 37, rfl⟩
abbrev main_v24_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v85 : BitVec 1 := Scalar.cmpi .eq arg1 c1_i32
  let v86 : BitVec 32 := Scalar.extui v85
  let c0_i32_62 : BitVec 32 := 0#32
  let v87 : BitVec 1 := Scalar.cmpi .ne v86 c0_i32_62
  v87

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_79 : BitVec 32 := 0#32
  let v120 : BitVec 1 := Scalar.cmpi .eq arg0 c0_i32_79
  let v121 : BitVec 32 := Scalar.extui v120
  let c0_i32_80 : BitVec 32 := 0#32
  let v122 : BitVec 1 := Scalar.cmpi .ne v121 c0_i32_80
  v122

def k0_cond4 (i : grid0.Coords) : BitVec 1 :=
  let arg0 : BitVec 32 := BitVec.ofNat 32 (i 0).val
  let c0_i32_81 : BitVec 32 := 0#32
  let v123 : BitVec 1 := Scalar.cmpi .sgt arg0 c0_i32_81
  let v124 : BitVec 32 := Scalar.extui v123
  let c0_i32_82 : BitVec 32 := 0#32
  let v125 : BitVec 1 := Scalar.cmpi .ne v124 c0_i32_82
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceFfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x5632, .f32⟩
  | .hbm, ⟨60, _⟩ => ⟨S_, .f32⟩
  | .hbm, ⟨61, _⟩ => ⟨S16384x5632, .f32⟩
  | .hbm, ⟨62, _⟩ => ⟨S16384x5632, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .bf16⟩
  | .hbm, ⟨91, _⟩ => ⟨S16384x2816, .bf16⟩
  | .hbm, ⟨92, _⟩ => ⟨S16384x2816, .f32⟩
  | .hbm, ⟨93, _⟩ => ⟨S16384x2816, .bf16⟩
  | .hbm, ⟨94, _⟩ => ⟨S16384x2816, .f32⟩
  | .hbm, ⟨95, _⟩ => ⟨S16384x2816, .bf16⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== KernelFla.lean ====
abbrev S16384x8x96 : Shape := ⟨3, ![16384, 8, 96]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S1024x16384 : Shape := ⟨2, ![1024, 16384]⟩
abbrev S8x1x16384 : Shape := ⟨3, ![8, 1, 16384]⟩
abbrev S1024x128 : Shape := ⟨2, ![1024, 128]⟩
abbrev S16384x128 : Shape := ⟨2, ![16384, 128]⟩
abbrev S128x16384 : Shape := ⟨2, ![128, 16384]⟩
abbrev S1x1x1024 : Shape := ⟨3, ![1, 1, 1024]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 29
  | .vmem => 13
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x8x96, .f32⟩
  | .hbm, ⟨10, _⟩ => ⟨S16384x8x96, .f32⟩
  | .hbm, ⟨11, _⟩ => ⟨S_, .i32⟩
  | .hbm, ⟨12, _⟩ => ⟨S_, .f32⟩
  | .hbm, ⟨13, _⟩ => ⟨S16384x8x128, .f32⟩
  | .hbm, ⟨14, _⟩ => ⟨S16384x1024, .f32⟩
  | .hbm, ⟨15, _⟩ => ⟨S16384x1024, .bf16⟩
  | .hbm, ⟨16, _⟩ => ⟨S_, .i32⟩
  | .hbm, ⟨17, _⟩ => ⟨S_, .f32⟩
  | .hbm, ⟨18, _⟩ => ⟨S16384x8x128, .f32⟩
  | .hbm, ⟨19, _⟩ => ⟨S16384x1024, .f32⟩
  | .hbm, ⟨20, _⟩ => ⟨S16384x1024, .bf16⟩
  | .hbm, ⟨21, _⟩ => ⟨S_, .i32⟩
  | .hbm, ⟨22, _⟩ => ⟨S_, .f32⟩
  | .hbm, ⟨23, _⟩ => ⟨S16384x8x128, .f32⟩
  | .hbm, ⟨24, _⟩ => ⟨S16384x1024, .f32⟩
  | .hbm, ⟨25, _⟩ => ⟨S16384x1024, .bf16⟩
  | .hbm, ⟨26, _⟩ => ⟨S1024x16384, .bf16⟩
  | .hbm, ⟨27, _⟩ => ⟨S16384x1024, .bf16⟩
  | .hbm, ⟨28, _⟩ => ⟨S8x1x16384, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_126 : BitVec 32 := 0#32
  let v369 : BitVec 1 := Scalar.cmpi .eq arg2 c0_i32_126
  let v370 : BitVec 32 := Scalar.extui v369
  let c0_i32_127 : BitVec 32 := 0#32
  let v371 : BitVec 1 := Scalar.cmpi .ne v370 c0_i32_127
  v371

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelFlaIdeal.lean ====
variable {F : FTy → Type} [FloatOps F] [Named F]
def κ : String → Option EReal := fun
  | "log2_e" => some (((Real.log 2)⁻¹ : ℝ) : EReal)
  | _ => none
-- ==== ReferenceFlaIdeal.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8x128 : Shape := ⟨3, ![16384, 8, 128]⟩
abbrev S16384x1024 : Shape := ⟨2, ![16384, 1024]⟩
abbrev S8x1x16384 : Shape := ⟨3, ![8, 1, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S16384x8x96, .f32⟩
  | .hbm, ⟨5, _⟩ => ⟨S16384x8x96, .f32⟩
  | .hbm, ⟨6, _⟩ => ⟨S8x16384x16384, .f32⟩
  | .hbm, ⟨7, _⟩ => ⟨S_, .f32⟩
  | .hbm, ⟨8, _⟩ => ⟨S8x16384, .f32⟩
  | .hbm, ⟨9, _⟩ => ⟨S_, .f32⟩
  | .hbm, ⟨10, _⟩ => ⟨S8x16384, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x64x16384, .f32⟩
  | .hbm, ⟨22, _⟩ => ⟨S16384x8x64, .f32⟩
  | .hbm, ⟨23, _⟩ => ⟨S_, .f32⟩
  | .hbm, ⟨24, _⟩ => ⟨S16384x8x64, .f32⟩
  | .hbm, ⟨25, _⟩ => ⟨S16384x8x128, .f32⟩
  | .hbm, ⟨26, _⟩ => ⟨S16384x1024, .f32⟩
  | .hbm, ⟨27, _⟩ => ⟨S16384x1024, .bf16⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S8x16384, .f32⟩
  | .hbm, ⟨37, _⟩ => ⟨S8x16384x1, .f32⟩
  | .hbm, ⟨38, _⟩ => ⟨S8x16384x1, .f32⟩
  | .hbm, ⟨39, _⟩ => ⟨S8x16384x1, .f32⟩
  | .hbm, ⟨40, _⟩ => ⟨S8x16384, .f32⟩
  | .hbm, ⟨41, _⟩ => ⟨S_, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x1x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelFfnf.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S1x1024 : Shape := ⟨2, ![1, 1024]⟩
abbrev S1x2816x1024 : Shape := ⟨3, ![1, 2816, 1024]⟩
abbrev S16384x2816 : Shape := ⟨2, ![16384, 2816]⟩
abbrev S512x1024 : Shape := ⟨2, ![512, 1024]⟩
abbrev S1x1x1024x1408 : Shape := ⟨4, ![1, 1, 1024, 1408]⟩
abbrev S1x1408x1024 : Shape := ⟨3, ![1, 1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1408x1024 : Shape := ⟨2, ![1408, 1024]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x4x1408, .f32⟩
  | .hbm, ⟨5, _⟩ => ⟨S4x1024x1408, .f32⟩
  | .hbm, ⟨6, _⟩ => ⟨S4x1x1024x1408, .f32⟩
  | .hbm, ⟨7, _⟩ => ⟨S4x1x1024x1408, .bf16⟩
  | .hbm, ⟨8, _⟩ => ⟨S1x1024, .f32⟩
  | .hbm, ⟨9, _⟩ => ⟨S1x2816x1024, .f32⟩
  | .hbm, ⟨10, _⟩ => ⟨S1x2816x1024, .bf16⟩
  | .hbm, ⟨11, _⟩ => ⟨S16384x1024, .f32⟩
  | .hbm, ⟨12, _⟩ => ⟨S16384x2816, .bf16⟩
  | .hbm, ⟨13, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_23 : BitVec 32 := 0#32
  let v28 : BitVec 1 := Scalar.cmpi .ne v27 c0_i32_23
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceFfnfIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2816, .bf16⟩
  | .hbm, ⟨39, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== KernelPool.lean ====
abbrev S16384x512 : Shape := ⟨2, ![16384, 512]⟩
abbrev S16384x1184 : Shape := ⟨2, ![16384, 1184]⟩
abbrev S4x128x128 : Shape := ⟨3, ![4, 128, 128]⟩
abbrev S512 : Shape := ⟨1, ![512]⟩
abbrev S16384x640 : Shape := ⟨2, ![16384, 640]⟩
abbrev S_ : Shape := ⟨0, ![]⟩
abbrev S16384x64 : Shape := ⟨2, ![16384, 64]⟩
abbrev S16384x32 : Shape := ⟨2, ![16384, 32]⟩
abbrev S16384x1280 : Shape := ⟨2, ![16384, 1280]⟩
abbrev S1x512 : Shape := ⟨2, ![1, 512]⟩
abbrev S8x512 : Shape := ⟨2, ![8, 512]⟩
abbrev S512x512 : Shape := ⟨2, ![512, 512]⟩
abbrev S8x1280 : Shape := ⟨2, ![8, 1280]⟩
abbrev S512x1280 : Shape := ⟨2, ![512, 1280]⟩
abbrev S528x512 : Shape := ⟨2, ![528, 512]⟩
abbrev S512x1 : Shape := ⟨2, ![512, 1]⟩
abbrev S512x128 : Shape := ⟨2, ![512, 128]⟩
abbrev S528x1 : Shape := ⟨2, ![528, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S528x128 : Shape := ⟨2, ![528, 128]⟩

abbrev nBuf : Space → Nat
  | .hbm => 18
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x1184, .f32⟩
  | .hbm, ⟨2, _⟩ => ⟨S4x128x128, .f32⟩
  | .hbm, ⟨3, _⟩ => ⟨S512, .f32⟩
  | .hbm, ⟨4, _⟩ => ⟨S16384x640, .f32⟩
  | .hbm, ⟨5, _⟩ => ⟨S16384x512, .f32⟩
  | .hbm, ⟨6, _⟩ => ⟨S_, .f32⟩
  | .hbm, ⟨7, _⟩ => ⟨S16384x64, .f32⟩
  | .hbm, ⟨8, _⟩ => ⟨S16384x32, .f32⟩
  | .hbm, ⟨9, _⟩ => ⟨S_, .f32⟩
  | .hbm, ⟨10, _⟩ => ⟨S16384x32, .f32⟩
  | .hbm, ⟨11, _⟩ => ⟨S16384x1280, .f32⟩
  | .hbm, ⟨12, _⟩ => ⟨S4x128x128, .bf16⟩
  | .hbm, ⟨13, _⟩ => ⟨S1x512, .f32⟩
  | .hbm, ⟨14, _⟩ => ⟨S16384x512, .f32⟩
  | .hbm, ⟨15, _⟩ => ⟨S16384x512, .bf16⟩
  | .hbm, ⟨16, _⟩ => ⟨S16384x512, .bf16⟩
  | .hbm, ⟨17, _⟩ => ⟨S1x512, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x1280, .f32⟩
  | .local _ .vmem, ⟨7, _⟩ => ⟨S8x1280, .f32⟩
  | .local _ .vmem, ⟨8, _⟩ => ⟨S512x1280, .f32⟩
  | .local _ .vmem, ⟨9, _⟩ => ⟨S512x1280, .f32⟩
  | .local _ .vmem, ⟨10, _⟩ => ⟨S8x1280, .f32⟩
  | .local _ .vmem, ⟨11, _⟩ => ⟨S8x1280, .f32⟩
  | .local _ .vmem, ⟨12, _⟩ => ⟨S4x128x128, .bf16⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x512, .f32⟩
  | .local _ .vmem, ⟨21, _⟩ => ⟨S528x512, .f32⟩
  | .local _ .vmem, ⟨22, _⟩ => ⟨S528x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_274 : BitVec 32 := 0#32
  let v413 : BitVec 1 := Scalar.cmpi .eq arg0 c0_i32_274
  let v414 : BitVec 32 := Scalar.extui v413
  let c0_i32_275 : BitVec 32 := 0#32
  let v415 : BitVec 1 := Scalar.cmpi .ne v414 c0_i32_275
  v415

def k0_cond2 (i : grid0.Coords) : BitVec 1 :=
  let arg0 : BitVec 32 := BitVec.ofNat 32 (i 0).val
  let c0_i32_276 : BitVec 32 := 0#32
  let v416 : BitVec 1 := Scalar.cmpi .sgt arg0 c0_i32_276
  let v417 : BitVec 32 := Scalar.extui v416
  let c0_i32_277 : BitVec 32 := 0#32
  let v418 : BitVec 1 := Scalar.cmpi .ne v417 c0_i32_277
  v418

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferencePoolIdeal.lean ====
abbrev S16384x512 : Shape := ⟨2, ![16384, 512]⟩
abbrev S16384x1184 : Shape := ⟨2, ![16384, 1184]⟩
abbrev S4x128x128 : Shape := ⟨3, ![4, 128, 128]⟩
abbrev S512 : Shape := ⟨1, ![512]⟩
abbrev S16384x4x128 : Shape := ⟨3, ![16384, 4, 128]⟩
abbrev S16384 : Shape := ⟨1, ![16384]⟩
abbrev S1x16384 : Shape := ⟨2, ![1, 16384]⟩
abbrev S_ : Shape := ⟨0, ![]⟩
abbrev S1x1 : Shape := ⟨2, ![1, 1]⟩
abbrev S4x1 : Shape := ⟨2, ![4, 1]⟩
abbrev S4x16384 : Shape := ⟨2, ![4, 16384]⟩
abbrev S1x1x16384 : Shape := ⟨3, ![1, 1, 16384]⟩
abbrev S4x16384x1 : Shape := ⟨3, ![4, 16384, 1]⟩
abbrev S4x16384x16384 : Shape := ⟨3, ![4, 16384, 16384]⟩
abbrev S4x16384x128 : Shape := ⟨3, ![4, 16384, 128]⟩
abbrev S4x128x16384 : Shape := ⟨3, ![4, 128, 16384]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1184, .f32⟩
  | .hbm, ⟨2, _⟩ => ⟨S4x128x128, .f32⟩
  | .hbm, ⟨3, _⟩ => ⟨S512, .f32⟩
  | .hbm, ⟨4, _⟩ => ⟨S16384x512, .f32⟩
  | .hbm, ⟨5, _⟩ => ⟨S16384x4x128, .f32⟩
  | .hbm, ⟨6, _⟩ => ⟨S16384, .i32⟩
  | .hbm, ⟨7, _⟩ => ⟨S1x16384, .i32⟩
  | .hbm, ⟨8, _⟩ => ⟨S_, .i32⟩
  | .hbm, ⟨9, _⟩ => ⟨S1x1, .i32⟩
  | .hbm, ⟨10, _⟩ => ⟨S_, .i32⟩
  | .hbm, ⟨11, _⟩ => ⟨S1x1, .i32⟩
  | .hbm, ⟨12, _⟩ => ⟨S_, .i32⟩
  | .hbm, ⟨13, _⟩ => ⟨S1x1, .i32⟩
  | .hbm, ⟨14, _⟩ => ⟨S_, .i32⟩
  | .hbm, ⟨15, _⟩ => ⟨S1x1, .i32⟩
  | .hbm, ⟨16, _⟩ => ⟨S4x1, .i32⟩
  | .hbm, ⟨17, _⟩ => ⟨S_, .i32⟩
  | .hbm, ⟨18, _⟩ => ⟨S1x1, .i32⟩
  | .hbm, ⟨19, _⟩ => ⟨S_, .i32⟩
  | .hbm, ⟨20, _⟩ => ⟨S1x1, .i32⟩
  | .hbm, ⟨21, _⟩ => ⟨S_, .i32⟩
  | .hbm, ⟨22, _⟩ => ⟨S1x1, .i32⟩
  | .hbm, ⟨23, _⟩ => ⟨S_, .i32⟩
  | .hbm, ⟨24, _⟩ => ⟨S1x1, .i32⟩
  | .hbm, ⟨25, _⟩ => ⟨S4x1, .i32⟩
  | .hbm, ⟨26, _⟩ => ⟨S4x16384, .i32⟩
  | .hbm, ⟨27, _⟩ => ⟨S4x16384, .i32⟩
  | .hbm, ⟨28, _⟩ => ⟨S4x16384, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4x16384, .i32⟩
  | .hbm, ⟨33, _⟩ => ⟨S4x16384, .i32⟩
  | .hbm, ⟨34, _⟩ => ⟨S_, .i32⟩
  | .hbm, ⟨35, _⟩ => ⟨S4x16384, .i32⟩
  | .hbm, ⟨36, _⟩ => ⟨S4x16384, .i32⟩
  | .hbm, ⟨37, _⟩ => ⟨S4x16384, .i32⟩
  | .hbm, ⟨38, _⟩ => ⟨S4x16384, .i32⟩
  | .hbm, ⟨39, _⟩ => ⟨S4x16384, .i32⟩
  | .hbm, ⟨40, _⟩ => ⟨S_, .i32⟩
  | .hbm, ⟨41, _⟩ => ⟨S4x16384, .i32⟩
  | .hbm, ⟨42, _⟩ => ⟨S4x16384, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S4x16384, .i32⟩
  | .hbm, ⟨47, _⟩ => ⟨S4x16384, .i32⟩
  | .hbm, ⟨48, _⟩ => ⟨S_, .i32⟩
  | .hbm, ⟨49, _⟩ => ⟨S4x16384, .i32⟩
  | .hbm, ⟨50, _⟩ => ⟨S4x16384, .i32⟩
  | .hbm, ⟨51, _⟩ => ⟨S16384, .i32⟩
  | .hbm, ⟨52, _⟩ => ⟨S1x1x16384, .i32⟩
  | .hbm, ⟨53, _⟩ => ⟨S4x16384x1, .i32⟩
  | .hbm, ⟨54, _⟩ => ⟨S4x16384x16384, .i32⟩
  | .hbm, ⟨55, _⟩ => ⟨S4x16384x16384, .i32⟩
  | .hbm, ⟨56, _⟩ => ⟨S4x16384x16384, .i1⟩
  | .hbm, ⟨57, _⟩ => ⟨S4x16384x1, .i32⟩
  | .hbm, ⟨58, _⟩ => ⟨S4x16384x16384, .i32⟩
  | .hbm, ⟨59, _⟩ => ⟨S4x16384x16384, .i32⟩
  | .hbm, ⟨60, _⟩ => ⟨S4x16384x16384, .i1⟩
  | .hbm, ⟨61, _⟩ => ⟨S4x16384x16384, .i1⟩
  | .hbm, ⟨62, _⟩ => ⟨S_, .f32⟩
  | .hbm, ⟨63, _⟩ => ⟨S_, .f32⟩
  | .hbm, ⟨64, _⟩ => ⟨S4x16384x16384, .f32⟩
  | .hbm, ⟨65, _⟩ => ⟨S4x16384x16384, .f32⟩
  | .hbm, ⟨66, _⟩ => ⟨S4x16384x16384, .f32⟩
  | .hbm, ⟨67, _⟩ => ⟨S4x16384x128, .f32⟩
  | .hbm, ⟨68, _⟩ => ⟨S4x16384, .i32⟩
  | .hbm, ⟨69, _⟩ => ⟨S4x16384, .f32⟩
  | .hbm, ⟨70, _⟩ => ⟨S4x16384x1, .f32⟩
  | .hbm, ⟨71, _⟩ => ⟨S4x16384x128, .f32⟩
  | .hbm, ⟨72, _⟩ => ⟨S4x16384x128, .f32⟩
  | .hbm, ⟨73, _⟩ => ⟨S16384x4x128, .f32⟩
  | .hbm, ⟨74, _⟩ => ⟨S16384x4x128, .f32⟩
  | .hbm, ⟨75, _⟩ => ⟨S4x128x16384, .f32⟩
  | .hbm, ⟨76, _⟩ => ⟨S16384x4x128, .f32⟩
  | .hbm, ⟨77, _⟩ => ⟨S16384x512, .f32⟩
  | .hbm, ⟨78, _⟩ => ⟨S1x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S16384x512, .f32⟩
  | .hbm, ⟨86, _⟩ => ⟨S16384x512, .f32⟩
  | .hbm, ⟨87, _⟩ => ⟨S_, .f32⟩
  | .hbm, ⟨88, _⟩ => ⟨S512, .f32⟩
  | .hbm, ⟨89, _⟩ => ⟨S16384x4x128, .f32⟩
  | .hbm, ⟨90, _⟩ => ⟨S4x128x16384, .f32⟩
  | .hbm, ⟨91, _⟩ => ⟨S4x16384x128, .f32⟩
  | .hbm, ⟨92, _⟩ => ⟨S16384x4x128, .f32⟩
  | .hbm, ⟨93, _⟩ => ⟨S16384x4x128, .f32⟩
  | .hbm, ⟨94, _⟩ => ⟨S4x16384x128, .f32⟩
  | .hbm, ⟨95, _⟩ => ⟨S4x16384x128, .f32⟩
  | .hbm, ⟨96, _⟩ => ⟨S4x16384x128, .f32⟩
  | .hbm, ⟨97, _⟩ => ⟨S4x128x16384, .f32⟩
  | .hbm, ⟨98, _⟩ => ⟨S16384x4x128, .f32⟩
  | .hbm, ⟨99, _⟩ => ⟨S16384x4x128, .f32⟩
  | .hbm, ⟨100, _⟩ => ⟨S16384x512, .f32⟩
  | .hbm, ⟨101, _⟩ => ⟨S16384x512, .f32⟩
  | .hbm, ⟨102, _⟩ => ⟨S16384x512, .bf16⟩
  | .hbm, ⟨103, _⟩ => ⟨S16384x512, .bf16⟩
  | .hbm, ⟨104, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_c_8 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_9 : Ref sig .tc := ⟨.hbm, 40, rfl⟩
abbrev main_v21 : Ref sig .tc := ⟨.hbm, 41, rfl⟩
abbrev main_v22 : Ref sig .tc := ⟨.hbm, 42, rfl⟩
abbrev main_c_10 : Ref sig .tc := ⟨.hbm, 43, rfl⟩
abbrev main_c_11 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst : Ref sig .tc := ⟨.hbm, 62, rfl⟩
abbrev main_cst_12 : Ref sig .tc := ⟨.hbm, 63, rfl⟩
abbrev main_call2_v0 : Ref sig .tc := ⟨.hbm, 64, rfl⟩
abbrev main_call2_v1 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== KernelPoolf.lean ====
abbrev S16384x1024 : Shape := ⟨2, ![16384, 1024]⟩
abbrev S16384x1184 : Shape := ⟨2, ![16384, 1184]⟩
abbrev S16384x512 : Shape := ⟨2, ![16384, 512]⟩
abbrev S4x128x128 : Shape := ⟨3, ![4, 128, 128]⟩
abbrev S512 : Shape := ⟨1, ![512]⟩
abbrev S1024x1024 : Shape := ⟨2, ![1024, 1024]⟩
abbrev S16384x640 : Shape := ⟨2, ![16384, 640]⟩
abbrev S_ : Shape := ⟨0, ![]⟩
abbrev S16384x64 : Shape := ⟨2, ![16384, 64]⟩
abbrev S16384x32 : Shape := ⟨2, ![16384, 32]⟩
abbrev S16384x1280 : Shape := ⟨2, ![16384, 1280]⟩
abbrev S512x1024 : Shape := ⟨2, ![512, 1024]⟩
abbrev S1024x512 : Shape := ⟨2, ![1024, 512]⟩
abbrev S1024x8x64 : Shape := ⟨3, ![1024, 8, 64]⟩
abbrev S1024x8x128 : Shape := ⟨3, ![1024, 8, 128]⟩
abbrev S1536x1024 : Shape := ⟨2, ![1536, 1024]⟩
abbrev S16384x8x64 : Shape := ⟨3, ![16384, 8, 64]⟩
abbrev S16384x8x128 : Shape := ⟨3, ![16384, 8, 128]⟩
abbrev S1x512 : Shape := ⟨2, ![1, 512]⟩
abbrev S16384x1536 : Shape := ⟨2, ![16384, 1536]⟩
abbrev S8x1280 : Shape := ⟨2, ![8, 1280]⟩
abbrev S512x1280 : Shape := ⟨2, ![512, 1280]⟩
abbrev S512x1536 : Shape := ⟨2, ![512, 1536]⟩
abbrev S528x512 : Shape := ⟨2, ![528, 512]⟩
abbrev S512x512 : Shape := ⟨2, ![512, 512]⟩
abbrev S8x512 : Shape := ⟨2, ![8, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 35
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1184, .f32⟩
  | .hbm, ⟨2, _⟩ => ⟨S16384x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S16384x640, .f32⟩
  | .hbm, ⟨7, _⟩ => ⟨S16384x512, .f32⟩
  | .hbm, ⟨8, _⟩ => ⟨S_, .f32⟩
  | .hbm, ⟨9, _⟩ => ⟨S16384x64, .f32⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S16384x1280, .f32⟩
  | .hbm, ⟨14, _⟩ => ⟨S512x1024, .f32⟩
  | .hbm, ⟨15, _⟩ => ⟨S1024x512, .f32⟩
  | .hbm, ⟨16, _⟩ => ⟨S1024x8x64, .f32⟩
  | .hbm, ⟨17, _⟩ => ⟨S_, .i32⟩
  | .hbm, ⟨18, _⟩ => ⟨S_, .f32⟩
  | .hbm, ⟨19, _⟩ => ⟨S1024x8x128, .f32⟩
  | .hbm, ⟨20, _⟩ => ⟨S1024x1024, .f32⟩
  | .hbm, ⟨21, _⟩ => ⟨S1024x1024, .f32⟩
  | .hbm, ⟨22, _⟩ => ⟨S512x1024, .f32⟩
  | .hbm, ⟨23, _⟩ => ⟨S1536x1024, .f32⟩
  | .hbm, ⟨24, _⟩ => ⟨S1536x1024, .bf16⟩
  | .hbm, ⟨25, _⟩ => ⟨S16384x8x64, .f32⟩
  | .hbm, ⟨26, _⟩ => ⟨S_, .i32⟩
  | .hbm, ⟨27, _⟩ => ⟨S_, .f32⟩
  | .hbm, ⟨28, _⟩ => ⟨S16384x8x128, .f32⟩
  | .hbm, ⟨29, _⟩ => ⟨S16384x1024, .f32⟩
  | .hbm, ⟨30, _⟩ => ⟨S16384x1024, .bf16⟩
  | .hbm, ⟨31, _⟩ => ⟨S4x128x128, .bf16⟩
  | .hbm, ⟨32, _⟩ => ⟨S1x512, .f32⟩
  | .hbm, ⟨33, _⟩ => ⟨S16384x1024, .f32⟩
  | .hbm, ⟨34, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S8x1280, .f32⟩
  | .local _ .vmem, ⟨3, _⟩ => ⟨S8x1280, .f32⟩
  | .local _ .vmem, ⟨4, _⟩ => ⟨S512x1280, .f32⟩
  | .local _ .vmem, ⟨5, _⟩ => ⟨S512x1280, .f32⟩
  | .local _ .vmem, ⟨6, _⟩ => ⟨S8x1280, .f32⟩
  | .local _ .vmem, ⟨7, _⟩ => ⟨S8x1280, .f32⟩
  | .local _ .vmem, ⟨8, _⟩ => ⟨S512x1024, .bf16⟩
  | .local _ .vmem, ⟨9, _⟩ => ⟨S512x1024, .bf16⟩
  | .local _ .vmem, ⟨10, _⟩ => ⟨S4x128x128, .bf16⟩
  | .local _ .vmem, ⟨11, _⟩ => ⟨S1x512, .f32⟩
  | .local _ .vmem, ⟨12, _⟩ => ⟨S1536x1024, .bf16⟩
  | .local _ .vmem, ⟨13, _⟩ => ⟨S512x1024, .f32⟩
  | .local _ .vmem, ⟨14, _⟩ => ⟨S512x1024, .f32⟩
  | .local _ .vmem, ⟨15, _⟩ => ⟨S512x1536, .bf16⟩
  | .local _ .vmem, ⟨16, _⟩ => ⟨S512x1536, .bf16⟩
  | .local _ .vmem, ⟨17, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferencePoolfIdeal.lean ====
abbrev S16384x1024 : Shape := ⟨2, ![16384, 1024]⟩
abbrev S16384x1184 : Shape := ⟨2, ![16384, 1184]⟩
abbrev S16384x512 : Shape := ⟨2, ![16384, 512]⟩
abbrev S4x128x128 : Shape := ⟨3, ![4, 128, 128]⟩
abbrev S512 : Shape := ⟨1, ![512]⟩
abbrev S1024x1024 : Shape := ⟨2, ![1024, 1024]⟩
abbrev S16384x4x128 : Shape := ⟨3, ![16384, 4, 128]⟩
abbrev S16384 : Shape := ⟨1, ![16384]⟩
abbrev S1x16384 : Shape := ⟨2, ![1, 16384]⟩
abbrev S_ : Shape := ⟨0, ![]⟩
abbrev S1x1 : Shape := ⟨2, ![1, 1]⟩
abbrev S4x1 : Shape := ⟨2, ![4, 1]⟩
abbrev S4x16384 : Shape := ⟨2, ![4, 16384]⟩
abbrev S1x1x16384 : Shape := ⟨3, ![1, 1, 16384]⟩
abbrev S4x16384x1 : Shape := ⟨3, ![4, 16384, 1]⟩
abbrev S4x16384x16384 : Shape := ⟨3, ![4, 16384, 16384]⟩
abbrev S4x16384x128 : Shape := ⟨3, ![4, 16384, 128]⟩
abbrev S4x128x16384 : Shape := ⟨3, ![4, 128, 16384]⟩
abbrev S1x512 : Shape := ⟨2, ![1, 512]⟩
abbrev S16384x8x64 : Shape := ⟨3, ![16384, 8, 64]⟩
abbrev S16384x8x128 : Shape := ⟨3, ![16384, 8, 128]⟩
abbrev S16384x1536 : Shape := ⟨2, ![16384, 1536]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1184, .f32⟩
  | .hbm, ⟨2, _⟩ => ⟨S16384x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S16384x512, .f32⟩
  | .hbm, ⟨7, _⟩ => ⟨S16384x4x128, .f32⟩
  | .hbm, ⟨8, _⟩ => ⟨S16384, .i32⟩
  | .hbm, ⟨9, _⟩ => ⟨S1x16384, .i32⟩
  | .hbm, ⟨10, _⟩ => ⟨S_, .i32⟩
  | .hbm, ⟨11, _⟩ => ⟨S1x1, .i32⟩
  | .hbm, ⟨12, _⟩ => ⟨S_, .i32⟩
  | .hbm, ⟨13, _⟩ => ⟨S1x1, .i32⟩
  | .hbm, ⟨14, _⟩ => ⟨S_, .i32⟩
  | .hbm, ⟨15, _⟩ => ⟨S1x1, .i32⟩
  | .hbm, ⟨16, _⟩ => ⟨S_, .i32⟩
  | .hbm, ⟨17, _⟩ => ⟨S1x1, .i32⟩
  | .hbm, ⟨18, _⟩ => ⟨S4x1, .i32⟩
  | .hbm, ⟨19, _⟩ => ⟨S_, .i32⟩
  | .hbm, ⟨20, _⟩ => ⟨S1x1, .i32⟩
  | .hbm, ⟨21, _⟩ => ⟨S_, .i32⟩
  | .hbm, ⟨22, _⟩ => ⟨S1x1, .i32⟩
  | .hbm, ⟨23, _⟩ => ⟨S_, .i32⟩
  | .hbm, ⟨24, _⟩ => ⟨S1x1, .i32⟩
  | .hbm, ⟨25, _⟩ => ⟨S_, .i32⟩
  | .hbm, ⟨26, _⟩ => ⟨S1x1, .i32⟩
  | .hbm, ⟨27, _⟩ => ⟨S4x1, .i32⟩
  | .hbm, ⟨28, _⟩ => ⟨S4x16384, .i32⟩
  | .hbm, ⟨29, _⟩ => ⟨S4x16384, .i32⟩
  | .hbm, ⟨30, _⟩ => ⟨S4x16384, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x16384, .i32⟩
  | .hbm, ⟨35, _⟩ => ⟨S4x16384, .i32⟩
  | .hbm, ⟨36, _⟩ => ⟨S_, .i32⟩
  | .hbm, ⟨37, _⟩ => ⟨S4x16384, .i32⟩
  | .hbm, ⟨38, _⟩ => ⟨S4x16384, .i32⟩
  | .hbm, ⟨39, _⟩ => ⟨S4x16384, .i32⟩
  | .hbm, ⟨40, _⟩ => ⟨S4x16384, .i32⟩
  | .hbm, ⟨41, _⟩ => ⟨S4x16384, .i32⟩
  | .hbm, ⟨42, _⟩ => ⟨S_, .i32⟩
  | .hbm, ⟨43, _⟩ => ⟨S4x16384, .i32⟩
  | .hbm, ⟨44, _⟩ => ⟨S4x16384, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S4x16384, .i32⟩
  | .hbm, ⟨49, _⟩ => ⟨S4x16384, .i32⟩
  | .hbm, ⟨50, _⟩ => ⟨S_, .i32⟩
  | .hbm, ⟨51, _⟩ => ⟨S4x16384, .i32⟩
  | .hbm, ⟨52, _⟩ => ⟨S4x16384, .i32⟩
  | .hbm, ⟨53, _⟩ => ⟨S16384, .i32⟩
  | .hbm, ⟨54, _⟩ => ⟨S1x1x16384, .i32⟩
  | .hbm, ⟨55, _⟩ => ⟨S4x16384x1, .i32⟩
  | .hbm, ⟨56, _⟩ => ⟨S4x16384x16384, .i32⟩
  | .hbm, ⟨57, _⟩ => ⟨S4x16384x16384, .i32⟩
  | .hbm, ⟨58, _⟩ => ⟨S4x16384x16384, .i1⟩
  | .hbm, ⟨59, _⟩ => ⟨S4x16384x1, .i32⟩
  | .hbm, ⟨60, _⟩ => ⟨S4x16384x16384, .i32⟩
  | .hbm, ⟨61, _⟩ => ⟨S4x16384x16384, .i32⟩
  | .hbm, ⟨62, _⟩ => ⟨S4x16384x16384, .i1⟩
  | .hbm, ⟨63, _⟩ => ⟨S4x16384x16384, .i1⟩
  | .hbm, ⟨64, _⟩ => ⟨S_, .f32⟩
  | .hbm, ⟨65, _⟩ => ⟨S_, .f32⟩
  | .hbm, ⟨66, _⟩ => ⟨S4x16384x16384, .f32⟩
  | .hbm, ⟨67, _⟩ => ⟨S4x16384x16384, .f32⟩
  | .hbm, ⟨68, _⟩ => ⟨S4x16384x16384, .f32⟩
  | .hbm, ⟨69, _⟩ => ⟨S4x16384x128, .f32⟩
  | .hbm, ⟨70, _⟩ => ⟨S4x16384, .i32⟩
  | .hbm, ⟨71, _⟩ => ⟨S4x16384, .f32⟩
  | .hbm, ⟨72, _⟩ => ⟨S4x16384x1, .f32⟩
  | .hbm, ⟨73, _⟩ => ⟨S4x16384x128, .f32⟩
  | .hbm, ⟨74, _⟩ => ⟨S4x16384x128, .f32⟩
  | .hbm, ⟨75, _⟩ => ⟨S16384x4x128, .f32⟩
  | .hbm, ⟨76, _⟩ => ⟨S16384x4x128, .f32⟩
  | .hbm, ⟨77, _⟩ => ⟨S4x128x16384, .f32⟩
  | .hbm, ⟨78, _⟩ => ⟨S16384x4x128, .f32⟩
  | .hbm, ⟨79, _⟩ => ⟨S16384x512, .f32⟩
  | .hbm, ⟨80, _⟩ => ⟨S1x512, .f32⟩
  | .hbm, ⟨81, _⟩ => ⟨S16384x512, .f32⟩
  | .hbm, ⟨82, _⟩ => ⟨S16384x512, .f32⟩
  | .hbm, ⟨83, _⟩ => ⟨S16384x8x64, .f32⟩
  | .hbm, ⟨84, _⟩ => ⟨S_, .f32⟩
  | .hbm, ⟨85, _⟩ => ⟨S16384x8x64, .f32⟩
  | .hbm, ⟨86, _⟩ => ⟨S16384x8x128, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1536, .f32⟩
  | .hbm, ⟨92, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_c_8 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_v22 : Ref sig .tc := ⟨.hbm, 44, rfl⟩
abbrev main_c_10 : Ref sig .tc := ⟨.hbm, 45, rfl⟩
abbrev main_c_11 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Proof.Common.Sums.lean ====
/- Finite sums of extended reals under a factor. -/
module

public import Idealize.ShloMosaic.Lib.Pipeline.ValueKit

@[expose] public section

noncomputable section

namespace Cert.Common

/-- A nonnegative real factor goes into a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The same with the factor on the right. -/
theorem sum_mul_coe {ι : Type*} (s : Finset ι) (r : ℝ) (hr : 0 ≤ r) (f : ι → EReal) :
    (∑ i ∈ s, f i) * (r : EReal) = ∑ i ∈ s, f i * (r : EReal) := by
  rw [mul_comm, coe_mul_sum s r hr]
  exact Finset.sum_congr rfl fun i _ => mul_comm _ _

end Cert.Common

end
-- ==== Proof.Common.Consts.lean ====
/- The real numbers that the printed float words stand for. -/
module

public import Idealize.ShloMosaic.Lib.IdealHost

@[expose] public section

noncomputable section

open Idealize.ShloMosaic

namespace Cert.Common

/-- The word of one half. -/
theorem ofBits_half : Ideal.ofBits .f32 0x3F000000#32 = (((1 / 2 : ℝ)) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The word of one 1024th. -/
theorem ofBits_inv1024 : Ideal.ofBits .f32 0x3A800000#32 = (((1 / 1024 : ℝ)) : EReal) := by
  simp [Ideal.ofBits, Ideal.ieee, -EReal.coe_mul]; norm_num

/-- The word of minus one half. -/
theorem ofBits_neg_half : Ideal.ofBits .f32 0xBF000000#32 = (((-1 / 2 : ℝ)) : EReal) := by
  simp [Ideal.ofBits, Ideal.ieee, -EReal.coe_mul, -EReal.coe_neg]; norm_num

/-- The number that the norms add to a mean square: the float word nearest to 1e-6. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

end Cert.Common

end
-- ==== Proof.Loss.Value.lean ====
/- The loss head: what its two result arrays hold. -/
module

public import proofs.«01_k».proof.Proof.Gen.KernelLossIdeal.Value
public import proofs.«01_k».proof.Proof.Gen.ReferenceLossIdeal.Read
public import proofs.«01_k».proof.Proof.Common.Sums
public import proofs.«01_k».proof.Proof.Common.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelLossIdeal.Value

open Cert.KernelLossIdeal Cert.KernelLossIdeal.Gen
open Cert.ReferenceLossIdeal.Read Cert.Common

variable (m : (ℓ : Loc nD τ sig) → Buf (Elt Ideal) ℓ)

/-- The windows' block indices, at every grid point. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- The predictions. -/
abbrev Y (c : Dev nD) : FVec Ideal S16384x1024 .f32 := m ((c : Thread nD τ).loc main_arg0)
/-- The targets. -/
abbrev T (c : Dev nD) : FVec Ideal S16384x1024 .f32 := m ((c : Thread nD τ).loc main_arg1)

/-- One block of the gradient is the reference's, where the block lies. -/
theorem point2 (c : Dev nD) (t : Fin cfg0.N) (y) :
    k0_pay2 (F := Ideal) (iblk m c 0 t) (iblk m c 1 t) y
      = val_main_v14 (F := Ideal) (Y m c) (T m c) (((cfg0.win 2).blk t).view.emb y) := by
  pointwise [k0_pay2, k0_pay1, val_main_v14, val_main_v13, val_main_v12, val_main_v11, val_main_v10, val_main_v9,
    val_main_v3, val_main_v2, val_main_v0, val_main_cst, val_main_cst_4, val_main_cst_5, val_main_cst_6]
  rw [ofBits_half, ofBits_two, ofBits_1024, ofBits_inv1024, Ideal.div_coe (by norm_num), ← mul_assoc,
    ← EReal.coe_mul, ← EReal.coe_mul, show (1 / 2 * (1 / 1024) * 2 : ℝ) = 1 / 1024 by norm_num, mul_comm]
  blk_point [iblk, V, idx t]

/-- The gradient's array. -/
theorem final2 (c : Dev nD) : (dats m 0 c).arrAt 2 (cfgs 0).N = val_main_v14 (F := Ideal) (Y m c) (T m c) := by
  refine (dats m 0 c).arrAt_eq_of_covers 2 _ (by decide +kernel) fun t hf y => ?_
  blk_simp
  rw [after0_2]
  have hN : t.val < 32 := t.isLt
  by_cases h : t.val % 32 = 0
  · rw [outsAt0_A m c t h (by omega)]; frame_out; exact point2 m c t y
  · rw [outsAt0_B m c t h (by omega)]; frame_out; exact point2 m c t y

/-- The loss's array: the blocks' sums added up are the reference's sum. -/
theorem final3 (c : Dev nD) : (dats m 0 c).arrAt 3 (cfgs 0).N = val_main_v15 (F := Ideal) (Y m c) (T m c) := by
  refine (dats m 0 c).arrAt_eq_of_covers 3 _ (by decide +kernel) fun t hf y => ?_
  blk_simp
  have hN : ∀ s : Fin cfg0.N, s.val < 32 := fun s => s.isLt
  rw [after0_3, Pipeline.eq_sum_fin_of_reset_step_apply_of_flush (fun n h => (outsAt0 m c n h).2) 32 (fun _ => (0 : EReal))
    (fun t => k0_pay3 (F := Ideal) (iblk m c 0 t) (iblk m c 1 t))
    (fun t h j => by
      rw [outsAt0_A m c t h (by have := hN t; omega)]; frame_out; exact (zero_add _).symm)
    (fun t h j => by
      rw [outsAt0_B m c t h (by omega)]; frame_out; pointwise [k0_pay4]) t ((flush0_3 t).mp hf) _, zero_add]
  pointwise [k0_pay3, k0_pay1, val_main_v15, val_main_v8, val_main_v7, val_main_v6, val_main_v5, val_main_v4, val_main_v1,
    val_main_v0, val_main_cst_0, val_main_cst_1, val_main_cst_2, val_main_cst_3]
  rw [ofBits_half, ofBits_1024, ofBits_inv1024]
  rw [← coe_mul_sum _ _ (by norm_num)]
  simp only [Ideal.div_coe (show (1024 : ℝ) ≠ 0 by norm_num)]
  refine congrArg _ (Fin.sum_mul_add_congr fun s r hl => ?_)
  have ht : t.val / 32 = 0 := by have := hN t; omega
  blk_point [iblk, V, idx ⟨_, Pipeline.run_point_lt_of_flush t ((flush0_3 t).mp hf) s⟩]

end Cert.KernelLossIdeal.Value

end
-- ==== Proof.Loss.Claim.lean ====
/- The loss head against the derivative of the loss. -/
module

public import proofs.«01_k».proof.Defs
public import proofs.«01_k».proof.Proof.Loss.Value
public import proofs.«01_k».proof.Proof.Gen.KernelLoss.Frame
public import proofs.«01_k».proof.Proof.Gen.ReferenceLossIdeal.Run
public import Idealize.ShloMosaic.Lib.Claim

@[expose] public section

set_option maxRecDepth 16384

noncomputable section

namespace Cert.Loss

open Idealize.ShloMosaic Idealize.SL.Sem Cert.ReferenceLossIdeal.Read

local instance : Cert.KernelLossIdeal.Facts := Cert.KernelLossIdeal.Gen.facts
local instance : Cert.ReferenceLossIdeal.Facts := Cert.ReferenceLossIdeal.Gen.facts

/-- The reference terminates and leaves its arguments alone. -/
theorem frame_reference : Cert.quiescent_ReferenceLossIdeal (hReferenceLossIdeal := Cert.ReferenceLossIdeal.Gen.facts) :=
  fun m ρ _ => (θ_run Cert.ReferenceLossIdeal.defs _ _).mono
    (fun r h => ⟨fun c => (h c).2.2, Idealize.ShloMosaic.sem_eq_zero_of_no_sems (by decide) r.2⟩)
    (Cert.ReferenceLossIdeal.Value.run (F := Ideal) m ρ)

/-- Kernel and reference compute the same gradient and the same loss. -/
theorem algebraic : Cert.algebraic_KernelLossIdeal_ReferenceLossIdeal (hKernelLossIdeal := Cert.KernelLossIdeal.Gen.facts)
    (hReferenceLossIdeal := Cert.ReferenceLossIdeal.Gen.facts) := by
  pair_intro
  · run_from Cert.KernelLossIdeal.Gen.run_main m g
  · hlo_run
    · exact (val_main_v14_eq ..).trans (Cert.KernelLossIdeal.Value.final2 m c).symm
    · exact (val_main_v15_eq ..).trans (Cert.KernelLossIdeal.Value.final3 m c).symm

end Cert.Loss

end
-- ==== Proof.Common.Finite.lean ====
/- Extended reals that are real numbers: what keeps them so, and what a printed finiteness test says of an array. -/
module

public import Idealize.ShloMosaic.Lib.ReduceAll
public import Idealize.ShloMosaic.Lib.Pointwise
public import Idealize.ShloMosaic.PureOps.Ideal.Laws

@[expose] public section

noncomputable section

open Idealize.ShloMosaic

namespace Cert.Common

/-- An extended real that is a real number. -/
def Re (a : EReal) : Prop := ∃ r : ℝ, a = (r : EReal)

theorem re_coe (r : ℝ) : Re (r : EReal) := ⟨r, rfl⟩
theorem re_zero : Re 0 := ⟨0, rfl⟩
theorem re_one : Re 1 := ⟨1, rfl⟩

theorem Re.add {a b : EReal} : Re a → Re b → Re (a + b) := by
  rintro ⟨r, rfl⟩ ⟨s, rfl⟩; exact ⟨r + s, (EReal.coe_add r s).symm⟩

theorem Re.mul {a b : EReal} : Re a → Re b → Re (a * b) := by
  rintro ⟨r, rfl⟩ ⟨s, rfl⟩; exact ⟨r * s, (EReal.coe_mul r s).symm⟩

theorem Re.sub {a b : EReal} : Re a → Re b → Re (a - b) := by
  rintro ⟨r, rfl⟩ ⟨s, rfl⟩; exact ⟨r - s, (EReal.coe_sub r s).symm⟩

theorem Re.neg {a : EReal} : Re a → Re (-a) := by
  rintro ⟨r, rfl⟩; exact ⟨-r, (EReal.coe_neg r).symm⟩

theorem Re.exp {a : EReal} : Re a → Re (Ideal.exp a) := by
  rintro ⟨r, rfl⟩; exact ⟨Real.exp r, rfl⟩

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Re.sum {ι : Type*} (s : Finset ι) {f : ι → EReal} (h : ∀ i, Re (f i)) : Re (∑ i ∈ s, f i) := by
  choose g hg using h
  exact ⟨∑ i ∈ s, g i, by rw [coe_sum]; exact Finset.sum_congr rfl fun i _ => hg i⟩

/-- The reciprocal root of a positive real number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The word of plus infinity. -/
theorem ofBits_inf : Ideal.ofBits .f32 0x7F800000#32 = ⊤ := by
  simp [Ideal.ofBits, Ideal.ieee]

/-- A conjunction of two truth values that holds. -/
theorem andi_one {s : Shape} (a b : IVec s 1) (j : s.Idx) (h : andi a b j = 1#1) : a j = 1#1 ∧ b j = 1#1 := by
  have h' : a j &&& b j = 1#1 := h
  revert h'
  generalize a j = x
  generalize b j = y
  revert x y
  decide

/-- An array all of whose absolute values are below infinity holds real numbers. -/
theorem re_of_all {s t u : Shape} [Subsingleton t.Idx] {axes : List (Fin s.rank)} (x : FVec Ideal s .f32) (y : FVec Ideal s .f32)
    (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : Re (x i) := by
  have h1 := Host.reduce_andi_all _ init h hu j e i
  have h2 : (cmpf .olt (Host.absf x) y) i = if max (x i) (-(x i)) < y i then 1#1 else 0#1 := by
    pointwise
    by_cases hc : max (x i) (-(x i)) < y i
    · rw [if_pos hc]; exact congrArg BitVec.ofBool (decide_eq_true hc)
    · rw [if_neg hc]; exact congrArg BitVec.ofBool (decide_eq_false hc)
  rw [h2, hy, ofBits_inf] at h1
  have h3 : max (x i) (-(x i)) < ⊤ := by
    by_contra hc
    rw [if_neg hc] at h1
    exact absurd h1 (by decide)
  rcases lt_or_eq_of_le (le_top (a := x i)) with ht | ht
  · rcases lt_or_eq_of_le (bot_le (a := x i)) with hb | hb
    · exact ⟨(x i).toReal, (EReal.coe_toReal ht.ne hb.ne').symm⟩
    · rw [← hb] at h3; simp at h3
  · rw [ht] at h3; simp at h3

end Cert.Common

end
-- ==== Proof.Common.Norm.lean ====
/- The derivative of x / sqrt (mean (x * x) + e) times a cotangent, in the form that a kernel computes and in the form of the
   chain rule. -/
module

public import proofs.«01_k».proof.Proof.Common.Finite
public import Idealize.ShloMosaic.Lib.IdealHost

@[expose] public section

noncomputable section

open Idealize.ShloMosaic

namespace Cert.Common

/-- The mean square of a row of `n` numbers, plus `e`. -/
def msq {ι : Type*} [Fintype ι] (X : ι → EReal) (n e : ℝ) : EReal := Ideal.div (∑ k, X k * X k) (n : EReal) + (e : EReal)

/-- A row's gradient through the mean square: what the chain rule adds twice. -/
def viaMean {ι : Type*} [Fintype ι] (X D : ι → EReal) (n e : ℝ) : EReal :=
  ∑ _ : Fin 1, Ideal.div ((∑ k, X k * D k) * (((-1 / 2 : ℝ) : EReal) * Ideal.div (Ideal.rsqrt (msq X n e)) (msq X n e))) (n : EReal)

theorem msq_mul {ι : Type*} [Fintype ι] (X : ι → EReal) {n : ℝ} (hn : 0 < n) (e : ℝ) :
    (∑ k, X k * X k) * ((1 / n : ℝ) : EReal) + (e : EReal) = msq X n e := by
  rw [msq, Ideal.div_coe hn.ne']

/-- Over real numbers the mean square plus a positive number is positive. -/
theorem msq_coe {ι : Type*} [Fintype ι] (X : ι → ℝ) {n e : ℝ} (hn : 0 < n) (he : 0 < e) :
    ∃ v : ℝ, 0 < v ∧ msq (fun k => (X k : EReal)) n e = (v : EReal) := by
  refine ⟨(∑ k, X k * X k) * (1 / n) + e, ?_, ?_⟩
  · have : 0 ≤ ∑ k, X k * X k := Finset.sum_nonneg fun k _ => mul_self_nonneg _
    positivity
  · rw [msq, Ideal.div_coe hn.ne']
    simp only [EReal.coe_add, EReal.coe_mul, coe_sum]

theorem re_rsqrt_msq {ι : Type*} [Fintype ι] (X : ι → EReal) (hX : ∀ k, Re (X k)) {n e : ℝ} (hn : 0 < n) (he : 0 < e) :
    Re (Ideal.rsqrt (msq X n e)) := by
  choose x hx using hX
  obtain rfl : X = fun k => (x k : EReal) := funext hx
  obtain ⟨v, hv, h⟩ := msq_coe x hn he
  rw [h, rsqrt_pos hv]
  exact re_coe _

/-- The kernel's form of the gradient against the chain rule's, on real numbers. -/
theorem norm_grad {ι : Type*} [Fintype ι] (X D : ι → EReal) (hX : ∀ k, Re (X k)) (hD : ∀ k, Re (D k)) {n e : ℝ} (hn : 0 < n)
    (he : 0 < e) (j : ι) :
    Ideal.rsqrt (msq X n e) * (D j - X j * Ideal.rsqrt (msq X n e)
        * ((∑ k, D k * (X k * Ideal.rsqrt (msq X n e))) * ((1 / n : ℝ) : EReal)))
      = D j * Ideal.rsqrt (msq X n e) + X j * viaMean X D n e + viaMean X D n e * X j := by
  choose x hx using hX
  choose d hd using hD
  obtain rfl : X = fun k => (x k : EReal) := funext hx
  obtain rfl : D = fun k => (d k : EReal) := funext hd
  obtain ⟨v, hv, h⟩ := msq_coe x hn he
  simp only [viaMean, h, rsqrt_pos hv, Ideal.div_coe hn.ne', Ideal.div_coe hv.ne', ← EReal.coe_mul, ← coe_sum, ← EReal.coe_sub,
    ← EReal.coe_add, Finset.univ_unique, Finset.sum_singleton, EReal.coe_eq_coe_iff]
  have hs : Real.sqrt v ≠ 0 := (Real.sqrt_pos.mpr hv).ne'
  have hvv : v = Real.sqrt v * Real.sqrt v := (Real.mul_self_sqrt hv.le).symm
  have h1 : ∑ k, d k * (x k * (Real.sqrt v)⁻¹) = (∑ k, x k * d k) * (Real.sqrt v)⁻¹ := by
    rw [Finset.sum_mul]
    exact Finset.sum_congr rfl fun k _ => by ring
  rw [h1]
  generalize ∑ k, x k * d k = S
  rw [show (1 / v : ℝ) = (Real.sqrt v)⁻¹ * (Real.sqrt v)⁻¹ by rw [← mul_inv, ← hvv, one_div]]
  ring

end Cert.Common

end
-- ==== Proof.Mix.Value.lean ====
/- The gradient of the mixer's norm and input product, block by block, against the reference's arrays. -/
module

public import proofs.«01_k».proof.Defs
public import proofs.«01_k».proof.Proof.Gen.KernelMixIdeal.Value
public import proofs.«01_k».proof.Proof.Gen.ReferenceMixIdeal.Read
public import proofs.«01_k».proof.Proof.Gen.Pre_finite_mix
public import proofs.«01_k».proof.Proof.Common.Sums
public import proofs.«01_k».proof.Proof.Common.Consts
public import proofs.«01_k».proof.Proof.Common.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelMixIdeal.Value

open Cert.KernelMixIdeal Cert.KernelMixIdeal.Gen
open Cert.ReferenceMixIdeal.Read Cert.Common

variable (m : (ℓ : Loc nD τ sig) → Buf (Elt Ideal) ℓ)

/-- The layer's input, -/
abbrev aX (c : Dev nD) : FVec Ideal S16384x1024 .f32 := m ((c : Thread nD τ).loc main_arg0)
/-- the gradient that passes by the layer, -/
abbrev aR (c : Dev nD) : FVec Ideal S16384x1024 .f32 := m ((c : Thread nD τ).loc main_arg1)
/-- the gradient of the product's result, -/
abbrev aZ (c : Dev nD) : FVec Ideal S16384x1184 .f32 := m ((c : Thread nD τ).loc main_arg2)
/-- the norm's scale, -/
abbrev aG (c : Dev nD) : FVec Ideal S1024 .f32 := m ((c : Thread nD τ).loc main_arg3)
/-- and the weight. -/
abbrev aW (c : Dev nD) : FVec Ideal S1024x1184 .f32 := m ((c : Thread nD τ).loc main_arg4)

/-- Which block each window holds at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0]
    ∧ win0_5.index t = ![t.val, 0] ∧ win0_6.index t = ![t.val, 0] ∧ win0_7.index t = ![0, 0] :=
  (by decide +kernel : ∀ t : Fin grid0.N, _)

/-- The kernel's order of the 1184 columns, with 96 columns of zeros, of the product's gradient, -/
def layZ (x : FVec Ideal S16384x1184 .f32) : FVec Ideal S16384x1280 .f32 :=
  concatenate S16384x1280 1 [⟨S16384x640, extractStridedSlice S16384x640 ![0, 0] x slices_S16384x1184_S16384x640_0_0⟩,
    ⟨S16384x512, extractStridedSlice S16384x512 ![0, 672] x slices_S16384x1184_S16384x512_0_672⟩,
    ⟨S16384x64, broadcastInDim S16384x64 ![] bcast_S_S16384x64 (constant S_ .f32 0x00000000#32)⟩,
    ⟨S16384x32, extractStridedSlice S16384x32 ![0, 640] x slices_S16384x1184_S16384x32_0_640⟩,
    ⟨S16384x32, broadcastInDim S16384x32 ![] bcast_S_S16384x32 (constant S_ .f32 0x00000000#32)⟩] concatenates_S16384x640_S16384x512_S16384x64_S16384x32_S16384x32_S16384x1280_d1

/-- What the region finds as its third operand, -/
theorem V6 (c : Dev nD) : V m c main_v6 = truncf .bf16 (layZ (aZ m c)) bitsLt_bf16_f32 := by
  unfold V
  after_results
  rfl

/-- and of the weight. -/
def layW (x : FVec Ideal S1024x1184 .f32) : FVec Ideal S1024x1280 .f32 :=
  concatenate S1024x1280 1 [⟨S1024x640, extractStridedSlice S1024x640 ![0, 0] x slices_S1024x1184_S1024x640_0_0⟩,
    ⟨S1024x512, extractStridedSlice S1024x512 ![0, 672] x slices_S1024x1184_S1024x512_0_672⟩,
    ⟨S1024x64, broadcastInDim S1024x64 ![] bcast_S_S1024x64 (constant S_ .f32 0x00000000#32)⟩,
    ⟨S1024x32, extractStridedSlice S1024x32 ![0, 640] x slices_S1024x1184_S1024x32_0_640⟩,
    ⟨S1024x32, broadcastInDim S1024x32 ![] bcast_S_S1024x32 (constant S_ .f32 0x00000000#32)⟩] concatenates_S1024x640_S1024x512_S1024x64_S1024x32_S1024x32_S1024x1280_d1

/-- as its fifth, -/
theorem V14 (c : Dev nD) : V m c main_v14 = truncf .bf16 (layW (aW m c)) bitsLt_bf16_f32 := by
  unfold V
  after_results
  rfl

/-- and as its fourth. -/
theorem V7 (c : Dev nD) : V m c main_v7 = broadcastInDim S1x1024 ![1] bcast_S1024_S1x1024_1 (aG m c) := by
  unfold V
  after_results

/-- A sum over the kernel's 1280 columns is the sum over the 1184 columns of the array. -/
theorem sum_lay (A : ℕ → EReal) :
    ∑ x : Fin 1280, (if x.val < 640 then A x.val else if x.val - 640 < 512 then A (672 + (x.val - 640))
      else if x.val - 640 - 512 < 64 then 0 else if x.val - 640 - 512 - 64 < 32 then A (640 + (x.val - 640 - 512 - 64)) else 0)
      = ∑ k : Fin 1184, A k.val := by
  rw [Fin.sum_univ_eq_sum_range (fun n => if n < 640 then A n else if n - 640 < 512 then A (672 + (n - 640))
      else if n - 640 - 512 < 64 then 0 else if n - 640 - 512 - 64 < 32 then A (640 + (n - 640 - 512 - 64)) else 0) 1280,
    Fin.sum_univ_eq_sum_range A 1184, show (1280 : ℕ) = 640 + (512 + (64 + (32 + 32))) from rfl,
    show (1184 : ℕ) = 640 + (32 + 512) from rfl]
  simp only [Finset.sum_range_add]
  have c1 : ∀ n ∈ Finset.range 640, (if n < 640 then A n else if n - 640 < 512 then A (672 + (n - 640))
      else if n - 640 - 512 < 64 then 0 else if n - 640 - 512 - 64 < 32 then A (640 + (n - 640 - 512 - 64)) else 0) = A n :=
    fun n hn => if_pos (Finset.mem_range.mp hn)
  rw [Finset.sum_congr rfl c1, add_comm (∑ x ∈ Finset.range 32, _) (∑ x ∈ Finset.range 512, _)]
  refine congrArg _ (congrArg₂ _ (Finset.sum_congr rfl fun n hn => ?_) ?_)
  · have := Finset.mem_range.mp hn
    rw [if_neg (by omega), if_pos (by omega)]
    exact congrArg A (by omega)
  · rw [Finset.sum_eq_zero fun n hn => ?_, zero_add, ← add_zero (∑ x ∈ Finset.range 32, A _)]
    refine congrArg₂ _ (Finset.sum_congr rfl fun n hn => ?_) (Finset.sum_eq_zero fun n hn => ?_)
    · have := Finset.mem_range.mp hn
      rw [if_neg (by omega), if_neg (by omega), if_neg (by omega), if_pos (by omega)]
      exact congrArg A (by omega)
    · rw [if_neg (by omega), if_neg (by omega), if_neg (by omega), if_neg (by omega)]
    · have := Finset.mem_range.mp hn
      rw [if_neg (by omega), if_neg (by omega), if_pos (by omega)]

/-- A row of the gradient times a row of the weight, in the kernel's order of the columns and in the array's. -/
theorem lay_dot (z : FVec Ideal S16384x1184 .f32) (w : FVec Ideal S1024x1184 .f32) (R : Fin 16384) (J : Fin 1024) :
    ∑ k : Fin 1280, layZ z (ix2 R k) * layW w (ix2 J k) = ∑ k : Fin 1184, z (ix2 R k) * w (ix2 J k) := by
  pointwise [layZ, layW]
  let A : ℕ → EReal := fun n => if h : n < 1184 then z (ix2 R ⟨n, h⟩) * w (ix2 J ⟨n, h⟩) else 0
  have hA : ∀ n (h : n < 1184), A n = z (ix2 R ⟨n, h⟩) * w (ix2 J ⟨n, h⟩) := fun n h => dif_pos h
  refine Eq.trans (Finset.sum_congr rfl fun x _ => ?_) ((sum_lay A).trans (Finset.sum_congr rfl fun k _ => hA k.val k.isLt))
  split_ifs <;> first | (rw [hA]) | exact zero_mul _

/-- The product inside a block is the reference's product. -/
theorem pointD (c : Dev nD) (t : Fin cfg0.N) (y) :
    k0_pay7 (F := Ideal) (iblk m c 2 t) (iblk m c 4 t) y
      = val_main_v17 (F := Ideal) (aZ m c) (aW m c) (win0_5.blk t |>.view.emb y) := by
  pointwise [k0_pay7, val_main_v17]
  refine Eq.trans ?_ (lay_dot _ _ _ _)
  refine Finset.sum_congr rfl fun k _ => congrArg₂ _ ?_ ?_
  · unfold iblk
    rw [show V m c (Pipeline.arrRef spec0 2) = truncf .bf16 (layZ (aZ m c)) bitsLt_bf16_f32 from V6 m c]
    show layZ _ ((win0_2.blk t).view.emb _) = _
    congr 1
    blk_ext [idx t]
  · unfold iblk
    rw [show V m c (Pipeline.arrRef spec0 4) = truncf .bf16 (layW (aW m c)) bitsLt_bf16_f32 from V14 m c]
    show layW _ ((win0_4.blk t).view.emb _) = _
    congr 1
    blk_ext [idx t]

/-- The scale's row, inside the fourth window. -/
theorem blk3 (c : Dev nD) (t : Fin cfg0.N) (k : Fin 1024) : iblk m c 3 t (ix2 0 k) = aG m c (ix1 k) := by
  unfold iblk
  rw [show V m c (Pipeline.arrRef spec0 3) = _ from V7 m c]
  show broadcastInDim S1x1024 ![1] bcast_S1024_S1x1024_1 (aG m c) ((win0_3.blk t).view.emb _) = _
  pointwise
  congr 1
  blk_ext [idx t]

/-- The finiteness that the claim supposes, read at an element. -/
theorem finite_args (hpre : Cert.Pre_KernelMixIdeal_finite_mix m) (c : Dev nD) :
    (∀ i, Re (aX m c i)) ∧ (∀ i, Re (aZ m c i)) ∧ (∀ i, Re (aG m c i)) ∧ (∀ i, Re (aW m c i)) := by
  have h := congrFun (hpre c) ix0
  simp only [Cert.Pre_finite_mix.fn, Cert.Pre_finite_mix.fn_part1] at h
  obtain ⟨h, h4⟩ := andi_one _ _ _ h
  obtain ⟨h, h3⟩ := andi_one _ _ _ h
  obtain ⟨h1, h2⟩ := andi_one _ _ _ h
  exact ⟨re_of_all _ _ (fun _ => rfl) _ _ _ _ h1, re_of_all _ _ (fun _ => rfl) _ _ _ _ h2,
    re_of_all _ _ (fun _ => rfl) _ _ _ _ h3, re_of_all _ _ (fun _ => rfl) _ _ _ _ h4⟩

/-- The product's gradient times the weight holds real numbers. -/
theorem re_prod (hpre : Cert.Pre_KernelMixIdeal_finite_mix m) (c : Dev nD) (i) :
    Re (val_main_v17 (F := Ideal) (aZ m c) (aW m c) i) := by
  obtain ⟨_, hz, _, hw⟩ := finite_args m hpre c
  pointwise [val_main_v17]
  exact Re.sum _ fun k => (hz _).mul (hw _)

/-- A block of the input's gradient. -/
theorem point5 (hpre : Cert.Pre_KernelMixIdeal_finite_mix m) (c : Dev nD) (t : Fin cfg0.N) (y) :
    k0_pay1 (F := Ideal) (k0_pay8 (iblk m c 0 t) (iblk m c 2 t) (iblk m c 4 t) (iblk m c 3 t)) (iblk m c 1 t) y
      = val_main_v38 (F := Ideal) (aX m c) (aR m c) (aZ m c) (aG m c) (aW m c) (win0_5.blk t |>.view.emb y) := by
  obtain ⟨hx, hz, hg, hw⟩ := finite_args m hpre c
  have key := fun (r : Fin 16384) => norm_grad (fun k : Fin 1024 => aX m c (ix2 r k))
    (fun k => val_main_v17 (F := Ideal) (aZ m c) (aW m c) (ix2 r k) * aG m c (ix1 k)) (fun k => hx _)
    (fun k => (re_prod m hpre c _).mul (hg _)) (n := 1024) (by norm_num) eps_pos
  pointwise [k0_pay1, k0_pay8, k0_pay4, k0_pay5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
  simp only [pointD, blk3, ofBits_inv1024, ofBits_1024, ofBits_eps, ofBits_neg_half]
  rw [add_assoc, add_assoc]
  refine congrArg₂ _ (by blk_point [iblk, V, idx t]) (Eq.trans ?_ ((key (win0_5.blk t |>.view.emb y 0) (win0_5.blk t |>.view.emb y 1)).trans ?_))
  · simp only [← msq_mul _ (show (0 : ℝ) < 1024 by norm_num)]
    blk_point [iblk, V, idx t]
  · simp only [msq, viaMean, add_assoc]
    blk_point [iblk, V, idx t]

/-- A block of the normalised input. -/
theorem point6 (c : Dev nD) (t : Fin cfg0.N) (y) :
    k0_pay6 (F := Ideal) (iblk m c 0 t) (iblk m c 3 t) y
      = val_main_v52 (F := Ideal) (aX m c) (aG m c) (win0_6.blk t |>.view.emb y) := by
  pointwise [k0_pay6, k0_pay4, k0_pay5, val_main_v39, val_main_v40, val_main_v41, val_main_v42, val_main_v43, val_main_v44, val_main_v45, val_main_v46, val_main_v47, val_main_v48, val_main_v49, val_main_v50, val_main_v51, val_main_v52, val_main_cst_8, val_main_cst_9, val_main_cst_10]
  simp only [blk3, ofBits_inv1024, ofBits_1024, ofBits_eps, Ideal.div_coe (show (1024 : ℝ) ≠ 0 by norm_num)]
  blk_point [iblk, V, idx t]

/-- The array of the input's gradient. -/
theorem final5 (hpre : Cert.Pre_KernelMixIdeal_finite_mix m) (c : Dev nD) : (dats m 0 c).arrAt 5 (cfgs 0).N
    = val_main_v38 (F := Ideal) (aX m c) (aR m c) (aZ m c) (aG m c) (aW m c) := by
  refine (dats m 0 c).arrAt_eq_of_covers 5 _ (by decide +kernel) fun t hf y => ?_
  blk_simp
  rw [after0_5]
  have hN : t.val < 32 := t.isLt
  by_cases h : t.val % 32 = 0
  · rw [outsAt0_A m c t h (by omega)]; frame_out; exact point5 m hpre c t y
  · rw [outsAt0_B m c t h (by omega)]; frame_out; exact point5 m hpre c t y

/-- The array of the normalised input. -/
theorem final6 (c : Dev nD) : (dats m 0 c).arrAt 6 (cfgs 0).N = val_main_v52 (F := Ideal) (aX m c) (aG m c) := by
  refine (dats m 0 c).arrAt_eq_of_covers 6 _ (by decide +kernel) fun t hf y => ?_
  blk_simp
  rw [after0_6]
  have hN : t.val < 32 := t.isLt
  by_cases h : t.val % 32 = 0
  · rw [outsAt0_A m c t h (by omega)]; frame_out; exact point6 m c t y
  · rw [outsAt0_B m c t h (by omega)]; frame_out; exact point6 m c t y

/-- The array of the scale's gradient: the blocks' sums added up are the reference's sum. -/
theorem final7 (c : Dev nD) : (dats m 0 c).arrAt 7 (cfgs 0).N
    = val_main_v53 (F := Ideal) (aX m c) (aZ m c) (aW m c) := by
  refine (dats m 0 c).arrAt_eq_of_covers 7 _ (by decide +kernel) fun t hf y => ?_
  blk_simp
  have hN : ∀ s : Fin cfg0.N, s.val < 32 := fun s => s.isLt
  rw [after0_7, Pipeline.eq_sum_fin_of_reset_step_apply_of_flush (fun n h => (outsAt0 m c n h).2.2) 32 (fun _ => (0 : EReal))
    (fun t => k0_pay2 (F := Ideal) (k0_pay9 (iblk m c 0 t) (iblk m c 2 t) (iblk m c 4 t)))
    (fun t h j => by
      rw [outsAt0_A m c t h (by have := hN t; omega)]; frame_out; exact (zero_add _).symm)
    (fun t h j => by
      rw [outsAt0_B m c t h (by omega)]; frame_out; pointwise [k0_pay3]) t ((flush0_7 t).mp hf) _, zero_add]
  pointwise [k0_pay2, k0_pay9, k0_pay4, k0_pay5, val_main_v53, val_main_v23, val_main_v22, val_main_v21, val_main_v20, val_main_v19, val_main_v18, val_main_v16, val_main_v15, val_main_v14, val_main_v13, val_main_v0, val_main_v1, val_main_v2, val_main_v3, val_main_v4, val_main_v5, val_main_v6, val_main_v7, val_main_v8, val_main_v9, val_main_v10, val_main_v11, val_main_v12, val_main_cst, val_main_cst_0, val_main_cst_1, val_main_cst_2, val_main_cst_3, val_main_cst_4]
  simp only [pointD, ofBits_inv1024, ofBits_1024, ofBits_eps, Ideal.div_coe (show (1024 : ℝ) ≠ 0 by norm_num),
    Finset.univ_unique, Finset.sum_singleton]
  refine Fin.sum_mul_add_congr fun s r hl => ?_
  rw [mul_comm]
  have ht : t.val / 32 = 0 := by have := hN t; omega
  blk_point [iblk, V, idx t, idx ⟨_, Pipeline.run_point_lt_of_flush t ((flush0_7 t).mp hf) s⟩]

end Cert.KernelMixIdeal.Value

end
-- ==== Proof.Mix.Claim.lean ====
/- The claim about this call: kernel and reference compute the same arrays. -/
module

public import proofs.«01_k».proof.Defs
public import proofs.«01_k».proof.Proof.Mix.Value
public import proofs.«01_k».proof.Proof.Gen.KernelMix.Frame
public import proofs.«01_k».proof.Proof.Gen.ReferenceMixIdeal.Run
public import proofs.«01_k».proof.Proof.Gen.Pre_finite_mix
public import Idealize.ShloMosaic.Lib.Claim

@[expose] public section

set_option maxRecDepth 16384

noncomputable section

namespace Cert.Mix

open Idealize.ShloMosaic Idealize.SL.Sem Cert.ReferenceMixIdeal.Read

local instance : Cert.KernelMixIdeal.Facts := Cert.KernelMixIdeal.Gen.facts
local instance : Cert.ReferenceMixIdeal.Facts := Cert.ReferenceMixIdeal.Gen.facts
local instance : Cert.Pre_finite_mix.Facts := Cert.Pre_finite_mix.Gen.facts

/-- The reference terminates and leaves its arguments alone. -/
theorem frame_reference : Cert.quiescent_ReferenceMixIdeal (hReferenceMixIdeal := Cert.ReferenceMixIdeal.Gen.facts) :=
  fun m ρ _ => (θ_run Cert.ReferenceMixIdeal.defs _ _).mono
    (fun r h => ⟨fun c => (h c).2.2.2, Idealize.ShloMosaic.sem_eq_zero_of_no_sems (by decide) r.2⟩)
    (Cert.ReferenceMixIdeal.Value.run (F := Ideal) m ρ)

set_option maxHeartbeats 1600000 in
/-- Kernel and reference compute the same arrays. -/
theorem algebraic : Cert.algebraic_KernelMixIdeal_ReferenceMixIdeal_pre_finite_mix (hKernelMixIdeal := Cert.KernelMixIdeal.Gen.facts)
    (hReferenceMixIdeal := Cert.ReferenceMixIdeal.Gen.facts) (hPre_finite_mix := Cert.Pre_finite_mix.Gen.facts) := by
  pair_intro
  · run_from Cert.KernelMixIdeal.Gen.run_main m g
  · run_from Cert.ReferenceMixIdeal.Value.run m' g'
    all_goals obtain ⟨h0, h1, h2, h3, h4⟩ := hagree c
    · rw [val_main_v38_eq]; (try simp only [h0, h1, h2, h3, h4]); exact (Cert.KernelMixIdeal.Value.final5 m hpre c).symm
    · rw [val_main_v52_eq]; (try simp only [h0, h1, h2, h3, h4]); exact (Cert.KernelMixIdeal.Value.final6 m c).symm
    · rw [val_main_v53_eq]; (try simp only [h0, h1, h2, h3, h4]); exact (Cert.KernelMixIdeal.Value.final7 m c).symm

end Cert.Mix

end
-- ==== Proof.Out.Value.lean ====
module

public import proofs.«01_k».proof.Defs
public import proofs.«01_k».proof.Proof.Gen.KernelOutIdeal.Value
public import proofs.«01_k».proof.Proof.Gen.ReferenceOutIdeal.Read
public import proofs.«01_k».proof.Proof.Common.Sums
public import proofs.«01_k».proof.Proof.Common.Consts
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOutIdeal.Value

open Cert.KernelOutIdeal Cert.KernelOutIdeal.Gen
open Cert.ReferenceOutIdeal.Read Cert.Common

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0]
    ∧ win0_5.index t = ![0, t.val, 0] :=
  (by decide +kernel : ∀ t : Fin grid0.N, _)

/-- The cotangent of the layer's output. -/
abbrev aD (c : Dev nD) : FVec Ideal S16384x1024 .f32 := m ((c : Thread nD τ).loc main_arg0)
/-- The attention's output. -/
abbrev aA (c : Dev nD) : FVec Ideal S16384x512 .f32 := m ((c : Thread nD τ).loc main_arg1)
/-- The pool's output. -/
abbrev aB (c : Dev nD) : FVec Ideal S16384x512 .f32 := m ((c : Thread nD τ).loc main_arg2)
/-- The output projection's weight. -/
abbrev aW (c : Dev nD) : FVec Ideal S1024x1024 .f32 := m ((c : Thread nD τ).loc main_arg3)

/-- Each head's 64 columns with 64 columns of zeros behind them. -/
def padA (x : FVec Ideal S16384x512 .f32) : FVec Ideal S16384x1024 .f32 :=
  shapeCast S16384x1024 (pad S16384x8x128 ![0, 0, 0] ![0, 0, 64] ![0, 0, 0] (shapeCast S16384x8x64 x shapeCasts_S16384x512_S16384x8x64)
    (sitofp .f32 (constantI S_ 32 0#32)) pads_S16384x8x64_S16384x8x128_000_000_0640 h_S_) shapeCasts_S16384x8x128_S16384x1024

/-- The same of the weight's rows. -/
def padW (w : FVec Ideal S1024x1024 .f32) : FVec Ideal S1024x1024 .f32 :=
  transpose S1024x1024 [1, 0] (shapeCast S1024x1024 (pad S1024x8x128 ![0, 0, 0] ![0, 0, 64] ![0, 0, 0]
    (shapeCast S1024x8x64 (transpose S1024x512 [1, 0] (extractStridedSlice S512x1024 ![0, 0] w slices_S1024x1024_S512x1024_0_0)
      transposes_S512x1024_S1024x512_1_0) shapeCasts_S1024x512_S1024x8x64)
    (sitofp .f32 (constantI S_ 32 0#32)) pads_S1024x8x64_S1024x8x128_000_000_0640 h_S_) shapeCasts_S1024x8x128_S1024x1024)
    transposes_S1024x1024_S1024x1024_1_0

/-- The kernel's weight operand. -/
theorem V8 (c : Dev nD) : V m c main_v8 = truncf .bf16 (concatenate S1536x1024 0 [⟨S1024x1024, padW (aW m c)⟩,
    ⟨S512x1024, extractStridedSlice S512x1024 ![512, 0] (aW m c) slices_S1024x1024_S512x1024_512_0⟩] concatenates_S1024x1024_S512x1024_S1536x1024_d0) bitsLt_bf16_f32 := by
  unfold V hostOps0 hostOps0_1 hostOps0_2 hostOps0_3 hostOps0_4
  simp only [List.flatten_cons, List.flatten_nil, List.append_nil, List.cons_append, List.nil_append]
  after_results
  rfl

/-- The kernel's operand of the saved concatenation. -/
theorem V13 (c : Dev nD) : V m c main_v13 = truncf .bf16 (concatenate S16384x1536 1 [⟨S16384x1024, padA (aA m c)⟩,
    ⟨S16384x512, aB m c⟩] concatenates_S16384x1024_S16384x512_S16384x1536_d1) bitsLt_bf16_f32 := by
  unfold V hostOps0 hostOps0_1 hostOps0_2 hostOps0_3 hostOps0_4
  simp only [List.flatten_cons, List.flatten_nil, List.append_nil, List.cons_append, List.nil_append]
  after_results
  rfl

/-- The padding value is zero. -/
theorem sitofp_zero : FloatOps.sitofp (F := Ideal) FTy.f32 0#32 = (0 : EReal) := by
  simp [FloatOps.sitofp]

/-- The weight operand at a position. -/
theorem V8_at (c : Dev nD) (j : Fin 1536) (k : Fin 1024) : V m c main_v8 (ix2 j k)
   = if h : j.val < 1024 then (if h : j.val % 128 < 64 then aW m c (ix2 ⟨j.val / 128 * 64 + j.val % 128, by omega⟩ k) else 0) else aW m c (ix2 ⟨512 + (j.val - 1024), by omega⟩ k) := by
  rw [V8]
  pointwise [padW]
  split_ifs <;> first | rfl | (exfalso; omega) | exact sitofp_zero

/-- The saved concatenation at a position. -/
theorem V13_at (c : Dev nD) (r : Fin 16384) (j : Fin 1536) : V m c main_v13 (ix2 r j)
   = if h : j.val < 1024 then (if h : j.val % 128 < 64 then aA m c (ix2 r ⟨j.val / 128 * 64 + j.val % 128, by omega⟩) else 0) else aB m c (ix2 r ⟨j.val - 1024, by omega⟩) := by
  rw [V13]
  pointwise [padA]
  split_ifs <;> first | rfl | (exfalso; omega) | exact sitofp_zero

/-- The weight inside its block. -/
theorem blk1 (c : Dev nD) (t : Fin cfg0.N) (j : Fin 1536) (k : Fin 1024) : iblk m c 1 t (ix2 j k)
   = if h : j.val < 1024 then (if h : j.val % 128 < 64 then aW m c (ix2 ⟨j.val / 128 * 64 + j.val % 128, by omega⟩ k) else 0) else aW m c (ix2 ⟨512 + (j.val - 1024), by omega⟩ k) := by
  refine Eq.trans ?_ (V8_at m c j k)
  unfold iblk
  show V m c main_v8 ((win0_1.blk t).view.emb _) = _
  generalize V m c main_v8 = q
  congr 1
  blk_ext [idx t]

/-- The saved concatenation inside its block. -/
theorem blk2 (c : Dev nD) (t : Fin cfg0.N) (r : Fin 512) (j : Fin 1536) (R : Fin 16384) (hR : R.val = t.val * 512 + r.val) :
    iblk m c 2 t (ix2 r j) = if h : j.val < 1024 then (if h : j.val % 128 < 64 then aA m c (ix2 R ⟨j.val / 128 * 64 + j.val % 128, by omega⟩) else 0) else aB m c (ix2 R ⟨j.val - 1024, by omega⟩) := by
  refine Eq.trans ?_ (V13_at m c R j)
  unfold iblk
  show V m c main_v13 ((win0_2.blk t).view.emb _) = _
  generalize V m c main_v13 = q
  congr 1
  blk_ext [idx t]

/-- The product of a row with the weight's row `j`, in the kernel's order. -/
theorem pay4_at (c : Dev nD) (t : Fin cfg0.N) (r : Fin 512) (j : Fin 1536) (R : Fin 16384) (hR : R.val = t.val * 512 + r.val) :
    k0_pay4 (F := Ideal) (iblk m c 0 t) (iblk m c 1 t) (ix2 r j)
      = if h : j.val < 1024 then (if h : j.val % 128 < 64 then
          val_main_v2 (F := Ideal) (aD m c) (aW m c) (ix2 R ⟨j.val / 128 * 64 + j.val % 128, by omega⟩) else 0)
        else val_main_v2 (F := Ideal) (aD m c) (aW m c) (ix2 R ⟨512 + (j.val - 1024), by omega⟩) := by
  pointwise [k0_pay4, val_main_v2]
  simp only [blk1]
  have h0 : ∀ k : Fin 1024, iblk m c 0 t (ix2 r k) = aD m c (ix2 R k) := fun k => by blk_point [iblk, V, idx t]
  simp only [h0]
  split_ifs
  · rfl
  · simp
  · rfl

/-- A tile's row is a row of the array. -/
theorem row_lt (t : Fin cfg0.N) (r : Fin 512) : t.val * 512 + r.val < 16384 := by
  have : t.val < 32 := t.isLt
  omega

/-- A head's sum over its 128 lanes is the sum over the 64 of the array. -/
theorem delta_sum (c : Dev nD) (t : Fin cfg0.N) (r : Fin 512) (n : ℕ) (hn : n < 8) (R : Fin 16384) (hR : R.val = t.val * 512 + r.val)
    (h : ∀ l : Fin 128, n * 128 + l.val < 1536) :
    ∑ l : Fin 128, k0_pay4 (F := Ideal) (iblk m c 0 t) (iblk m c 1 t) (ix2 r ⟨n * 128 + l.val, h l⟩) * iblk m c 2 t (ix2 r ⟨n * 128 + l.val, h l⟩)
      = ∑ l : Fin 64, val_main_v2 (F := Ideal) (aD m c) (aW m c) (ix2 R ⟨n * 64 + l.val, by omega⟩) * aA m c (ix2 R ⟨n * 64 + l.val, by omega⟩) := by
  rw [show (∑ l : Fin 128, k0_pay4 (F := Ideal) (iblk m c 0 t) (iblk m c 1 t) (ix2 r ⟨n * 128 + l.val, h l⟩) * iblk m c 2 t (ix2 r ⟨n * 128 + l.val, h l⟩))
      = ∑ l : Fin (64 + 64), k0_pay4 (F := Ideal) (iblk m c 0 t) (iblk m c 1 t) (ix2 r ⟨n * 128 + l.val, h l⟩) * iblk m c 2 t (ix2 r ⟨n * 128 + l.val, h l⟩) from rfl,
    Fin.sum_univ_add, ← add_zero (∑ l : Fin 64, val_main_v2 (F := Ideal) (aD m c) (aW m c) _ * _)]
  refine congrArg₂ _ (Finset.sum_congr rfl fun l _ => ?_) (Finset.sum_eq_zero fun l _ => ?_)
  · have e : (Fin.castAdd 64 l).val = l.val := rfl
    rw [pay4_at m c t r _ R hR, blk2 m c t r _ R hR, dif_pos (by simp only [e]; omega), dif_pos (by simp only [e]; omega),
      dif_pos (by simp only [e]; omega), dif_pos (by simp only [e]; omega)]
    congr 3 <;> (apply Fin.ext; simp only [e]; omega)
  · have e : (Fin.natAdd 64 l).val = 64 + l.val := rfl
    rw [pay4_at m c t r _ R hR, dif_pos (by simp only [e]; omega), dif_neg (by simp only [e]; omega), zero_mul]

/-- A load of the whole tile reads the tile. -/
theorem ld_all0 {e : EltTy} (x : S512x1024.Idx → Elt Ideal e) : View.ld x r0_0 = x := View.ld_unit_lit _ _ (by decide)

/-- A load of the whole weight reads the weight. -/
theorem ld_all1 {e : EltTy} (x : S1536x1024.Idx → Elt Ideal e) : View.ld x r0_1 = x := View.ld_unit_lit _ _ (by decide)

/-- The same sum over the columns and rows as a tile of the third result names them. -/
theorem delta_piece (c : Dev nD) (t : Fin cfg0.N) (n : ℕ) (hn : n < 8) (r : Fin 512) (f : Fin 128 → Fin 1536) (hf : ∀ l, (f l).val = n * 128 + l.val)
    (R : Fin 16384) (hR : R.val = t.val * 512 + r.val) (g' : Fin 64 → Fin 1024) (hg' : ∀ l, (g' l).val = n * 64 + l.val) (g : Fin 64 → Fin 512) (hg : ∀ l, (g l).val = n * 64 + l.val) :
    ∑ l : Fin 128, k0_pay4 (F := Ideal) (View.ld (iblk m c 0 t) r0_0) (View.ld (iblk m c 1 t) r0_1) (ix2 r (f l)) * iblk m c 2 t (ix2 r (f l))
      = ∑ l : Fin 64, val_main_v2 (F := Ideal) (aD m c) (aW m c) (ix2 R (g' l)) * aA m c (ix2 R (g l)) := by
  have h1 : View.ld (iblk m c 0 t) r0_0 = iblk m c 0 t := ld_all0 _
  have h2 : View.ld (iblk m c 1 t) r0_1 = iblk m c 1 t := ld_all1 _
  rw [h1, h2]
  refine Eq.trans ?_ ((delta_sum m c t r n hn R hR (fun l => by omega)).trans ?_)
  · exact Finset.sum_congr rfl fun l _ => by rw [show f l = ⟨n * 128 + l.val, by omega⟩ from Fin.ext (hf l)]
  · exact Finset.sum_congr rfl fun l _ => by rw [show g l = ⟨n * 64 + l.val, by omega⟩ from Fin.ext (hg l), show g' l = ⟨n * 64 + l.val, by omega⟩ from Fin.ext (hg' l)]

/-- One tile of the attention output's gradient. -/
theorem point3 (c : Dev nD) (t : Fin cfg0.N) (y) :
    k0_pay5 (F := Ideal) (iblk m c 0 t) (iblk m c 1 t) y
      = val_main_v14 (F := Ideal) (aD m c) (aW m c) (win0_3.blk t |>.view.emb y) := by
  pointwise [k0_pay5, val_main_v14, val_main_v9, val_main_v8, val_main_v7, val_main_v5, val_main_v3, val_main_cst]
  rw [pay4_at m c t _ _ ⟨t.val * 512 + (y 0).val, row_lt t _⟩ rfl, dif_pos (by idx_bounds_all; omega)]
  have e : (win0_3.blk t |>.view.emb y 1).val = (y 1).val := by blk_simp [idx t]
  by_cases h : (y 1).val % 128 < 64
  · refine (dif_pos h).trans (Eq.trans ?_ (dif_pos (Eq.subst (motive := fun k => k % 128 < 64) e.symm h)).symm)
    blk_point [idx t]
  · refine (dif_neg h).trans (Eq.symm ?_)
    refine dif_neg fun h' => h ?_
    rw [← e]
    exact h'

/-- One tile of the pool output's gradient. -/
theorem point4 (c : Dev nD) (t : Fin cfg0.N) (y) :
    k0_pay6 (F := Ideal) (iblk m c 0 t) (iblk m c 1 t) y
      = val_main_v4 (F := Ideal) (aD m c) (aW m c) (win0_4.blk t |>.view.emb y) := by
  pointwise [k0_pay6, val_main_v4]
  rw [pay4_at m c t _ _ ⟨t.val * 512 + (y 0).val, row_lt t _⟩ rfl, dif_neg (by simp)]
  blk_point [idx t]

set_option maxHeartbeats 2000000 in
/-- The whole array of row sums of the gradient times the attention's output. -/
theorem final5 (c : Dev nD) : (dats m 0 c).arrAt 5 (cfgs 0).N = val_main_v13 (F := Ideal) (aD m c) (aA m c) (aW m c) := by
  refine (dats m 0 c).arrAt_eq_of_covers 5 _ (by decide +kernel) fun t hf y => ?_
  blk_simp
  rw [after0_5]
  unfold_out out0_5
  canon_tiles x h
  all_goals
    pointwise [k0_pay13, k0_pay12, k0_pay11, k0_pay10, k0_pay9, k0_pay8, k0_pay7, k0_pay3, k0_pay2, k0_pay1,
      val_main_v13, val_main_v12, val_main_v11, val_main_v10, val_main_v6, val_main_v5, val_main_v3, val_main_cst_0]
    have e0 : ((win0_5.blk t).view.emb y 0).val = (y 0).val := by blk_simp [idx t]
    have e1 : ((win0_5.blk t).view.emb y 1).val = t.val * 512 + (y 1).val := by blk_simp [idx t]
    refine delta_piece m c t ((win0_5.blk t).view.emb y 0).val ((win0_5.blk t).view.emb y 0).isLt _ _ (fun l => ?_) _ ?_ _ (fun l => ?_) _ (fun l => ?_)
    · rw [e0, h0]; dsimp only; omega
    · exact e1.trans (congrArg (fun k => t.val * 512 + k) h1)
    · rfl
    · rfl

/-- The whole gradient of the attention's output. -/
theorem final3 (c : Dev nD) : (dats m 0 c).arrAt 3 (cfgs 0).N = val_main_v14 (F := Ideal) (aD m c) (aW m c) := by
  refine (dats m 0 c).arrAt_eq_of_covers 3 _ (by decide +kernel) fun t hf y => ?_
  blk_simp
  rw [after0_3]
  frame_out
  exact point3 m c t y

/-- The whole gradient of the pool's output. -/
theorem final4 (c : Dev nD) : (dats m 0 c).arrAt 4 (cfgs 0).N = val_main_v4 (F := Ideal) (aD m c) (aW m c) := by
  refine (dats m 0 c).arrAt_eq_of_covers 4 _ (by decide +kernel) fun t hf y => ?_
  blk_simp
  rw [after0_4]
  frame_out
  exact point4 m c t y
-- ==== Proof.Out.Claim.lean ====
/- The claim about this call: kernel and reference compute the same arrays. -/
module

public import proofs.«01_k».proof.Defs
public import proofs.«01_k».proof.Proof.Out.Value
public import proofs.«01_k».proof.Proof.Gen.KernelOut.Frame
public import proofs.«01_k».proof.Proof.Gen.ReferenceOutIdeal.Run
public import Idealize.ShloMosaic.Lib.Claim

@[expose] public section

set_option maxRecDepth 16384

noncomputable section

namespace Cert.Out

open Idealize.ShloMosaic Idealize.SL.Sem Cert.ReferenceOutIdeal.Read

local instance : Cert.KernelOutIdeal.Facts := Cert.KernelOutIdeal.Gen.facts
local instance : Cert.ReferenceOutIdeal.Facts := Cert.ReferenceOutIdeal.Gen.facts

/-- The reference terminates and leaves its arguments alone. -/
theorem frame_reference : Cert.quiescent_ReferenceOutIdeal (hReferenceOutIdeal := Cert.ReferenceOutIdeal.Gen.facts) :=
  fun m ρ _ => (θ_run Cert.ReferenceOutIdeal.defs _ _).mono
    (fun r h => ⟨fun c => (h c).2.2.2, Idealize.ShloMosaic.sem_eq_zero_of_no_sems (by decide) r.2⟩)
    (Cert.ReferenceOutIdeal.Value.run (F := Ideal) m ρ)

set_option maxHeartbeats 1600000 in
/-- Kernel and reference compute the same arrays. -/
theorem algebraic : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Value.run_blocks m g
  · hlo_run
    all_goals obtain ⟨h0, h1, h2, h3⟩ := hagree c
    · refine (val_main_v14_eq ..).trans ?_; (try simp only [h0, h1, h2, h3]); exact (Cert.KernelOutIdeal.Value.final3 m c).symm
    · refine (val_main_v4_eq ..).trans ?_; (try simp only [h0, h1, h2, h3]); exact (Cert.KernelOutIdeal.Value.final4 m c).symm
    · refine (val_main_v13_eq ..).trans ?_; (try simp only [h0, h1, h2, h3]); exact (Cert.KernelOutIdeal.Value.final5 m c).symm

end Cert.Out

end
-- ==== Proof.Att.Body.lean ====
/- What one grid point of the attention's backward kernel computes from its blocks: chunk by chunk of 512 queries the
   probabilities, their cotangents, and the sums for the value's, the key's and the query's gradient. -/
module

public import proofs.«01_k».proof.Proof.Gen.KernelAttIdeal.Frame
public import proofs.«01_k».proof.Proof.Gen.KernelAttIdeal.Skeleton
public import Idealize.ShloMosaic.Lib.VecWindow

@[expose] public section

set_option maxRecDepth 16384

noncomputable section

namespace Cert.KernelAttIdeal.Point

open Idealize.ShloMosaic Idealize.ShloMosaic.TcCoe Idealize.SL.Sem
open Cert.KernelAttIdeal Cert.KernelAttIdeal.Gen

variable {F : FTy → Type} [FloatOps F] [Named F]

/-- The six blocks that a grid point reads: queries, keys, values, cotangents, log-sums, row sums. -/
structure Blocks (F : FTy → Type) [FloatOps F] where
  q : Vec F S16384x128 .bf16
  k : Vec F S1024x128 .bf16
  v : Vec F S1024x128 .bf16
  o : Vec F S16384x128 .bf16
  lse : Vec F S1x1x16384 .f32
  delta : Vec F S1x1x16384 .f32

/-- What the body reads, chunk by chunk: the key's and the value's block, the key's block transposed, the sums that it
    starts from, and each chunk's queries, cotangents, log-sums and row sums. -/
structure Reads (F : FTy → Type) [FloatOps F] where
  k : Vec F S1024x128 .bf16
  v : Vec F S1024x128 .bf16
  kt : Vec F S128x1024 .bf16
  dk₀ : Vec F S1024x128 .f32
  dv₀ : Vec F S1024x128 .f32
  q : Fin 32 → Vec F S512x128 .bf16
  o : Fin 32 → Vec F S512x128 .bf16
  lse : Fin 32 → Vec F S1x1x512 .f32
  delta : Fin 32 → Vec F S1x1x512 .f32

/-- Chunk `n`'s 512 rows of a block of 16384 rows. -/
abbrev rowsRect (n : Fin 32) : Rect S16384x128 := Rect.unit (s := S16384x128) ![512 * n.val, 0] S512x128.size (by revert n; decide +kernel)

/-- Chunk `n`'s 512 entries of a row of 16384. -/
abbrev lanesRect (n : Fin 32) : Rect S1x1x16384 := Rect.unit (s := S1x1x16384) ![0, 0, 512 * n.val] S1x1x512.size (by revert n; decide +kernel)

/-- The reads of the body at a point with these blocks. -/
def Blocks.reads (B : Blocks F) : Reads F where
  k := B.k
  v := B.v
  kt := k0_pay2 B.k
  dk₀ := k0_pay3
  dv₀ := k0_pay4
  q n := View.ld B.q (rowsRect n)
  o n := View.ld B.o (rowsRect n)
  lse n := View.ld B.lse (lanesRect n)
  delta n := View.ld B.delta (lanesRect n)

variable (R : Reads F)

/-- The probabilities of chunk `n`: keys down, queries across. -/
def prob (n : Fin 32) : FVec F S1024x512 .f32 := k0_pay10 R.k (R.q n) (R.lse n)

/-- The products of chunk `n`'s cotangents with the values. -/
def dprob (n : Fin 32) : FVec F S1024x512 .f32 := k0_pay7 R.v (R.o n)

/-- The sums for the value's gradient over the first `n` chunks. -/
def dv : (n : ℕ) → n ≤ 32 → FVec F S1024x128 .f32
  | 0, _ => R.dv₀
  | n + 1, h => k0_pay13 (dv n (Nat.le_of_succ_le h)) (prob R ⟨n, h⟩) (R.o ⟨n, h⟩)

/-- The sums for the key's gradient over the first `n` chunks. -/
def dk : (n : ℕ) → n ≤ 32 → FVec F S1024x128 .f32
  | 0, _ => R.dk₀
  | n + 1, h => k0_pay14 (dk n (Nat.le_of_succ_le h)) (dprob R ⟨n, h⟩) (prob R ⟨n, h⟩) (k0_pay11 (R.delta ⟨n, h⟩)) (R.q ⟨n, h⟩)

/-- What this point adds to the query's gradient in chunk `n`, transposed. -/
def dqc (n : Fin 32) : FVec F S128x512 .f32 := k0_pay15 (dprob R n) (prob R n) (k0_pay11 (R.delta n)) R.kt

/-- What this point adds to the query's gradient: the chunks side by side. -/
def dq : FVec F S128x16384 .f32 :=
  concatenate S128x16384 1 ((List.finRange 32).map fun n => (⟨S128x512, dqc R n⟩ : (s : Shape) × Vec F s .f32)) (by
    show Shape.Concatenates (List.replicate 32 S128x512) S128x16384 1
    decide +kernel)

end Cert.KernelAttIdeal.Point

end
-- ==== Proof.Att.Run.lean ====
/- The run of the attention's backward kernel at one grid point, with the contents that it leaves in each output block. -/
module

public import proofs.«01_k».proof.Proof.Att.Body
public import Idealize.ShloMosaic.Lib.Pipeline.ValueKit

@[expose] public section

set_option maxRecDepth 16384

noncomputable section

namespace Cert.KernelAttIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttIdeal Cert.KernelAttIdeal.Gen

variable {F : FTy → Type} [FloatOps F] [Named F]

local notation "𝕄" => MT nD τ sig Unit (Elt F) ℕ (UR sig nD τ) ℕ

/-- The first and the last query tile are the only one: both tests on the query's tile hold. -/
structure Only (i : grid0.Coords) : Prop where
  start : Scalar.cmpi .ne (Scalar.extui (Scalar.cmpi .eq (BitVec.ofNat 32 (i 2).val) 0#32)) 0#32 = 1#1
  stop : k0_cond4 i = 1#1

set_option maxHeartbeats 1600000 in
/-- The body at a point: it leaves in the key's and the value's block their sums over all queries, and in the query's
    block this point's part, alone at a head's first key tile and added to what was there at the others. -/
theorem body_run (c : Dev nD) (i : grid0.Coords)
    (arg3 : Memref sig .tc .vmem S16384x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S16384x128 .bf16) (harg6 : arg6.IsWhole)
    (arg7 : Memref sig .tc .vmem S1x1x16384 .f32) (harg7 : arg7.IsWhole)
    (arg8 : Memref sig .tc .vmem S1x1x16384 .f32) (harg8 : arg8.IsWhole)
    (arg9 : Memref sig .tc .vmem S128x16384 .f32) (harg9 : arg9.IsWhole)
    (arg10 : Memref sig .tc .vmem S1024x128 .f32) (harg10 : arg10.IsWhole)
    (arg11 : Memref sig .tc .vmem S1024x128 .f32) (harg11 : arg11.IsWhole)
    (arg12 : Memref sig .tc .vmem S128x1024 .bf16) (harg12 : arg12.IsWhole)
    (arg13 : Memref sig .tc .vmem S1024x128 .f32) (harg13 : arg13.IsWhole)
    (arg14 : Memref sig .tc .vmem S1024x128 .f32) (harg14 : arg14.IsWhole)
    (h : Only i) (first : Prop) [Decidable first] (h1 : k0_cond2 i = 1#1 ↔ first) (h2 : k0_cond3 i = 1#1 ↔ ¬first)
    (B : Blocks F) (d6 : Vec F S128x16384 .f32) (E : Set ℕ) (K : PUnit → sProp 𝕄) :
    iprop(owns (c : Thread nD τ) arg3 fullShare B.q ∗ owns (c : Thread nD τ) arg4 fullShare B.k ∗ owns (c : Thread nD τ) arg5 fullShare B.v ∗ owns (c : Thread nD τ) arg6 fullShare B.o ∗ owns (c : Thread nD τ) arg7 fullShare B.lse ∗ owns (c : Thread nD τ) arg8 fullShare B.delta ∗ owns (c : Thread nD τ) arg9 fullShare d6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare B.q ∗ owns (c : Thread nD τ) arg4 fullShare B.k ∗ owns (c : Thread nD τ) arg5 fullShare B.v ∗ owns (c : Thread nD τ) arg6 fullShare B.o ∗ owns (c : Thread nD τ) arg7 fullShare B.lse ∗ owns (c : Thread nD τ) arg8 fullShare B.delta ∗ owns (c : Thread nD τ) arg9 fullShare (if first then dq B.reads else addf (shapeCast S128x16384 d6 shapeCasts_S128x16384_S128x16384) (dq B.reads)) ∗ owns (c : Thread nD τ) arg10 fullShare (k0_pay1 (shapeCast S1024x128 (dk B.reads 32 le_rfl) shapeCasts_S1024x128_S1024x128)) ∗ owns (c : Thread nD τ) arg11 fullShare (shapeCast S1024x128 (dv B.reads 32 le_rfl) shapeCasts_S1024x128_S1024x128) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K := by
  simp only [cc0_flash_bwd_eq_skeleton]; unfold cc0_flash_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  have hs := h.start
  have ht := h.stop
  have e : (Reads.mk (arg4.view.readAt (Elt F) (Rect.unit (s := S1024x128) ![0, 0] S1024x128.size inb_S1024x128_S1024x128_0_0).toLoadRect (harg4.unread B.k))
      (arg5.view.readAt (Elt F) (Rect.unit (s := S1024x128) ![0, 0] S1024x128.size inb_S1024x128_S1024x128_0_0).toLoadRect (harg5.unread B.v))
      (arg12.view.readCov [⟨Rect.unit (s := S128x1024) ![0, 0] S128x1024.size inb_S128x1024_S128x1024_0_0, k0_pay2 (arg4.view.readAt (Elt F) (Rect.unit (s := S1024x128) ![0, 0] S1024x128.size inb_S1024x128_S1024x128_0_0).toLoadRect (harg4.unread B.k))⟩]
        (Rect.unit (s := S128x1024) ![0, 0] S128x1024.size inb_S128x1024_S128x1024_0_0).toLoadRect)
      (arg13.view.readCov [⟨Rect.unit (s := S1024x128) ![0, 0] S1024x128.size inb_S1024x128_S1024x128_0_0, k0_pay3⟩]
        (Rect.unit (s := S1024x128) ![0, 0] S1024x128.size inb_S1024x128_S1024x128_0_0).toLoadRect)
      (arg14.view.readCov [⟨Rect.unit (s := S1024x128) ![0, 0] S1024x128.size inb_S1024x128_S1024x128_0_0, k0_pay4⟩]
        (Rect.unit (s := S1024x128) ![0, 0] S1024x128.size inb_S1024x128_S1024x128_0_0).toLoadRect)
      (fun n => arg3.view.readAt (Elt F) (rowsRect n).toLoadRect (harg3.unread B.q))
      (fun n => arg6.view.readAt (Elt F) (rowsRect n).toLoadRect (harg6.unread B.o))
      (fun n => arg7.view.readAt (Elt F) (lanesRect n).toLoadRect (harg7.unread B.lse))
      (fun n => arg8.view.readAt (Elt F) (lanesRect n).toLoadRect (harg8.unread B.delta)) : Reads F) = B.reads := by
    unfold Blocks.reads
    congr 1
    · rw [View.readAt_full, harg4.read_unread]
    · rw [View.readAt_full, harg5.read_unread]
    · rw [View.readCov_full, View.readAt_full, harg4.read_unread]
    · rw [View.readCov_full]
    · rw [View.readCov_full]
    · funext n; rw [View.readAt_eq_ld, harg3.read_unread]
    · funext n; rw [View.readAt_eq_ld, harg6.read_unread]
    · funext n; rw [View.readAt_eq_ld, harg7.read_unread]
    · funext n; rw [View.readAt_eq_ld, harg8.read_unread]
  by_cases hb : first
  · have h1 := h1.mpr hb
    have h2 : ¬k0_cond3 i = 1#1 := fun e => h2.mp e hb
    sl_exec (disch := first | sl_exact hs | sl_exact h1 | sl_exact h2 | sl_exact ht)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      rw [if_pos hb, ← e]
      refine (View.read_writes_full _ _ _ _ _).trans ?_
      sl_kernel_rfl
    isplitl [H7]
    · iexists _; isplitr; swap; · iexact H7
      ipureintro
      rw [← e]
      refine (View.read_writes_full _ _ _ _ _).trans (congrArg k0_pay1 ((View.readCov_full _ _ _ _ _).trans ?_))
      sl_kernel_rfl
    isplitl [H8]
    · iexists _; isplitr; swap; · iexact H8
      ipureintro
      rw [← e]
      refine (View.read_writes_full _ _ _ _ _).trans ((View.readCov_full _ _ _ _ _).trans ?_)
      sl_kernel_rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl
  · have h1 : ¬k0_cond2 i = 1#1 := fun e => hb (h1.mp e)
    have h2 := h2.mpr hb
    sl_exec (disch := first | sl_exact hs | sl_exact h1 | sl_exact h2 | sl_exact ht)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      rw [if_neg hb, ← e]
      refine (View.read_writes_full _ _ _ _ _).trans ?_
      refine congrArg₂ addf (congrArg (shapeCast S128x16384 · shapeCasts_S128x16384_S128x16384) ((View.readAt_full _ _ _).trans (harg9.read_unread _))) ?_
      sl_kernel_rfl
    isplitl [H7]
    · iexists _; isplitr; swap; · iexact H7
      ipureintro
      rw [← e]
      refine (View.read_writes_full _ _ _ _ _).trans (congrArg k0_pay1 ((View.readCov_full _ _ _ _ _).trans ?_))
      sl_kernel_rfl
    isplitl [H8]
    · iexists _; isplitr; swap; · iexact H8
      ipureintro
      rw [← e]
      refine (View.read_writes_full _ _ _ _ _).trans ((View.readCov_full _ _ _ _ _).trans ?_)
      sl_kernel_rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelAttIdeal.Point

end
-- ==== Proof.Att.Frame.lean ====
/- The launch of the attention's backward kernel: what each output array holds after the run, and the frame. -/
module

public import proofs.«01_k».proof.Proof.Att.Run
public import Idealize.ShloMosaic.Lib.WordCmp

@[expose] public section

set_option maxRecDepth 16384

noncomputable section

namespace Cert.KernelAttIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttIdeal Cert.KernelAttIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid's coordinates of a point: its key tile, and the only query tile. -/
theorem coords_val (t : Fin cfg0.N) : (grid0.coords t 1).val = t.val % 16 :=
  (Pipeline.Grid.coords_val (S := 1) (B := 16) t 1 (by decide) rfl).trans (by rw [Nat.div_one])

/-- The query's tile is the only one. -/
theorem tile_zero (i : grid0.Coords) : (i 2).val = 0 := Nat.lt_one_iff.mp (i 2).isLt

/-- Both tests on the query's tile hold at every point. -/
theorem only (i : grid0.Coords) : Only i where
  start := by rw [tile_zero]; decide
  stop := by simp only [k0_cond4, tile_zero]; decide

/-- The first test on the key's tile. -/
theorem cond2_iff (i : grid0.Coords) : k0_cond2 i = 1#1 ↔ (i 1).val = 0 := by
  have h : (i 1).val < 16 := (i 1).isLt
  simp only [k0_cond2]
  word_cmp

/-- The second test on the key's tile. -/
theorem cond3_iff (i : grid0.Coords) : k0_cond3 i = 1#1 ↔ ¬(i 1).val = 0 := by
  have h : (i 1).val < 16 := (i 1).isLt
  simp only [k0_cond3]
  word_cmp

/-- The body stores into every output block at every point. -/
theorem live6 (i : grid0.Coords) : cfg0.idle 6 i = false := by
  show (!(k0_cond2 i == 1#1) && !(k0_cond3 i == 1#1)) = false
  by_cases h : (i 1).val = 0
  · rw [(cond2_iff i).mpr h]; rfl
  · rw [(cond3_iff i).mpr h, Bool.and_eq_false_iff]; exact .inr rfl

theorem live7 (i : grid0.Coords) : cfg0.idle 7 i = false := by
  show (!(k0_cond4 i == 1#1)) = false
  rw [(only i).stop]; rfl

theorem live8 (i : grid0.Coords) : cfg0.idle 8 i = false := live7 i

/-- The input blocks at a point. -/
def blocks (c : Dev nD) (t : Fin cfg0.N) : Blocks F :=
  ⟨iblk m c 0 t, iblk m c 1 t, iblk m c 2 t, iblk m c 3 t, iblk m c 4 t, iblk m c 5 t⟩

/-- What the query's block holds after point `n`: the sum of the parts of the head's key tiles so far. -/
def accum (c : Dev nD) : (n : ℕ) → n < cfg0.N → FVec F S128x16384 .f32
  | 0, h => dq (blocks m c ⟨0, h⟩).reads
  | n + 1, h => if (n + 1) % 16 = 0 then dq (blocks m c ⟨n + 1, h⟩).reads
      else addf (shapeCast S128x16384 (accum c n (Nat.lt_of_succ_lt h)) shapeCasts_S128x16384_S128x16384) (dq (blocks m c ⟨n + 1, h⟩).reads)

/-- At a head's first key tile the query's block holds that tile's part. -/
theorem accum_first (c : Dev nD) (t : Fin cfg0.N) (h : t.val % 16 = 0) : accum m c t.val t.isLt = dq (blocks m c t).reads := by
  obtain ⟨n, hn⟩ := t
  cases n with
  | zero => rfl
  | succ n => exact if_pos h

/-- At the others the part is added. -/
theorem accum_next (c : Dev nD) (t : Fin cfg0.N) (h : ¬t.val % 16 = 0) (h' : t.val - 1 < cfg0.N) : accum m c t.val t.isLt
    = addf (shapeCast S128x16384 (accum m c (t.val - 1) h') shapeCasts_S128x16384_S128x16384) (dq (blocks m c t).reads) := by
  obtain ⟨n, hn⟩ := t
  cases n with
  | zero => exact absurd rfl h
  | succ n => exact if_neg h

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)

abbrev sc0 : Memref sig .tc .vmem S128x1024 .bf16 := Memref.whole cc0_scratch0
abbrev sc1 : Memref sig .tc .vmem S1024x128 .f32 := Memref.whole cc0_scratch1
abbrev sc2 : Memref sig .tc .vmem S1024x128 .f32 := Memref.whole cc0_scratch2

/-- What the region keeps between points: the three scratch buffers at some contents, and the generator. -/
theorem kept_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d))
        ∗ (∃ r, prngReg c r)) := by
  unfold Pipeline.ΦA
  rw [scopedRest0_eq]
  simp only [sc0, sc1, sc2, owns_whole]
  try rfl

/-- The contents that the body leaves in each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accum m c t.val t.isLt
    | ⟨7, _⟩ => k0_pay1 (shapeCast S1024x128 (dk (blocks m c t).reads 32 le_rfl) shapeCasts_S1024x128_S1024x128)
    | ⟨8, _⟩ => shapeCast S1024x128 (dv (blocks m c t).reads 32 le_rfl) shapeCasts_S1024x128_S1024x128
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m _ (A_eq m c 0) (fun _ => rfl) t d
theorem before1 (c : Dev nD) (t : Fin cfg0.N) (d) : (dats m 0 c).before 1 t d = iblk m c 1 t := before0_1_of m _ (A_eq m c 1) (fun _ => rfl) t d
theorem before2 (c : Dev nD) (t : Fin cfg0.N) (d) : (dats m 0 c).before 2 t d = iblk m c 2 t := before0_2_of m _ (A_eq m c 2) (fun _ => rfl) t d
theorem before3 (c : Dev nD) (t : Fin cfg0.N) (d) : (dats m 0 c).before 3 t d = iblk m c 3 t := before0_3_of m _ (A_eq m c 3) (fun _ => rfl) t d
theorem before4 (c : Dev nD) (t : Fin cfg0.N) (d) : (dats m 0 c).before 4 t d = iblk m c 4 t := before0_4_of m _ (A_eq m c 4) (fun _ => rfl) t d
theorem before5 (c : Dev nD) (t : Fin cfg0.N) (d) : (dats m 0 c).before 5 t d = iblk m c 5 t := before0_5_of m _ (A_eq m c 5) (fun _ => rfl) t d

/-- After a head's first key tile the query's block holds what the point before left. -/
theorem before6 (c : Dev nD) (t : Fin cfg0.N) (h : ¬t.val % 16 = 0) (d) :
    (dats m 0 c).before 6 t d = accum m c (t.val - 1) (Nat.lt_of_le_of_lt (Nat.sub_le _ _) t.isLt) :=
  (dats m 0 c).before_out_kept 6 rfl t (by omega)
    (Bool.eq_false_iff.mpr fun hf => by have := (flush0_6 _).mp hf; simp only at this; omega) live6 (fun _ _ => rfl) d

/-- So the sum after a point is what the body makes of the block before it. -/
theorem accum_eq (c : Dev nD) (t : Fin cfg0.N) (d) :
    (if t.val % 16 = 0 then dq (blocks m c t).reads
      else addf (shapeCast S128x16384 ((dats m 0 c).before 6 t d) shapeCasts_S128x16384_S128x16384) (dq (blocks m c t).reads)) = accum m c t.val t.isLt := by
  by_cases h : t.val % 16 = 0
  · rw [if_pos h, accum_first m c t h]
  · rw [if_neg h, before6 m c t h, accum_next m c t h]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)) ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t)

/-- What a window's block must hold after the body: its entry of the table. -/
theorem leaves_eq (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl, show (dats m 0 c).owesAt () t.succ = (dats m 0 c).owesAt () t.castSucc from rfl]
  rw [show (dats m 0 c).Φ t.castSucc = Pipeline.ΦA spec0 c from rfl, kept_eq]
  rw [leaves_eq m c 0 t rfl, leaves_eq m c 1 t rfl, leaves_eq m c 2 t rfl, leaves_eq m c 3 t rfl, leaves_eq m c 4 t rfl, leaves_eq m c 5 t rfl,
    leaves_eq m c 6 t (live6 _), leaves_eq m c 7 t (live7 _), leaves_eq m c 8 t (live8 _)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ (only _) (t.val % 16 = 0)
    (by rw [cond2_iff, coords_val]) (by rw [cond3_iff, coords_val])
    (blocks m c t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  rw [accum_eq m c t d6]
  iintro ⟨H0, H1, H2, H3, H4, H5, H6, H7, H8, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the table at a point's slots is the body. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every execution ends, with each output array at what its points wrote back, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelAttIdeal.Point

end
-- ==== Proof.Att.Quiet.lean ====
/- The frames of the attention's backward kernel. -/
module

public import proofs.«01_k».proof.Defs
public import proofs.«01_k».proof.Proof.Att.Frame
public import proofs.«01_k».proof.Proof.Gen.KernelAtt
public import proofs.«01_k».proof.Proof.Gen.KernelAtt.Launch
public import Idealize.ShloMosaic.Lib.Claim

@[expose] public section

set_option maxRecDepth 16384

noncomputable section

namespace Cert.Att

open Idealize.ShloMosaic Idealize.ShloMosaic.TcCoe Idealize.SL.Sem
open Cert.KernelAttIdeal.Gen

set_option backward.isDefEq.respectTransparency.types false in
/-- The frame, over any float values: every execution ends, the arguments are as before and every counter is zero. -/
theorem quiet {F : FTy → Type} [FloatOps F] [Named F]
    (m : (ℓ : Loc Cert.KernelAttIdeal.nD Cert.KernelAttIdeal.τ Cert.KernelAttIdeal.sig) → Buf (Elt F) ℓ) (ρ : Dev Cert.KernelAttIdeal.nD → PrngReg) :
    θ_run (Cert.KernelAttIdeal.defs (F := F)) (onTc (τ := Cert.KernelAttIdeal.τ) (Cert.KernelAttIdeal.main (F := F))) ⟨m, fun _ => 0, ρ⟩ (fun r =>
      (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ r.2.sem = fun _ => 0) :=
  θ_run_and (frame_of m ρ (Cert.KernelAttIdeal.Point.dats m) (Cert.KernelAttIdeal.Point.A_eq m)
    ((θ_run Cert.KernelAttIdeal.defs _ _).mono (fun _ h => h.1) (Cert.KernelAttIdeal.Point.run_main m ρ)))
    ((θ_run Cert.KernelAttIdeal.defs _ _).mono (fun _ h => h.2) (Cert.KernelAttIdeal.Point.run_main m ρ))

/-- The frame of the program over the extended reals. -/
theorem frame_ideal : Cert.quiescent_KernelAttIdeal := fun m ρ _ => quiet (F := Ideal) m ρ

/-- A named constant at its word. -/
@[reducible] def words : Named Bits := ⟨fun _ _ _ b => Scalar.ofBits _ b⟩

/-- The frame of the kernel: its text is the same, with the named constant at its word. -/
theorem frame_kernel : Cert.quiescent_KernelAtt := fun m ρ _ =>
  letI : Named Bits := words
  have h := quiet (F := Bits) m ρ
  have hd : Cert.KernelAtt.defs (F := Bits) = Cert.KernelAttIdeal.defs (F := Bits) := by sl_kernel_rfl
  have hm : Cert.KernelAtt.main (F := Bits) = Cert.KernelAttIdeal.main (F := Bits) := by sl_kernel_rfl
  by rw [hd, hm]; exact h

end Cert.Att

end
-- ==== Proof.Att.Chunk.lean ====
/- What one grid point of the attention's backward kernel leaves in its blocks, over the extended reals. -/
module

public import proofs.«01_k».proof.Proof.Att.Body
public import Idealize.ShloMosaic.Lib.Pipeline.ValueKit
public import Idealize.ShloMosaic.Lib.Pointwise

@[expose] public section

set_option maxRecDepth 16384

noncomputable section

namespace Cert.KernelAttIdeal.Point

open Idealize.ShloMosaic Idealize.ShloMosaic.TcCoe Idealize.SL.Sem
open Cert.KernelAttIdeal Cert.KernelAttIdeal.Gen

variable (B : Blocks Ideal)

/-- The probability of key `i` for query `j`, as the kernel recovers it from the row's saved log-sum. -/
def pr (i : Fin 1024) (j : Fin 16384) : EReal := Ideal.exp2 ((∑ l : Fin 128, B.k (ix2 i l) * B.q (ix2 j l)) - B.lse (ix3 0 0 j))

/-- Its gradient: the value's product with the output's gradient. -/
def dpr (i : Fin 1024) (j : Fin 16384) : EReal := ∑ l : Fin 128, B.v (ix2 i l) * B.o (ix2 j l)

/-- The score's gradient. -/
def dsc (i : Fin 1024) (j : Fin 16384) : EReal := pr B i j * (dpr B i j - B.delta (ix3 0 0 j))

/-- Query `a` of chunk `n`. -/
def at_ (n : Fin 32) (a : Fin 512) : Fin 16384 := ⟨512 * n.val + a.val, by omega⟩

/-- The chunk's probabilities. -/
theorem prob_at (n : Fin 32) (x : S1024x512.Idx) : prob B.reads n x = pr B (x 0) (at_ n (x 1)) := by
  unfold prob pr Blocks.reads
  pointwise [k0_pay10, k0_pay5]
  rfl

/-- The chunk's products with the output's gradient. -/
theorem dprob_at (n : Fin 32) (x : S1024x512.Idx) : dprob B.reads n x = dpr B (x 0) (at_ n (x 1)) := by
  unfold dprob dpr Blocks.reads
  pointwise [k0_pay7, k0_pay6]
  rfl

/-- The chunk's score gradients. -/
theorem dscore_at (n : Fin 32) (x : S1024x512.Idx) :
    k0_pay12 (dprob B.reads n) (prob B.reads n) (k0_pay11 (B.reads.delta n)) x = dsc B (x 0) (at_ n (x 1)) := by
  unfold dsc
  rw [← prob_at B n x, ← dprob_at B n x]
  pointwise [k0_pay12, k0_pay11, Blocks.reads]
  rfl

/-- A chunk's part of the value's gradient. -/
theorem dv_step (d : FVec Ideal S1024x128 .f32) (n : Fin 32) (x : S1024x128.Idx) : k0_pay13 d (prob B.reads n) (B.reads.o n) x
    = d x + ∑ a : Fin 512, pr B (x 0) (at_ n a) * B.o (ix2 (at_ n a) (x 1)) := by
  have e (p : FVec Ideal S1024x512 .f32) (o : Vec Ideal S512x128 .bf16) :
      k0_pay13 d p o x = d x + ∑ a : Fin 512, p (ix2 (x 0) a) * o (ix2 a (x 1)) := by
    pointwise [k0_pay13]
  rw [e]
  refine congrArg (d x + ·) (Finset.sum_congr rfl fun a _ => ?_)
  rw [prob_at]
  unfold Blocks.reads
  pointwise []
  rfl

/-- A chunk's part of the key's gradient. -/
theorem dk_step (d : FVec Ideal S1024x128 .f32) (n : Fin 32) (x : S1024x128.Idx) :
    k0_pay14 d (dprob B.reads n) (prob B.reads n) (k0_pay11 (B.reads.delta n)) (B.reads.q n) x
    = d x + ∑ a : Fin 512, dsc B (x 0) (at_ n a) * B.q (ix2 (at_ n a) (x 1)) := by
  have e (g p : FVec Ideal S1024x512 .f32) (t : FVec Ideal S1x512 .f32) (q : Vec Ideal S512x128 .bf16) :
      k0_pay14 d g p t q x = d x + ∑ a : Fin 512, k0_pay12 g p t (ix2 (x 0) a) * q (ix2 a (x 1)) := by
    pointwise [k0_pay14]
  rw [e]
  refine congrArg (d x + ·) (Finset.sum_congr rfl fun a _ => ?_)
  rw [dscore_at]
  unfold Blocks.reads
  pointwise []
  rfl

/-- The query's gradient in a chunk. -/
theorem dqc_at (n : Fin 32) (x : S128x512.Idx) :
    dqc B.reads n x = ∑ i : Fin 1024, B.k (ix2 i (x 0)) * dsc B i (at_ n (x 1)) := by
  have e (g p : FVec Ideal S1024x512 .f32) (t : FVec Ideal S1x512 .f32) (k : Vec Ideal S128x1024 .bf16) :
      k0_pay15 g p t k x = ∑ i : Fin 1024, k (ix2 (x 0) i) * k0_pay12 g p t (ix2 i (x 1)) := by
    pointwise [k0_pay15]
  unfold dqc
  rw [e]
  refine Finset.sum_congr rfl fun i _ => ?_
  rw [dscore_at]
  unfold Blocks.reads
  pointwise [k0_pay2]

/-- The value's gradient over the first `n` chunks. -/
theorem dv_at (n : ℕ) (h : n ≤ 32) (x : S1024x128.Idx) :
    dv B.reads n h x = ∑ s : Fin n, ∑ a : Fin 512, pr B (x 0) (at_ (s.castLE h) a) * B.o (ix2 (at_ (s.castLE h) a) (x 1)) := by
  induction n with
  | zero =>
    unfold dv Blocks.reads
    pointwise [k0_pay4]
    rfl
  | succ n ih =>
    rw [Fin.sum_univ_castSucc]
    exact (dv_step B _ ⟨n, h⟩ x).trans (congrArg (· + _) (ih (Nat.le_of_succ_le h)))

/-- The key's gradient over the first `n` chunks. -/
theorem dk_at (n : ℕ) (h : n ≤ 32) (x : S1024x128.Idx) :
    dk B.reads n h x = ∑ s : Fin n, ∑ a : Fin 512, dsc B (x 0) (at_ (s.castLE h) a) * B.q (ix2 (at_ (s.castLE h) a) (x 1)) := by
  induction n with
  | zero =>
    unfold dk Blocks.reads
    pointwise [k0_pay3]
    rfl
  | succ n ih =>
    rw [Fin.sum_univ_castSucc]
    exact (dk_step B _ ⟨n, h⟩ x).trans (congrArg (· + _) (ih (Nat.le_of_succ_le h)))

/-- The chunks make up the 16384 queries. -/
theorem sum_chunks (f : Fin 16384 → EReal) : ∑ s : Fin 32, ∑ a : Fin 512, f (at_ (s.castLE le_rfl) a) = ∑ j, f j := by
  refine Fin.sum_mul_add_congr fun s a hl => congrArg f (Fin.ext ?_)
  show 512 * s.val + a.val = s.val * 512 + a.val
  omega

/-- The value's gradient at a point. -/
theorem dv_all (x : S1024x128.Idx) : shapeCast S1024x128 (dv B.reads 32 le_rfl) shapeCasts_S1024x128_S1024x128 x
    = ∑ j : Fin 16384, pr B (x 0) j * B.o (ix2 j (x 1)) := by
  rw [← sum_chunks fun j => pr B (x 0) j * B.o (ix2 j (x 1)), ← dv_at]
  pointwise []

/-- The key's gradient at a point. -/
theorem dk_all (x : S1024x128.Idx) : k0_pay1 (shapeCast S1024x128 (dk B.reads 32 le_rfl) shapeCasts_S1024x128_S1024x128) x
    = (∑ j : Fin 16384, dsc B (x 0) j * B.q (ix2 j (x 1))) * ((Real.log 2 : ℝ) : EReal) := by
  rw [← sum_chunks fun j => dsc B (x 0) j * B.q (ix2 j (x 1)), ← dk_at]
  pointwise [k0_pay1]
  rw [IdealRules.named_const.ideal_named_scalar _ _ _ _ rfl]

/-- The query's gradient at a point, transposed. -/
theorem dq_all (x : S128x16384.Idx) : dq B.reads x = ∑ i : Fin 1024, B.k (ix2 i (x 0)) * dsc B i (x 1) := by
  unfold dq
  simp only [← List.ofFn_eq_map]
  have h1 : (x 1).val < 16384 := (x 1).isLt
  refine (concatenate_ofFn_apply (1 : Fin S128x16384.rank) (dqc B.reads) _ rfl 512 rfl x ⟨(x 1).val / 512, by omega⟩ rfl
    (ix2 (x 0) ⟨(x 1).val % 512, by omega⟩) rfl ?_).trans ?_
  · intro b hb
    match b with
    | ⟨0, _⟩ => rfl
    | ⟨1, _⟩ => exact absurd rfl hb
  · refine (dqc_at B _ _).trans (Finset.sum_congr rfl fun i _ => ?_)
    have e : at_ ⟨(x 1).val / 512, by omega⟩ ⟨(x 1).val % 512, by omega⟩ = x 1 := Fin.ext (Nat.div_add_mod _ _)
    exact congrArg (fun j => B.k (ix2 i (x 0)) * dsc B i j) e

end Cert.KernelAttIdeal.Point

end
-- ==== Proof.Att.Softmax.lean ====
/- The attention's softmax and its gradient over the reals: the scores, the probabilities, and the score's gradient in the
   two ways in which it is written. -/
module

public import proofs.«01_k».proof.Proof.Common.Finite
public import Idealize.ShloMosaic.PureOps.Ideal

@[expose] public section

noncomputable section

namespace Cert.Att

open Idealize.ShloMosaic Cert.Common

local notation "Rows" => Fin 16384 → Fin 8 → Fin 96 → ℝ

local notation "Vals" => Fin 16384 → Fin 8 → Fin 64 → ℝ

/-- The scale of the scores: the word of reference.py's 96 ^ -0.5. -/
def scale : ℝ := 13698540 / 134217728

theorem ofBits_scale : Ideal.ofBits .f32 0x3DD105EC#32 = (scale : EReal) := by
  unfold scale
  simp [Ideal.ofBits, Ideal.ieee, -EReal.coe_mul]
  norm_num

theorem ofBits_bot : Ideal.ofBits .f32 0xFF800000#32 = ⊥ := by
  simp [Ideal.ofBits, Ideal.ieee]

variable (q k : Rows) (v g : Vals) (h : Fin 8) (j : Fin 16384)

/-- The score of key `r` for query `j`. -/
def sco (r : Fin 16384) : ℝ := ∑ d, q j h d * scale * k r h d

/-- A query's largest score. -/
def top : ℝ := ⨆ r, sco q k h j r

/-- The exponential of a score under the largest. -/
def ex (r : Fin 16384) : ℝ := Real.exp (sco q k h j r - top q k h j)

/-- Their sum. -/
def tot : ℝ := ∑ r, ex q k h j r

/-- The product of key `r`'s value with the query's cotangent. -/
def dpv (r : Fin 16384) : ℝ := ∑ d, g j h d * v r h d

/-- The score's gradient, as the derivative of the quotient and of the exponential gives it. -/
def ds (r : Fin 16384) : ℝ :=
  (dpv v g h j r / tot q k h j + -∑ s, dpv v g h j s * (1 / (tot q k h j * tot q k h j)) * ex q k h j s) * ex q k h j r

theorem tot_pos : 0 < tot q k h j := Finset.sum_pos (fun r _ => Real.exp_pos _) Finset.univ_nonempty

theorem tot_ne : tot q k h j ≠ 0 := (tot_pos q k h j).ne'

/-- An output of the attention. -/
def out (d : Fin 64) : ℝ := ∑ r, v r h d * (ex q k h j r / tot q k h j)

/-- The row sum of the cotangent times the output. -/
def delta : ℝ := ∑ d, g j h d * out q k v h j d

/-- The row sum is the products' mean under the probabilities. -/
theorem delta_eq : delta q k v g h j = ∑ r, ex q k h j r / tot q k h j * dpv v g h j r := by
  unfold delta out dpv
  simp only [Finset.mul_sum]
  rw [Finset.sum_comm]
  exact Finset.sum_congr rfl fun r _ => Finset.sum_congr rfl fun d _ => by ring

/-- The score's gradient from the probability and the row sum. -/
theorem ds_eq (r : Fin 16384) : ex q k h j r / tot q k h j * (dpv v g h j r - delta q k v g h j) = ds q k v g h j r := by
  have e : ∑ s, dpv v g h j s * (1 / (tot q k h j * tot q k h j)) * ex q k h j s = delta q k v g h j / tot q k h j := by
    rw [delta_eq, Finset.sum_div]
    exact Finset.sum_congr rfl fun s _ => by have := tot_ne q k h j; field_simp
  unfold ds
  rw [e]
  have := tot_ne q k h j
  field_simp
  ring

/-- The probability from the row's log-sum. -/
theorem prob_eq (r : Fin 16384) :
    Real.exp (sco q k h j r - (top q k h j + Real.log (tot q k h j))) = ex q k h j r / tot q k h j := by
  rw [← sub_sub, Real.exp_sub, Real.exp_log (tot_pos q k h j)]
  rfl

/-- The largest of finitely many reals, over the extended reals. -/
theorem fold_max_coe (f : Fin 16384 → ℝ) :
    Finset.fold max (⊥ : EReal) (fun r => (f r : EReal)) Finset.univ = ((⨆ r, f r : ℝ) : EReal) := by
  rw [← Finset.sup'_univ_eq_ciSup, Finset.comp_sup'_eq_sup'_comp Finset.univ_nonempty (fun r : ℝ => (r : EReal)) fun x y => EReal.coe_strictMono.monotone.map_sup x y,
    Finset.sup'_eq_sup]
  rfl

theorem div_coe_coe (a b : ℝ) (hb : b ≠ 0) : Ideal.div (a : EReal) (b : EReal) = ((a / b : ℝ) : EReal) := by
  rw [Ideal.div_coe hb, ← EReal.coe_mul, mul_one_div]

end Cert.Att

end
-- ==== Proof.Att.Host.lean ====
/- The operands that the attention's backward kernel is given: the padded queries, keys, values and cotangents, the rows'
   log-sums and the rows' sums, over the reals. -/
module

public import proofs.«01_k».proof.Proof.Att.Frame
public import proofs.«01_k».proof.Proof.Att.Softmax
public import Idealize.ShloMosaic.Lib.Pipeline.ValueKit
public import Idealize.ShloMosaic.Lib.Pointwise

@[expose] public section

set_option maxRecDepth 16384

noncomputable section

namespace Cert.KernelAttIdeal.Point

open Idealize.ShloMosaic Idealize.ShloMosaic.TcCoe Idealize.SL.Sem
open Cert.KernelAttIdeal Cert.KernelAttIdeal.Gen Cert.Common Cert.Att

section
variable (x0 x1 : FVec Ideal S16384x8x96 .f32) (x2 x3 : FVec Ideal S16384x8x64 .f32)

/-- The reciprocal of the logarithm of two, -/
def hInv : FVec Ideal S_ .f32 := Host.divf (constant S_ .f32 0x3F800000#32) (Host.log (constant S_ .f32 0x40000000#32))

/-- the scores, -/
def hS : FVec Ideal S8x16384x16384 .f32 :=
  Host.dotGeneral dot_S16384x8x96_S16384x8x96_S8x16384x16384_2_2_0_0_1_1 none
    (mulf x0 (broadcastInDim S16384x8x96 ![] bcast_S_S16384x8x96 (constant S_ .f32 0x3DD105EC#32))) x1

/-- the largest score of each query, -/
def hTop : FVec Ideal S8x16384 .f32 :=
  Host.reduce FloatOps.maximumf (hS x0 x1) (constant S_ .f32 0xFF800000#32) reducesTo_S8x16384x16384_S8x16384_d2 h_S_

/-- the exponentials, -/
def hE : FVec Ideal S8x16384x16384 .f32 :=
  Host.exp (subf (hS x0 x1) (broadcastInDim S8x16384x16384 ![0, 1, 2] bcast_S8x16384x1_S8x16384x16384_0_1_2
    (broadcastInDim S8x16384x1 ![0, 1] bcast_S8x16384_S8x16384x1_0_1 (hTop x0 x1))))

/-- their sums, -/
def hTot : FVec Ideal S8x16384x1 .f32 :=
  broadcastInDim S8x16384x1 ![0, 1] bcast_S8x16384_S8x16384x1_0_1
    (Host.reduceAdd (hE x0 x1) (constant S_ .f32 0x00000000#32) reducesTo_S8x16384x16384_S8x16384_d2 h_S_)

/-- the log-sums to the base two, -/
def hLse : FVec Ideal S8x1x16384 .f32 :=
  shapeCast S8x1x16384 (mulf (addf (broadcastInDim S8x16384x1 ![0, 1] bcast_S8x16384_S8x16384x1_0_1 (hTop x0 x1)) (Host.log (hTot x0 x1)))
    (broadcastInDim S8x16384x1 ![] bcast_S_S8x16384x1 hInv)) shapeCasts_S8x16384x1_S8x1x16384

/-- the outputs, -/
def hOut : FVec Ideal S16384x8x64 .f32 :=
  transpose S16384x8x64 [2, 0, 1] (Host.dotGeneral dot_S16384x8x64_S8x16384x16384_S8x64x16384_0_2_2_1_1_0 none x2
    (Host.divf (hE x0 x1) (broadcastInDim S8x16384x16384 ![0, 1, 2] bcast_S8x16384x1_S8x16384x16384_0_1_2 (hTot x0 x1))))
    transposes_S8x64x16384_S16384x8x64_2_0_1

/-- and the sums of the cotangent times the output. -/
def hDelta : FVec Ideal S8x1x16384 .f32 :=
  broadcastInDim S8x1x16384 ![0, 2] bcast_S8x16384_S8x1x16384_0_2
    (transpose S8x16384 [1, 0] (Host.reduceAdd (mulf x3 (hOut x0 x1 x2)) (constant S_ .f32 0x00000000#32) reducesTo_S16384x8x64_S16384x8_d2 h_S_)
      transposes_S16384x8_S8x16384_1_0)

/-- A head's 96 columns, padded to 128. -/
def wide (x : FVec Ideal S16384x8x96 .f32) : FVec Ideal S16384x1024 .bf16 :=
  truncf .bf16 (shapeCast S16384x1024 (pad S16384x8x128 ![0, 0, 0] ![0, 0, 32] ![0, 0, 0] x (sitofp .f32 (constantI S_ 32 0#32))
    pads_S16384x8x96_S16384x8x128_000_000_0320 h_S_) shapeCasts_S16384x8x128_S16384x1024) bitsLt_bf16_f32

/-- A head's 64 columns, padded to 128. -/
def wide' (x : FVec Ideal S16384x8x64 .f32) : FVec Ideal S16384x1024 .bf16 :=
  truncf .bf16 (shapeCast S16384x1024 (pad S16384x8x128 ![0, 0, 0] ![0, 0, 64] ![0, 0, 0] x (sitofp .f32 (constantI S_ 32 0#32))
    pads_S16384x8x64_S16384x8x128_000_000_0640 h_S_) shapeCasts_S16384x8x128_S16384x1024) bitsLt_bf16_f32

/-- The queries with the kernel's factor. -/
def hQ : FVec Ideal S16384x8x96 .f32 :=
  mulf x0 (broadcastInDim S16384x8x96 ![] bcast_S_S16384x8x96 (mulf (constant S_ .f32 0x3DD105EC#32) hInv))

end

section
variable (m : (ℓ : Loc nD τ sig) → Buf (Elt Ideal) ℓ)

/-- The queries, -/
abbrev aQ (c : Dev nD) : FVec Ideal S16384x8x96 .f32 := m ((c : Thread nD τ).loc main_arg0)
/-- the keys, -/
abbrev aK (c : Dev nD) : FVec Ideal S16384x8x96 .f32 := m ((c : Thread nD τ).loc main_arg1)
/-- the values, -/
abbrev aV (c : Dev nD) : FVec Ideal S16384x8x64 .f32 := m ((c : Thread nD τ).loc main_arg2)
/-- and the output's cotangent. -/
abbrev aG (c : Dev nD) : FVec Ideal S16384x8x64 .f32 := m ((c : Thread nD τ).loc main_arg3)

/-- What the region finds as its six operands. -/
theorem operands (c : Dev nD) : V m c main_v30 = wide (hQ (aQ m c)) ∧ V m c main_v33 = wide (aK m c) ∧ V m c main_v36 = wide' (aV m c)
    ∧ V m c main_v39 = wide' (aG m c) ∧ V m c main_v20 = hLse (aQ m c) (aK m c)
    ∧ V m c main_v24 = hDelta (aQ m c) (aK m c) (aV m c) (aG m c) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  refine ⟨?_, ?_, ?_, ?_, ?_, ?_⟩ <;> (after_results; rfl)

end

end Cert.KernelAttIdeal.Point

end
-- ==== Proof.Att.HostAt.lean ====
/- The values of the operands that the attention's backward kernel is given, over the reals. -/
module

public import proofs.«01_k».proof.Proof.Att.Host
public import proofs.«01_k».proof.Proof.Common.Consts

@[expose] public section

set_option maxRecDepth 16384

noncomputable section

namespace Cert.KernelAttIdeal.Point

open Idealize.ShloMosaic Idealize.ShloMosaic.TcCoe Idealize.SL.Sem
open Cert.KernelAttIdeal Cert.KernelAttIdeal.Gen Cert.Common Cert.Att

/-- The reciprocal of the logarithm of two. -/
theorem hInv_at (i : S_.Idx) : hInv i = ((1 / Real.log 2 : ℝ) : EReal) := by
  have e : hInv i = Ideal.div 1 (Ideal.log (Ideal.ofBits .f32 0x40000000#32)) := by pointwise [hInv]
  have h2 : ¬(2 : ℝ) ≤ 0 := by norm_num
  rw [e, ofBits_two, Ideal.log_coe, if_neg h2, show (1 : EReal) = ((1 : ℝ) : EReal) from rfl]
  exact div_coe_coe _ _ (Real.log_pos (by norm_num)).ne'

/-- Column `a` of the padded heads is column `a % 128` of head `a / 128`, or zero past the head's 96 columns. -/
theorem wide_at (x : FVec Ideal S16384x8x96 .f32) (j : Fin 16384) (a : Fin 1024) :
    wide x (ix2 j a) = if h : a.val % 128 < 96 then x (ix3 j ⟨a.val / 128, by omega⟩ ⟨a.val % 128, h⟩) else 0 := by
  have ha := a.isLt
  have z : (FloatOps.sitofp FTy.f32 0#32 : Ideal .f32) = 0 := by simp [FloatOps.sitofp]
  rw [wide]
  pointwise []
  split_ifs <;> first | rfl | exact z | (exfalso; omega)

/-- The same of heads of 64 columns. -/
theorem wide'_at (x : FVec Ideal S16384x8x64 .f32) (j : Fin 16384) (a : Fin 1024) :
    wide' x (ix2 j a) = if h : a.val % 128 < 64 then x (ix3 j ⟨a.val / 128, by omega⟩ ⟨a.val % 128, h⟩) else 0 := by
  have ha := a.isLt
  have z : (FloatOps.sitofp FTy.f32 0#32 : Ideal .f32) = 0 := by simp [FloatOps.sitofp]
  rw [wide']
  pointwise []
  split_ifs <;> first | rfl | exact z | (exfalso; omega)

/-- An entry of the log-sums from the largest score and the sum. -/
theorem lse_form (w : FVec Ideal S8x16384 .f32) (u : FVec Ideal S8x16384x1 .f32) (n : FVec Ideal S_ .f32) (h : Fin 8) (z : Fin 1) (j : Fin 16384) :
    shapeCast S8x1x16384 (mulf (addf (broadcastInDim S8x16384x1 ![0, 1] bcast_S8x16384_S8x16384x1_0_1 w) (Host.log u))
      (broadcastInDim S8x16384x1 ![] bcast_S_S8x16384x1 n)) shapeCasts_S8x16384x1_S8x1x16384 (ix3 h z j)
      = (w (ix2 h j) + Ideal.log (u (ix3 h j 0))) * n ix0 := by
  pointwise []

theorem lse_coe (a b c : ℝ) (hb : 0 < b) : ((a : EReal) + Ideal.log (b : EReal)) * (c : EReal) = (((a + Real.log b) * c : ℝ) : EReal) := by
  rw [Ideal.log_coe, if_neg (not_le.mpr hb), ← EReal.coe_add, ← EReal.coe_mul]

variable {x0 x1 : FVec Ideal S16384x8x96 .f32} {x2 x3 : FVec Ideal S16384x8x64 .f32}
variable {q k : Fin 16384 → Fin 8 → Fin 96 → ℝ} {v g : Fin 16384 → Fin 8 → Fin 64 → ℝ}
variable (h0 : ∀ j h d, x0 (ix3 j h d) = (q j h d : EReal)) (h1 : ∀ j h d, x1 (ix3 j h d) = (k j h d : EReal))
variable (h2 : ∀ j h d, x2 (ix3 j h d) = (v j h d : EReal)) (h3 : ∀ j h d, x3 (ix3 j h d) = (g j h d : EReal))
include h0

/-- The queries with the kernel's factor. -/
theorem hQ_at (j : Fin 16384) (h : Fin 8) (d : Fin 96) : hQ x0 (ix3 j h d) = ((q j h d * (scale * (1 / Real.log 2)) : ℝ) : EReal) := by
  have e : hQ x0 (ix3 j h d) = x0 (ix3 j h d) * (Ideal.ofBits .f32 0x3DD105EC#32 * hInv ix0) := by
    rw [hQ]
    generalize hInv = w
    pointwise []
  rw [e, hInv_at, ofBits_scale, h0]
  simp only [EReal.coe_mul]

include h1

/-- The scores. -/
theorem hS_at (h : Fin 8) (j r : Fin 16384) : hS x0 x1 (ix3 h j r) = (sco q k h j r : EReal) := by
  unfold sco
  rw [coe_sum]
  pointwise [hS]
  simp only [h0, h1, ofBits_scale, EReal.coe_mul]

/-- The largest score. -/
theorem hTop_at (h : Fin 8) (j : Fin 16384) : hTop x0 x1 (ix2 h j) = (top q k h j : EReal) := by
  pointwise [hTop]
  rw [ofBits_bot]
  simp only [hS_at h0 h1]
  rw [fold_max_coe]
  unfold top
  rfl

/-- The exponentials. -/
theorem hE_at (h : Fin 8) (j r : Fin 16384) : hE x0 x1 (ix3 h j r) = (ex q k h j r : EReal) := by
  have e : hE x0 x1 (ix3 h j r) = Ideal.exp (hS x0 x1 (ix3 h j r) - hTop x0 x1 (ix2 h j)) := by
    rw [hE]
    generalize hTop x0 x1 = w
    generalize hS x0 x1 = u
    pointwise []
  rw [e, hS_at h0 h1, hTop_at h0 h1, ← EReal.coe_sub, Ideal.exp_coe]
  rfl

/-- Their sums. -/
theorem hTot_at (h : Fin 8) (j : Fin 16384) (z : Fin 1) : hTot x0 x1 (ix3 h j z) = (tot q k h j : EReal) := by
  unfold tot
  rw [coe_sum, hTot]
  pointwise []
  simp only [hE_at h0 h1]

/-- The log-sums to the base two. -/
theorem hLse_at (h : Fin 8) (z : Fin 1) (j : Fin 16384) :
    hLse x0 x1 (ix3 h z j) = (((top q k h j + Real.log (tot q k h j)) * (1 / Real.log 2) : ℝ) : EReal) :=
  (lse_form _ _ _ h z j).trans (by
    rw [hTop_at h0 h1, hTot_at h0 h1, hInv_at]
    exact lse_coe _ _ _ (tot_pos q k h j))

include h2

/-- The outputs. -/
theorem hOut_at (j : Fin 16384) (h : Fin 8) (d : Fin 64) : hOut x0 x1 x2 (ix3 j h d) = (out q k v h j d : EReal) := by
  unfold out
  rw [coe_sum]
  have e : hOut x0 x1 x2 (ix3 j h d) = ∑ r : Fin 16384, x2 (ix3 r h d) * Ideal.div (hE x0 x1 (ix3 h j r)) (hTot x0 x1 (ix3 h j 0)) := by
    rw [hOut]
    generalize hTot x0 x1 = w
    generalize hE x0 x1 = u
    pointwise []
  rw [e]
  simp only [h2, hE_at h0 h1, hTot_at h0 h1, div_coe_coe _ _ (tot_ne _ _ _ _), EReal.coe_mul]

include h3

/-- The sums of the cotangent times the output. -/
theorem hDelta_at (h : Fin 8) (z : Fin 1) (j : Fin 16384) : hDelta x0 x1 x2 x3 (ix3 h z j) = (delta q k v g h j : EReal) := by
  unfold delta
  rw [coe_sum, hDelta]
  generalize hw : hOut x0 x1 x2 = w
  pointwise []
  subst hw
  simp only [hOut_at h0 h1 h2, h3, EReal.coe_mul]

end Cert.KernelAttIdeal.Point

end
-- ==== Proof.Att.Real.lean ====
/- The products over a head's padded columns, and the kernel's probabilities and gradients from them, over the reals. -/
module

public import proofs.«01_k».proof.Proof.Att.Softmax

@[expose] public section

noncomputable section

namespace Cert.Att

open Idealize.ShloMosaic Cert.Common

/-- `n` columns, padded with zeros to 128. -/
def lanes {n : ℕ} (f : Fin n → ℝ) (l : Fin 128) : ℝ := if h : l.val < n then f ⟨l.val, h⟩ else 0

theorem lanes_coe {n : ℕ} (x : Fin n → EReal) (f : Fin n → ℝ) (h : ∀ d, x d = (f d : EReal)) (l : Fin 128) :
    (if h : l.val < n then x ⟨l.val, h⟩ else 0) = (lanes f l : EReal) := by
  unfold lanes
  split_ifs
  · exact h _
  · rfl

/-- A product over the padded columns is the product over the columns. -/
theorem sum_lanes {n r : ℕ} (e : n + r = 128) (f g : Fin n → ℝ) : ∑ l, lanes f l * lanes g l = ∑ d, f d * g d := by
  let w : ℕ → ℝ := fun i => if h : i < n then f ⟨i, h⟩ * g ⟨i, h⟩ else 0
  have h (s : Fin 128) : lanes f s * lanes g s = w s.val := by
    unfold lanes
    by_cases h : s.val < n
    · simp only [w, dif_pos h]
    · simp only [w, dif_neg h, mul_zero]
  have h' (d : Fin n) : f d * g d = w d.val := by
    simp only [w, dif_pos d.isLt]
  rw [Finset.sum_congr rfl fun s _ => h s, Finset.sum_congr rfl fun d _ => h' d, Fin.sum_univ_eq_sum_range w, Fin.sum_univ_eq_sum_range w, ← e,
    Finset.sum_range_add]
  exact add_eq_left.mpr (Finset.sum_eq_zero fun i _ => dif_neg (by omega))

/-- A sum of padded columns is the padded sum. -/
theorem sum_lanes_fun {n m : ℕ} (f : Fin m → Fin n → ℝ) (l : Fin 128) : ∑ j, lanes (f j) l = lanes (fun d => ∑ j, f j d) l := by
  unfold lanes
  split_ifs
  · rfl
  · exact Finset.sum_const_zero

theorem lanes_mul {n : ℕ} (f : Fin n → ℝ) (c : ℝ) (l : Fin 128) : lanes f l * c = lanes (fun d => f d * c) l := by
  unfold lanes
  split_ifs
  · rfl
  · exact zero_mul c

/-- A multiple of padded columns, summed. -/
theorem sum_mul_lanes {n m : ℕ} (a : Fin m → ℝ) (f : Fin m → Fin n → ℝ) (l : Fin 128) :
    ∑ j, a j * lanes (f j) l = lanes (fun d => ∑ j, a j * f j d) l := by
  unfold lanes
  split_ifs
  · rfl
  · simp only [mul_zero, Finset.sum_const_zero]

variable (q k : Fin 16384 → Fin 8 → Fin 96 → ℝ) (v g : Fin 16384 → Fin 8 → Fin 64 → ℝ) (h : Fin 8) (j r : Fin 16384)

/-- The kernel's factor on the queries. -/
def factor : ℝ := scale * (1 / Real.log 2)

/-- The power of two that the kernel takes is the probability. -/
theorem pow_eq : (2 : ℝ) ^ (∑ l, lanes (k r h) l * lanes (fun d => q j h d * factor) l
    - (top q k h j + Real.log (tot q k h j)) * (1 / Real.log 2)) = ex q k h j r / tot q k h j := by
  have h2 : Real.log 2 ≠ 0 := (Real.log_pos (by norm_num)).ne'
  rw [sum_lanes (r := 32) rfl, ← prob_eq, Real.rpow_def_of_pos (by norm_num)]
  refine congrArg Real.exp ?_
  have e : ∑ d, k r h d * (q j h d * factor) = sco q k h j r * (1 / Real.log 2) := by
    unfold sco factor
    rw [Finset.sum_mul]
    exact Finset.sum_congr rfl fun d _ => by ring
  rw [e]
  field_simp

end Cert.Att

end
-- ==== Proof.Att.Ref.lean ====
/- The reference's gradients of the attention, over the reals. -/
module

public import proofs.«01_k».proof.Proof.Gen.ReferenceAttIdeal.Read
public import proofs.«01_k».proof.Proof.Att.Softmax
public import Idealize.ShloMosaic.Lib.Pipeline.ValueKit
public import Idealize.ShloMosaic.Lib.Pointwise

@[expose] public section

set_option maxRecDepth 16384

noncomputable section

namespace Cert.Att

open Idealize.ShloMosaic Idealize.ShloMosaic.TcCoe Idealize.SL.Sem
open Cert.ReferenceAttIdeal Cert.ReferenceAttIdeal.Read Cert.Common

variable {x0 x1 : (⟨S16384x8x96, .f32⟩ : BufTy).Contents (Elt Ideal)} {x2 x3 : (⟨S16384x8x64, .f32⟩ : BufTy).Contents (Elt Ideal)}
variable {q k : Fin 16384 → Fin 8 → Fin 96 → ℝ} {v g : Fin 16384 → Fin 8 → Fin 64 → ℝ}
variable (h0 : ∀ j h d, x0 (ix3 j h d) = (q j h d : EReal)) (h1 : ∀ j h d, x1 (ix3 j h d) = (k j h d : EReal))
variable (h2 : ∀ j h d, x2 (ix3 j h d) = (v j h d : EReal)) (h3 : ∀ j h d, x3 (ix3 j h d) = (g j h d : EReal))
include h0 h1

/-- The scores. -/
theorem v2_at (h : Fin 8) (j r : Fin 16384) : val_main_v2 x0 x1 (ix3 h j r) = (sco q k h j r : EReal) := by
  unfold sco
  rw [coe_sum]
  pointwise [val_main_v2, val_main_v1, val_main_v0, val_main_cst]
  simp only [h0, h1, ofBits_scale, EReal.coe_mul]

/-- The largest score. -/
theorem v3_at (h : Fin 8) (j : Fin 16384) : val_main_v3 x0 x1 (ix2 h j) = (top q k h j : EReal) := by
  pointwise [val_main_v3, val_main_cst_0]
  rw [ofBits_bot]
  simp only [v2_at h0 h1]
  rw [fold_max_coe]
  unfold top
  rfl

omit h0 h1 in
/-- The larger of the least number and another is the other. -/
theorem max_least (u w : FVec Ideal S8x16384 .f32) (i : S8x16384.Idx) (h : u i = ⊥) : maximumf u w i = w i := by
  have e : maximumf u w i = max (u i) (w i) := by pointwise []
  rw [e, h]
  exact max_eq_right bot_le

omit h0 h1 in
/-- What the largest score is compared with. -/
theorem v9_at (h : Fin 8) (j : Fin 16384) : val_main_v9 (F := Ideal) (ix2 h j) = ⊥ := by
  pointwise [val_main_v9, val_main_cst_2]
  exact ofBits_bot

/-- The largest score as the exponentials take it. -/
theorem v21_at (h : Fin 8) (j r : Fin 16384) : val_main_v21 x0 x1 (ix3 h j r) = (top q k h j : EReal) := by
  have e : val_main_v21 x0 x1 (ix3 h j r) = val_main_v10 x0 x1 (ix2 h j) := by
    rw [val_main_v21, val_main_v20]
    generalize val_main_v10 x0 x1 = w
    pointwise []
  have e' : val_main_v10 x0 x1 (ix2 h j) = val_main_v3 x0 x1 (ix2 h j) := by
    rw [val_main_v10]
    generalize val_main_v3 x0 x1 = w
    exact max_least _ _ _ (v9_at h j)
  exact (e.trans e').trans (v3_at h0 h1 h j)

/-- The exponentials. -/
theorem v23_at (h : Fin 8) (j r : Fin 16384) : val_main_v23 x0 x1 (ix3 h j r) = (ex q k h j r : EReal) := by
  have e : val_main_v23 x0 x1 (ix3 h j r) = Ideal.exp (val_main_v2 x0 x1 (ix3 h j r) - val_main_v21 x0 x1 (ix3 h j r)) := by
    pointwise [val_main_v23, val_main_v22]
  rw [e, v2_at h0 h1, v21_at h0 h1, ← EReal.coe_sub, Ideal.exp_coe]
  rfl

/-- Their sum. -/
theorem v24_at (h : Fin 8) (j : Fin 16384) : val_main_v24 x0 x1 (ix2 h j) = (tot q k h j : EReal) := by
  unfold tot
  rw [coe_sum]
  pointwise [val_main_v24, val_main_cst_8]
  simp only [v23_at h0 h1]

include h2 h3

/-- The score's gradient. -/
theorem v48_at (h : Fin 8) (j r : Fin 16384) : val_main_v48 x0 x1 x2 x3 (ix3 h j r) = (ds q k v g h j r : EReal) := by
  have e (s : Fin 16384) : (∑ d : Fin 64, val_main_v33 x3 (ix3 h d j) * x2 (ix3 s h d)) = (dpv v g h j s : EReal) := by
    unfold dpv
    rw [coe_sum]
    refine Finset.sum_congr rfl fun d _ => ?_
    have e' : val_main_v33 x3 (ix3 h d j) = x3 (ix3 j h d) := by pointwise [val_main_v33]
    rw [e', h2, h3, EReal.coe_mul]
  pointwise [val_main_v48, val_main_v47, val_main_v46, val_main_v45, val_main_v44, val_main_v43, val_main_v42, val_main_v41, val_main_v40,
    val_main_v39, val_main_v38, val_main_v37, val_main_v30, val_main_v29, val_main_v28, val_main_v25, val_main_v34, val_main_cst_10,
    val_main_cst_11, val_main_cst_9]
  simp only [e, v23_at h0 h1, v24_at h0 h1, Finset.univ_unique, Finset.sum_singleton]
  rw [← EReal.coe_mul, div_coe_coe _ _ (tot_ne q k h j), show (1 : EReal) = ((1 : ℝ) : EReal) from rfl,
    div_coe_coe _ _ (mul_ne_zero (tot_ne q k h j) (tot_ne q k h j))]
  simp only [← EReal.coe_mul, ← coe_sum, ← EReal.coe_neg, ← EReal.coe_add]
  rfl

/-- The query's gradient. -/
theorem v56_at (a : Fin 1024) (j : Fin 16384) : val_main_v56 x0 x1 x2 x3 (ix2 a j)
    = if h : a.val % 128 < 96 then ((∑ r, ds q k v g ⟨a.val / 128, by omega⟩ j r * k r ⟨a.val / 128, by omega⟩ ⟨a.val % 128, h⟩ : ℝ) : EReal) else 0 := by
  pointwise [val_main_v56, val_main_v55, val_main_v54, val_main_v53, val_main_v52, val_main_v51, val_main_cst_12]
  simp only [v48_at h0 h1 h2 h3, h1, coe_sum, EReal.coe_mul]

/-- The key's gradient. -/
theorem v59_at (j : Fin 16384) (a : Fin 1024) : val_main_v59 x0 x1 x2 x3 (ix2 j a)
    = if h : a.val % 128 < 96 then ((∑ r, ds q k v g ⟨a.val / 128, by omega⟩ r j * (q r ⟨a.val / 128, by omega⟩ ⟨a.val % 128, h⟩ * scale) : ℝ) : EReal)
      else 0 := by
  pointwise [val_main_v59, val_main_v58, val_main_v57, val_main_v50, val_main_v49, val_main_v1, val_main_v0, val_main_cst, val_main_cst_13]
  simp only [v48_at h0 h1 h2 h3, h0, ofBits_scale, coe_sum, EReal.coe_mul]

omit h2

/-- The value's gradient. -/
theorem v62_at (j : Fin 16384) (a : Fin 1024) : val_main_v62 x0 x1 x3 (ix2 j a)
    = if h : a.val % 128 < 64 then ((∑ r, g r ⟨a.val / 128, by omega⟩ ⟨a.val % 128, h⟩
        * (ex q k ⟨a.val / 128, by omega⟩ r j / tot q k ⟨a.val / 128, by omega⟩ r) : ℝ) : EReal) else 0 := by
  have e' (h : Fin 8) (d : Fin 64) (r : Fin 16384) : val_main_v33 x3 (ix3 h d r) = x3 (ix3 r h d) := by pointwise [val_main_v33]
  pointwise [val_main_v62, val_main_v61, val_main_v60, val_main_v36, val_main_v35, val_main_v27, val_main_v26, val_main_v25, val_main_cst_14]
  simp only [e', v23_at h0 h1, v24_at h0 h1, h3, div_coe_coe _ _ (tot_ne _ _ _ _), coe_sum, EReal.coe_mul]

end Cert.Att

end
-- ==== Proof.Att.Value.lean ====
/- What the attention's backward kernel leaves in its three output arrays, against the reference's gradients. -/
module

public import proofs.«01_k».proof.Proof.Att.Chunk
public import proofs.«01_k».proof.Proof.Att.HostAt
public import proofs.«01_k».proof.Proof.Att.Real
public import proofs.«01_k».proof.Proof.Att.Ref
public import proofs.«01_k».proof.Proof.Common.Sums

@[expose] public section

set_option maxRecDepth 16384

noncomputable section

namespace Cert.KernelAttIdeal.Point

open Idealize.ShloMosaic Idealize.ShloMosaic.TcCoe Idealize.SL.Sem
open Cert.KernelAttIdeal Cert.KernelAttIdeal.Gen Cert.Common Cert.Att

/-- Which block each window holds at a point. -/
theorem idx : ∀ t : Fin cfg0.N, win0_0.index t = ![0, t.val / 16] ∧ win0_1.index t = ![t.val % 16, t.val / 16]
    ∧ win0_2.index t = ![t.val % 16, t.val / 16] ∧ win0_3.index t = ![0, t.val / 16] ∧ win0_4.index t = ![t.val / 16, 0, 0]
    ∧ win0_5.index t = ![t.val / 16, 0, 0] ∧ win0_6.index t = ![t.val / 16, 0] ∧ win0_7.index t = ![t.val % 16, t.val / 16]
    ∧ win0_8.index t = ![t.val % 16, t.val / 16] :=
  (by decide +kernel : ∀ t : Fin grid0.N, _)

theorem lt_N (t : Fin cfg0.N) : t.val < 128 := t.isLt

/-- A point's head, -/
def head (t : Fin cfg0.N) : Fin 8 := ⟨t.val / 16, by have := lt_N t; omega⟩

/-- and row `i` of its key tile. -/
def key (t : Fin cfg0.N) (i : Fin 1024) : Fin 16384 := ⟨t.val % 16 * 1024 + i.val, by omega⟩

/-- Column `l` of head `h`. -/
def col (h : Fin 8) (l : Fin 128) : Fin 1024 := ⟨h.val * 128 + l.val, by omega⟩

theorem wide_col (x : FVec Ideal S16384x8x96 .f32) (j : Fin 16384) (h : Fin 8) (l : Fin 128) :
    wide x (ix2 j (col h l)) = if hl : l.val < 96 then x (ix3 j h ⟨l.val, hl⟩) else 0 := by
  have e1 : (col h l).val % 128 = l.val := by show (h.val * 128 + l.val) % 128 = l.val; omega
  have e2 : (col h l).val / 128 = h.val := by show (h.val * 128 + l.val) / 128 = h.val; omega
  rw [wide_at]
  simp only [e1, e2]

theorem wide'_col (x : FVec Ideal S16384x8x64 .f32) (j : Fin 16384) (h : Fin 8) (l : Fin 128) :
    wide' x (ix2 j (col h l)) = if hl : l.val < 64 then x (ix3 j h ⟨l.val, hl⟩) else 0 := by
  have e1 : (col h l).val % 128 = l.val := by show (h.val * 128 + l.val) % 128 = l.val; omega
  have e2 : (col h l).val / 128 = h.val := by show (h.val * 128 + l.val) / 128 = h.val; omega
  rw [wide'_at]
  simp only [e1, e2]

variable (m : (ℓ : Loc nD τ sig) → Buf (Elt Ideal) ℓ) (c : Dev nD)
variable {q k : Fin 16384 → Fin 8 → Fin 96 → ℝ} {v g : Fin 16384 → Fin 8 → Fin 64 → ℝ}
variable (h0 : ∀ j h d, aQ m c (ix3 j h d) = (q j h d : EReal)) (h1 : ∀ j h d, aK m c (ix3 j h d) = (k j h d : EReal))
variable (h2 : ∀ j h d, aV m c (ix3 j h d) = (v j h d : EReal)) (h3 : ∀ j h d, aG m c (ix3 j h d) = (g j h d : EReal))

include h0 in
/-- A point's queries, -/
theorem q_at (t : Fin cfg0.N) (j : Fin 16384) (l : Fin 128) :
    (blocks m c t).q (ix2 j l) = (lanes (fun d => q j (head t) d * factor) l : EReal) := by
  show V m c main_v30 ((win0_0.blk t).view.emb (ix2 j l)) = _
  rw [(operands m c).1, show (win0_0.blk t).view.emb (ix2 j l) = ix2 j (col (head t) l) by unfold col head; blk_ext [idx t], wide_col]
  exact lanes_coe (fun d => hQ (aQ m c) (ix3 j (head t) d)) _ (fun d => hQ_at h0 j (head t) d) l

include h1 in
/-- keys, -/
theorem k_at (t : Fin cfg0.N) (i : Fin 1024) (l : Fin 128) : (blocks m c t).k (ix2 i l) = (lanes (k (key t i) (head t)) l : EReal) := by
  show V m c main_v33 ((win0_1.blk t).view.emb (ix2 i l)) = _
  rw [(operands m c).2.1, show (win0_1.blk t).view.emb (ix2 i l) = ix2 (key t i) (col (head t) l) by unfold col head key; blk_ext [idx t], wide_col]
  exact lanes_coe (fun d => aK m c (ix3 (key t i) (head t) d)) _ (h1 _ _) l

include h2 in
/-- values, -/
theorem v_at (t : Fin cfg0.N) (i : Fin 1024) (l : Fin 128) : (blocks m c t).v (ix2 i l) = (lanes (v (key t i) (head t)) l : EReal) := by
  show V m c main_v36 ((win0_2.blk t).view.emb (ix2 i l)) = _
  rw [(operands m c).2.2.1, show (win0_2.blk t).view.emb (ix2 i l) = ix2 (key t i) (col (head t) l) by unfold col head key; blk_ext [idx t], wide'_col]
  exact lanes_coe (fun d => aV m c (ix3 (key t i) (head t) d)) _ (h2 _ _) l

include h3 in
/-- and cotangents; -/
theorem o_at (t : Fin cfg0.N) (j : Fin 16384) (l : Fin 128) : (blocks m c t).o (ix2 j l) = (lanes (g j (head t)) l : EReal) := by
  show V m c main_v39 ((win0_3.blk t).view.emb (ix2 j l)) = _
  rw [(operands m c).2.2.2.1, show (win0_3.blk t).view.emb (ix2 j l) = ix2 j (col (head t) l) by unfold col head; blk_ext [idx t], wide'_col]
  exact lanes_coe (fun d => aG m c (ix3 j (head t) d)) _ (h3 _ _) l

/-- The block of a point's log-sums, in any array. -/
theorem lse_blk (t : Fin cfg0.N) (j : Fin 16384) (X : FVec Ideal S8x1x16384 .f32) :
    (win0_4.blk t).view.read (Elt Ideal) X (ix3 0 0 j) = X (ix3 (head t) 0 j) :=
  congrArg X (show (win0_4.blk t).view.emb (ix3 0 0 j) = ix3 (head t) 0 j by unfold head; blk_ext [idx t])

theorem lse_arr : V m c (Pipeline.arrRef spec0 4) = hLse (aQ m c) (aK m c) := (operands m c).2.2.2.2.1

theorem lse_read (t : Fin cfg0.N) (j : Fin 16384) :
    (blocks m c t).lse (ix3 0 0 j) = (win0_4.blk t).view.read (Elt Ideal) (V m c (Pipeline.arrRef spec0 4)) (ix3 0 0 j) := rfl

include h0 h1 in
/-- its log-sums, -/
theorem lse_at (t : Fin cfg0.N) (j : Fin 16384) : (blocks m c t).lse (ix3 0 0 j)
    = (((top q k (head t) j + Real.log (tot q k (head t) j)) * (1 / Real.log 2) : ℝ) : EReal) := by
  refine (lse_read m c t j).trans ?_
  rw [lse_arr]
  exact (lse_blk t j _).trans (hLse_at h0 h1 _ _ _)

include h0 h1 h2 h3 in
/-- and its row sums. -/
theorem delta_at (t : Fin cfg0.N) (j : Fin 16384) : (blocks m c t).delta (ix3 0 0 j) = (delta q k v g (head t) j : EReal) := by
  show V m c main_v24 ((win0_5.blk t).view.emb (ix3 0 0 j)) = _
  rw [(operands m c).2.2.2.2.2, show (win0_5.blk t).view.emb (ix3 0 0 j) = ix3 (head t) 0 j by unfold head; blk_ext [idx t]]
  exact hDelta_at h0 h1 h2 h3 _ _ _

include h0 h1

/-- A point's probabilities. -/
theorem pr_at (t : Fin cfg0.N) (i : Fin 1024) (j : Fin 16384) :
    pr (blocks m c t) i j = ((ex q k (head t) j (key t i) / tot q k (head t) j : ℝ) : EReal) := by
  unfold pr
  simp only [q_at m c h0, k_at m c h1, lse_at m c h0 h1, ← EReal.coe_mul]
  rw [← coe_sum, ← EReal.coe_sub, Ideal.exp2_coe]
  exact congrArg _ (pow_eq q k (head t) j (key t i))

include h2 h3

/-- A point's score gradients. -/
theorem dsc_at (t : Fin cfg0.N) (i : Fin 1024) (j : Fin 16384) :
    dsc (blocks m c t) i j = (ds q k v g (head t) j (key t i) : EReal) := by
  unfold dsc dpr
  simp only [pr_at m c h0 h1, v_at m c h2, o_at m c h3, delta_at m c h0 h1 h2 h3, ← EReal.coe_mul]
  rw [← coe_sum, sum_lanes (r := 64) rfl, ← EReal.coe_sub, ← EReal.coe_mul, ← ds_eq]
  unfold dpv
  simp only [mul_comm]

omit h2
/-- What a point leaves in the value's block, -/
theorem dv_val (t : Fin cfg0.N) (i : Fin 1024) (l : Fin 128) :
    shapeCast S1024x128 (dv (blocks m c t).reads 32 le_rfl) shapeCasts_S1024x128_S1024x128 (ix2 i l)
      = (lanes (fun d => ∑ r, g r (head t) d * (ex q k (head t) r (key t i) / tot q k (head t) r)) l : EReal) := by
  have e : _ = ∑ j, pr (blocks m c t) i j * (blocks m c t).o (ix2 j l) := dv_all (blocks m c t) (ix2 i l)
  rw [e]
  simp only [pr_at m c h0 h1, o_at m c h3, ← EReal.coe_mul]
  rw [← coe_sum, sum_mul_lanes]
  simp only [mul_comm]

include h2
/-- in the key's, -/
theorem dk_val (t : Fin cfg0.N) (i : Fin 1024) (l : Fin 128) :
    k0_pay1 (shapeCast S1024x128 (dk (blocks m c t).reads 32 le_rfl) shapeCasts_S1024x128_S1024x128) (ix2 i l)
      = (lanes (fun d => ∑ r, ds q k v g (head t) r (key t i) * (q r (head t) d * scale)) l : EReal) := by
  have hl : Real.log 2 ≠ 0 := (Real.log_pos (by norm_num)).ne'
  have e : _ = (∑ j, dsc (blocks m c t) i j * (blocks m c t).q (ix2 j l)) * ((Real.log 2 : ℝ) : EReal) := dk_all (blocks m c t) (ix2 i l)
  rw [e]
  simp only [dsc_at m c h0 h1 h2 h3, q_at m c h0, ← EReal.coe_mul]
  rw [← coe_sum, sum_mul_lanes, ← EReal.coe_mul, lanes_mul]
  refine congrArg (fun f => ((lanes f l : ℝ) : EReal)) (funext fun d => ?_)
  rw [Finset.sum_mul]
  refine Finset.sum_congr rfl fun r _ => ?_
  unfold factor
  field_simp

/-- and adds to the query's. -/
theorem dq_val (t : Fin cfg0.N) (l : Fin 128) (j : Fin 16384) :
    dq (blocks m c t).reads (ix2 l j) = (lanes (fun d => ∑ i, ds q k v g (head t) j (key t i) * k (key t i) (head t) d) l : EReal) := by
  have e : _ = ∑ i, (blocks m c t).k (ix2 i l) * dsc (blocks m c t) i j := dq_all (blocks m c t) (ix2 l j)
  rw [e]
  simp only [dsc_at m c h0 h1 h2 h3, k_at m c h1, ← EReal.coe_mul]
  rw [← coe_sum]
  simp only [mul_comm (lanes _ _)]
  rw [sum_mul_lanes]

end Cert.KernelAttIdeal.Point

end
-- ==== Proof.Att.Final.lean ====
/- The three output arrays of the attention's backward kernel are the reference's gradients. -/
module

public import proofs.«01_k».proof.Defs
public import proofs.«01_k».proof.Proof.Att.Quiet
public import proofs.«01_k».proof.Proof.Att.Value
public import proofs.«01_k».proof.Proof.Gen.Pre_finite_att
public import Idealize.ShloMosaic.Lib.Claim

@[expose] public section

set_option maxRecDepth 16384

noncomputable section

namespace Cert.KernelAttIdeal.Point

open Idealize.ShloMosaic Idealize.ShloMosaic.TcCoe Idealize.SL.Sem
open Cert.KernelAttIdeal Cert.KernelAttIdeal.Gen Cert.Common Cert.Att
open Cert.ReferenceAttIdeal.Read

theorem col_mod (h : Fin 8) (l : Fin 128) : (col h l).val % 128 = l.val := by show (h.val * 128 + l.val) % 128 = l.val; omega

theorem col_div (h : Fin 8) (l : Fin 128) : (col h l).val / 128 = h.val := by show (h.val * 128 + l.val) / 128 = h.val; omega

variable (m : (ℓ : Loc nD τ sig) → Buf (Elt Ideal) ℓ) (c : Dev nD)
variable {q k : Fin 16384 → Fin 8 → Fin 96 → ℝ} {v g : Fin 16384 → Fin 8 → Fin 64 → ℝ}
variable (h0 : ∀ j h d, aQ m c (ix3 j h d) = (q j h d : EReal)) (h1 : ∀ j h d, aK m c (ix3 j h d) = (k j h d : EReal))
variable (h2 : ∀ j h d, aV m c (ix3 j h d) = (v j h d : EReal)) (h3 : ∀ j h d, aG m c (ix3 j h d) = (g j h d : EReal))
include h0 h1 h2 h3

/-- The reference's gradients at a head's column: of the query, -/
theorem ref_dq (h : Fin 8) (l : Fin 128) (j : Fin 16384) : val_main_v56 (F := Ideal) (aQ m c) (aK m c) (aV m c) (aG m c) (ix2 (col h l) j)
    = (lanes (fun d => ∑ r, ds q k v g h j r * k r h d) l : EReal) := by
  refine (v56_at h0 h1 h2 h3 (col h l) j).trans ?_
  simp only [col_mod, col_div]
  exact lanes_coe (fun d => ((∑ r, ds q k v g h j r * k r h d : ℝ) : EReal)) _ (fun _ => rfl) l

/-- of the key, -/
theorem ref_dk (h : Fin 8) (l : Fin 128) (j : Fin 16384) : val_main_v59 (F := Ideal) (aQ m c) (aK m c) (aV m c) (aG m c) (ix2 j (col h l))
    = (lanes (fun d => ∑ r, ds q k v g h r j * (q r h d * scale)) l : EReal) := by
  refine (v59_at h0 h1 h2 h3 j (col h l)).trans ?_
  simp only [col_mod, col_div]
  exact lanes_coe (fun d => ((∑ r, ds q k v g h r j * (q r h d * scale) : ℝ) : EReal)) _ (fun _ => rfl) l

omit h2 in
/-- and of the value. -/
theorem ref_dv (h : Fin 8) (l : Fin 128) (j : Fin 16384) : val_main_v62 (F := Ideal) (aQ m c) (aK m c) (aG m c) (ix2 j (col h l))
    = (lanes (fun d => ∑ r, g r h d * (ex q k h r j / tot q k h r)) l : EReal) := by
  refine (v62_at h0 h1 h3 j (col h l)).trans ?_
  simp only [col_mod, col_div]
  exact lanes_coe (fun d => ((∑ r, g r h d * (ex q k h r j / tot q k h r) : ℝ) : EReal)) _ (fun _ => rfl) l

/-- The key's array. -/
theorem arr7 : (dats m 0 c).arrAt 7 cfg0.N = val_main_v59 (F := Ideal) (aQ m c) (aK m c) (aV m c) (aG m c) := by
  refine (dats m 0 c).arrAt_eq_of_covers 7 _ (by decide +kernel) fun t hf y => ?_
  obtain ⟨i, l, rfl⟩ : ∃ (i : Fin 1024) (l : Fin 128), y = ix2 i l := ⟨y 0, y 1, eq_ix2 y⟩
  refine (dk_val m c h0 h1 h2 h3 t i l).trans ((ref_dk m c h0 h1 h2 h3 (head t) l (key t i)).symm.trans (congrArg _ ?_))
  unfold col head key
  blk_ext [idx t]

omit h2 in
/-- The value's array. -/
theorem arr8 : (dats m 0 c).arrAt 8 cfg0.N = val_main_v62 (F := Ideal) (aQ m c) (aK m c) (aG m c) := by
  refine (dats m 0 c).arrAt_eq_of_covers 8 _ (by decide +kernel) fun t hf y => ?_
  obtain ⟨i, l, rfl⟩ : ∃ (i : Fin 1024) (l : Fin 128), y = ix2 i l := ⟨y 0, y 1, eq_ix2 y⟩
  refine (dv_val m c h0 h1 h3 t i l).trans ((ref_dv m c h0 h1 h3 (head t) l (key t i)).symm.trans (congrArg _ ?_))
  unfold col head key
  blk_ext [idx t]

/-- After a head's last key tile the query's block holds the sum over all keys. -/
theorem accum_val (t : Fin cfg0.N) (ht : t.val % 16 = 15) (l : Fin 128) (j : Fin 16384) : accum m c t.val t.isLt (ix2 l j)
    = (lanes (fun d => ∑ r, ds q k v g (head t) j r * k r (head t) d) l : EReal) := by
  have hN := lt_N t
  let term : ℕ → EReal := fun n => if hn : n < cfg0.N then dq (blocks m c ⟨n, hn⟩).reads (ix2 l j) else 0
  have hterm (t : Fin cfg0.N) : term t.val = dq (blocks m c t).reads (ix2 l j) := dif_pos t.isLt
  have e := Pipeline.eq_sum_of_reset_step (fun n h => accum m c n h (ix2 l j)) 16 (0 : EReal) term
    (fun t h => by rw [accum_first m c t h, zero_add, hterm])
    (fun t h => by
      rw [accum_next m c t h (Nat.lt_of_le_of_lt (Nat.sub_le _ _) t.isLt), hterm]
      generalize accum m c (t.val - 1) _ = a
      generalize dq (blocks m c t).reads = b
      pointwise []) t
  refine e.trans ?_
  rw [zero_add, ht, Finset.sum_range]
  have ht' (s : Fin 16) : 16 * (t.val / 16) + s.val < cfg0.N := by
    show 16 * (t.val / 16) + s.val < 128
    omega
  have e' (s : Fin 16) : term (16 * (t.val / 16) + s.val)
      = (∑ i : Fin 1024, lanes (fun d => ds q k v g (head t) j ⟨s.val * 1024 + i.val, by omega⟩ * k ⟨s.val * 1024 + i.val, by omega⟩ (head t) d) l : ℝ) := by
    have hh : head ⟨16 * (t.val / 16) + s.val, ht' s⟩ = head t := Fin.ext (by unfold head; simp only; omega)
    have hk (i : Fin 1024) : key ⟨16 * (t.val / 16) + s.val, ht' s⟩ i = ⟨s.val * 1024 + i.val, by omega⟩ := Fin.ext (by unfold key; simp only; omega)
    refine (hterm ⟨_, ht' s⟩).trans ((dq_val m c h0 h1 h2 h3 _ l j).trans (congrArg _ ?_))
    simp only [hh, hk]
    unfold lanes
    split_ifs
    · rfl
    · exact Finset.sum_const_zero.symm
  rw [Finset.sum_congr rfl fun s _ => e' s, ← coe_sum]
  refine congrArg _ ?_
  rw [← sum_lanes_fun]
  exact Fin.sum_mul_add_congr fun s i hl => rfl

/-- The query's array, transposed. -/
theorem arr6 : (dats m 0 c).arrAt 6 cfg0.N = val_main_v56 (F := Ideal) (aQ m c) (aK m c) (aV m c) (aG m c) := by
  refine (dats m 0 c).arrAt_eq_of_covers 6 _ (by decide +kernel) fun t hf y => ?_
  obtain ⟨l, j, rfl⟩ : ∃ (l : Fin 128) (j : Fin 16384), y = ix2 l j := ⟨y 0, y 1, eq_ix2 y⟩
  refine (accum_val m c h0 h1 h2 h3 t ((flush0_6 t).mp hf) l j).trans ((ref_dq m c h0 h1 h2 h3 (head t) l j).symm.trans (congrArg _ ?_))
  unfold col head
  blk_ext [idx t]

end Cert.KernelAttIdeal.Point

namespace Cert.KernelAttIdeal.Value

open Idealize.ShloMosaic Idealize.ShloMosaic.TcCoe Idealize.SL.Sem
open Cert.KernelAttIdeal Cert.KernelAttIdeal.Gen Cert.KernelAttIdeal.Point Cert.Common Cert.Att
open Cert.ReferenceAttIdeal.Read

variable (m : (ℓ : Loc nD τ sig) → Buf (Elt Ideal) ℓ)

/-- The arguments are real numbers where the claim supposes them finite. -/
theorem finite_args (hpre : Cert.Pre_KernelAttIdeal_finite_att m) (c : Dev nD) : ∃ (q k : Fin 16384 → Fin 8 → Fin 96 → ℝ)
    (v g : Fin 16384 → Fin 8 → Fin 64 → ℝ), (∀ j h d, aQ m c (ix3 j h d) = (q j h d : EReal)) ∧ (∀ j h d, aK m c (ix3 j h d) = (k j h d : EReal))
    ∧ (∀ j h d, aV m c (ix3 j h d) = (v j h d : EReal)) ∧ (∀ j h d, aG m c (ix3 j h d) = (g j h d : EReal)) := by
  have h := congrFun (hpre c) ix0
  simp only [Cert.Pre_finite_att.fn, Cert.Pre_finite_att.fn_part1] at h
  obtain ⟨h, h4⟩ := andi_one _ _ _ h
  obtain ⟨h, h3⟩ := andi_one _ _ _ h
  obtain ⟨h1, h2⟩ := andi_one _ _ _ h
  have r1 := re_of_all _ _ (fun _ => rfl) _ _ _ _ h1
  have r2 := re_of_all _ _ (fun _ => rfl) _ _ _ _ h2
  have r3 := re_of_all _ _ (fun _ => rfl) _ _ _ _ h3
  have r4 := re_of_all _ _ (fun _ => rfl) _ _ _ _ h4
  exact ⟨fun j h d => (r1 (ix3 j h d)).choose, fun j h d => (r2 (ix3 j h d)).choose, fun j h d => (r3 (ix3 j h d)).choose,
    fun j h d => (r4 (ix3 j h d)).choose, fun j h d => (r1 _).choose_spec, fun j h d => (r2 _).choose_spec, fun j h d => (r3 _).choose_spec,
    fun j h d => (r4 _).choose_spec⟩

/-- The arrays after the run, without naming the real numbers. -/
theorem final6 (hpre : Cert.Pre_KernelAttIdeal_finite_att m) (c : Dev nD) :
    (dats m 0 c).arrAt 6 cfg0.N = val_main_v56 (F := Ideal) (aQ m c) (aK m c) (aV m c) (aG m c) := by
  obtain ⟨q, k, v, g, h0, h1, h2, h3⟩ := finite_args m hpre c
  exact arr6 m c h0 h1 h2 h3

theorem final7 (hpre : Cert.Pre_KernelAttIdeal_finite_att m) (c : Dev nD) :
    (dats m 0 c).arrAt 7 cfg0.N = val_main_v59 (F := Ideal) (aQ m c) (aK m c) (aV m c) (aG m c) := by
  obtain ⟨q, k, v, g, h0, h1, h2, h3⟩ := finite_args m hpre c
  exact arr7 m c h0 h1 h2 h3

theorem final8 (hpre : Cert.Pre_KernelAttIdeal_finite_att m) (c : Dev nD) :
    (dats m 0 c).arrAt 8 cfg0.N = val_main_v62 (F := Ideal) (aQ m c) (aK m c) (aG m c) := by
  obtain ⟨q, k, v, g, h0, h1, h2, h3⟩ := finite_args m hpre c
  exact arr8 m c h0 h1 h3

/-- The run, with each output array named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v40_0) = (dats m 0 c).arrAt 6 cfg0.N
      ∧ r.2.mem ((c : Thread nD τ).loc main_v40_1) = (dats m 0 c).arrAt 7 cfg0.N
      ∧ r.2.mem ((c : Thread nD τ).loc main_v40_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 6, (h.1.1 c).1 7, (h.1.1 c).1 8, h.2.1 c⟩)
    (θ_run_and (run_main m ρ) (Cert.Att.quiet m ρ))

end Cert.KernelAttIdeal.Value

end
-- ==== Proof.Att.Claim.lean ====
/- The claim about this call: kernel and reference compute the same arrays. -/
module

public import proofs.«01_k».proof.Defs
public import proofs.«01_k».proof.Proof.Att.Final
public import proofs.«01_k».proof.Proof.Gen.KernelAtt.Frame
public import proofs.«01_k».proof.Proof.Gen.ReferenceAttIdeal.Run
public import proofs.«01_k».proof.Proof.Gen.Pre_finite_att
public import Idealize.ShloMosaic.Lib.Claim

@[expose] public section

set_option maxRecDepth 16384

noncomputable section

namespace Cert.Att

open Idealize.ShloMosaic Idealize.SL.Sem Cert.ReferenceAttIdeal.Read

local instance : Cert.KernelAttIdeal.Facts := Cert.KernelAttIdeal.Gen.facts
local instance : Cert.ReferenceAttIdeal.Facts := Cert.ReferenceAttIdeal.Gen.facts
local instance : Cert.Pre_finite_att.Facts := Cert.Pre_finite_att.Gen.facts

/-- The ideal program is the kernel, with its rounded constant named. -/
theorem preserves : Cert.preserves_KernelAtt_KernelAttIdeal :=
  IdealRules.named_const.statement Cert.KernelAttIdeal.κ "ln_2" .f32 0x3F317218#32 _ rfl

/-- The reference terminates and leaves its arguments alone. -/
theorem frame_reference : Cert.quiescent_ReferenceAttIdeal (hReferenceAttIdeal := Cert.ReferenceAttIdeal.Gen.facts) :=
  fun m ρ _ => (θ_run Cert.ReferenceAttIdeal.defs _ _).mono
    (fun r h => ⟨fun c => (h c).2.2.2, Idealize.ShloMosaic.sem_eq_zero_of_no_sems (by decide) r.2⟩)
    (Cert.ReferenceAttIdeal.Value.run (F := Ideal) m ρ)

set_option maxRecDepth 100000 in
set_option maxHeartbeats 1600000 in
/-- Kernel and reference compute the same arrays. -/
theorem algebraic : Cert.algebraic_KernelAttIdeal_ReferenceAttIdeal_pre_finite_att (hKernelAttIdeal := Cert.KernelAttIdeal.Gen.facts)
    (hReferenceAttIdeal := Cert.ReferenceAttIdeal.Gen.facts) (hPre_finite_att := Cert.Pre_finite_att.Gen.facts) := by
  pair_intro
  · run_from Cert.KernelAttIdeal.Value.run_blocks m g
  · run_from Cert.ReferenceAttIdeal.Value.run m' g'
    all_goals obtain ⟨h0, h1, h2, h3⟩ := hagree c
    · rw [val_main_v56_eq]; (try simp only [h0, h1, h2, h3]); exact (Cert.KernelAttIdeal.Value.final6 m hpre c).symm
    · rw [val_main_v59_eq]; (try simp only [h0, h1, h2, h3]); exact (Cert.KernelAttIdeal.Value.final7 m hpre c).symm
    · refine (val_main_v62_eq ..).trans ?_; (try simp only [h0, h1, h2, h3]); exact (Cert.KernelAttIdeal.Value.final8 m hpre c).symm

end Cert.Att

end
-- ==== Proof.Ffn.Body.lean ====
/- What one grid point of the feed-forward layer's backward kernel computes from its blocks: for each of the two halves of
   512 rows the gated activation, the cotangents of the gate and of the other factor, and the sums for the cotangent of the
   normed rows. -/
module

public import proofs.«01_k».proof.Proof.Gen.KernelFfnIdeal.Frame
public import proofs.«01_k».proof.Proof.Gen.KernelFfnIdeal.Skeleton
public import Idealize.ShloMosaic.Lib.VecWindow
public import Idealize.ShloMosaic.Lib.Pipeline.ValueKit
public import Idealize.ShloMosaic.Lib.Pipeline.ReadBack

@[expose] public section

set_option maxRecDepth 16384

noncomputable section

namespace Cert.KernelFfnIdeal.Point

open Idealize.ShloMosaic Idealize.ShloMosaic.TcCoe Idealize.SL.Sem
open Cert.KernelFfnIdeal Cert.KernelFfnIdeal.Gen

variable {F : FTy → Type} [FloatOps F]

/-- The eight blocks that a grid point reads: rows, cotangents, the norm's gain, the two factors before the gate, and the
    tiles of the two input weights and of the output weight. -/
structure Blocks (F : FTy → Type) [FloatOps F] where
  x : Vec F S512x1024 .f32
  dy : Vec F S512x1024 .f32
  gn : Vec F S1x1024 .f32
  g : Vec F S512x1408 .bf16
  u : Vec F S512x1408 .bf16
  wg : Vec F S1x1x1024x1408 .bf16
  wu : Vec F S1x1x1024x1408 .bf16
  wd : Vec F S1x1408x1024 .bf16

/-- The upper and the lower half of the rows of a tile of hidden columns. -/
abbrev topH : Rect S512x1408 := Rect.unit (s := S512x1408) ![0, 0] S256x1408.size inb_S512x1408_S256x1408_0_0
abbrev botH : Rect S512x1408 := Rect.unit (s := S512x1408) ![256, 0] S256x1408.size inb_S512x1408_S256x1408_256_0

/-- The upper and the lower half of the rows of the model's width. -/
abbrev topD : Rect S512x1024 := Rect.unit (s := S512x1024) ![0, 0] S256x1024.size inb_S512x1024_S256x1024_0_0
abbrev botD : Rect S512x1024 := Rect.unit (s := S512x1024) ![256, 0] S256x1024.size inb_S512x1024_S256x1024_256_0

/-- All the rows. -/
abbrev wholeD : Rect S512x1024 := Rect.unit (s := S512x1024) ![0, 0] S512x1024.size inb_S512x1024_S512x1024_0_0

/-- The two halves are disjoint. -/
theorem halves : Disjoint topD.set botD.toLoadRect.set := by
  refine Finset.disjoint_left.mpr fun y h h' => ?_
  have h0 := (Rect.mem_set_unit (inb := inb_S512x1024_S256x1024_0_0)).mp h 0
  have h1 := (Rect.mem_set_unit (inb := inb_S512x1024_S256x1024_256_0)).mp h' 0
  have a : (y 0).val < 0 + 256 := h0.2
  have b : 256 ≤ (y 0).val := h1.1
  omega

variable {κ : Kind} {sp : Space} {e : EltTy}

/-- After a store of the whole block each half reads that store's half. -/
theorem half_top (v : View sig κ sp S512x1024 e) (Z : Vec F S512x1024 e) : v.readCov (Val := Elt F) [⟨wholeD, Z⟩] topD.toLoadRect = View.ld Z topD :=
  View.readCov_fill v inb_S512x1024_S512x1024_0_0 Z [] topD (by decide)

theorem half_bot (v : View sig κ sp S512x1024 e) (Z : Vec F S512x1024 e) : v.readCov (Val := Elt F) [⟨wholeD, Z⟩] botD.toLoadRect = View.ld Z botD :=
  View.readCov_fill v inb_S512x1024_S512x1024_0_0 Z [] botD (by decide)

/-- A later store of the upper half leaves the lower one. -/
theorem half_bot' (v : View sig κ sp S512x1024 e) (Z : Vec F S512x1024 e) (w : Vec F S256x1024 e) :
    v.readCov (Val := Elt F) [⟨topD, w⟩, ⟨wholeD, Z⟩] botD.toLoadRect = View.ld Z botD :=
  (View.readCov_cons_of_disjoint v ⟨topD, w⟩ _ botD.toLoadRect halves).trans (half_bot v Z)

/-- What the body reads of these blocks, half by half, with the halved cotangents and the sums before this point. -/
structure Reads (F : FTy → Type) [FloatOps F] where
  g0 : Vec F S256x1408 .bf16
  g1 : Vec F S256x1408 .bf16
  u0 : Vec F S256x1408 .bf16
  u1 : Vec F S256x1408 .bf16
  wg : Vec F S1x1x1024x1408 .bf16
  wu : Vec F S1x1x1024x1408 .bf16
  wd : Vec F S1x1408x1024 .bf16
  y0 : Vec F S256x1024 .bf16
  y1 : Vec F S256x1024 .bf16
  p0 : Vec F S256x1024 .f32
  p1 : Vec F S256x1024 .f32

/-- The reads at a point with these blocks, halved cotangents and sums. -/
def Blocks.reads (B : Blocks F) (y : Vec F S512x1024 .bf16) (prev : Vec F S512x1024 .f32) : Reads F where
  g0 := View.ld B.g topH
  g1 := View.ld B.g botH
  u0 := View.ld B.u topH
  u1 := View.ld B.u botH
  wg := B.wg
  wu := B.wu
  wd := B.wd
  y0 := View.ld y topD
  y1 := View.ld y botD
  p0 := View.ld prev topD
  p1 := View.ld prev botD

variable (R : Reads F)

/-- The gated activation. -/
def act : Vec F S512x1408 .bf16 := View.canon (Val := Elt F) [⟨botH, k0_pay25 R.g1 R.u1⟩, ⟨topH, k0_pay16 R.g0 R.u0⟩]

/-- The cotangent of the gate's argument, from the halved cotangents. -/
def dgate : Vec F S512x1408 .bf16 :=
  View.canon (Val := Elt F) [⟨botH, k0_pay1 (k0_pay23 R.g1) (k0_pay27 R.u1 R.y1 R.wd) (k0_pay28 R.g1) (Scalar.ofBits .f32 0x3F800000#32)⟩,
    ⟨topH, k0_pay18 R.g0 R.u0 R.y0 R.wd⟩]

/-- The cotangent of the other factor. -/
def dup : Vec F S512x1408 .bf16 :=
  View.canon (Val := Elt F) [⟨botH, k0_pay2 (k0_pay24 R.g1) (k0_pay26 R.y1 R.wd)⟩, ⟨topH, k0_pay19 R.g0 R.y0 R.wd⟩]

/-- The upper half of the sums for the cotangent of the normed rows, with this point's part. -/
def dhTop : Vec F S256x1024 .f32 := k0_pay20 (k0_pay18 R.g0 R.u0 R.y0 R.wd) (k0_pay19 R.g0 R.y0 R.wd) R.p0 R.wg R.wu

/-- The sums for the cotangent of the normed rows, with this point's part. -/
def dh : Vec F S512x1024 .f32 :=
  View.canon (Val := Elt F) [⟨botD, k0_pay3 (k0_pay23 R.g1) (k0_pay24 R.g1) (k0_pay26 R.y1 R.wd) (k0_pay27 R.u1 R.y1 R.wd) (k0_pay28 R.g1)
      (Scalar.ofBits .f32 0x3F800000#32) R.p1 R.wg R.wu⟩,
    ⟨topD, dhTop R⟩]

/-- The two halves of the rows cover a tile of hidden columns. -/
theorem coverH (p q : Vec F S256x1408 .bf16) (y : S512x1408.Idx) :
    ∃ r ∈ ([⟨botH, p⟩, ⟨topH, q⟩] : List (View.Piece (Elt F) S512x1408 .bf16)), y ∈ r.1.set := by
  have h0 : (y 0).val < 512 := (y 0).isLt
  have h1 : (y 1).val < 1408 := (y 1).isLt
  by_cases h : (y 0).val < 256
  · refine ⟨⟨topH, q⟩, List.mem_cons_of_mem _ (List.mem_singleton_self _), ?_⟩
    exact (Rect.mem_set_unit (inb := inb_S512x1408_S256x1408_0_0)).mpr (Fin.forall_fin_two.mpr ⟨⟨Nat.zero_le _, by show _ < 0 + 256; omega⟩, ⟨Nat.zero_le _, by show _ < 0 + 1408; omega⟩⟩)
  · refine ⟨⟨botH, p⟩, List.mem_cons_self, ?_⟩
    exact (Rect.mem_set_unit (inb := inb_S512x1408_S256x1408_256_0)).mpr (Fin.forall_fin_two.mpr ⟨⟨by show 256 ≤ _; omega, by show _ < 256 + 256; omega⟩, ⟨Nat.zero_le _, by show _ < 0 + 1408; omega⟩⟩)

/-- They cover a block of the model's width. -/
theorem coverD (p q : Vec F S256x1024 .f32) (y : S512x1024.Idx) :
    ∃ r ∈ ([⟨botD, p⟩, ⟨topD, q⟩] : List (View.Piece (Elt F) S512x1024 .f32)), y ∈ r.1.set := by
  have h0 : (y 0).val < 512 := (y 0).isLt
  have h1 : (y 1).val < 1024 := (y 1).isLt
  by_cases h : (y 0).val < 256
  · refine ⟨⟨topD, q⟩, List.mem_cons_of_mem _ (List.mem_singleton_self _), ?_⟩
    exact (Rect.mem_set_unit (inb := inb_S512x1024_S256x1024_0_0)).mpr (Fin.forall_fin_two.mpr ⟨⟨Nat.zero_le _, by show _ < 0 + 256; omega⟩, ⟨Nat.zero_le _, by show _ < 0 + 1024; omega⟩⟩)
  · refine ⟨⟨botD, p⟩, List.mem_cons_self, ?_⟩
    exact (Rect.mem_set_unit (inb := inb_S512x1024_S256x1024_256_0)).mpr (Fin.forall_fin_two.mpr ⟨⟨by show 256 ≤ _; omega, by show _ < 256 + 256; omega⟩, ⟨Nat.zero_le _, by show _ < 0 + 1024; omega⟩⟩)

/-- A load of the whole block after stores of its two halves reads both. -/
theorem read_halves {κ : Kind} {sp : Space} (v : View sig κ sp S512x1024 .f32) (f : v.ty.Contents (Elt F)) (p q : Vec F S256x1024 .f32) :
    v.readAt (Elt F) wholeD.toLoadRect (v.writes (Elt F) f [⟨botD, p⟩, ⟨topD, q⟩]) = View.canon (Val := Elt F) [⟨botD, p⟩, ⟨topD, q⟩] :=
  (View.readAt_full v _ inb_S512x1024_S512x1024_0_0).trans (View.read_writes_eq_canon v f _ (coverD p q))

end Cert.KernelFfnIdeal.Point

end
-- ==== Proof.Ffn.Block.lean ====
/- What one run of the feed-forward layer's backward body computes of its blocks, entry by entry. -/
module

public import proofs.«01_k».proof.Proof.Ffn.Body
public import proofs.«01_k».proof.Proof.Common.Consts
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelFfnIdeal.Value

open Cert.KernelFfnIdeal Cert.KernelFfnIdeal.Gen Cert.KernelFfnIdeal.Point Cert.Common

/-- The sigmoid's multiple of a number, and the derivative of `x ↦ x · σ(x)` as the kernel writes it. -/
def silu (x : EReal) : EReal := x * Ideal.logistic x
def dsilu (x : EReal) : EReal := Ideal.logistic x * (1 + x * (1 - Ideal.logistic x))

variable {e : EltTy}

/-- A piece of each half: an entry of the block is an entry of one of them. -/
theorem canonH (p q : Vec Ideal S256x1408 .bf16) (i : Fin 512) (l : Fin 1408) (f : EReal)
    (hp : ∀ r : Fin 256, i.val = 256 + r.val → p (ix2 r l) = f) (hq : ∀ r : Fin 256, i.val = r.val → q (ix2 r l) = f) :
    View.canon (Val := Elt Ideal) [⟨botH, p⟩, ⟨topH, q⟩] (ix2 i l) = f := by
  by_cases h : i.val < 256
  · have e1 : (ix2 i l : S512x1408.Idx) = topH.emb (ix2 (⟨i.val, h⟩ : Fin 256) l) := by blk_ext []
    rw [View.canon_cons_of_not_mem _ _ (fun hm => ?_), e1, View.canon_cons_emb]
    · exact hq ⟨i.val, h⟩ rfl
    · have h1 := (Rect.mem_set_unit (inb := inb_S512x1408_S256x1408_256_0)).mp hm 0
      have b : 256 ≤ i.val := h1.1
      omega
  · have e1 : (ix2 i l : S512x1408.Idx) = botH.emb (ix2 (⟨i.val - 256, by omega⟩ : Fin 256) l) := by blk_ext []
    rw [e1, View.canon_cons_emb]
    exact hp ⟨i.val - 256, by omega⟩ (by show i.val = 256 + (i.val - 256); omega)

theorem canonD (p q : Vec Ideal S256x1024 .f32) (i : Fin 512) (l : Fin 1024) (f : EReal)
    (hp : ∀ r : Fin 256, i.val = 256 + r.val → p (ix2 r l) = f) (hq : ∀ r : Fin 256, i.val = r.val → q (ix2 r l) = f) :
    View.canon (Val := Elt Ideal) [⟨botD, p⟩, ⟨topD, q⟩] (ix2 i l) = f := by
  by_cases h : i.val < 256
  · have e1 : (ix2 i l : S512x1024.Idx) = topD.emb (ix2 (⟨i.val, h⟩ : Fin 256) l) := by blk_ext []
    rw [View.canon_cons_of_not_mem _ _ (fun hm => ?_), e1, View.canon_cons_emb]
    · exact hq ⟨i.val, h⟩ rfl
    · have h1 := (Rect.mem_set_unit (inb := inb_S512x1024_S256x1024_256_0)).mp hm 0
      have b : 256 ≤ i.val := h1.1
      omega
  · have e1 : (ix2 i l : S512x1024.Idx) = botD.emb (ix2 (⟨i.val - 256, by omega⟩ : Fin 256) l) := by blk_ext []
    rw [e1, View.canon_cons_emb]
    exact hp ⟨i.val - 256, by omega⟩ (by show i.val = 256 + (i.val - 256); omega)

/-- A half's load reads the block at the half's rows. -/
theorem ldH_top (X : Vec Ideal S512x1408 .bf16) (i : Fin 512) (r : Fin 256) (l : Fin 1408) (h : i.val = r.val) :
    View.ld (Val := Elt Ideal) X topH (ix2 r l) = X (ix2 i l) :=
  congrArg X (show topH.emb (ix2 r l) = ix2 i l by blk_ext [])
theorem ldH_bot (X : Vec Ideal S512x1408 .bf16) (i : Fin 512) (r : Fin 256) (l : Fin 1408) (h : i.val = 256 + r.val) :
    View.ld (Val := Elt Ideal) X botH (ix2 r l) = X (ix2 i l) :=
  congrArg X (show botH.emb (ix2 r l) = ix2 i l by blk_ext [])
theorem ldD_top (X : Vec Ideal S512x1024 e) (i : Fin 512) (r : Fin 256) (l : Fin 1024) (h : i.val = r.val) :
    View.ld (Val := Elt Ideal) X topD (ix2 r l) = X (ix2 i l) :=
  congrArg X (show topD.emb (ix2 r l) = ix2 i l by blk_ext [])
theorem ldD_bot (X : Vec Ideal S512x1024 e) (i : Fin 512) (r : Fin 256) (l : Fin 1024) (h : i.val = 256 + r.val) :
    View.ld (Val := Elt Ideal) X botD (ix2 r l) = X (ix2 i l) :=
  congrArg X (show botD.emb (ix2 r l) = ix2 i l by blk_ext [])

section Half

variable (g u : Vec Ideal S256x1408 .bf16) (y : Vec Ideal S256x1024 .bf16) (w : Vec Ideal S1x1408x1024 .bf16)
  (p : Vec Ideal S256x1024 .f32) (wg wu : Vec Ideal S1x1x1024x1408 .bf16) (r : Fin 256) (l : Fin 1408) (d : Fin 1024)

/-- The cotangent of the activation: the halved cotangents times the output weight's tile. -/
def dact : EReal := ∑ k : Fin 1024, y (ix2 r k) * w (ix3 0 l k)

theorem pay16_at : k0_pay16 (F := Ideal) g u (ix2 r l) = silu (g (ix2 r l)) * u (ix2 r l) := by
  pointwise [k0_pay16, k0_pay15, k0_pay14, k0_pay13, k0_pay12]; rfl
theorem pay25_at : k0_pay25 (F := Ideal) g u (ix2 r l) = silu (g (ix2 r l)) * u (ix2 r l) := by
  pointwise [k0_pay25, k0_pay24, k0_pay23, k0_pay22, k0_pay21]; rfl
theorem pay17_at : k0_pay17 (F := Ideal) y w (ix2 r l) = dact y w r l := by
  pointwise [k0_pay17]; rfl
theorem pay26_at : k0_pay26 (F := Ideal) y w (ix2 r l) = dact y w r l := by
  pointwise [k0_pay26]; rfl
theorem pay18_at : k0_pay18 (F := Ideal) g u y w (ix2 r l) = dact y w r l * u (ix2 r l) * dsilu (g (ix2 r l)) := by
  rw [← pay17_at]
  pointwise [k0_pay18, k0_pay14, k0_pay13, k0_pay12]; rfl
theorem pay19_at : k0_pay19 (F := Ideal) g y w (ix2 r l) = dact y w r l * silu (g (ix2 r l)) := by
  rw [← pay17_at]
  pointwise [k0_pay19, k0_pay15, k0_pay14, k0_pay12]; rfl
theorem pay1_at : k0_pay1 (F := Ideal) (k0_pay23 g) (k0_pay27 u y w) (k0_pay28 g) (Scalar.ofBits .f32 0x3F800000#32) (ix2 r l)
    = dact y w r l * u (ix2 r l) * dsilu (g (ix2 r l)) := by
  rw [← pay26_at]
  pointwise [k0_pay1, k0_pay28, k0_pay27, k0_pay23, k0_pay22, k0_pay21]; rfl
theorem pay2_at : k0_pay2 (F := Ideal) (k0_pay24 g) (k0_pay26 y w) (ix2 r l) = dact y w r l * silu (g (ix2 r l)) := by
  rw [← pay26_at]
  pointwise [k0_pay2, k0_pay24, k0_pay23, k0_pay21]; rfl
theorem pay20_at : k0_pay20 (F := Ideal) g u p wg wu (ix2 r d)
    = p (ix2 r d) + (∑ l : Fin 1408, g (ix2 r l) * wg (ix4 0 0 d l) + ∑ l : Fin 1408, u (ix2 r l) * wu (ix4 0 0 d l)) := by
  pointwise [k0_pay20]
theorem pay3_at (a b c v x : FVec Ideal S256x1408 .f32) (z : Ideal .f32) : k0_pay3 (F := Ideal) a b c v x z p wg wu (ix2 r d)
    = k0_pay20 (F := Ideal) (k0_pay1 a v x z) (k0_pay2 b c) p wg wu (ix2 r d) := rfl

end Half

variable (B : Blocks Ideal) (y : Vec Ideal S512x1024 .bf16) (prev : Vec Ideal S512x1024 .f32) (i : Fin 512) (l : Fin 1408) (d : Fin 1024)

/-- The same of a whole block of rows. -/
def dactB : EReal := ∑ k : Fin 1024, y (ix2 i k) * B.wd (ix3 0 l k)
def dgateB : EReal := dactB B y i l * B.u (ix2 i l) * dsilu (B.g (ix2 i l))
def dupB : EReal := dactB B y i l * silu (B.g (ix2 i l))
def partB : EReal := ∑ l : Fin 1408, dgateB B y i l * B.wg (ix4 0 0 d l) + ∑ l : Fin 1408, dupB B y i l * B.wu (ix4 0 0 d l)

theorem dact_top (r : Fin 256) (h : i.val = r.val) : dact (View.ld (Val := Elt Ideal) y topD) B.wd r l = dactB B y i l :=
  Finset.sum_congr rfl fun k _ => by rw [ldD_top y i r k h]
theorem dact_bot (r : Fin 256) (h : i.val = 256 + r.val) : dact (View.ld (Val := Elt Ideal) y botD) B.wd r l = dactB B y i l :=
  Finset.sum_congr rfl fun k _ => by rw [ldD_bot y i r k h]

/-- An entry of the gated activation. -/
theorem act_at : act (B.reads y prev) (ix2 i l) = silu (B.g (ix2 i l)) * B.u (ix2 i l) := by
  refine canonH _ _ i l _ (fun r h => (pay25_at _ _ r l).trans ?_) (fun r h => (pay16_at _ _ r l).trans ?_)
  · exact congrArg₂ (fun a b => silu a * b) (ldH_bot B.g i r l h) (ldH_bot B.u i r l h)
  · exact congrArg₂ (fun a b => silu a * b) (ldH_top B.g i r l h) (ldH_top B.u i r l h)

theorem gate_top (r : Fin 256) (h : i.val = r.val) :
    k0_pay18 (F := Ideal) (View.ld (Val := Elt Ideal) B.g topH) (View.ld (Val := Elt Ideal) B.u topH) (View.ld (Val := Elt Ideal) y topD) B.wd (ix2 r l) = dgateB B y i l := by
  rw [pay18_at, dact_top B y i l r h, ldH_top B.g i r l h, ldH_top B.u i r l h]; rfl
theorem up_top (r : Fin 256) (h : i.val = r.val) :
    k0_pay19 (F := Ideal) (View.ld (Val := Elt Ideal) B.g topH) (View.ld (Val := Elt Ideal) y topD) B.wd (ix2 r l) = dupB B y i l := by
  rw [pay19_at, dact_top B y i l r h, ldH_top B.g i r l h]; rfl
theorem gate_bot (r : Fin 256) (h : i.val = 256 + r.val) :
    k0_pay1 (F := Ideal) (k0_pay23 (View.ld (Val := Elt Ideal) B.g botH)) (k0_pay27 (View.ld (Val := Elt Ideal) B.u botH) (View.ld (Val := Elt Ideal) y botD) B.wd)
      (k0_pay28 (View.ld (Val := Elt Ideal) B.g botH)) (Scalar.ofBits .f32 0x3F800000#32) (ix2 r l) = dgateB B y i l := by
  rw [pay1_at, dact_bot B y i l r h, ldH_bot B.g i r l h, ldH_bot B.u i r l h]; rfl
theorem up_bot (r : Fin 256) (h : i.val = 256 + r.val) :
    k0_pay2 (F := Ideal) (k0_pay24 (View.ld (Val := Elt Ideal) B.g botH)) (k0_pay26 (View.ld (Val := Elt Ideal) y botD) B.wd) (ix2 r l) = dupB B y i l := by
  rw [pay2_at, dact_bot B y i l r h, ldH_bot B.g i r l h]; rfl

/-- An entry of the cotangent of the gate's argument, and of the other factor's. -/
theorem dgate_at : dgate (B.reads y prev) (ix2 i l) = dgateB B y i l :=
  canonH _ _ i l _ (fun r h => gate_bot B y i l r h) (fun r h => gate_top B y i l r h)
theorem dup_at : dup (B.reads y prev) (ix2 i l) = dupB B y i l :=
  canonH _ _ i l _ (fun r h => up_bot B y i l r h) (fun r h => up_top B y i l r h)

/-- An entry of the sums for the cotangent of the normed rows. -/
theorem dh_at : dh (B.reads y prev) (ix2 i d) = prev (ix2 i d) + partB B y i d := by
  refine canonD _ _ i d _ (fun r h => (pay3_at ..).trans ((pay20_at ..).trans ?_)) (fun r h => (pay20_at ..).trans ?_)
  · exact congrArg₂ (· + ·) (ldD_bot prev i r d h) (congrArg₂ (· + ·) (Finset.sum_congr rfl fun l _ => congrArg (· * _) (gate_bot B y i l r h))
      (Finset.sum_congr rfl fun l _ => congrArg (· * _) (up_bot B y i l r h)))
  · exact congrArg₂ (· + ·) (ldD_top prev i r d h) (congrArg₂ (· + ·) (Finset.sum_congr rfl fun l _ => congrArg (· * _) (gate_top B y i l r h))
      (Finset.sum_congr rfl fun l _ => congrArg (· * _) (up_top B y i l r h)))

end Cert.KernelFfnIdeal.Value

end
-- ==== Proof.Ffn.Ref.lean ====
/- The feed-forward layer's gradients as the reference writes them, entry by entry. -/
module

public import proofs.«01_k».proof.Defs
public import proofs.«01_k».proof.Proof.Ffn.Block
public import proofs.«01_k».proof.Proof.Gen.ReferenceFfnIdeal.Read
public import proofs.«01_k».proof.Proof.Common.Norm
public import proofs.«01_k».proof.Proof.Common.Finite

@[expose] public section

set_option maxRecDepth 16384

noncomputable section

open Idealize.ShloMosaic Idealize.ShloMosaic.TcCoe Idealize.SL.Sem

namespace Cert.KernelFfnIdeal.Value

open Cert.KernelFfnIdeal Cert.ReferenceFfnIdeal.Read Cert.Common

variable (x0 x1 : FVec Ideal S16384x1024 .f32) (x2 : FVec Ideal S1024 .f32) (x3 : FVec Ideal S1024x5632 .f32) (x4 : FVec Ideal S2816x1024 .f32)
  (R : Fin 16384) (K : Fin 2816) (d : Fin 1024)

/-- A hidden column among the gates' columns, and among the other factor's. -/
def lo (K : Fin 2816) : Fin 5632 := ⟨K.val, by omega⟩
def hi (K : Fin 2816) : Fin 5632 := ⟨2816 + K.val, by omega⟩

/-- The layer's first product. -/
def pre (k : Fin 5632) : EReal := val_main_v16 (F := Ideal) x0 x2 x3 (ix2 R k)

/-- The cotangent of the activation. -/
def dactR : EReal := ∑ k : Fin 1024, Ideal.ofBits .f32 0x3F000000#32 * x1 (ix2 R k) * x4 (ix2 K k)

/-- The cotangents of the gates' columns and of the other factor's. -/
def dgateR : EReal := dactR x1 x4 R K * pre x0 x2 x3 R (hi K) * dsilu (pre x0 x2 x3 R (lo K))
def dupR : EReal := dactR x1 x4 R K * silu (pre x0 x2 x3 R (lo K))

/-- The cotangent of the normed rows. -/
def dhR : EReal := ∑ K : Fin 2816, dgateR x0 x1 x2 x3 x4 R K * x3 (ix2 d (lo K)) + ∑ K : Fin 2816, dupR x0 x1 x2 x3 x4 R K * x3 (ix2 d (hi K))

theorem v17_at : val_main_v17 (F := Ideal) x0 x2 x3 (ix2 R K) = pre x0 x2 x3 R (lo K) := by
  unfold pre; generalize e : val_main_v16 (F := Ideal) x0 x2 x3 = w
  pointwise [val_main_v17]; rw [e]; exact congrArg w (by unfold lo; blk_ext [])
theorem v18_at : val_main_v18 (F := Ideal) x0 x2 x3 (ix2 R K) = pre x0 x2 x3 R (hi K) := by
  unfold pre; generalize e : val_main_v16 (F := Ideal) x0 x2 x3 = w
  pointwise [val_main_v18]; rw [e]; exact congrArg w (by unfold hi; blk_ext [])
theorem sig_at : val_main_v19_2 (F := Ideal) x0 x2 x3 (ix2 R K) = Ideal.logistic (pre x0 x2 x3 R (lo K)) := by
  rw [← v17_at]
  pointwise [val_main_v19_2, val_main_call0_v4, val_main_call0_v3, val_main_call0_v2, val_main_call0_v1, val_main_call0_v0, val_main_call0_cst, val_main_call0_cst_0]
  rfl
theorem silu_at : val_main_v19_0 (F := Ideal) x0 x2 x3 (ix2 R K) = silu (pre x0 x2 x3 R (lo K)) := by
  have h := sig_at x0 x2 x3 R K
  rw [← v17_at] at h ⊢
  generalize val_main_v19_2 (F := Ideal) x0 x2 x3 = w at h
  pointwise [val_main_v19_0]
  exact congrArg (_ * ·) (sig_at x0 x2 x3 R K |>.trans (by rw [← v17_at]))
theorem v20_at : val_main_v20 (F := Ideal) x0 x2 x3 (ix2 R K) = silu (pre x0 x2 x3 R (lo K)) * pre x0 x2 x3 R (hi K) :=
  congrArg₂ (· * ·) (silu_at x0 x2 x3 R K) (v18_at x0 x2 x3 R K)
theorem v28_at : val_main_v28 (F := Ideal) x1 x4 (ix2 R K) = dactR x1 x4 R K := by
  pointwise [val_main_v28, val_main_v27, val_main_v26, val_main_v25, val_main_cst_4]; rfl
theorem v29_at : val_main_v29 (F := Ideal) x0 x1 x2 x3 x4 (ix2 R K) = dupR x0 x1 x2 x3 x4 R K :=
  (congrArg₂ (· * ·) (silu_at x0 x2 x3 R K) (v28_at x1 x4 R K)).trans (mul_comm _ _)
theorem v30_at : val_main_v30 (F := Ideal) x0 x1 x2 x3 x4 (ix2 R K) = dactR x1 x4 R K * pre x0 x2 x3 R (hi K) :=
  congrArg₂ (· * ·) (v28_at x1 x4 R K) (v18_at x0 x2 x3 R K)

/-- One minus the sigmoid, times the sigmoid. -/
theorem v19_1_at : val_main_v19_1 (F := Ideal) x0 x2 x3 (ix2 R K)
    = Ideal.logistic (pre x0 x2 x3 R (lo K)) * (1 - Ideal.logistic (pre x0 x2 x3 R (lo K))) := by
  rw [← sig_at]
  pointwise [val_main_v19_1, val_main_call0_v7, val_main_call0_v6, val_main_call0_cst_1]

/-- The chain rule's two terms are the product with the derivative, over the reals. -/
theorem dsilu_eq {D g : EReal} (hD : Re D) (hg : Re g) :
    D * Ideal.logistic g + g * D * (Ideal.logistic g * (1 - Ideal.logistic g)) = D * dsilu g := by
  obtain ⟨D, rfl⟩ := hD
  obtain ⟨g, rfl⟩ := hg
  unfold dsilu
  rw [Ideal.logistic_coe]
  simp only [← EReal.coe_mul, ← EReal.coe_add, ← EReal.coe_sub, ← EReal.coe_one, EReal.coe_eq_coe_iff]
  ring

theorem re_logistic {g : EReal} (hg : Re g) : Re (Ideal.logistic g) := by
  obtain ⟨g, rfl⟩ := hg
  exact ⟨_, Ideal.logistic_coe _⟩

variable (h0 : ∀ i, Re (x0 i)) (h1 : ∀ i, Re (x1 i)) (h2 : ∀ i, Re (x2 i)) (h3 : ∀ i, Re (x3 i)) (h4 : ∀ i, Re (x4 i))

/-- The factor of a row's norm. -/
def rstd : EReal := Ideal.rsqrt (msq (fun k : Fin 1024 => x0 (ix2 R k)) 1024 eps)

theorem v7_at : val_main_v7 (F := Ideal) x0 (ix2 R 0) = rstd x0 R := by
  pointwise [val_main_v7, val_main_v6, val_main_v5, val_main_v4, val_main_v3, val_main_v2, val_main_v1, val_main_v0, val_main_cst, val_main_cst_0, val_main_cst_1]
  simp only [ofBits_1024, ofBits_eps]
  rfl

theorem v15_at : val_main_v15 (F := Ideal) x0 x2 (ix2 R d) = x0 (ix2 R d) * rstd x0 R * x2 (ix1 d) := by
  rw [← v7_at]
  pointwise [val_main_v15, val_main_v14, val_main_v13, val_main_v12, val_main_v11]

include h0 h2 h3 in
theorem re_pre (k : Fin 5632) : Re (pre x0 x2 x3 R k) := by
  have e : pre x0 x2 x3 R k = ∑ d : Fin 1024, val_main_v15 (F := Ideal) x0 x2 (ix2 R d) * x3 (ix2 d k) := by
    unfold pre
    pointwise [val_main_v16]
  rw [e]
  exact Re.sum _ fun d => by
    rw [v15_at]; exact (((h0 _).mul (re_rsqrt_msq _ (fun k => h0 _) (by norm_num) eps_pos)).mul (h2 _)).mul (h3 _)

include h1 h4 in
theorem re_dact : Re (dactR x1 x4 R K) :=
  Re.sum _ fun k => ((by rw [ofBits_half]; exact re_coe _ : Re (Ideal.ofBits .f32 0x3F000000#32)).mul (h1 _)).mul (h4 _)

include h0 h1 h2 h3 h4 in
theorem re_dgate : Re (dgateR x0 x1 x2 x3 x4 R K) :=
  have s := re_logistic (re_pre x0 x2 x3 R h0 h2 h3 (lo K))
  ((re_dact x1 x4 R K h1 h4).mul (re_pre x0 x2 x3 R h0 h2 h3 _)).mul
    (s.mul (re_one.add ((re_pre x0 x2 x3 R h0 h2 h3 _).mul (re_one.sub s))))

include h0 h1 h2 h3 h4 in
theorem re_dup : Re (dupR x0 x1 x2 x3 x4 R K) :=
  (re_dact x1 x4 R K h1 h4).mul ((re_pre x0 x2 x3 R h0 h2 h3 _).mul (re_logistic (re_pre x0 x2 x3 R h0 h2 h3 _)))

include h0 h1 h2 h3 h4 in
theorem re_dh : Re (dhR x0 x1 x2 x3 x4 R d) :=
  (Re.sum _ fun K => (re_dgate x0 x1 x2 x3 x4 R K h0 h1 h2 h3 h4).mul (h3 _)).add
    (Re.sum _ fun K => (re_dup x0 x1 x2 x3 x4 R K h0 h1 h2 h3 h4).mul (h3 _))

include h0 h1 h2 h3 h4 in
theorem v31_at : val_main_v31 (F := Ideal) x0 x1 x2 x3 x4 (ix2 R K) = dgateR x0 x1 x2 x3 x4 R K := by
  refine Eq.trans ?_ (dsilu_eq ((re_dact x1 x4 R K h1 h4).mul (re_pre x0 x2 x3 R h0 h2 h3 (hi K))) (re_pre x0 x2 x3 R h0 h2 h3 (lo K)))
  exact congrArg₂ (· + ·) (congrArg₂ (· * ·) (v30_at x0 x1 x2 x3 x4 R K) (sig_at x0 x2 x3 R K))
    (congrArg₂ (· * ·) (congrArg₂ (· * ·) (v17_at x0 x2 x3 R K) (v30_at x0 x1 x2 x3 x4 R K)) (v19_1_at x0 x2 x3 R K))

/-- The two gradients side by side. -/
theorem v34_eq (k : Fin 5632) : val_main_v34 (F := Ideal) x0 x1 x2 x3 x4 (ix2 R k)
      = if h : k.val < 2816 then val_main_v31 (F := Ideal) x0 x1 x2 x3 x4 (ix2 R ⟨k.val, h⟩)
        else val_main_v29 (F := Ideal) x0 x1 x2 x3 x4 (ix2 R ⟨k.val - 2816, by omega⟩) := by
  pointwise [val_main_v34, val_main_v33, val_main_v32, val_main_cst_5, val_main_cst_6]
  by_cases h : k.val < 2816
  · rw [dif_neg (by omega), dif_pos h, dif_pos h, zero_add]
  · rw [dif_pos (by omega), dif_neg h, dif_neg h, add_zero]

include h0 h1 h2 h3 h4 in
theorem v34_lo : val_main_v34 (F := Ideal) x0 x1 x2 x3 x4 (ix2 R (lo K)) = dgateR x0 x1 x2 x3 x4 R K :=
  (v34_eq ..).trans ((dif_pos K.isLt).trans (v31_at x0 x1 x2 x3 x4 R K h0 h1 h2 h3 h4))

theorem v34_hi : val_main_v34 (F := Ideal) x0 x1 x2 x3 x4 (ix2 R (hi K)) = dupR x0 x1 x2 x3 x4 R K := by
  have e : (⟨(hi K).val - 2816, by unfold hi; simp only; omega⟩ : Fin 2816) = K := Fin.ext (by unfold hi; simp)
  refine (v34_eq ..).trans ((dif_neg (by unfold hi; simp)).trans ?_)
  rw [e, v29_at]

include h0 h1 h2 h3 h4 in
/-- The cotangent of the normed rows: the two halves of the columns. -/
theorem v35_at : val_main_v35 (F := Ideal) x0 x1 x2 x3 x4 (ix2 R d) = dhR x0 x1 x2 x3 x4 R d := by
  have e : val_main_v35 (F := Ideal) x0 x1 x2 x3 x4 (ix2 R d)
      = ∑ k : Fin (2816 + 2816), val_main_v34 (F := Ideal) x0 x1 x2 x3 x4 (ix2 R (k : Fin 5632)) * x3 (ix2 d (k : Fin 5632)) := by
    pointwise [val_main_v35]
  rw [e, Fin.sum_univ_add]
  exact congrArg₂ (· + ·) (Finset.sum_congr rfl fun K _ => congrArg (· * _) (v34_lo x0 x1 x2 x3 x4 R K h0 h1 h2 h3 h4))
    (Finset.sum_congr rfl fun K _ => congrArg (· * _) (v34_hi x0 x1 x2 x3 x4 R K))

theorem v57_at : val_main_v57 (F := Ideal) x0 x2 (ix2 R d) = x0 (ix2 R d) * rstd x0 R * x2 (ix1 d) := by
  rw [← v15_at]; pointwise [val_main_v57]
theorem v58_at : val_main_v58 (F := Ideal) x0 x2 x3 (ix2 R K) = silu (pre x0 x2 x3 R (lo K)) * pre x0 x2 x3 R (hi K) := by
  rw [← v20_at]; pointwise [val_main_v58]
include h0 h1 h2 h3 h4 in
theorem v60_at : val_main_v60 (F := Ideal) x0 x1 x2 x3 x4 (ix2 R K) = dgateR x0 x1 x2 x3 x4 R K := by
  rw [← v34_lo x0 x1 x2 x3 x4 R K h0 h1 h2 h3 h4]
  pointwise [val_main_v60, val_main_v59]
  exact congrArg _ (by unfold lo; blk_ext [])
theorem v62_at : val_main_v62 (F := Ideal) x0 x1 x2 x3 x4 (ix2 R K) = dupR x0 x1 x2 x3 x4 R K := by
  rw [← v34_hi]
  pointwise [val_main_v62, val_main_v61]
  exact congrArg _ (by unfold hi; blk_ext [])
theorem v65_at : val_main_v65 (F := Ideal) x1 (ix2 R d) = Ideal.ofBits .f32 0x3F000000#32 * x1 (ix2 R d) := by
  pointwise [val_main_v65, val_main_v64, val_main_v63, val_main_cst_12]

include h0 h1 h2 h3 h4 in
/-- The gain's gradient: a sum over all rows. -/
theorem v66_at : val_main_v66 (F := Ideal) x0 x1 x2 x3 x4 (ix2 0 d)
    = ∑ R : Fin 16384, dhR x0 x1 x2 x3 x4 R d * (x0 (ix2 R d) * rstd x0 R) := by
  simp only [← v35_at x0 x1 x2 x3 x4 _ d h0 h1 h2 h3 h4, ← v7_at]
  pointwise [val_main_v66, val_main_v41, val_main_v38, val_main_v37, val_main_v36, val_main_v12, val_main_v11, val_main_cst_7, val_main_cst_8]
  simp only [Finset.univ_unique, Finset.sum_singleton]
  exact Finset.sum_congr rfl fun R _ => mul_comm _ _

include h0 h1 h2 h3 h4 in
/-- The rows' gradient, in the kernel's form. -/
theorem v56_at : val_main_v56 (F := Ideal) x0 x1 x2 x3 x4 (ix2 R d)
    = x1 (ix2 R d) + rstd x0 R * (dhR x0 x1 x2 x3 x4 R d * x2 (ix1 d) - x0 (ix2 R d) * rstd x0 R
        * ((∑ k : Fin 1024, dhR x0 x1 x2 x3 x4 R k * x2 (ix1 k) * (x0 (ix2 R k) * rstd x0 R)) * ((1 / 1024 : ℝ) : EReal))) := by
  have key := norm_grad (fun k : Fin 1024 => x0 (ix2 R k)) (fun k => dhR x0 x1 x2 x3 x4 R k * x2 (ix1 k)) (fun k => h0 _)
    (fun k => (re_dh x0 x1 x2 x3 x4 R k h0 h1 h2 h3 h4).mul (h2 _)) (n := 1024) (by norm_num) eps_pos d
  refine Eq.trans ?_ (congrArg (x1 (ix2 R d) + ·) key.symm)
  simp only [← v35_at x0 x1 x2 x3 x4 R _ h0 h1 h2 h3 h4, viaMean, msq]
  pointwise [val_main_v0, val_main_v1, val_main_v2, val_main_v3, val_main_v4, val_main_v5, val_main_v6, val_main_v7, val_main_v8, val_main_v9, val_main_v10, val_main_v13, val_main_v39, val_main_v40, val_main_v42, val_main_v43, val_main_v44, val_main_v45, val_main_v46, val_main_v47, val_main_v48, val_main_v49, val_main_v50, val_main_v51, val_main_v52, val_main_v53, val_main_v54, val_main_v55, val_main_v56, val_main_cst, val_main_cst_0, val_main_cst_1, val_main_cst_2, val_main_cst_9, val_main_cst_10, val_main_cst_11]
  simp only [ofBits_1024, ofBits_eps, ofBits_neg_half]

end Cert.KernelFfnIdeal.Value

end
-- ==== Proof.Ffn.Run.lean ====
/- The run of the feed-forward layer's backward kernel at one grid point, with the contents that it leaves in each output
   block. -/
module

public import proofs.«01_k».proof.Proof.Ffn.Body
public import Idealize.ShloMosaic.Lib.Pipeline.ValueKit

@[expose] public section

set_option maxRecDepth 16384

noncomputable section

namespace Cert.KernelFfnIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen

variable {F : FTy → Type} [FloatOps F]

local notation "𝕄" => MT nD τ sig Unit (Elt F) ℕ (UR sig nD τ) ℕ

set_option maxHeartbeats 1600000 in
/-- The body at the first tile of hidden columns: it leaves the normed rows and the halved cotangents too, and starts the sums from zero. -/
theorem first_run (c : Dev nD) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S512x1408 .bf16) (harg5 : arg5.IsWhole)
    (arg6 : Memref sig .tc .vmem S512x1408 .bf16) (harg6 : arg6.IsWhole)
    (arg7 : Memref sig .tc .vmem S1x1x1024x1408 .bf16) (harg7 : arg7.IsWhole)
    (arg8 : Memref sig .tc .vmem S1x1x1024x1408 .bf16) (harg8 : arg8.IsWhole)
    (arg9 : Memref sig .tc .vmem S1x1408x1024 .bf16) (harg9 : arg9.IsWhole)
    (arg10 : Memref sig .tc .vmem S512x1024 .f32) (harg10 : arg10.IsWhole)
    (arg11 : Memref sig .tc .vmem S512x1024 .bf16) (harg11 : arg11.IsWhole)
    (arg12 : Memref sig .tc .vmem S512x1408 .bf16) (harg12 : arg12.IsWhole)
    (arg13 : Memref sig .tc .vmem S512x1408 .bf16) (harg13 : arg13.IsWhole)
    (arg14 : Memref sig .tc .vmem S512x1408 .bf16) (harg14 : arg14.IsWhole)
    (arg15 : Memref sig .tc .vmem S512x1024 .bf16) (harg15 : arg15.IsWhole)
    (arg16 : Memref sig .tc .vmem S1x1024 .f32) (harg16 : arg16.IsWhole)
    (arg17 : Memref sig .tc .vmem S512x1024 .f32) (harg17 : arg17.IsWhole)
    (h1 : k0_cond1 i = 1#1) (h2 : ¬k0_cond2 i = 1#1)
    (B : Blocks F) (E : Set ℕ) (K : PUnit → sProp 𝕄) :
    iprop(owns (c : Thread nD τ) arg2 fullShare B.x ∗ owns (c : Thread nD τ) arg3 fullShare B.dy ∗ owns (c : Thread nD τ) arg4 fullShare B.gn ∗ owns (c : Thread nD τ) arg5 fullShare B.g ∗ owns (c : Thread nD τ) arg6 fullShare B.u ∗ owns (c : Thread nD τ) arg7 fullShare B.wg ∗ owns (c : Thread nD τ) arg8 fullShare B.wu ∗ owns (c : Thread nD τ) arg9 fullShare B.wd ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d)
        ∗ (iprop(owns (c : Thread nD τ) arg2 fullShare B.x ∗ owns (c : Thread nD τ) arg3 fullShare B.dy ∗ owns (c : Thread nD τ) arg4 fullShare B.gn ∗ owns (c : Thread nD τ) arg5 fullShare B.g ∗ owns (c : Thread nD τ) arg6 fullShare B.u ∗ owns (c : Thread nD τ) arg7 fullShare B.wg ∗ owns (c : Thread nD τ) arg8 fullShare B.wu ∗ owns (c : Thread nD τ) arg9 fullShare B.wd ∗ owns (c : Thread nD τ) arg11 fullShare (k0_pay9 B.x B.gn) ∗ owns (c : Thread nD τ) arg12 fullShare (act (B.reads (k0_pay10 B.dy) (k0_pay11 (F := F)))) ∗ owns (c : Thread nD τ) arg13 fullShare (dgate (B.reads (k0_pay10 B.dy) (k0_pay11 (F := F)))) ∗ owns (c : Thread nD τ) arg14 fullShare (dup (B.reads (k0_pay10 B.dy) (k0_pay11 (F := F)))) ∗ owns (c : Thread nD τ) arg15 fullShare (k0_pay10 B.dy) ∗ owns (c : Thread nD τ) arg17 fullShare (dh (B.reads (k0_pay10 B.dy) (k0_pay11 (F := F))))) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_eq_skeleton]; unfold cc0_ffn_bwd_skel
  simp only [k0_part1_eq_skeleton, k0_part2_eq_skeleton, k0_part3_eq_skeleton]; unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact h1 | sl_exact h2)
  have whole3 : arg3.view.readAt (Elt F) wholeD.toLoadRect (harg3.unread B.dy) = B.dy := by rw [View.readAt_full, harg3.read_unread]
  obtain ⟨R0, hR⟩ : ∃ R : Reads F, R = ⟨(arg5.view.readAt (Elt F) topH.toLoadRect (harg5.unread B.g)), (arg5.view.readAt (Elt F) botH.toLoadRect (harg5.unread B.g)),
      (arg6.view.readAt (Elt F) topH.toLoadRect (harg6.unread B.u)), (arg6.view.readAt (Elt F) botH.toLoadRect (harg6.unread B.u)),
      (arg7.view.readAt (Elt F) (Rect.unit (s := S1x1x1024x1408) ![0, 0, 0, 0] S1x1x1024x1408.size inb_S1x1x1024x1408_S1x1x1024x1408_0_0_0_0).toLoadRect (harg7.unread B.wg)),
      (arg8.view.readAt (Elt F) (Rect.unit (s := S1x1x1024x1408) ![0, 0, 0, 0] S1x1x1024x1408.size inb_S1x1x1024x1408_S1x1x1024x1408_0_0_0_0).toLoadRect (harg8.unread B.wu)),
      (arg9.view.readAt (Elt F) (Rect.unit (s := S1x1408x1024) ![0, 0, 0] S1x1408x1024.size inb_S1x1408x1024_S1x1408x1024_0_0_0).toLoadRect (harg9.unread B.wd)),
      arg15.view.readCov [⟨wholeD, k0_pay10 (arg3.view.readAt (Elt F) wholeD.toLoadRect (harg3.unread B.dy))⟩] topD.toLoadRect,
      arg15.view.readCov [⟨wholeD, k0_pay10 (arg3.view.readAt (Elt F) wholeD.toLoadRect (harg3.unread B.dy))⟩] botD.toLoadRect,
      arg17.view.readCov [⟨wholeD, k0_pay11⟩] topD.toLoadRect, arg17.view.readCov [⟨wholeD, k0_pay11⟩] botD.toLoadRect⟩ := ⟨_, rfl⟩
  have e : ∀ w, { R0 with p1 := arg17.view.readCov (Val := Elt F) [⟨topD, w⟩, ⟨wholeD, k0_pay11⟩] botD.toLoadRect } = B.reads (k0_pay10 B.dy) (k0_pay11 (F := F)) := fun w => by
    subst hR
    dsimp only
    rw [half_bot', half_top, half_top, half_bot, whole3, View.readAt_full, View.readAt_full, View.readAt_full, View.readAt_eq_ld, View.readAt_eq_ld, View.readAt_eq_ld,
      View.readAt_eq_ld, harg5.read_unread, harg6.read_unread, harg7.read_unread, harg8.read_unread, harg9.read_unread]
    rfl
  have e := e (dhTop R0)
  subst hR
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr; swap; · iexact H11
    ipureintro
    refine (View.read_writes_full _ _ _ _ _).trans ?_
    rw [View.readAt_full, View.readAt_full, harg2.read_unread, harg4.read_unread]
  isplitl [H12]
  · iexists _; isplitr; swap; · iexact H12
    ipureintro
    rw [← e]; unfold act
    refine Eq.trans ?_ (View.read_writes_eq_canon arg12.view f12 _ (coverH _ _))
    sl_kernel_rfl
  isplitl [H13]
  · iexists _; isplitr; swap; · iexact H13
    ipureintro
    rw [← e]; unfold dgate
    refine Eq.trans ?_ (View.read_writes_eq_canon arg13.view f13 _ (coverH _ _))
    sl_kernel_rfl
  isplitl [H14]
  · iexists _; isplitr; swap; · iexact H14
    ipureintro
    rw [← e]; unfold dup
    refine Eq.trans ?_ (View.read_writes_eq_canon arg14.view f14 _ (coverH _ _))
    sl_kernel_rfl
  isplitl [H15]
  · iexists _; isplitr; swap; · iexact H15
    ipureintro
    refine (View.read_writes_full _ _ _ _ _).trans ?_
    exact congrArg k0_pay10 whole3
  iexists _; isplitr; swap; · iexact H17
  ipureintro
  rw [← e]; unfold dh
  refine Eq.trans ?_ (View.read_writes_eq_canon arg17.view (arg17.view.writes (Elt F) f17 [⟨wholeD, k0_pay11⟩]) _ (coverD _ _))
  sl_kernel_rfl

set_option maxHeartbeats 1600000 in
/-- The body at the last tile of hidden columns: it completes the sums and leaves the rows' cotangents, and the gain's sums
    over these rows, alone at the first rows and added to what was there at the others. -/
theorem last_run (c : Dev nD) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S512x1408 .bf16) (harg5 : arg5.IsWhole)
    (arg6 : Memref sig .tc .vmem S512x1408 .bf16) (harg6 : arg6.IsWhole)
    (arg7 : Memref sig .tc .vmem S1x1x1024x1408 .bf16) (harg7 : arg7.IsWhole)
    (arg8 : Memref sig .tc .vmem S1x1x1024x1408 .bf16) (harg8 : arg8.IsWhole)
    (arg9 : Memref sig .tc .vmem S1x1408x1024 .bf16) (harg9 : arg9.IsWhole)
    (arg10 : Memref sig .tc .vmem S512x1024 .f32) (harg10 : arg10.IsWhole)
    (arg11 : Memref sig .tc .vmem S512x1024 .bf16) (harg11 : arg11.IsWhole)
    (arg12 : Memref sig .tc .vmem S512x1408 .bf16) (harg12 : arg12.IsWhole)
    (arg13 : Memref sig .tc .vmem S512x1408 .bf16) (harg13 : arg13.IsWhole)
    (arg14 : Memref sig .tc .vmem S512x1408 .bf16) (harg14 : arg14.IsWhole)
    (arg15 : Memref sig .tc .vmem S512x1024 .bf16) (harg15 : arg15.IsWhole)
    (arg16 : Memref sig .tc .vmem S1x1024 .f32) (harg16 : arg16.IsWhole)
    (arg17 : Memref sig .tc .vmem S512x1024 .f32) (harg17 : arg17.IsWhole)
    (h1 : ¬k0_cond1 i = 1#1) (h2 : k0_cond2 i = 1#1) (first : Prop) [Decidable first] (h3 : k0_cond3 i = 1#1 ↔ first) (h4 : k0_cond4 i = 1#1 ↔ ¬first)
    (B : Blocks F) (y : Vec F S512x1024 .bf16) (s : Vec F S1x1024 .f32) (prev : Vec F S512x1024 .f32) (E : Set ℕ) (K : PUnit → sProp 𝕄) :
    iprop(owns (c : Thread nD τ) arg2 fullShare B.x ∗ owns (c : Thread nD τ) arg3 fullShare B.dy ∗ owns (c : Thread nD τ) arg4 fullShare B.gn ∗ owns (c : Thread nD τ) arg5 fullShare B.g ∗ owns (c : Thread nD τ) arg6 fullShare B.u ∗ owns (c : Thread nD τ) arg7 fullShare B.wg ∗ owns (c : Thread nD τ) arg8 fullShare B.wu ∗ owns (c : Thread nD τ) arg9 fullShare B.wd ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y ∗ owns (c : Thread nD τ) arg16 fullShare s ∗ owns (c : Thread nD τ) arg17 fullShare prev
        ∗ (iprop(owns (c : Thread nD τ) arg2 fullShare B.x ∗ owns (c : Thread nD τ) arg3 fullShare B.dy ∗ owns (c : Thread nD τ) arg4 fullShare B.gn ∗ owns (c : Thread nD τ) arg5 fullShare B.g ∗ owns (c : Thread nD τ) arg6 fullShare B.u ∗ owns (c : Thread nD τ) arg7 fullShare B.wg ∗ owns (c : Thread nD τ) arg8 fullShare B.wu ∗ owns (c : Thread nD τ) arg9 fullShare B.wd ∗ owns (c : Thread nD τ) arg10 fullShare (k0_pay7 B.x (dh (B.reads y prev)) B.gn B.dy) ∗ owns (c : Thread nD τ) arg12 fullShare (act (B.reads y prev)) ∗ owns (c : Thread nD τ) arg13 fullShare (dgate (B.reads y prev)) ∗ owns (c : Thread nD τ) arg14 fullShare (dup (B.reads y prev)) ∗ owns (c : Thread nD τ) arg15 fullShare y ∗ owns (c : Thread nD τ) arg16 fullShare (if first then k0_pay8 B.x (dh (B.reads y prev)) else k0_pay4 (k0_pay8 B.x (dh (B.reads y prev))) s) ∗ (∃ d, owns (c : Thread nD τ) arg17 fullShare d)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_eq_skeleton]; unfold cc0_ffn_bwd_skel
  simp only [k0_part1_eq_skeleton, k0_part2_eq_skeleton, k0_part3_eq_skeleton]; unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17
  have hs : arg16.view.readAt (Elt F) (Rect.unit (s := S1x1024) ![0, 0] S1x1024.size inb_S1x1024_S1x1024_0_0).toLoadRect (harg16.unread s) = s := by
    rw [View.readAt_full, harg16.read_unread]
  by_cases hb : first
  · have h3 : k0_cond3 i = 1#1 := h3.mpr hb
    have h4 : ¬k0_cond4 i = 1#1 := fun e => h4.mp e hb
    sl_exec (disch := first | sl_exact h1 | sl_exact h2 | sl_exact h3 | sl_exact h4)
    obtain ⟨R0, hR⟩ : ∃ R : Reads F, R = ⟨(arg5.view.readAt (Elt F) topH.toLoadRect (harg5.unread B.g)), (arg5.view.readAt (Elt F) botH.toLoadRect (harg5.unread B.g)),
      (arg6.view.readAt (Elt F) topH.toLoadRect (harg6.unread B.u)), (arg6.view.readAt (Elt F) botH.toLoadRect (harg6.unread B.u)),
      (arg7.view.readAt (Elt F) (Rect.unit (s := S1x1x1024x1408) ![0, 0, 0, 0] S1x1x1024x1408.size inb_S1x1x1024x1408_S1x1x1024x1408_0_0_0_0).toLoadRect (harg7.unread B.wg)),
      (arg8.view.readAt (Elt F) (Rect.unit (s := S1x1x1024x1408) ![0, 0, 0, 0] S1x1x1024x1408.size inb_S1x1x1024x1408_S1x1x1024x1408_0_0_0_0).toLoadRect (harg8.unread B.wu)),
      (arg9.view.readAt (Elt F) (Rect.unit (s := S1x1408x1024) ![0, 0, 0] S1x1408x1024.size inb_S1x1408x1024_S1x1408x1024_0_0_0).toLoadRect (harg9.unread B.wd)),
      arg15.view.readAt (Elt F) topD.toLoadRect (harg15.unread y), arg15.view.readAt (Elt F) botD.toLoadRect (harg15.unread y),
      arg17.view.readAt (Elt F) topD.toLoadRect (harg17.unread prev), arg17.view.readAt (Elt F) botD.toLoadRect (harg17.unread prev)⟩ := ⟨_, rfl⟩
    have e : R0 = B.reads y prev := by
      subst hR
      rw [View.readAt_full, View.readAt_full, View.readAt_full, View.readAt_eq_ld, View.readAt_eq_ld, View.readAt_eq_ld, View.readAt_eq_ld,
        View.readAt_eq_ld, View.readAt_eq_ld, View.readAt_eq_ld, View.readAt_eq_ld, harg5.read_unread, harg6.read_unread, harg7.read_unread,
        harg8.read_unread, harg9.read_unread, harg15.read_unread, harg17.read_unread]
      rfl
    subst hR
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      refine (View.read_writes_full _ _ _ _ _).trans ?_
      refine congr (congr (congr (congrArg k0_pay7 ((View.readAt_full ..).trans (harg2.read_unread _))) ?_) ((View.readAt_full ..).trans (harg4.read_unread _)))
        ((View.readAt_full ..).trans (harg3.read_unread _))
      rw [← e]; unfold dh
      refine Eq.trans ?_ (read_halves arg17.view (arg17.view.junk (Val := Elt F)) _ _)
      sl_kernel_rfl
    isplitl [H12]
    · iexists _; isplitr; swap; · iexact H12
      ipureintro
      rw [← e]; unfold act
      refine Eq.trans ?_ (View.read_writes_eq_canon arg12.view f12 _ (coverH _ _))
      sl_kernel_rfl
    isplitl [H13]
    · iexists _; isplitr; swap; · iexact H13
      ipureintro
      rw [← e]; unfold dgate
      refine Eq.trans ?_ (View.read_writes_eq_canon arg13.view f13 _ (coverH _ _))
      sl_kernel_rfl
    isplitl [H14]
    · iexists _; isplitr; swap; · iexact H14
      ipureintro
      rw [← e]; unfold dup
      refine Eq.trans ?_ (View.read_writes_eq_canon arg14.view f14 _ (coverH _ _))
      sl_kernel_rfl
    isplitl [H15]
    · iexists _; isplitr; · ipureintro; exact harg15.read_unread _
      iexact H15
    isplitl [H16]
    · iexists _; isplitr; swap; · iexact H16
      ipureintro
      rw [if_pos hb]
      refine (View.read_writes_full _ _ _ _ _).trans ?_
      refine congr (congrArg k0_pay8 ((View.readAt_full ..).trans (harg2.read_unread _))) ?_
      rw [← e]; unfold dh
      refine Eq.trans ?_ (read_halves arg17.view (arg17.view.junk (Val := Elt F)) _ _)
      sl_kernel_rfl
    iexists _, _; isplitr; swap; · iexact H17
    ipureintro; rfl
  · have h3 : ¬k0_cond3 i = 1#1 := fun e => hb (h3.mp e)
    have h4 : k0_cond4 i = 1#1 := h4.mpr hb
    sl_exec (disch := first | sl_exact h1 | sl_exact h2 | sl_exact h3 | sl_exact h4)
    obtain ⟨R0, hR⟩ : ∃ R : Reads F, R = ⟨(arg5.view.readAt (Elt F) topH.toLoadRect (harg5.unread B.g)), (arg5.view.readAt (Elt F) botH.toLoadRect (harg5.unread B.g)),
      (arg6.view.readAt (Elt F) topH.toLoadRect (harg6.unread B.u)), (arg6.view.readAt (Elt F) botH.toLoadRect (harg6.unread B.u)),
      (arg7.view.readAt (Elt F) (Rect.unit (s := S1x1x1024x1408) ![0, 0, 0, 0] S1x1x1024x1408.size inb_S1x1x1024x1408_S1x1x1024x1408_0_0_0_0).toLoadRect (harg7.unread B.wg)),
      (arg8.view.readAt (Elt F) (Rect.unit (s := S1x1x1024x1408) ![0, 0, 0, 0] S1x1x1024x1408.size inb_S1x1x1024x1408_S1x1x1024x1408_0_0_0_0).toLoadRect (harg8.unread B.wu)),
      (arg9.view.readAt (Elt F) (Rect.unit (s := S1x1408x1024) ![0, 0, 0] S1x1408x1024.size inb_S1x1408x1024_S1x1408x1024_0_0_0).toLoadRect (harg9.unread B.wd)),
      arg15.view.readAt (Elt F) topD.toLoadRect (harg15.unread y), arg15.view.readAt (Elt F) botD.toLoadRect (harg15.unread y),
      arg17.view.readAt (Elt F) topD.toLoadRect (harg17.unread prev), arg17.view.readAt (Elt F) botD.toLoadRect (harg17.unread prev)⟩ := ⟨_, rfl⟩
    have e : R0 = B.reads y prev := by
      subst hR
      rw [View.readAt_full, View.readAt_full, View.readAt_full, View.readAt_eq_ld, View.readAt_eq_ld, View.readAt_eq_ld, View.readAt_eq_ld,
        View.readAt_eq_ld, View.readAt_eq_ld, View.readAt_eq_ld, View.readAt_eq_ld, harg5.read_unread, harg6.read_unread, harg7.read_unread,
        harg8.read_unread, harg9.read_unread, harg15.read_unread, harg17.read_unread]
      rfl
    subst hR
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      refine (View.read_writes_full _ _ _ _ _).trans ?_
      refine congr (congr (congr (congrArg k0_pay7 ((View.readAt_full ..).trans (harg2.read_unread _))) ?_) ((View.readAt_full ..).trans (harg4.read_unread _)))
        ((View.readAt_full ..).trans (harg3.read_unread _))
      rw [← e]; unfold dh
      refine Eq.trans ?_ (read_halves arg17.view (arg17.view.junk (Val := Elt F)) _ _)
      sl_kernel_rfl
    isplitl [H12]
    · iexists _; isplitr; swap; · iexact H12
      ipureintro
      rw [← e]; unfold act
      refine Eq.trans ?_ (View.read_writes_eq_canon arg12.view f12 _ (coverH _ _))
      sl_kernel_rfl
    isplitl [H13]
    · iexists _; isplitr; swap; · iexact H13
      ipureintro
      rw [← e]; unfold dgate
      refine Eq.trans ?_ (View.read_writes_eq_canon arg13.view f13 _ (coverH _ _))
      sl_kernel_rfl
    isplitl [H14]
    · iexists _; isplitr; swap; · iexact H14
      ipureintro
      rw [← e]; unfold dup
      refine Eq.trans ?_ (View.read_writes_eq_canon arg14.view f14 _ (coverH _ _))
      sl_kernel_rfl
    isplitl [H15]
    · iexists _; isplitr; · ipureintro; exact harg15.read_unread _
      iexact H15
    isplitl [H16]
    · iexists _; isplitr; swap; · iexact H16
      ipureintro
      rw [if_neg hb]
      refine (View.read_writes_full _ _ _ _ _).trans ?_
      refine congr (congrArg k0_pay4 (congr (congrArg k0_pay8 ((View.readAt_full ..).trans (harg2.read_unread _))) ?_)) rfl
      rw [← e]; unfold dh
      refine Eq.trans ?_ (read_halves arg17.view (arg17.view.junk (Val := Elt F)) _ _)
      sl_kernel_rfl
    iexists _, _; isplitr; swap; · iexact H17
    ipureintro; rfl

end Cert.KernelFfnIdeal.Point

end
-- ==== Proof.Ffn.Frame.lean ====
/- The launch of the feed-forward layer's backward kernel: what each output array holds after the run, and the frame. -/
module

public import proofs.«01_k».proof.Proof.Ffn.Run
public import Idealize.ShloMosaic.Lib.WordCmp
public import Idealize.ShloMosaic.Lib.Pipeline.TableIdle

@[expose] public section

set_option maxRecDepth 16384

noncomputable section

namespace Cert.KernelFfnIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's coordinates of a point: its 512 rows, and its tile of hidden columns, of two. -/
theorem coords_row (t : Fin cfg0.N) : (grid0.coords t 0).val = t.val / 2 :=
  (Pipeline.Grid.coords_val (S := 2) (B := 32) t 0 (by decide) rfl).trans (Nat.mod_eq_of_lt (by
    have h : t.val < 64 := t.isLt
    omega))

theorem coords_val (t : Fin cfg0.N) : (grid0.coords t 1).val = t.val % 2 :=
  (Pipeline.Grid.coords_val (S := 1) (B := 2) t 1 (by decide) rfl).trans (by rw [Nat.div_one])

/-- The kernel's test number 1 on the coordinates. -/
theorem cond1_iff (i : grid0.Coords) : k0_cond1 i = 1#1 ↔ (i 1).val = 0 := by
  have h : (i 1).val < 2 := (i 1).isLt
  simp only [k0_cond1]
  word_cmp

/-- The kernel's test number 2 on the coordinates. -/
theorem cond2_iff (i : grid0.Coords) : k0_cond2 i = 1#1 ↔ (i 1).val = 1 := by
  have h : (i 1).val < 2 := (i 1).isLt
  simp only [k0_cond2]
  word_cmp

/-- The kernel's test number 3 on the coordinates. -/
theorem cond3_iff (i : grid0.Coords) : k0_cond3 i = 1#1 ↔ (i 0).val = 0 := by
  have h : (i 0).val < 32 := (i 0).isLt
  simp only [k0_cond3]
  word_cmp

/-- The kernel's test number 4 on the coordinates. -/
theorem cond4_iff (i : grid0.Coords) : k0_cond4 i = 1#1 ↔ ¬(i 0).val = 0 := by
  have h : (i 0).val < 32 := (i 0).isLt
  simp only [k0_cond4]
  word_cmp

/-- The first point of a point's rows. -/
def ev (t : Fin cfg0.N) : Fin cfg0.N := ⟨t.val - t.val % 2, Nat.lt_of_le_of_lt (Nat.sub_le _ _) t.isLt⟩

theorem ev_even (t : Fin cfg0.N) (h : t.val % 2 = 0) : ev t = t := Fin.ext (by simp only [ev, h]; exact Nat.sub_zero _)

theorem ev_odd (t : Fin cfg0.N) (h : t.val % 2 = 1) (h' : t.val - 1 < cfg0.N) : ev t = ⟨t.val - 1, h'⟩ := Fin.ext (by simp only [ev, h])

/-- The two points of the same rows have the same first point. -/
theorem ev_pred (t : Fin cfg0.N) (h : t.val % 2 = 1) (h' : t.val - 1 < cfg0.N) : ev t = ev ⟨t.val - 1, h'⟩ := by
  rw [ev_odd t h h', ev_even ⟨t.val - 1, h'⟩ (by show (t.val - 1) % 2 = 0; omega)]

/-- The input blocks at a point. -/
def blocks (c : Dev nD) (t : Fin cfg0.N) : Blocks F :=
  ⟨iblk m c 0 t, iblk m c 1 t, iblk m c 2 t, iblk m c 3 t, iblk m c 4 t, iblk m c 5 t, iblk m c 6 t, iblk m c 7 t⟩

/-- The halved cotangents of a point's rows. -/
def half (c : Dev nD) (t : Fin cfg0.N) : Vec F S512x1024 .bf16 := k0_pay10 (blocks m c (ev t)).dy

/-- The normed rows. -/
def normed (c : Dev nD) (t : Fin cfg0.N) : Vec F S512x1024 .bf16 := k0_pay9 (blocks m c (ev t)).x (blocks m c (ev t)).gn

/-- The sums for the normed rows' cotangent over the first tile of hidden columns. -/
def acc (c : Dev nD) (t : Fin cfg0.N) : Vec F S512x1024 .f32 := dh ((blocks m c (ev t)).reads (half m c t) (k0_pay11 (F := F)))

/-- What the body reads at a point. -/
def reads (c : Dev nD) (t : Fin cfg0.N) : Reads F :=
  (blocks m c t).reads (half m c t) (if t.val % 2 = 0 then k0_pay11 (F := F) else acc m c t)

theorem reads_even (c : Dev nD) (t : Fin cfg0.N) (h : t.val % 2 = 0) :
    reads m c t = (blocks m c t).reads (k0_pay10 (blocks m c t).dy) (k0_pay11 (F := F)) := by
  unfold reads half; rw [if_pos h, ev_even t h]

theorem reads_odd (c : Dev nD) (t : Fin cfg0.N) (h : t.val % 2 = 1) :
    reads m c t = (blocks m c t).reads (half m c t) (acc m c t) := by
  unfold reads; rw [if_neg (by omega)]

/-- The gain's sums over one point's rows. -/
def part (c : Dev nD) (t : Fin cfg0.N) : Vec F S1x1024 .f32 := k0_pay8 (blocks m c t).x (dh (reads m c t))

/-- The gain's sums after point `n`: they grow at each last tile of hidden columns. -/
def gain (c : Dev nD) : (n : ℕ) → n < cfg0.N → Vec F S1x1024 .f32
  | 0, h => part m c ⟨0, h⟩
  | n + 1, h => if (n + 1) % 2 = 0 then gain c n (Nat.lt_of_succ_lt h)
      else if (n + 1) / 2 = 0 then part m c ⟨n + 1, h⟩ else k0_pay4 (part m c ⟨n + 1, h⟩) (gain c n (Nat.lt_of_succ_lt h))

theorem gain_even (c : Dev nD) (t : Fin cfg0.N) (h : t.val % 2 = 0) (h0 : t.val ≠ 0) (h' : t.val - 1 < cfg0.N) :
    gain m c t.val t.isLt = gain m c (t.val - 1) h' := by
  obtain ⟨n, hn⟩ := t
  cases n with
  | zero => exact absurd rfl h0
  | succ n => exact if_pos h

theorem gain_first (c : Dev nD) (t : Fin cfg0.N) (h : t.val % 2 = 1) (h0 : t.val / 2 = 0) : gain m c t.val t.isLt = part m c t := by
  obtain ⟨n, hn⟩ := t
  cases n with
  | zero => exact absurd h (by simp)
  | succ n => exact (if_neg (by simp only at h; omega)).trans (if_pos h0)

theorem gain_next (c : Dev nD) (t : Fin cfg0.N) (h : t.val % 2 = 1) (h0 : ¬t.val / 2 = 0) (h' : t.val - 1 < cfg0.N) :
    gain m c t.val t.isLt = k0_pay4 (part m c t) (gain m c (t.val - 1) h') := by
  obtain ⟨n, hn⟩ := t
  cases n with
  | zero => exact absurd h (by simp)
  | succ n => exact (if_neg (by simp only at h; omega)).trans (if_neg h0)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)
abbrev ms14 (t : Fin cfg0.N) := win0_14.stage (cfg0.slots t 14)

abbrev sc0 : Memref sig .tc .vmem S512x1024 .f32 := Memref.whole cc0_scratch0

/-- What the region keeps between points, apart from the sums' contents: the scratch buffer, and the generator. -/
theorem kept_eq (c : Dev nD) : (Pipeline.ΦA spec0 c : sProp 𝕄)
    = iprop((∃ d, owns (c : Thread nD τ) sc0 fullShare d) ∗ (∃ r, prngReg c r)) := by
  unfold Pipeline.ΦA
  rw [scopedRest0_eq]
  simp only [sc0, owns_whole]
  try rfl

/-- The sums in the scratch buffer before point `n`, where they are needed. -/
def accAt (c : Dev nD) (n : ℕ) : Vec F S512x1024 .f32 := if h : n < cfg0.N then acc m c ⟨n, h⟩ else k0_pay11 (F := F)

/-- What the region keeps between points: before a last tile of hidden columns the sums over the first. -/
def kept (c : Dev nD) (n : ℕ) : sProp 𝕄 :=
  if n % 2 = 1 then iprop(owns (c : Thread nD τ) sc0 fullShare (accAt m c n) ∗ (∃ r, prngReg c r)) else Pipeline.ΦA spec0 c

/-- The contents that the body leaves in each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay7 (blocks m c t).x (dh (reads m c t)) (blocks m c t).gn (blocks m c t).dy
    | ⟨9, _⟩ => normed m c t
    | ⟨10, _⟩ => act (reads m c t)
    | ⟨11, _⟩ => dgate (reads m c t)
    | ⟨12, _⟩ => dup (reads m c t)
    | ⟨13, _⟩ => half m c t
    | ⟨14, _⟩ => gain m c t.val t.isLt
  Φ n := kept m c n.val
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m _ (A_eq m c 0) (fun _ => rfl) t d
theorem before1 (c : Dev nD) (t : Fin cfg0.N) (d) : (dats m 0 c).before 1 t d = iblk m c 1 t := before0_1_of m _ (A_eq m c 1) (fun _ => rfl) t d
theorem before2 (c : Dev nD) (t : Fin cfg0.N) (d) : (dats m 0 c).before 2 t d = iblk m c 2 t := before0_2_of m _ (A_eq m c 2) (fun _ => rfl) t d
theorem before3 (c : Dev nD) (t : Fin cfg0.N) (d) : (dats m 0 c).before 3 t d = iblk m c 3 t := before0_3_of m _ (A_eq m c 3) (fun _ => rfl) t d
theorem before4 (c : Dev nD) (t : Fin cfg0.N) (d) : (dats m 0 c).before 4 t d = iblk m c 4 t := before0_4_of m _ (A_eq m c 4) (fun _ => rfl) t d
theorem before5 (c : Dev nD) (t : Fin cfg0.N) (d) : (dats m 0 c).before 5 t d = iblk m c 5 t := before0_5_of m _ (A_eq m c 5) (fun _ => rfl) t d
theorem before6 (c : Dev nD) (t : Fin cfg0.N) (d) : (dats m 0 c).before 6 t d = iblk m c 6 t := before0_6_of m _ (A_eq m c 6) (fun _ => rfl) t d
theorem before7 (c : Dev nD) (t : Fin cfg0.N) (d) : (dats m 0 c).before 7 t d = iblk m c 7 t := before0_7_of m _ (A_eq m c 7) (fun _ => rfl) t d

/-- The blocks of the normed rows and of the halved cotangents are stored into at the first tile of hidden columns. -/
theorem idle9 (t : Fin cfg0.N) : cfg0.idle 9 (grid0.coords t) = decide (t.val % 2 = 1) := by
  show (!(k0_cond1 (grid0.coords t) == 1#1)) = _
  by_cases h : t.val % 2 = 1
  · have : ¬k0_cond1 (grid0.coords t) = 1#1 := by rw [cond1_iff, coords_val]; omega
    simp [this, h]
  · have : k0_cond1 (grid0.coords t) = 1#1 := by rw [cond1_iff, coords_val]; omega
    simp [this, h]

theorem idle13 (t : Fin cfg0.N) : cfg0.idle 13 (grid0.coords t) = decide (t.val % 2 = 1) := idle9 t

/-- The blocks of the rows' cotangents and of the gain's sums are stored into at the last. -/
theorem idle8 (t : Fin cfg0.N) : cfg0.idle 8 (grid0.coords t) = decide (t.val % 2 = 0) := by
  show (!(k0_cond2 (grid0.coords t) == 1#1)) = _
  by_cases h : t.val % 2 = 0
  · have : ¬k0_cond2 (grid0.coords t) = 1#1 := by rw [cond2_iff, coords_val]; omega
    simp [this, h]
  · have : k0_cond2 (grid0.coords t) = 1#1 := by rw [cond2_iff, coords_val]; omega
    simp [this, h]

theorem idle14 (t : Fin cfg0.N) : cfg0.idle 14 (grid0.coords t) = decide (t.val % 2 = 0) := by
  show (!(k0_cond2 (grid0.coords t) == 1#1 && k0_cond3 (grid0.coords t) == 1#1) && !(k0_cond2 (grid0.coords t) == 1#1 && k0_cond4 (grid0.coords t) == 1#1)) = _
  have e2 : k0_cond2 (grid0.coords t) = 1#1 ↔ t.val % 2 = 1 := by rw [cond2_iff, coords_val]
  have e3 : k0_cond3 (grid0.coords t) = 1#1 ↔ t.val / 2 = 0 := by rw [cond3_iff, coords_row]
  have e4 : k0_cond4 (grid0.coords t) = 1#1 ↔ ¬t.val / 2 = 0 := by rw [cond4_iff, coords_row]
  by_cases h : t.val % 2 = 0
  · have : ¬k0_cond2 (grid0.coords t) = 1#1 := by rw [e2]; omega
    simp [this, h]
  · have h2 : k0_cond2 (grid0.coords t) = 1#1 := by rw [e2]; omega
    by_cases h0 : t.val / 2 = 0
    · have h3 := e3.mpr h0
      simp [h2, h3, h]
    · have h4 := e4.mpr h0
      simp [h2, h4, h]

/-- Whether a block that is written back at the odd points, and stored into at the even ones, holds nothing yet. -/
theorem fresh_even (w : Fin cfg0.W) (hi : ∀ t : Fin cfg0.N, cfg0.idle w (grid0.coords t) = decide (t.val % 2 = 1))
    (hf : ∀ t : Fin cfg0.N, (cfg0.win w).flush t = true ↔ t.val % 2 = 1) (t : Fin cfg0.N) : cfg0.fresh w t.val = decide (t.val % 2 = 0) :=
  cfg0.fresh_tab w (fun n => decide (n % 2 = 0)) rfl (fun t => by
    rw [show cfg0.grid.coords t = grid0.coords t from rfl, hi t]
    by_cases h : t.val % 2 = 1
    · rw [(hf t).mpr h]; simp; omega
    · rw [Bool.eq_false_iff.mpr (fun e => h ((hf t).mp e))]; simp [h]; omega) t.val (Nat.le_of_lt t.isLt)

/-- The block of the gain's sums holds nothing before the second point's store. -/
theorem fresh14 (t : Fin cfg0.N) : cfg0.fresh 14 t.val = decide (t.val < 2 ∨ 64 ≤ t.val) :=
  cfg0.fresh_tab 14 (fun n => decide (n < 2 ∨ 64 ≤ n)) rfl (fun t => by
    rw [show cfg0.grid.coords t = grid0.coords t from rfl, idle14 t]
    have hN : t.val < 64 := t.isLt
    by_cases h : t.val % 64 = 63
    · rw [(flush0_14 t).mpr h]; simp; omega
    · rw [Bool.eq_false_iff.mpr (fun e => h ((flush0_14 t).mp e)), Bool.false_or, ← Bool.decide_and, decide_eq_decide]; omega) t.val (Nat.le_of_lt t.isLt)

/-- At a last tile of hidden columns the blocks of the normed rows and of the halved cotangents still hold them. -/
theorem before9 (c : Dev nD) (t : Fin cfg0.N) (h : t.val % 2 = 1) (d) : (dats m 0 c).before 9 t d = normed m c t := by
  have h' : t.val - 1 < cfg0.N := Nat.lt_of_le_of_lt (Nat.sub_le _ _) t.isLt
  refine ((dats m 0 c).before_out_traj 9 rfl (fun _ _ => rfl) (fun s hs hi _ => ?_) t.val t rfl d).trans ?_
  · have hi' : s.val % 2 = 1 := of_decide_eq_true ((idle9 s).symm.trans hi)
    show normed m c s = normed m c _
    unfold normed; rw [ev_pred s hi']
  · rw [fresh_even 9 idle9 flush0_9, if_neg (by simp; omega)]
    show normed m c _ = normed m c t
    unfold normed; rw [ev_pred t h h']

theorem before13 (c : Dev nD) (t : Fin cfg0.N) (h : t.val % 2 = 1) (d) : (dats m 0 c).before 13 t d = half m c t := by
  have h' : t.val - 1 < cfg0.N := Nat.lt_of_le_of_lt (Nat.sub_le _ _) t.isLt
  refine ((dats m 0 c).before_out_traj 13 rfl (fun _ _ => rfl) (fun s hs hi _ => ?_) t.val t rfl d).trans ?_
  · have hi' : s.val % 2 = 1 := of_decide_eq_true ((idle13 s).symm.trans hi)
    show half m c s = half m c _
    unfold half; rw [ev_pred s hi']
  · rw [fresh_even 13 idle13 flush0_13, if_neg (by simp; omega)]
    show half m c _ = half m c t
    unfold half; rw [ev_pred t h h']

/-- After the first rows the block of the gain's sums holds what the point before left. -/
theorem before14 (c : Dev nD) (t : Fin cfg0.N) (h : ¬t.val / 2 = 0) (h' : t.val - 1 < cfg0.N) (d) :
    (dats m 0 c).before 14 t d = gain m c (t.val - 1) h' := by
  refine ((dats m 0 c).before_out_traj 14 rfl (fun _ _ => rfl) (fun s hs hi _ => ?_) t.val t rfl d).trans ?_
  · have hi' : s.val % 2 = 0 := of_decide_eq_true ((idle14 s).symm.trans hi)
    exact gain_even m c s hi' hs _
  · have hN : t.val < 64 := t.isLt
    rw [fresh14, if_neg (by simp; omega)]
    rfl

/-- So the gain's sums after a last tile of hidden columns are what the body makes of the block before it. -/
theorem gain_eq (c : Dev nD) (t : Fin cfg0.N) (h : t.val % 2 = 1) (d) :
    (if t.val / 2 = 0 then k0_pay8 (blocks m c t).x (dh (reads m c t))
      else k0_pay4 (k0_pay8 (blocks m c t).x (dh (reads m c t))) ((dats m 0 c).before 14 t d)) = gain m c t.val t.isLt := by
  have h' : t.val - 1 < cfg0.N := Nat.lt_of_le_of_lt (Nat.sub_le _ _) t.isLt
  by_cases h0 : t.val / 2 = 0
  · rw [if_pos h0, gain_first m c t h h0]; rfl
  · rw [if_neg h0, before14 m c t h0 h', gain_next m c t h h0 h']; rfl

/-- The sums kept before a last tile of hidden columns are those over the first. -/
theorem accAt_odd (c : Dev nD) (t : Fin cfg0.N) : accAt m c t.val = acc m c t := dif_pos t.isLt

theorem accAt_succ (c : Dev nD) (t : Fin cfg0.N) (h : t.val % 2 = 0) : accAt m c (t.val + 1) = dh (reads m c t) := by
  have hN : t.val < 64 := t.isLt
  have h1 : t.val + 1 < cfg0.N := by show t.val + 1 < 64; omega
  have e : ev ⟨t.val + 1, h1⟩ = t := Fin.ext (by show t.val + 1 - (t.val + 1) % 2 = t.val; omega)
  rw [reads_even m c t h, show accAt m c (t.val + 1) = acc m c ⟨t.val + 1, h1⟩ from dif_pos h1]
  unfold acc half
  rw [e]

/-- What is kept before a last tile of hidden columns, and before a first. -/
theorem kept_odd (c : Dev nD) (n : ℕ) (h : n % 2 = 1) :
    kept m c n = iprop(owns (c : Thread nD τ) sc0 fullShare (accAt m c n) ∗ (∃ r, prngReg c r)) := if_pos h

theorem kept_even (c : Dev nD) (n : ℕ) (h : n % 2 = 0) : kept m c n = Pipeline.ΦA spec0 c := if_neg (by omega)

/-- The entries of the table that a point computes. -/
theorem after8 (c : Dev nD) (t : Fin cfg0.N) : (dats m 0 c).after 8 t = k0_pay7 (blocks m c t).x (dh (reads m c t)) (blocks m c t).gn (blocks m c t).dy := by delta dats; rfl
theorem after10 (c : Dev nD) (t : Fin cfg0.N) : (dats m 0 c).after 10 t = act (reads m c t) := by dsimp only [dats]
theorem after11 (c : Dev nD) (t : Fin cfg0.N) : (dats m 0 c).after 11 t = dgate (reads m c t) := by dsimp only [dats]
theorem after12 (c : Dev nD) (t : Fin cfg0.N) : (dats m 0 c).after 12 t = dup (reads m c t) := by dsimp only [dats]
theorem after14 (c : Dev nD) (t : Fin cfg0.N) : (dats m 0 c).after 14 t = gain m c t.val t.isLt := by delta dats; rfl
theorem after9 (c : Dev nD) (t : Fin cfg0.N) : (dats m 0 c).after 9 t = normed m c t := by delta dats; rfl
theorem after13 (c : Dev nD) (t : Fin cfg0.N) : (dats m 0 c).after 13 t = half m c t := by delta dats; rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

/-- What a window's block must hold after the body, where the body stores into it: its entry of the table. -/
theorem leaves_eq (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- The same where the block is written back. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact
  rw [h]
  cases cfg0.idle w (cfg0.grid.coords t) <;> rfl

set_option maxHeartbeats 1600000 in
/-- The body at a first tile of hidden columns. -/
theorem sound_even (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.castSucc = Pipeline.ΦA spec0 c from kept_even m c t.val h, kept_eq,
    show (dats m 0 c).Φ t.succ = iprop(owns (c : Thread nD τ) sc0 fullShare (accAt m c (t.val + 1)) ∗ (∃ r, prngReg c r)) from kept_odd m c (t.val + 1) (by omega),
    accAt_succ m c t h]
  rw [leaves_eq m c 0 t rfl, leaves_eq m c 1 t rfl, leaves_eq m c 2 t rfl, leaves_eq m c 3 t rfl, leaves_eq m c 4 t rfl, leaves_eq m c 5 t rfl, leaves_eq m c 6 t rfl, leaves_eq m c 7 t rfl, leaves_eq m c 10 t rfl, leaves_eq m c 11 t rfl, leaves_eq m c 12 t rfl,
    leaves_eq m c 9 t ((idle9 t).trans (decide_eq_false (by omega))), leaves_eq m c 13 t ((idle13 t).trans (decide_eq_false (by omega))),
    (dats m 0 c).leavesExact_idle 8 t ((idle8 t).trans (decide_eq_true h)) (Bool.eq_false_iff.mpr fun e => by have := (flush0_8 t).mp e; omega),
    (dats m 0 c).leavesExact_idle 14 t ((idle14 t).trans (decide_eq_true h)) (Bool.eq_false_iff.mpr fun e => by have := (flush0_14 t).mp e; omega)]
  rw [show (dats m 0 c).after 9 t = k0_pay9 (blocks m c t).x (blocks m c t).gn from (by show normed m c t = _; unfold normed; rw [ev_even t h]),
    show (dats m 0 c).after 13 t = k0_pay10 (blocks m c t).dy from (by show half m c t = _; unfold half; rw [ev_even t h]),
    after10, after11,
    after12, reads_even m c t h]
  iintro ⟨⟨HS, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (first_run c (grid0.coords t) _ _ _ _ _ _ _ _ _ _ _ _ _ _ _ _ _ _ _ _ _ _ _ _ _ _ _ _ _ _ _ _ ((cond1_iff _).mpr ((coords_val t).trans h)) (fun e => by have := (cond2_iff _).mp e; rw [coords_val] at this; omega)
    (blocks m c t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [H14]; · iexists _; iexact H14
  isplitl [H15]; · iexists _; iexact H15
  isplitl [HS]; · iexact HS
  iintro ⟨H2, H3, H4, H5, H6, H7, H8, H9, H11, H12, H13, H14, H15, HS⟩
  isplitl [HS Hg]
  · isplitl [HS]
    · iexact HS
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  iexists _; iexact H16

set_option maxHeartbeats 1600000 in
/-- The body at a last tile of hidden columns. -/
theorem sound_odd (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before9 m c t h, before13 m c t h]
  rw [show (dats m 0 c).owesAt () t.succ = (dats m 0 c).owesAt () t.castSucc from rfl]
  rw [show (dats m 0 c).Φ t.succ = Pipeline.ΦA spec0 c from kept_even m c (t.val + 1) (by omega), kept_eq,
    show (dats m 0 c).Φ t.castSucc = iprop(owns (c : Thread nD τ) sc0 fullShare (accAt m c t.val) ∗ (∃ r, prngReg c r)) from kept_odd m c t.val h,
    accAt_odd m c t]
  rw [leaves_eq m c 0 t rfl, leaves_eq m c 1 t rfl, leaves_eq m c 2 t rfl, leaves_eq m c 3 t rfl, leaves_eq m c 4 t rfl, leaves_eq m c 5 t rfl, leaves_eq m c 6 t rfl, leaves_eq m c 7 t rfl, leaves_eq m c 10 t rfl, leaves_eq m c 11 t rfl, leaves_eq m c 12 t rfl,
    leaves_eq m c 8 t ((idle8 t).trans (decide_eq_false (by omega))), leaves_eq m c 14 t ((idle14 t).trans (decide_eq_false (by omega))),
    leaves_flush m c 9 t ((flush0_9 t).mpr h), leaves_flush m c 13 t ((flush0_13 t).mpr h)]
  rw [after8,
    after10, after11,
    after12]
  iintro ⟨⟨HS, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [after14, ← gain_eq m c t h d16, reads_odd m c t h]
  iapply (last_run c (grid0.coords t) _ _ _ _ _ _ _ _ _ _ _ _ _ _ _ _ _ _ _ _ _ _ _ _ _ _ _ _ _ _ _ _ (fun e => by have := (cond1_iff _).mp e; rw [coords_val] at this; omega) ((cond2_iff _).mpr ((coords_val t).trans h))
    (t.val / 2 = 0) (by rw [cond3_iff, coords_row]) (by rw [cond4_iff, coords_row])
    (blocks m c t) (half m c t) ((dats m 0 c).before 14 t d16) (acc m c t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H12]; · iexists _; iexact H12
  isplitl [H13]; · iexists _; iexact H13
  isplitl [H14]; · iexists _; iexact H14
  isplitl [H15]; · iexact H15
  isplitl [H16]; · iexact H16
  isplitl [HS]; · iexact HS
  iintro ⟨H2, H3, H4, H5, H6, H7, H8, H9, H10, H12, H13, H14, H15, H16, HS⟩
  isplitl [HS Hg]
  · isplitl [HS]
    · iexact HS
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's row of the table at a point's slots is the body. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, row_eq]
  by_cases h : t.val % 2 = 0
  · exact triple_restated (sound_even m c t h) rfl .rfl fun _ => .rfl
  · exact triple_restated (sound_odd m c t (by omega)) rfl .rfl fun _ => .rfl

set_option backward.isDefEq.respectTransparency.types false in
/-- The run: every execution ends, with each output array at what its points wrote back, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => show Pipeline.ΦA spec0 c ⊢ kept m c 0 by rw [kept_even m c 0 rfl])
    (hout := fun c => show kept m c 64 ⊢ Pipeline.ΦA spec0 c by rw [kept_even m c 64 rfl])

end Cert.KernelFfnIdeal.Point

end
-- ==== Proof.Ffn.Quiet.lean ====
/- The frames of the feed-forward layer's backward kernel. -/
module

public import proofs.«01_k».proof.Defs
public import proofs.«01_k».proof.Proof.Ffn.Frame
public import proofs.«01_k».proof.Proof.Gen.KernelFfn
public import proofs.«01_k».proof.Proof.Gen.KernelFfn.Launch
public import Idealize.ShloMosaic.Lib.Claim

@[expose] public section

set_option maxRecDepth 16384

noncomputable section

namespace Cert.Ffn

open Idealize.ShloMosaic Idealize.ShloMosaic.TcCoe Idealize.SL.Sem
open Cert.KernelFfnIdeal.Gen

set_option backward.isDefEq.respectTransparency.types false in
/-- The frame, over any float values: every execution ends, the arguments are as before and every counter is zero. -/
theorem quiet {F : FTy → Type} [FloatOps F]
    (m : (ℓ : Loc Cert.KernelFfnIdeal.nD Cert.KernelFfnIdeal.τ Cert.KernelFfnIdeal.sig) → Buf (Elt F) ℓ) (ρ : Dev Cert.KernelFfnIdeal.nD → PrngReg) :
    θ_run (Cert.KernelFfnIdeal.defs (F := F)) (onTc (τ := Cert.KernelFfnIdeal.τ) (Cert.KernelFfnIdeal.main (F := F))) ⟨m, fun _ => 0, ρ⟩ (fun r =>
      (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0) :=
  θ_run_and (frame_of m ρ (Cert.KernelFfnIdeal.Point.dats m) (Cert.KernelFfnIdeal.Point.A_eq m)
    ((θ_run Cert.KernelFfnIdeal.defs _ _).mono (fun _ h => h.1) (Cert.KernelFfnIdeal.Point.run_main m ρ)))
    ((θ_run Cert.KernelFfnIdeal.defs _ _).mono (fun _ h => h.2) (Cert.KernelFfnIdeal.Point.run_main m ρ))

/-- The frame of the program over the extended reals. -/
theorem frame_ideal : Cert.quiescent_KernelFfnIdeal := fun m ρ _ => quiet (F := Ideal) m ρ

set_option maxHeartbeats 1600000 in
/-- The frame of the kernel: its text is the same. -/
theorem frame_kernel : Cert.quiescent_KernelFfn := fun m ρ _ =>
  have h := quiet (F := Bits) m ρ
  have hd : Cert.KernelFfn.defs (F := Bits) = Cert.KernelFfnIdeal.defs (F := Bits) := by sl_kernel_rfl
  have hm : Cert.KernelFfn.main (F := Bits) = Cert.KernelFfnIdeal.main (F := Bits) := by sl_kernel_rfl
  by rw [hd, hm]; exact h

end Cert.Ffn

end
-- ==== Proof.Ffn.Value.lean ====
/- What the feed-forward layer's backward kernel leaves in its output arrays, against the reference's gradients. -/
module

public import proofs.«01_k».proof.Proof.Ffn.Ref
public import proofs.«01_k».proof.Proof.Ffn.Quiet
public import proofs.«01_k».proof.Proof.Gen.Pre_finite_ffn
public import proofs.«01_k».proof.Proof.Common.Sums

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Point Cert.ReferenceFfnIdeal.Read Cert.Common

local instance : Cert.KernelFfnIdeal.Facts := Cert.KernelFfnIdeal.Gen.facts

variable (m : (ℓ : Loc nD τ sig) → Buf (Elt Ideal) ℓ)

/-- The arguments: the rows, the cotangent, the gain and the two weights. -/
abbrev aX (c : Dev nD) : FVec Ideal S16384x1024 .f32 := m ((c : Thread nD τ).loc main_arg0)
abbrev aDy (c : Dev nD) : FVec Ideal S16384x1024 .f32 := m ((c : Thread nD τ).loc main_arg1)
abbrev aG (c : Dev nD) : FVec Ideal S1024 .f32 := m ((c : Thread nD τ).loc main_arg2)
abbrev aW (c : Dev nD) : FVec Ideal S1024x5632 .f32 := m ((c : Thread nD τ).loc main_arg3)
abbrev aD (c : Dev nD) : FVec Ideal S2816x1024 .f32 := m ((c : Thread nD τ).loc main_arg4)

/-- Which block each window holds at a point. -/
theorem idx : ∀ t : Fin cfg0.N, win0_0.index t = ![t.val / 2, 0] ∧ win0_1.index t = ![t.val / 2, 0]
    ∧ win0_2.index t = ![0, 0] ∧ win0_3.index t = ![t.val / 2, t.val % 2] ∧ win0_4.index t = ![t.val / 2, t.val % 2]
    ∧ win0_5.index t = ![t.val % 2, 0, 0, 0] ∧ win0_6.index t = ![2 + t.val % 2, 0, 0, 0] ∧ win0_7.index t = ![0, t.val % 2, 0]
    ∧ win0_8.index t = ![t.val / 2, 0] ∧ win0_9.index t = ![t.val / 2, 0] ∧ win0_10.index t = ![t.val / 2, t.val % 2]
    ∧ win0_11.index t = ![t.val / 2, t.val % 2] ∧ win0_12.index t = ![t.val / 2, t.val % 2] ∧ win0_13.index t = ![t.val / 2, 0]
    ∧ win0_14.index t = ![0, 0] :=
  (by decide +kernel : ∀ t : Fin grid0.N, _)

theorem lt_N (t : Fin cfg0.N) : t.val < 64 := t.isLt

/-- Row `i` of a point's block, and hidden column `l` of its tile. -/
def row (t : Fin cfg0.N) (i : Fin 512) : Fin 16384 := ⟨t.val / 2 * 512 + i.val, by have := lt_N t; omega⟩
def hid (t : Fin cfg0.N) (l : Fin 1408) : Fin 2816 := ⟨t.val % 2 * 1408 + l.val, by omega⟩

/-- The arrays that the host lines prepare: the gates' columns, the other factor's, the tiles of the two weights. -/
def hGu (x0 : FVec Ideal S16384x1024 .f32) (x2 : FVec Ideal S1024 .f32) (x3 : FVec Ideal S1024x5632 .f32) : FVec Ideal S16384x5632 .bf16 :=
  truncf .bf16 (val_main_v16 (F := Ideal) x0 x2 x3) bitsLt_bf16_f32
def hG (w : FVec Ideal S16384x5632 .bf16) : FVec Ideal S16384x2816 .bf16 := extractStridedSlice S16384x2816 ![0, 0] w slices_S16384x5632_S16384x2816_0_0
def hU (w : FVec Ideal S16384x5632 .bf16) : FVec Ideal S16384x2816 .bf16 := extractStridedSlice S16384x2816 ![0, 2816] w slices_S16384x5632_S16384x2816_0_2816
def hW (x3 : FVec Ideal S1024x5632 .f32) : FVec Ideal S4x1x1024x1408 .bf16 :=
  truncf .bf16 (broadcastInDim S4x1x1024x1408 ![0, 2, 3] bcast_S4x1024x1408_S4x1x1024x1408_0_2_3
    (transpose S4x1024x1408 [1, 0, 2] (shapeCast S1024x4x1408 x3 shapeCasts_S1024x5632_S1024x4x1408) transposes_S1024x4x1408_S4x1024x1408_1_0_2)) bitsLt_bf16_f32
def hD (x4 : FVec Ideal S2816x1024 .f32) : FVec Ideal S1x2816x1024 .bf16 :=
  truncf .bf16 (broadcastInDim S1x2816x1024 ![1, 2] bcast_S2816x1024_S1x2816x1024_1_2 x4) bitsLt_bf16_f32
def hN (x2 : FVec Ideal S1024 .f32) : FVec Ideal S1x1024 .f32 := broadcastInDim S1x1024 ![1] bcast_S1024_S1x1024_1 x2

theorem operands (c : Dev nD) : V m c main_v21 = hG (hGu (aX m c) (aG m c) (aW m c)) ∧ V m c main_v22 = hU (hGu (aX m c) (aG m c) (aW m c))
    ∧ V m c main_v3 = hW (aW m c) ∧ V m c main_v5 = hD (aD m c) ∧ V m c main_v23 = hN (aG m c) := by
  unfold V hostOps0
  refine ⟨?_, ?_, ?_, ?_, ?_⟩ <;> (after_results; rfl)

theorem hG_at (w : FVec Ideal S16384x5632 .bf16) (R : Fin 16384) (K : Fin 2816) : hG w (ix2 R K) = w (ix2 R (lo K)) := by
  unfold hG; pointwise []; exact congrArg w (by unfold lo; blk_ext [])
theorem hU_at (w : FVec Ideal S16384x5632 .bf16) (R : Fin 16384) (K : Fin 2816) : hU w (ix2 R K) = w (ix2 R (hi K)) := by
  unfold hU; pointwise []; exact congrArg w (by unfold hi; blk_ext [])
theorem hGu_at (x0 : FVec Ideal S16384x1024 .f32) (x2 : FVec Ideal S1024 .f32) (x3 : FVec Ideal S1024x5632 .f32) (R : Fin 16384) (k : Fin 5632) :
    hGu x0 x2 x3 (ix2 R k) = pre x0 x2 x3 R k := rfl
theorem hW_lo (x3 : FVec Ideal S1024x5632 .f32) (n : Fin 4) (d : Fin 1024) (l : Fin 1408) (K : Fin 2816) (h : n.val * 1408 + l.val = K.val) :
    hW x3 (ix4 n 0 d l) = x3 (ix2 d (lo K)) := by
  unfold hW; pointwise []; exact congrArg x3 (by unfold lo; blk_ext [])
theorem hW_hi (x3 : FVec Ideal S1024x5632 .f32) (n : Fin 4) (d : Fin 1024) (l : Fin 1408) (K : Fin 2816) (h : n.val * 1408 + l.val = 2816 + K.val) :
    hW x3 (ix4 n 0 d l) = x3 (ix2 d (hi K)) := by
  unfold hW; pointwise []; exact congrArg x3 (by unfold hi; blk_ext [])
theorem hD_at (x4 : FVec Ideal S2816x1024 .f32) (K : Fin 2816) (k : Fin 1024) : hD x4 (ix3 0 K k) = x4 (ix2 K k) := by
  unfold hD; pointwise []
theorem hN_at (x2 : FVec Ideal S1024 .f32) (k : Fin 1024) : hN x2 (ix2 0 k) = x2 (ix1 k) := by
  unfold hN; pointwise []

section Blocks

variable (c : Dev nD) (t : Fin cfg0.N)

/-- The blocks of a point. -/
theorem x_at (i : Fin 512) (k : Fin 1024) : (blocks m c t).x (ix2 i k) = aX m c (ix2 (row t i) k) := by
  show V m c main_arg0 ((win0_0.blk t).view.emb (ix2 i k)) = _
  rw [show (win0_0.blk t).view.emb (ix2 i k) = ix2 (row t i) k by unfold row; blk_ext [idx t]]; rfl
theorem dy_at (i : Fin 512) (k : Fin 1024) : (blocks m c t).dy (ix2 i k) = aDy m c (ix2 (row t i) k) := by
  show V m c main_arg1 ((win0_1.blk t).view.emb (ix2 i k)) = _
  rw [show (win0_1.blk t).view.emb (ix2 i k) = ix2 (row t i) k by unfold row; blk_ext [idx t]]; rfl
theorem gn_at (k : Fin 1024) : (blocks m c t).gn (ix2 0 k) = aG m c (ix1 k) := by
  show V m c main_v23 ((win0_2.blk t).view.emb (ix2 0 k)) = _
  rw [(operands m c).2.2.2.2, show (win0_2.blk t).view.emb (ix2 0 k) = ix2 0 k by blk_ext [idx t], hN_at]
theorem g_at (i : Fin 512) (l : Fin 1408) : (blocks m c t).g (ix2 i l) = pre (aX m c) (aG m c) (aW m c) (row t i) (lo (hid t l)) := by
  show V m c main_v21 ((win0_3.blk t).view.emb (ix2 i l)) = _
  rw [(operands m c).1, show (win0_3.blk t).view.emb (ix2 i l) = ix2 (row t i) (hid t l) by unfold row hid; blk_ext [idx t], hG_at, hGu_at]
theorem u_at (i : Fin 512) (l : Fin 1408) : (blocks m c t).u (ix2 i l) = pre (aX m c) (aG m c) (aW m c) (row t i) (hi (hid t l)) := by
  show V m c main_v22 ((win0_4.blk t).view.emb (ix2 i l)) = _
  rw [(operands m c).2.1, show (win0_4.blk t).view.emb (ix2 i l) = ix2 (row t i) (hid t l) by unfold row hid; blk_ext [idx t], hU_at, hGu_at]
theorem wg_at (d : Fin 1024) (l : Fin 1408) : (blocks m c t).wg (ix4 0 0 d l) = aW m c (ix2 d (lo (hid t l))) := by
  show V m c main_v3 ((win0_5.blk t).view.emb (ix4 0 0 d l)) = _
  rw [(operands m c).2.2.1, show (win0_5.blk t).view.emb (ix4 0 0 d l) = ix4 (⟨t.val % 2, by omega⟩ : Fin 4) 0 d l by blk_ext [idx t]]
  exact hW_lo _ _ d l (hid t l) rfl
theorem wu_at (d : Fin 1024) (l : Fin 1408) : (blocks m c t).wu (ix4 0 0 d l) = aW m c (ix2 d (hi (hid t l))) := by
  show V m c main_v3 ((win0_6.blk t).view.emb (ix4 0 0 d l)) = _
  rw [(operands m c).2.2.1, show (win0_6.blk t).view.emb (ix4 0 0 d l) = ix4 (⟨2 + t.val % 2, by omega⟩ : Fin 4) 0 d l by blk_ext [idx t]]
  exact hW_hi _ _ d l (hid t l) (by show (2 + t.val % 2) * 1408 + l.val = 2816 + (t.val % 2 * 1408 + l.val); omega)
theorem wd_at (l : Fin 1408) (k : Fin 1024) : (blocks m c t).wd (ix3 0 l k) = aD m c (ix2 (hid t l) k) := by
  show V m c main_v5 ((win0_7.blk t).view.emb (ix3 0 l k)) = _
  rw [(operands m c).2.2.2.1, show (win0_7.blk t).view.emb (ix3 0 l k) = ix3 0 (hid t l) k by unfold hid; blk_ext [idx t], hD_at]

/-- The two points of the same rows. -/
theorem row_ev (i : Fin 512) : row (ev t) i = row t i := by
  refine Fin.ext ?_
  show (t.val - t.val % 2) / 2 * 512 + i.val = t.val / 2 * 512 + i.val
  omega

theorem half_at (i : Fin 512) (k : Fin 1024) : half m c t (ix2 i k) = Ideal.ofBits .f32 0x3F000000#32 * aDy m c (ix2 (row t i) k) := by
  rw [← row_ev t i, ← dy_at m c (ev t) i k]
  unfold half
  pointwise [k0_pay10]
theorem normed_at (i : Fin 512) (k : Fin 1024) :
    normed m c t (ix2 i k) = aX m c (ix2 (row t i) k) * rstd (aX m c) (row t i) * aG m c (ix1 k) := by
  unfold rstd
  simp only [← row_ev t i, ← x_at m c (ev t) i, ← gn_at m c (ev t) k, ← msq_mul _ (show (0 : ℝ) < 1024 by norm_num)]
  unfold normed
  pointwise [k0_pay9]
  simp only [ofBits_inv1024, ofBits_eps]

/-- The cotangents of the hidden columns. -/
theorem dactB_at (i : Fin 512) (l : Fin 1408) : dactB (blocks m c t) (half m c t) i l = dactR (aDy m c) (aD m c) (row t i) (hid t l) :=
  Finset.sum_congr rfl fun k _ => by rw [half_at, wd_at]
theorem dgateB_at (i : Fin 512) (l : Fin 1408) : dgateB (blocks m c t) (half m c t) i l
    = dgateR (aX m c) (aDy m c) (aG m c) (aW m c) (aD m c) (row t i) (hid t l) := by
  unfold dgateB dgateR; rw [dactB_at, g_at, u_at]
theorem dupB_at (i : Fin 512) (l : Fin 1408) : dupB (blocks m c t) (half m c t) i l
    = dupR (aX m c) (aDy m c) (aG m c) (aW m c) (aD m c) (row t i) (hid t l) := by
  unfold dupB dupR; rw [dactB_at, g_at]

/-- Both halves of the hidden columns together. -/
def gatePart (d : Fin 1024) (R : Fin 16384) (K : Fin 2816) : EReal :=
  dgateR (aX m c) (aDy m c) (aG m c) (aW m c) (aD m c) R K * aW m c (ix2 d (lo K))
def upPart (d : Fin 1024) (R : Fin 16384) (K : Fin 2816) : EReal :=
  dupR (aX m c) (aDy m c) (aG m c) (aW m c) (aD m c) R K * aW m c (ix2 d (hi K))

theorem partB_at (i : Fin 512) (d : Fin 1024) : partB (blocks m c t) (half m c t) i d
    = ∑ l : Fin 1408, gatePart m c d (row t i) (hid t l) + ∑ l : Fin 1408, upPart m c d (row t i) (hid t l) :=
  congrArg₂ (· + ·) (Finset.sum_congr rfl fun l _ => by rw [dgateB_at, wg_at]; rfl) (Finset.sum_congr rfl fun l _ => by rw [dupB_at, wu_at]; rfl)

theorem half_ev : half m c (ev t) = half m c t := by
  unfold half
  rw [ev_even (ev t) (by show (t.val - t.val % 2) % 2 = 0; omega)]

/-- At a last tile of hidden columns the sums are complete. -/
theorem dh_last (h : t.val % 2 = 1) (i : Fin 512) (d : Fin 1024) :
    dh (reads m c t) (ix2 i d) = dhR (aX m c) (aDy m c) (aG m c) (aW m c) (aD m c) (row t i) d := by
  have z : k0_pay11 (F := Ideal) (ix2 i d) = 0 := by pointwise [k0_pay11]
  rw [reads_odd m c t h, dh_at, partB_at]
  unfold acc
  rw [dh_at, z, zero_add, ← half_ev, partB_at, row_ev]
  have e : dhR (aX m c) (aDy m c) (aG m c) (aW m c) (aD m c) (row t i) d
      = ∑ K : Fin (1408 + 1408), gatePart m c d (row t i) (K : Fin 2816) + ∑ K : Fin (1408 + 1408), upPart m c d (row t i) (K : Fin 2816) := rfl
  have e0 : ∀ l : Fin 1408, hid (ev t) l = Fin.castAdd 1408 l := fun l => Fin.ext (by
    show (t.val - t.val % 2) % 2 * 1408 + l.val = l.val; omega)
  have e1 : ∀ l : Fin 1408, hid t l = Fin.natAdd 1408 l := fun l => Fin.ext (by
    show t.val % 2 * 1408 + l.val = 1408 + l.val; omega)
  rw [e, Fin.sum_univ_add, Fin.sum_univ_add]
  simp only [e0, e1]
  exact add_add_add_comm _ _ _ _

end Blocks

end Cert.KernelFfnIdeal.Value

end
-- ==== Proof.Ffn.Final.lean ====
/- The seven output arrays of the feed-forward layer's backward kernel are the reference's. -/
module

public import proofs.«01_k».proof.Proof.Ffn.Value

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Point Cert.ReferenceFfnIdeal.Read Cert.Common

local instance : Cert.KernelFfnIdeal.Facts := Cert.KernelFfnIdeal.Gen.facts
local instance : Cert.Pre_finite_ffn.Facts := Cert.Pre_finite_ffn.Gen.facts

variable (m : (ℓ : Loc nD τ sig) → Buf (Elt Ideal) ℓ)

/-- The arguments are real numbers where the claim supposes them finite. -/
theorem finite_args (hpre : Cert.Pre_KernelFfnIdeal_finite_ffn m) (c : Dev nD) : (∀ i, Re (aX m c i)) ∧ (∀ i, Re (aDy m c i)) ∧ (∀ i, Re (aG m c i))
    ∧ (∀ i, Re (aW m c i)) ∧ (∀ i, Re (aD m c i)) := by
  have h := congrFun (hpre c) ix0
  simp only [Cert.Pre_finite_ffn.fn, Cert.Pre_finite_ffn.fn_part1] at h
  obtain ⟨h, h5⟩ := andi_one _ _ _ h
  obtain ⟨h, h4⟩ := andi_one _ _ _ h
  obtain ⟨h, h3⟩ := andi_one _ _ _ h
  obtain ⟨h1, h2⟩ := andi_one _ _ _ h
  exact ⟨re_of_all _ _ (fun _ => rfl) _ _ _ _ h1, re_of_all _ _ (fun _ => rfl) _ _ _ _ h2, re_of_all _ _ (fun _ => rfl) _ _ _ _ h3,
    re_of_all _ _ (fun _ => rfl) _ _ _ _ h4, re_of_all _ _ (fun _ => rfl) _ _ _ _ h5⟩

/-- The norm's gradient as the body computes it, of any sums. -/
theorem pay7_at (x dy s : Vec Ideal S512x1024 .f32) (gn : Vec Ideal S1x1024 .f32) (i : Fin 512) (k : Fin 1024) :
    k0_pay7 (F := Ideal) x s gn dy (ix2 i k) = dy (ix2 i k) + Ideal.rsqrt (msq (fun k : Fin 1024 => x (ix2 i k)) 1024 eps)
      * (s (ix2 i k) * gn (ix2 0 k) - x (ix2 i k) * Ideal.rsqrt (msq (fun k : Fin 1024 => x (ix2 i k)) 1024 eps)
        * ((∑ k : Fin 1024, s (ix2 i k) * gn (ix2 0 k) * (x (ix2 i k) * Ideal.rsqrt (msq (fun k : Fin 1024 => x (ix2 i k)) 1024 eps))) * ((1 / 1024 : ℝ) : EReal))) := by
  simp only [← msq_mul _ (show (0 : ℝ) < 1024 by norm_num)]
  pointwise [k0_pay7, k0_pay6, k0_pay5]
  simp only [ofBits_inv1024, ofBits_eps]

/-- The gain's sums over a block of rows. -/
theorem pay8_at (x s : Vec Ideal S512x1024 .f32) (k : Fin 1024) :
    k0_pay8 (F := Ideal) x s (ix2 0 k) = ∑ i : Fin 512, s (ix2 i k) * (x (ix2 i k) * Ideal.rsqrt (msq (fun k : Fin 1024 => x (ix2 i k)) 1024 eps)) := by
  simp only [← msq_mul _ (show (0 : ℝ) < 1024 by norm_num)]
  pointwise [k0_pay8, k0_pay6, k0_pay5]
  simp only [ofBits_inv1024, ofBits_eps]

section Finals

variable (hpre : Cert.Pre_KernelFfnIdeal_finite_ffn m) (c : Dev nD)

include hpre in
/-- The rows' gradient. -/
theorem final8 : (dats m 0 c).arrAt 8 cfg0.N = val_main_v56 (F := Ideal) (aX m c) (aDy m c) (aG m c) (aW m c) (aD m c) := by
  obtain ⟨h0, h1, h2, h3, h4⟩ := finite_args m hpre c
  refine (dats m 0 c).arrAt_eq_of_covers 8 _ (by decide +kernel) fun t hf y => ?_
  obtain ⟨i, k, rfl⟩ : ∃ (i : Fin 512) (k : Fin 1024), y = ix2 i k := ⟨y 0, y 1, eq_ix2 y⟩
  have ht : t.val % 2 = 1 := (flush0_8 t).mp hf
  refine (congrFun (after8 m c t) (ix2 i k)).trans ((pay7_at ..).trans (Eq.trans ?_ ((v56_at _ _ _ _ _ (row t i) k h0 h1 h2 h3 h4).symm.trans (congrArg _ ?_))))
  · simp only [x_at, dy_at, gn_at, dh_last m c t ht]
    rfl
  · unfold row; blk_ext [idx t]

/-- The normed rows. -/
theorem final9 : (dats m 0 c).arrAt 9 cfg0.N = val_main_v57 (F := Ideal) (aX m c) (aG m c) := by
  refine (dats m 0 c).arrAt_eq_of_covers 9 _ (by decide +kernel) fun t hf y => ?_
  obtain ⟨i, k, rfl⟩ : ∃ (i : Fin 512) (k : Fin 1024), y = ix2 i k := ⟨y 0, y 1, eq_ix2 y⟩
  refine (congrFun (after9 m c t) (ix2 i k)).trans ((normed_at ..).trans ((v57_at ..).symm.trans (congrArg _ ?_)))
  unfold row; blk_ext [idx t]

/-- The gated activation. -/
theorem final10 : (dats m 0 c).arrAt 10 cfg0.N = val_main_v58 (F := Ideal) (aX m c) (aG m c) (aW m c) := by
  refine (dats m 0 c).arrAt_eq_of_covers 10 _ (by decide +kernel) fun t hf y => ?_
  obtain ⟨i, l, rfl⟩ : ∃ (i : Fin 512) (l : Fin 1408), y = ix2 i l := ⟨y 0, y 1, eq_ix2 y⟩
  refine (congrFun (after10 m c t) (ix2 i l)).trans ((act_at ..).trans (Eq.trans ?_ ((v58_at _ _ _ (row t i) (hid t l)).symm.trans (congrArg _ ?_))))
  · rw [g_at, u_at]
  · unfold row hid; blk_ext [idx t]

include hpre in
/-- The gates' cotangent. -/
theorem final11 : (dats m 0 c).arrAt 11 cfg0.N = val_main_v60 (F := Ideal) (aX m c) (aDy m c) (aG m c) (aW m c) (aD m c) := by
  obtain ⟨h0, h1, h2, h3, h4⟩ := finite_args m hpre c
  refine (dats m 0 c).arrAt_eq_of_covers 11 _ (by decide +kernel) fun t hf y => ?_
  obtain ⟨i, l, rfl⟩ : ∃ (i : Fin 512) (l : Fin 1408), y = ix2 i l := ⟨y 0, y 1, eq_ix2 y⟩
  refine (congrFun (after11 m c t) (ix2 i l)).trans ((dgate_at ..).trans ((dgateB_at ..).trans
    ((v60_at _ _ _ _ _ (row t i) (hid t l) h0 h1 h2 h3 h4).symm.trans (congrArg _ ?_))))
  unfold row hid; blk_ext [idx t]

/-- The other factor's cotangent. -/
theorem final12 : (dats m 0 c).arrAt 12 cfg0.N = val_main_v62 (F := Ideal) (aX m c) (aDy m c) (aG m c) (aW m c) (aD m c) := by
  refine (dats m 0 c).arrAt_eq_of_covers 12 _ (by decide +kernel) fun t hf y => ?_
  obtain ⟨i, l, rfl⟩ : ∃ (i : Fin 512) (l : Fin 1408), y = ix2 i l := ⟨y 0, y 1, eq_ix2 y⟩
  refine (congrFun (after12 m c t) (ix2 i l)).trans ((dup_at ..).trans ((dupB_at ..).trans
    ((v62_at _ _ _ _ _ (row t i) (hid t l)).symm.trans (congrArg _ ?_))))
  unfold row hid; blk_ext [idx t]

/-- The halved cotangents. -/
theorem final13 : (dats m 0 c).arrAt 13 cfg0.N = val_main_v65 (F := Ideal) (aDy m c) := by
  refine (dats m 0 c).arrAt_eq_of_covers 13 _ (by decide +kernel) fun t hf y => ?_
  obtain ⟨i, k, rfl⟩ : ∃ (i : Fin 512) (k : Fin 1024), y = ix2 i k := ⟨y 0, y 1, eq_ix2 y⟩
  refine (congrFun (after13 m c t) (ix2 i k)).trans ((half_at ..).trans ((v65_at ..).symm.trans (congrArg _ ?_)))
  unfold row; blk_ext [idx t]

/-- One block's part of the gain's gradient. -/
theorem part_at (t : Fin cfg0.N) (h : t.val % 2 = 1) (k : Fin 1024) : part m c t (ix2 0 k)
    = ∑ i : Fin 512, dhR (aX m c) (aDy m c) (aG m c) (aW m c) (aD m c) (row t i) k * (aX m c (ix2 (row t i) k) * rstd (aX m c) (row t i)) := by
  unfold part
  rw [pay8_at]
  simp only [x_at, dh_last m c t h]
  rfl

/-- The sum of a block's rows of any function of the rows. -/
def rows (f : Fin 16384 → EReal) (s : ℕ) : EReal := if h : s < 32 then ∑ i : Fin 512, f ⟨s * 512 + i.val, by omega⟩ else 0

/-- The gain's sums after the last tile of hidden columns of a block of rows. -/
theorem gain_at (k : Fin 1024) : ∀ (n : ℕ) (h : 2 * n + 1 < cfg0.N), gain m c (2 * n + 1) h (ix2 0 k)
    = ∑ s ∈ Finset.range (n + 1), rows (fun R => dhR (aX m c) (aDy m c) (aG m c) (aW m c) (aD m c) R k * (aX m c (ix2 R k) * rstd (aX m c) R)) s := by
  have hp : ∀ (n : ℕ) (h : 2 * n + 1 < cfg0.N), part m c ⟨2 * n + 1, h⟩ (ix2 0 k)
      = rows (fun R => dhR (aX m c) (aDy m c) (aG m c) (aW m c) (aD m c) R k * (aX m c (ix2 R k) * rstd (aX m c) R)) n := fun n h => by
    have hn : 2 * n + 1 < 64 := h
    have e : ∀ i : Fin 512, row ⟨2 * n + 1, h⟩ i = ⟨n * 512 + i.val, by omega⟩ := fun i => Fin.ext (by
      show (2 * n + 1) / 2 * 512 + i.val = n * 512 + i.val
      omega)
    rw [part_at m c _ (by show (2 * n + 1) % 2 = 1; omega)]
    unfold rows
    rw [dif_pos (show n < 32 by omega)]
    simp only [e]
  intro n
  induction n with
  | zero =>
    intro h
    rw [Finset.sum_range_one, ← hp 0 h]
    exact congrFun (gain_first m c ⟨2 * 0 + 1, h⟩ rfl (Nat.div_eq_of_lt (by decide : 1 < 2))) _
  | succ n ih =>
    intro h
    have hn : 2 * (n + 1) + 1 < 64 := h
    have h1 : 2 * (n + 1) < cfg0.N := by show _ < 64; omega
    have h2 : 2 * n + 1 < cfg0.N := by show _ < 64; omega
    rw [Finset.sum_range_succ, ← ih h2, ← hp (n + 1) h,
      show gain m c (2 * (n + 1) + 1) h = k0_pay4 (part m c ⟨2 * (n + 1) + 1, h⟩) (gain m c (2 * (n + 1)) h1) from
        gain_next m c ⟨2 * (n + 1) + 1, h⟩ (by show (2 * (n + 1) + 1) % 2 = 1; omega) (by show ¬(2 * (n + 1) + 1) / 2 = 0; omega) h1,
      show gain m c (2 * (n + 1)) h1 = gain m c (2 * n + 1) h2 from
        gain_even m c ⟨2 * (n + 1), h1⟩ (by show 2 * (n + 1) % 2 = 0; omega) (by show 2 * (n + 1) ≠ 0; omega) h2]
    generalize part m c ⟨2 * (n + 1) + 1, h⟩ = p
    generalize gain m c (2 * n + 1) h2 = g
    pointwise [k0_pay4]

include hpre in
/-- The gain's gradient. -/
theorem final14 : (dats m 0 c).arrAt 14 cfg0.N = val_main_v66 (F := Ideal) (aX m c) (aDy m c) (aG m c) (aW m c) (aD m c) := by
  obtain ⟨h0, h1, h2, h3, h4⟩ := finite_args m hpre c
  refine (dats m 0 c).arrAt_eq_of_covers 14 _ (by decide +kernel) fun t hf y => ?_
  obtain ⟨z, k, rfl⟩ : ∃ (z : Fin 1) (k : Fin 1024), y = ix2 z k := ⟨y 0, y 1, eq_ix2 y⟩
  obtain rfl : z = 0 := Subsingleton.elim _ _
  have hN := lt_N t
  have hf' := (flush0_14 t).mp hf
  have last : ∀ (n : ℕ) (h : n < cfg0.N), n = 2 * 31 + 1 → gain m c n h (ix2 0 k)
      = ∑ s ∈ Finset.range (31 + 1), rows (fun R => dhR (aX m c) (aDy m c) (aG m c) (aW m c) (aD m c) R k * (aX m c (ix2 R k) * rstd (aX m c) R)) s := by
    rintro n h rfl; exact gain_at m c k 31 h
  refine (congrFun (after14 m c t) (ix2 0 k)).trans ((last t.val t.isLt (by omega)).trans (Eq.trans ?_ ((v66_at _ _ _ _ _ k h0 h1 h2 h3 h4).symm.trans (congrArg _ ?_))))
  · rw [Finset.sum_range]
    have e : ∀ (f : Fin 16384 → EReal) (s : Fin (31 + 1)), rows f s.val = ∑ i : Fin 512, f ⟨s.val * 512 + i.val, by omega⟩ := fun f s => dif_pos s.isLt
    simp only [e]
    exact Fin.sum_mul_add_congr fun s i hl => rfl
  · blk_ext [idx t]

end Finals

/-- The run, with each output array named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v24_0) = (dats m 0 c).arrAt 8 cfg0.N
      ∧ r.2.mem ((c : Thread nD τ).loc main_v24_1) = (dats m 0 c).arrAt 9 cfg0.N
      ∧ r.2.mem ((c : Thread nD τ).loc main_v24_2) = (dats m 0 c).arrAt 10 cfg0.N
      ∧ r.2.mem ((c : Thread nD τ).loc main_v24_3) = (dats m 0 c).arrAt 11 cfg0.N
      ∧ r.2.mem ((c : Thread nD τ).loc main_v24_4) = (dats m 0 c).arrAt 12 cfg0.N
      ∧ r.2.mem ((c : Thread nD τ).loc main_v24_5) = (dats m 0 c).arrAt 13 cfg0.N
      ∧ r.2.mem ((c : Thread nD τ).loc main_v24_6) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1.1 c).1 8, (h.1.1 c).1 9, (h.1.1 c).1 10, (h.1.1 c).1 11, (h.1.1 c).1 12, (h.1.1 c).1 13, (h.1.1 c).1 14, h.2.1 c⟩)
    (θ_run_and (run_main m ρ) (Cert.Ffn.quiet m ρ))

end Cert.KernelFfnIdeal.Value

end
-- ==== Proof.Ffn.Claim.lean ====
/- The claim about this call: kernel and reference compute the same arrays. -/
module

public import proofs.«01_k».proof.Defs
public import proofs.«01_k».proof.Proof.Ffn.Final
public import proofs.«01_k».proof.Proof.Gen.KernelFfn.Frame
public import proofs.«01_k».proof.Proof.Gen.ReferenceFfnIdeal.Run
public import proofs.«01_k».proof.Proof.Gen.Pre_finite_ffn
public import Idealize.ShloMosaic.Lib.Claim

@[expose] public section

set_option maxRecDepth 16384

noncomputable section

namespace Cert.Ffn

open Idealize.ShloMosaic Idealize.SL.Sem Cert.ReferenceFfnIdeal.Read

local instance : Cert.KernelFfnIdeal.Facts := Cert.KernelFfnIdeal.Gen.facts
local instance : Cert.ReferenceFfnIdeal.Facts := Cert.ReferenceFfnIdeal.Gen.facts
local instance : Cert.Pre_finite_ffn.Facts := Cert.Pre_finite_ffn.Gen.facts

/-- The reference terminates and leaves its arguments alone. -/
theorem frame_reference : Cert.quiescent_ReferenceFfnIdeal (hReferenceFfnIdeal := Cert.ReferenceFfnIdeal.Gen.facts) :=
  fun m ρ _ => (θ_run Cert.ReferenceFfnIdeal.defs _ _).mono
    (fun r h => ⟨fun c => (h c).2.2.2.2.2.2.2, Idealize.ShloMosaic.sem_eq_zero_of_no_sems (by decide) r.2⟩)
    (Cert.ReferenceFfnIdeal.Value.run (F := Ideal) m ρ)

set_option maxRecDepth 100000 in
set_option maxHeartbeats 1600000 in
/-- Kernel and reference compute the same arrays. -/
theorem algebraic : Cert.algebraic_KernelFfnIdeal_ReferenceFfnIdeal_pre_finite_ffn (hKernelFfnIdeal := Cert.KernelFfnIdeal.Gen.facts)
    (hReferenceFfnIdeal := Cert.ReferenceFfnIdeal.Gen.facts) (hPre_finite_ffn := Cert.Pre_finite_ffn.Gen.facts) := by
  pair_intro
  · run_from Cert.KernelFfnIdeal.Value.run_blocks m g
  · run_from Cert.ReferenceFfnIdeal.Value.run m' g'
    all_goals obtain ⟨h0, h1, h2, h3, h4⟩ := hagree c
    · rw [val_main_v56_eq]; (try simp only [h0, h1, h2, h3, h4]); exact (Cert.KernelFfnIdeal.Value.final8 m hpre c).symm
    · rw [val_main_v57_eq]; (try simp only [h0, h1, h2, h3, h4]); exact (Cert.KernelFfnIdeal.Value.final9 m c).symm
    · rw [val_main_v58_eq]; (try simp only [h0, h1, h2, h3, h4]); exact (Cert.KernelFfnIdeal.Value.final10 m c).symm
    · rw [val_main_v60_eq]; (try simp only [h0, h1, h2, h3, h4]); exact (Cert.KernelFfnIdeal.Value.final11 m hpre c).symm
    · rw [val_main_v62_eq]; (try simp only [h0, h1, h2, h3, h4]); exact (Cert.KernelFfnIdeal.Value.final12 m c).symm
    · rw [val_main_v65_eq]; (try simp only [h0, h1, h2, h3, h4]); exact (Cert.KernelFfnIdeal.Value.final13 m c).symm
    · rw [val_main_v66_eq]; (try simp only [h0, h1, h2, h3, h4]); exact (Cert.KernelFfnIdeal.Value.final14 m hpre c).symm

end Cert.Ffn

end
-- ==== Proof.Fla.Online.lean ====
/- The running maximum, sum and accumulator of the attention's forward kernel, over the reals. -/
module

public import proofs.«01_k».proof.Proof.Common.Finite

@[expose] public section

noncomputable section

namespace Cert.Fla

open Idealize.ShloMosaic Cert.Common

/-- A running sum of `n` weights under the running level `μ`, each weight a power of two times a factor. -/
def part (s w : ℕ → ℝ) (n : ℕ) (x : ℝ) : ℝ := ∑ r ∈ Finset.range n, (2 : ℝ) ^ (s r - x) * w r

/-- What the three running values hold after `n` keys: either nothing was seen, or the level is some real and the sums are those under it. -/
def Holds (s : ℕ → ℝ) (v : Fin 128 → ℕ → ℝ) (n : ℕ) (μ l : EReal) (a : Fin 128 → EReal) : Prop :=
  (n = 0 ∧ μ = ⊥ ∧ l = 0 ∧ ∀ d, a d = 0)
    ∨ ∃ x : ℝ, μ = (x : EReal) ∧ l = (part s (fun _ => 1) n x : EReal) ∧ ∀ d, a d = (part s (v d) n x : EReal)

/-- The largest of reals is a real. -/
theorem fold_max_re (f : Fin 1024 → EReal) (h : ∀ r, Re (f r)) : Re (Finset.fold max (⊥ : EReal) f Finset.univ) := by
  have h0 : (⊥ : EReal) < Finset.fold max (⊥ : EReal) f Finset.univ := by
    obtain ⟨x, hx⟩ := h 0
    exact (Finset.lt_fold_max _).mpr (.inr ⟨0, Finset.mem_univ _, hx ▸ EReal.bot_lt_coe x⟩)
  have h1 : Finset.fold max (⊥ : EReal) f Finset.univ < ⊤ := (Finset.fold_max_lt _).mpr
    ⟨bot_lt_top, fun r _ => by obtain ⟨x, hx⟩ := h r; exact hx ▸ EReal.coe_lt_top x⟩
  exact ⟨_, (EReal.coe_toReal h1.ne h0.ne').symm⟩

/-- One chunk's share of a sum. -/
theorem chunk_coe (s w : ℕ → ℝ) (n : ℕ) (y : ℝ) (S W : Fin 1024 → EReal) (hS : ∀ r, S r = (s (n + r.val) : EReal))
    (hW : ∀ r, W r = (w (n + r.val) : EReal)) :
    ∑ r, W r * Ideal.exp2 (S r - (y : EReal)) = ((∑ r ∈ Finset.range 1024, (2 : ℝ) ^ (s (n + r) - y) * w (n + r) : ℝ) : EReal) := by
  rw [Finset.sum_range, coe_sum]
  refine Finset.sum_congr rfl fun r _ => ?_
  rw [hS, hW, ← EReal.coe_sub, Ideal.exp2_coe, ← EReal.coe_mul, mul_comm]
  rfl

/-- A sum under one level, brought under another. -/
theorem part_level (s w : ℕ → ℝ) (n : ℕ) (x y : ℝ) : Ideal.exp2 ((x : EReal) - (y : EReal)) * (part s w n x : EReal) = (part s w n y : EReal) := by
  rw [← EReal.coe_sub, Ideal.exp2_coe, ← EReal.coe_mul]
  refine congrArg _ ?_
  show (2 : ℝ) ^ (x - y) * part s w n x = _
  unfold part
  rw [Finset.mul_sum]
  refine Finset.sum_congr rfl fun r _ => ?_
  rw [← mul_assoc, ← Real.rpow_add (by norm_num)]
  ring_nf

theorem part_add (s w : ℕ → ℝ) (n : ℕ) (y : ℝ) :
    part s w n y + ∑ r ∈ Finset.range 1024, (2 : ℝ) ^ (s (n + r) - y) * w (n + r) = part s w (n + 1024) y := by
  unfold part
  rw [Finset.sum_range_add]

/-- The levels subtracted where nothing was seen. -/
theorem exp2_none (y : ℝ) : Ideal.exp2 ((⊥ : EReal) - (y : EReal)) = 0 := by
  rw [show (⊥ : EReal) - (y : EReal) = ⊥ from EReal.bot_sub _, Ideal.exp2_bot]

/-- One chunk of 1024 keys more. -/
theorem Holds.step {s : ℕ → ℝ} {v : Fin 128 → ℕ → ℝ} {n : ℕ} {μ l : EReal} {a : Fin 128 → EReal} (H : Holds s v n μ l a)
    (S : Fin 1024 → EReal) (W : Fin 128 → Fin 1024 → EReal) (hS : ∀ r, S r = (s (n + r.val) : EReal))
    (hW : ∀ d r, W d r = (v d (n + r.val) : EReal)) (μ' : EReal) (hμ : μ' = max μ (Finset.fold max (⊥ : EReal) S Finset.univ)) :
    Holds s v (n + 1024) μ' (Ideal.exp2 (μ - μ') * l + ∑ r, Ideal.exp2 (S r - μ'))
      (fun d => Ideal.exp2 (μ - μ') * a d + ∑ r, W d r * Ideal.exp2 (S r - μ')) := by
  obtain ⟨f, hf⟩ := fold_max_re S fun r => ⟨_, hS r⟩
  rw [hf] at hμ
  have one (y : ℝ) : ∑ r, Ideal.exp2 (S r - (y : EReal)) = ((∑ r ∈ Finset.range 1024, (2 : ℝ) ^ (s (n + r) - y) * 1 : ℝ) : EReal) := by
    rw [← chunk_coe s (fun _ => 1) n y S (fun _ => 1) hS fun _ => rfl]
    exact Finset.sum_congr rfl fun r _ => (one_mul _).symm
  right
  rcases H with ⟨rfl, rfl, rfl, ha⟩ | ⟨x, rfl, rfl, ha⟩
  · rw [max_eq_right bot_le] at hμ
    subst hμ
    have none (w : ℕ → ℝ) : part s w 0 f = 0 := Finset.sum_range_zero _
    refine ⟨f, rfl, ?_, fun d => ?_⟩
    · rw [one, exp2_none, zero_mul, zero_add, ← part_add, none, zero_add]
    · show _ * a d + ∑ r, W d r * _ = _
      rw [ha, chunk_coe s (v d) 0 f S (W d) hS (hW d), exp2_none, zero_mul, zero_add, ← part_add, none, zero_add]
  · rw [← EReal.coe_strictMono.monotone.map_max] at hμ
    subst hμ
    refine ⟨_, rfl, ?_, fun d => ?_⟩
    · rw [one, part_level, ← EReal.coe_add, part_add]
    · show _ * a d + ∑ r, W d r * _ = _
      rw [ha, chunk_coe s (v d) n _ S (W d) hS (hW d), part_level, ← EReal.coe_add, part_add]

end Cert.Fla

end
-- ==== Proof.Fla.Block.lean ====
/- A chunk of 1024 keys of the attention's forward kernel, at a query's column. -/
module

public import proofs.«01_k».proof.Proof.Gen.KernelFlaIdeal.Value
public import proofs.«01_k».proof.Proof.Fla.Online
public import Idealize.ShloMosaic.Lib.Pipeline.ValueKit
public import Idealize.ShloMosaic.Lib.Pointwise

@[expose] public section

set_option maxRecDepth 16384

noncomputable section

namespace Cert.Fla

open Idealize.ShloMosaic Idealize.ShloMosaic.TcCoe Idealize.SL.Sem
open Cert.KernelFlaIdeal Cert.KernelFlaIdeal.Gen Cert.Common

/-- The running sum after a chunk with the scores `S`, -/
def sums (S : FVec Ideal S1024x1024 .f32) (M L : FVec Ideal S1x1024 .f32) : FVec Ideal S1x1024 .f32 :=
  addf (mulf (k0_pay22 S M) L)
    (shapeCast S1x1024 (multiReduction .add [0] S1024 (k0_pay23 S M) 0x00000000#32 reduces_S1024x1024_S1024 (.inl rfl) rfl) shapeCasts_S1024_S1x1024)

/-- and the running accumulator. -/
def accs (S : FVec Ideal S1024x1024 .f32) (M : FVec Ideal S1x1024 .f32) (A : FVec Ideal S128x1024 .f32) (W : FVec Ideal S128x1024 .bf16) :
    FVec Ideal S128x1024 .f32 :=
  addf (mulf (broadcastTo S128x1024 (k0_pay22 S M) broadcasts_S1x1024_S128x1024) A)
    (matmul dot_S128x1024_S1024x1024_S128x1024_1_0_0_1_n_n none (shapeCast S128x1024 W shapeCasts_S128x1024_S128x1024)
      (truncf .bf16 (k0_pay23 S M) bitsLt_bf16_f32) (constant S128x1024 .f32 0x00000000#32))

variable (S : FVec Ideal S1024x1024 .f32) (M L : FVec Ideal S1x1024 .f32) (A : FVec Ideal S128x1024 .f32) (W : FVec Ideal S128x1024 .bf16)

theorem max_at (i : Fin 1024) : k0_pay21 S M (ix2 0 i)
    = max (M (ix2 0 i)) (Finset.fold max (Ideal.ofBits FTy.f32 4286578688#32) (fun r : Fin 1024 => S (ix2 r i)) Finset.univ) := by
  pointwise [k0_pay21]

theorem sums_at (i : Fin 1024) : sums S M L (ix2 0 i) = Ideal.exp2 (M (ix2 0 i) - k0_pay21 S M (ix2 0 i)) * L (ix2 0 i)
    + ∑ r : Fin 1024, Ideal.exp2 (S (ix2 r i) - k0_pay21 S M (ix2 0 i)) := by
  pointwise [sums, k0_pay22, k0_pay23]
  rfl

theorem accs_at (d : Fin 128) (i : Fin 1024) : accs S M A W (ix2 d i) = Ideal.exp2 (M (ix2 0 i) - k0_pay21 S M (ix2 0 i)) * A (ix2 d i)
    + ∑ r : Fin 1024, W (ix2 d r) * Ideal.exp2 (S (ix2 r i) - k0_pay21 S M (ix2 0 i)) := by
  pointwise [accs, k0_pay22, k0_pay23]
  rfl

theorem score_at (Q K : FVec Ideal S1024x128 .bf16) (r i : Fin 1024) : k0_pay20 Q K (ix2 r i) = ∑ l : Fin 128, K (ix2 r l) * Q (ix2 i l) := by
  pointwise [k0_pay20]

theorem none_at (i : Fin 1024) (d : Fin 128) : k0_pay9 (F := Ideal) (ix2 0 i) = Ideal.ofBits .f32 0xFF800000#32
    ∧ k0_pay10 (F := Ideal) (ix2 0 i) = 0 ∧ k0_pay11 (F := Ideal) (ix2 d i) = 0 := by
  refine ⟨?_, ?_, ?_⟩
  · pointwise [k0_pay9]
  · pointwise [k0_pay10]
  · pointwise [k0_pay11]

theorem out_at (i : Fin 1024) (d : Fin 128) : k0_pay7 (F := Ideal) A L (ix2 i d) = Ideal.div (A (ix2 d i)) (L (ix2 0 i)) := by
  pointwise [k0_pay7]

theorem named : (Named.named κ "log2_e" 0x3FB8AA3B#32 : Ideal .f32) = (((Real.log 2)⁻¹ : ℝ) : EReal) := by
  exact IdealRules.named_const.ideal_named_scalar _ _ _ _ rfl

theorem logsum_at (i : Fin 1024) : k0_pay8 (F := Ideal) M L (ix3 0 0 i) = M (ix2 0 i) + Ideal.log (L (ix2 0 i)) * (((Real.log 2)⁻¹ : ℝ) : EReal) := by
  rw [← named]
  pointwise [k0_pay8]

end Cert.Fla

end
-- ==== Proof.Fla.Rows.lean ====
/- The sixteen chunks of the attention's forward kernel, one after the other, at a query's column. -/
module

public import proofs.«01_k».proof.Proof.Fla.Block
public import proofs.«01_k».proof.Proof.Att.Softmax

@[expose] public section

set_option maxRecDepth 16384

noncomputable section

namespace Cert.Fla

open Idealize.ShloMosaic Idealize.ShloMosaic.TcCoe Idealize.SL.Sem
open Cert.KernelFlaIdeal Cert.KernelFlaIdeal.Gen Cert.Common Cert.Att

/-- The running values at column `i` are those after `n` keys. -/
def At (s : ℕ → ℝ) (v : Fin 128 → ℕ → ℝ) (i : Fin 1024) (n : ℕ) (M L : FVec Ideal S1x1024 .f32) (A : FVec Ideal S128x1024 .f32) : Prop :=
  Holds s v n (M (ix2 0 i)) (L (ix2 0 i)) fun d => A (ix2 d i)

variable {s : ℕ → ℝ} {v : Fin 128 → ℕ → ℝ} {i : Fin 1024} {n : ℕ} {M L : FVec Ideal S1x1024 .f32} {A : FVec Ideal S128x1024 .f32}

/-- One chunk. -/
theorem At.step (H : At s v i n M L A) (S : FVec Ideal S1024x1024 .f32) (W : FVec Ideal S128x1024 .bf16)
    (hS : ∀ r, S (ix2 r i) = (s (n + r.val) : EReal)) (hW : ∀ d r, W (ix2 d r) = (v d (n + r.val) : EReal)) :
    At s v i (n + 1024) (k0_pay21 S M) (sums S M L) (accs S M A W) := by
  have hm := max_at S M i
  rw [ofBits_bot] at hm
  have h := Holds.step H (fun r => S (ix2 r i)) (fun d r => W (ix2 d r)) hS hW _ hm
  unfold At
  rw [sums_at, show (fun d => accs S M A W (ix2 d i)) = _ from funext fun d => accs_at S M A W d i]
  exact h

/-- Before the first. -/
theorem at_none : At s v i 0 (k0_pay9 (F := Ideal)) (k0_pay10 (F := Ideal)) (k0_pay11 (F := Ideal)) :=
  .inl ⟨rfl, (none_at i 0).1.trans ofBits_bot, (none_at i 0).2.1, fun d => (none_at i d).2.2⟩

variable {Q : FVec Ideal S1024x128 .bf16} {K : FVec Ideal S16384x128 .bf16} {Wt : FVec Ideal S128x16384 .bf16}

/-- The rows from `n` on, -/
abbrev kr (n : ℕ) (h : ∀ a, (![n, 0] : Fin 2 → Nat) a + S1024x128.size a ≤ S16384x128.size a) : Rect S16384x128 := Rect.unit ![n, 0] ![1024, 128] h

/-- and the columns. -/
abbrev vr (n : ℕ) (h : ∀ a, (![0, n] : Fin 2 → Nat) a + S128x1024.size a ≤ S128x16384.size a) : Rect S128x16384 := Rect.unit ![0, n] ![128, 1024] h

/-- The keys' chunk that begins at row `n`, -/
abbrev kc (K : FVec Ideal S16384x128 .bf16) (n : ℕ) (h : ∀ a, (![n, 0] : Fin 2 → Nat) a + S1024x128.size a ≤ S16384x128.size a) :
    Vec Ideal S1024x128 .bf16 :=
  View.ld (Val := Elt Ideal) (e' := .bf16) K (kr n h)

/-- and the values' that begins at column `n`. -/
abbrev vc (Wt : FVec Ideal S128x16384 .bf16) (n : ℕ) (h : ∀ a, (![0, n] : Fin 2 → Nat) a + S128x1024.size a ≤ S128x16384.size a) :
    Vec Ideal S128x1024 .bf16 :=
  View.ld (Val := Elt Ideal) (e' := .bf16) Wt (vr n h)

theorem kc_at (n : ℕ) (h) (hn : n + 1024 ≤ 16384) (r : Fin 1024) (l : Fin 128) : kc K n h (ix2 r l) = K (ix2 ⟨n + r.val, by omega⟩ l) :=
  congrArg K (show (kr n h).emb (ix2 r l) = ix2 ⟨n + r.val, by omega⟩ l by blk_ext [])

theorem vc_at (n : ℕ) (h) (hn : n + 1024 ≤ 16384) (d : Fin 128) (r : Fin 1024) : vc Wt n h (ix2 d r) = Wt (ix2 d ⟨n + r.val, by omega⟩) :=
  congrArg Wt (show (vr n h).emb (ix2 d r) = ix2 d ⟨n + r.val, by omega⟩ by blk_ext [])

/-- The scores of a column's query and the columns of the values are reals. -/
structure Given (s : ℕ → ℝ) (v : Fin 128 → ℕ → ℝ) (i : Fin 1024) (Q : FVec Ideal S1024x128 .bf16) (K : FVec Ideal S16384x128 .bf16)
    (Wt : FVec Ideal S128x16384 .bf16) : Prop where
  score : ∀ r : Fin 16384, ∑ l : Fin 128, K (ix2 r l) * Q (ix2 i l) = (s r.val : EReal)
  value : ∀ (d : Fin 128) (r : Fin 16384), Wt (ix2 d r) = (v d r.val : EReal)

variable (G : Given s v i Q K Wt)
include G

theorem Given.chunk (n : ℕ) (hn : n + 1024 ≤ 16384) (h) (h') (H : At s v i n M L A) :
    At s v i (n + 1024) (k0_pay21 (k0_pay20 Q (kc K n h)) M) (sums (k0_pay20 Q (kc K n h)) M L) (accs (k0_pay20 Q (kc K n h)) M A (vc Wt n h')) :=
  H.step _ _ (fun r => by rw [score_at, ← G.score ⟨n + r.val, by omega⟩]; exact Finset.sum_congr rfl fun l _ => by rw [kc_at n h hn])
    fun d r => (vc_at n h' hn d r).trans (G.value d _)

/-- Two chunks, as one part of the body takes them. -/
theorem Given.pair (n : ℕ) (hn : n + 2048 ≤ 16384) (h) (h') (k) (k') (H : At s v i n M L A) :
    At s v i (n + 2048) (k0_pay25 Q (k0_pay20 Q (kc K n h)) M (kc K (n + 1024) k)) (k0_pay28 Q (k0_pay20 Q (kc K n h)) M L (kc K (n + 1024) k))
      (k0_pay29 Q (k0_pay20 Q (kc K n h)) M A (kc K (n + 1024) k) (vc Wt n h') (vc Wt (n + 1024) k')) :=
  G.chunk (n + 1024) (by omega) k k' (G.chunk n (by omega) h h' H)

omit G in
theorem cast_at (X : FVec Ideal S1x1024 .f32) (h) : shapeCast S1x1024 X h (ix2 0 i) = X (ix2 0 i) := by
  pointwise []

omit G in
theorem cast_at' (X : FVec Ideal S128x1024 .f32) (h) (d : Fin 128) : shapeCast S128x1024 X h (ix2 d i) = X (ix2 d i) := by
  pointwise []

/-- The last chunk, whose values are stored. -/
theorem Given.last (n : ℕ) (hn : n + 1024 ≤ 16384) (h) (h') (H : At s v i n M L A) :
    At s v i (n + 1024) (k0_pay4 M (k0_pay90 Q (kc K n h))) (k0_pay5 (k0_pay20 Q (kc K n h)) M L (k0_pay90 Q (kc K n h)))
      (k0_pay6 (k0_pay20 Q (kc K n h)) M A (k0_pay90 Q (kc K n h)) (vc Wt n h')) := by
  have h := G.chunk n hn h h' H
  unfold At at h ⊢
  have e (X : FVec Ideal S1x1024 .f32) (hc) : X (ix2 0 i) = shapeCast S1x1024 X hc (ix2 0 i) := (cast_at X hc).symm
  rw [e (k0_pay21 _ M) shapeCasts_S1x1024_S1x1024, e (sums _ M L) shapeCasts_S1x1024_S1x1024,
    show (fun d => accs _ M A (vc Wt n h') (ix2 d i)) = fun d => shapeCast S128x1024 (accs _ M A (vc Wt n h')) shapeCasts_S128x1024_S128x1024 (ix2 d i)
      from funext fun d => (cast_at' _ _ d).symm] at h
  exact h

end Cert.Fla

end
-- ==== Proof.Fla.Real.lean ====
/- The running sums of the attention's forward kernel after all the keys, over the reals. -/
module

public import proofs.«01_k».proof.Proof.Att.Real
public import proofs.«01_k».proof.Proof.Fla.Online

@[expose] public section

noncomputable section

namespace Cert.Fla

open Idealize.ShloMosaic Cert.Common Cert.Att

variable (q k : Fin 16384 → Fin 8 → Fin 96 → ℝ) (v : Fin 16384 → Fin 8 → Fin 64 → ℝ) (h : Fin 8) (j : Fin 16384)

/-- A function of the keys, by their numbers. -/
def num (f : Fin 16384 → ℝ) (r : ℕ) : ℝ := if h : r < 16384 then f ⟨r, h⟩ else 0

theorem num_val (f : Fin 16384 → ℝ) (r : Fin 16384) : num f r.val = f r := dif_pos r.isLt

/-- The scores in base two. -/
def sco2 (r : Fin 16384) : ℝ := sco q k h j r * (1 / Real.log 2)

/-- They are the products of the padded rows. -/
theorem sco2_eq (r : Fin 16384) : ∑ l, lanes (k r h) l * lanes (fun d => q j h d * factor) l = sco2 q k h j r := by
  rw [sum_lanes (r := 32) rfl]
  unfold sco2 sco factor
  rw [Finset.sum_mul]
  exact Finset.sum_congr rfl fun d _ => by ring

theorem log2_ne : Real.log 2 ≠ 0 := (Real.log_pos (by norm_num)).ne'

/-- A running sum after all the keys is a multiple of the sum of the reference. -/
theorem part_all (w : ℕ → ℝ) (x : ℝ) : part (num (sco2 q k h j)) w 16384 x
    = Real.exp (top q k h j - x * Real.log 2) * ∑ r : Fin 16384, ex q k h j r * w r.val := by
  unfold part
  rw [Finset.sum_range, Finset.mul_sum]
  refine Finset.sum_congr rfl fun r _ => ?_
  rw [num_val, ← mul_assoc]
  refine congrArg (· * w r.val) ?_
  unfold ex
  rw [← Real.exp_add, Real.rpow_def_of_pos (by norm_num)]
  refine congrArg Real.exp ?_
  have e : Real.log 2 * (sco2 q k h j r - x) = sco q k h j r - x * Real.log 2 := by
    unfold sco2
    have := log2_ne
    field_simp
  rw [e]
  ring

/-- The sum of the weights alone. -/
theorem part_one (x : ℝ) : part (num (sco2 q k h j)) (fun _ => 1) 16384 x = Real.exp (top q k h j - x * Real.log 2) * tot q k h j := by
  rw [part_all]
  unfold tot
  simp only [mul_one]

/-- The quotient of the accumulator by the sum is the output. -/
theorem out_all (x : ℝ) (d : Fin 128) : part (num (sco2 q k h j)) (num fun r => lanes (v r h) d) 16384 x / part (num (sco2 q k h j)) (fun _ => 1) 16384 x
    = lanes (out q k v h j) d := by
  rw [part_one, part_all, mul_div_mul_left _ _ (Real.exp_pos _).ne']
  simp only [num_val]
  rw [sum_mul_lanes, div_eq_mul_inv, lanes_mul]
  unfold out lanes
  split_ifs
  · dsimp only
    rw [Finset.sum_mul]
    exact Finset.sum_congr rfl fun r _ => by ring
  · rfl

theorem part_pos (x : ℝ) : 0 < part (num (sco2 q k h j)) (fun _ => 1) 16384 x := by
  rw [part_one]
  exact mul_pos (Real.exp_pos _) (tot_pos q k h j)

/-- The level and the sum's logarithm are the row's logarithm. -/
theorem log_all (x : ℝ) : x + Real.log (part (num (sco2 q k h j)) (fun _ => 1) 16384 x) * (Real.log 2)⁻¹
    = (top q k h j + Real.log (tot q k h j)) / Real.log 2 := by
  rw [part_one, Real.log_mul (Real.exp_pos _).ne' (tot_ne q k h j), Real.log_exp]
  have := log2_ne
  field_simp
  ring

end Cert.Fla

end
-- ==== Proof.Fla.Value.lean ====
/- What the attention's forward kernel is given: the padded queries, keys and values, over the reals. -/
module

public import proofs.«01_k».proof.Proof.Fla.Rows
public import proofs.«01_k».proof.Proof.Fla.Real
public import proofs.«01_k».proof.Proof.Common.Consts

@[expose] public section

set_option maxRecDepth 16384

noncomputable section

namespace Cert.KernelFlaIdeal.Value

open Idealize.ShloMosaic Idealize.ShloMosaic.TcCoe Idealize.SL.Sem
open Cert.KernelFlaIdeal Cert.KernelFlaIdeal.Gen Cert.Common Cert.Att Cert.Fla

/-- The reciprocal of the logarithm of two, -/
def hInv : FVec Ideal S_ .f32 := Host.divf (constant S_ .f32 0x3F800000#32) (Host.log (constant S_ .f32 0x40000000#32))

/-- the queries with the kernel's factor, -/
def hQ (x : FVec Ideal S16384x8x96 .f32) : FVec Ideal S16384x8x96 .f32 :=
  mulf x (broadcastInDim S16384x8x96 ![] bcast_S_S16384x8x96 (mulf (constant S_ .f32 0x3DD105EC#32) hInv))

/-- heads of 96 columns, padded to 128, -/
def wide (x : FVec Ideal S16384x8x96 .f32) : FVec Ideal S16384x1024 .bf16 :=
  truncf .bf16 (shapeCast S16384x1024 (pad S16384x8x128 ![0, 0, 0] ![0, 0, 32] ![0, 0, 0] x (sitofp .f32 (constantI S_ 32 0#32))
    pads_S16384x8x96_S16384x8x128_000_000_0320 h_S_) shapeCasts_S16384x8x128_S16384x1024) bitsLt_bf16_f32

/-- and heads of 64 columns, padded and transposed. -/
def tall (x : FVec Ideal S16384x8x64 .f32) : FVec Ideal S1024x16384 .bf16 :=
  transpose S1024x16384 [1, 0] (truncf .bf16 (shapeCast S16384x1024 (pad S16384x8x128 ![0, 0, 0] ![0, 0, 64] ![0, 0, 0] x
    (sitofp .f32 (constantI S_ 32 0#32)) pads_S16384x8x64_S16384x8x128_000_000_0640 h_S_) shapeCasts_S16384x8x128_S16384x1024) bitsLt_bf16_f32)
    transposes_S16384x1024_S1024x16384_1_0

theorem hInv_at : hInv ix0 = ((1 / Real.log 2 : ℝ) : EReal) := by
  have e : hInv ix0 = Ideal.div 1 (Ideal.log (Ideal.ofBits .f32 0x40000000#32)) := by pointwise [hInv]
  have h2 : ¬(2 : ℝ) ≤ 0 := by norm_num
  rw [e, ofBits_two, Ideal.log_coe, if_neg h2, show (1 : EReal) = ((1 : ℝ) : EReal) from rfl]
  exact div_coe_coe _ _ log2_ne

theorem hQ_form (x : FVec Ideal S16384x8x96 .f32) (w : FVec Ideal S_ .f32) (i : S16384x8x96.Idx) :
    mulf x (broadcastInDim S16384x8x96 ![] bcast_S_S16384x8x96 (mulf (constant S_ .f32 0x3DD105EC#32) w)) i
      = x i * (Ideal.ofBits .f32 0x3DD105EC#32 * w ix0) := by
  pointwise []

theorem zero_word : (FloatOps.sitofp FTy.f32 0#32 : Ideal .f32) = 0 := by simp [FloatOps.sitofp]

/-- Column `l` of head `h` among the padded heads. -/
def col (h : Fin 8) (l : Fin 128) : Fin 1024 := ⟨h.val * 128 + l.val, by omega⟩

theorem col_mod (h : Fin 8) (l : Fin 128) : (col h l).val % 128 = l.val := by show (h.val * 128 + l.val) % 128 = l.val; omega

theorem col_div (h : Fin 8) (l : Fin 128) : (col h l).val / 128 = h.val := by show (h.val * 128 + l.val) / 128 = h.val; omega

theorem wide_at (x : FVec Ideal S16384x8x96 .f32) (j : Fin 16384) (a : Fin 1024) :
    wide x (ix2 j a) = if h : a.val % 128 < 96 then x (ix3 j ⟨a.val / 128, by omega⟩ ⟨a.val % 128, h⟩) else 0 := by
  have ha := a.isLt
  rw [wide]
  pointwise []
  split_ifs <;> first | rfl | exact zero_word | (exfalso; omega)

theorem tall_at (x : FVec Ideal S16384x8x64 .f32) (a : Fin 1024) (j : Fin 16384) :
    tall x (ix2 a j) = if h : a.val % 128 < 64 then x (ix3 j ⟨a.val / 128, by omega⟩ ⟨a.val % 128, h⟩) else 0 := by
  have ha := a.isLt
  rw [tall]
  pointwise []
  split_ifs <;> first | rfl | exact zero_word | (exfalso; omega)

theorem wide_col (x : FVec Ideal S16384x8x96 .f32) (j : Fin 16384) (h : Fin 8) (l : Fin 128) :
    wide x (ix2 j (col h l)) = if hl : l.val < 96 then x (ix3 j h ⟨l.val, hl⟩) else 0 := by
  rw [wide_at]
  simp only [col_mod, col_div]

theorem tall_col (x : FVec Ideal S16384x8x64 .f32) (h : Fin 8) (l : Fin 128) (j : Fin 16384) :
    tall x (ix2 (col h l) j) = if hl : l.val < 64 then x (ix3 j h ⟨l.val, hl⟩) else 0 := by
  rw [tall_at]
  simp only [col_mod, col_div]

variable (m : (ℓ : Loc nD τ sig) → Buf (Elt Ideal) ℓ)

/-- The queries, -/
abbrev aQ (c : Dev nD) : FVec Ideal S16384x8x96 .f32 := m ((c : Thread nD τ).loc main_arg0)
/-- the keys -/
abbrev aK (c : Dev nD) : FVec Ideal S16384x8x96 .f32 := m ((c : Thread nD τ).loc main_arg1)
/-- and the values. -/
abbrev aV (c : Dev nD) : FVec Ideal S16384x8x64 .f32 := m ((c : Thread nD τ).loc main_arg2)

/-- What the region finds as its three operands. -/
theorem operands (c : Dev nD) : V m c main_v7 = wide (hQ (aQ m c)) ∧ V m c main_v10 = wide (aK m c) ∧ V m c main_v14 = tall (aV m c) := by
  unfold V hostOps0 hostOps0_1 hostOps0_2 hostOps0_3 hostOps0_4 hostOps0_5 hostOps0_6
  simp only [List.flatten_cons, List.flatten_nil, List.append_nil, List.cons_append, List.nil_append]
  refine ⟨?_, ?_, ?_⟩ <;> (after_results; rfl)

/-- Which block each window holds at a point. -/
theorem idx : ∀ t : Fin cfg0.N, win0_0.index t = ![t.val % 16, t.val / 16] ∧ win0_1.index t = ![0, t.val / 16]
    ∧ win0_2.index t = ![t.val / 16, 0] ∧ win0_3.index t = ![t.val % 16, t.val / 16] ∧ win0_4.index t = ![t.val / 16, 0, t.val % 16] :=
  (by decide +kernel : ∀ t : Fin grid0.N, _)

theorem lt_N (t : Fin cfg0.N) : t.val < 128 := t.isLt

/-- A point's head, -/
def head (t : Fin cfg0.N) : Fin 8 := ⟨t.val / 16, by have := lt_N t; omega⟩

/-- and query `i` of its block. -/
def row (t : Fin cfg0.N) (i : Fin 1024) : Fin 16384 := ⟨t.val % 16 * 1024 + i.val, by omega⟩

variable (c : Dev nD) {q k : Fin 16384 → Fin 8 → Fin 96 → ℝ} {v : Fin 16384 → Fin 8 → Fin 64 → ℝ}
variable (h0 : ∀ j h d, aQ m c (ix3 j h d) = (q j h d : EReal)) (h1 : ∀ j h d, aK m c (ix3 j h d) = (k j h d : EReal))
variable (h2 : ∀ j h d, aV m c (ix3 j h d) = (v j h d : EReal))

include h0 in
theorem hQ_at (j : Fin 16384) (h : Fin 8) (d : Fin 96) : hQ (aQ m c) (ix3 j h d) = ((q j h d * factor : ℝ) : EReal) := by
  rw [hQ, hQ_form, hInv_at, ofBits_scale, h0, factor]
  simp only [EReal.coe_mul]

include h0 in
/-- A point's queries, -/
theorem q_at (t : Fin cfg0.N) (i : Fin 1024) (l : Fin 128) :
    (iblk m c 0 t : FVec Ideal S1024x128 .bf16) (ix2 i l) = (lanes (fun d => q (row t i) (head t) d * factor) l : EReal) := by
  show V m c main_v7 ((win0_0.blk t).view.emb (ix2 i l)) = _
  rw [(operands m c).1, show (win0_0.blk t).view.emb (ix2 i l) = ix2 (row t i) (col (head t) l) by unfold col head row; blk_ext [idx t], wide_col]
  exact lanes_coe (fun d => hQ (aQ m c) (ix3 (row t i) (head t) d)) _ (fun d => hQ_at m c h0 _ (head t) d) l

include h1 in
/-- keys, -/
theorem k_at (t : Fin cfg0.N) (r : Fin 16384) (l : Fin 128) :
    (iblk m c 1 t : FVec Ideal S16384x128 .bf16) (ix2 r l) = (lanes (k r (head t)) l : EReal) := by
  show V m c main_v10 ((win0_1.blk t).view.emb (ix2 r l)) = _
  rw [(operands m c).2.1, show (win0_1.blk t).view.emb (ix2 r l) = ix2 r (col (head t) l) by unfold col head; blk_ext [idx t], wide_col]
  exact lanes_coe (fun d => aK m c (ix3 r (head t) d)) _ (h1 _ _) l

include h2 in
/-- and values. -/
theorem v_at (t : Fin cfg0.N) (l : Fin 128) (r : Fin 16384) :
    (iblk m c 2 t : FVec Ideal S128x16384 .bf16) (ix2 l r) = (lanes (v r (head t)) l : EReal) := by
  show V m c main_v14 ((win0_2.blk t).view.emb (ix2 l r)) = _
  rw [(operands m c).2.2, show (win0_2.blk t).view.emb (ix2 l r) = ix2 (col (head t) l) r by unfold col head; blk_ext [idx t], tall_col]
  exact lanes_coe (fun d => aV m c (ix3 r (head t) d)) _ (h2 _ _) l

include h0 h1 h2 in
/-- The scores in base two and the values are what the chunks take. -/
theorem given (t : Fin cfg0.N) (i : Fin 1024) : Given (num (sco2 q k (head t) (row t i))) (fun d => num fun r => lanes (v r (head t)) d) i
    (iblk m c 0 t) (iblk m c 1 t) (iblk m c 2 t) where
  score r := by
    rw [num_val, ← sco2_eq, coe_sum]
    exact Finset.sum_congr rfl fun l _ => by rw [k_at m c h1, q_at m c h0, EReal.coe_mul]
  value d r := by
    rw [num_val]
    exact v_at m c h2 t d r

end Cert.KernelFlaIdeal.Value

end
-- ==== Proof.Fla.Ref.lean ====
/- The reference's attention and the logarithms of its row sums, over the reals. -/
module

public import proofs.«01_k».proof.Proof.Gen.ReferenceFlaIdeal.Read
public import proofs.«01_k».proof.Proof.Att.Real
public import proofs.«01_k».proof.Proof.Common.Consts
public import Idealize.ShloMosaic.Lib.Pipeline.ValueKit
public import Idealize.ShloMosaic.Lib.Pointwise

@[expose] public section

set_option maxRecDepth 16384

noncomputable section

namespace Cert.Fla

open Idealize.ShloMosaic Idealize.ShloMosaic.TcCoe Idealize.SL.Sem
open Cert.ReferenceFlaIdeal Cert.ReferenceFlaIdeal.Gen Cert.ReferenceFlaIdeal.Read Cert.Common Cert.Att

/-- The exponentials, from scores and levels. -/
theorem exps_form (X : FVec Ideal S8x16384x16384 .f32) (w : FVec Ideal S8x16384 .f32) (h : Fin 8) (j r : Fin 16384) :
    Host.exp (subf X (broadcastInDim S8x16384x16384 ![0, 1, 2] bcast_S8x16384x1_S8x16384x16384_0_1_2
      (broadcastInDim S8x16384x1 ![0, 1] bcast_S8x16384_S8x16384x1_0_1 w))) (ix3 h j r) = Ideal.exp (X (ix3 h j r) - w (ix2 h j)) := by
  pointwise []

/-- The larger of the least number and another is the other. -/
theorem most_form (w : FVec Ideal S8x16384 .f32) : maximumf val_main_v4 w = w := by
  funext i
  have e : val_main_v4 (F := Ideal) i = ⊥ := ofBits_bot
  show max (val_main_v4 (F := Ideal) i) (w i) = w i
  rw [e]
  exact max_eq_right bot_le

/-- The rows' logarithms in base two, from levels and sums. -/
theorem logs_form (X w : FVec Ideal S8x16384 .f32) (n : FVec Ideal S_ .f32) (h : Fin 8) (z : Fin 1) (j : Fin 16384) :
    broadcastInDim S8x1x16384 ![0, 2] bcast_S8x16384_S8x1x16384_0_2 (Host.divf (shapeCast S8x16384
      (addf (broadcastInDim S8x16384x1 ![0, 1] bcast_S8x16384_S8x16384x1_0_1 X)
        (Host.log (broadcastInDim S8x16384x1 ![0, 1] bcast_S8x16384_S8x16384x1_0_1 w))) shapeCasts_S8x16384x1_S8x16384)
      (broadcastInDim S8x16384 ![] bcast_S_S8x16384 n)) (ix3 h z j) = Ideal.div (X (ix2 h j) + Ideal.log (w (ix2 h j))) (n ix0) := by
  pointwise []

/-- The logarithm of two. -/
theorem v31_at : val_main_v31 (F := Ideal) ix0 = ((Real.log 2 : ℝ) : EReal) := by
  have h2 : ¬(2 : ℝ) ≤ 0 := by norm_num
  have e : val_main_v31 (F := Ideal) ix0 = Ideal.log (Ideal.ofBits .f32 0x40000000#32) := by pointwise [val_main_v31, val_main_cst_6]
  rw [e, ofBits_two, Ideal.log_coe, if_neg h2]

theorem exp_sub (a b : ℝ) : Ideal.exp ((a : EReal) - (b : EReal)) = (Real.exp (a - b) : EReal) := by
  rw [← EReal.coe_sub, Ideal.exp_coe]

theorem log_add (a b c : ℝ) (hb : 0 < b) (hc : c ≠ 0) : Ideal.div ((a : EReal) + Ideal.log (b : EReal)) (c : EReal) = (((a + Real.log b) / c : ℝ) : EReal) := by
  rw [Ideal.log_coe, if_neg (not_le.mpr hb), ← EReal.coe_add, div_coe_coe _ _ hc]

variable {x0 x1 : (⟨S16384x8x96, .f32⟩ : BufTy).Contents (Elt Ideal)} {x2 : (⟨S16384x8x64, .f32⟩ : BufTy).Contents (Elt Ideal)}
variable {q k : Fin 16384 → Fin 8 → Fin 96 → ℝ} {v : Fin 16384 → Fin 8 → Fin 64 → ℝ}
variable (h0 : ∀ j h d, x0 (ix3 j h d) = (q j h d : EReal)) (h1 : ∀ j h d, x1 (ix3 j h d) = (k j h d : EReal))
variable (h2 : ∀ j h d, x2 (ix3 j h d) = (v j h d : EReal))
include h0 h1

/-- The scores. -/
theorem v2_at (h : Fin 8) (j r : Fin 16384) : val_main_v2 x0 x1 (ix3 h j r) = (sco q k h j r : EReal) := by
  unfold sco
  rw [coe_sum]
  pointwise [val_main_v2, val_main_v1, val_main_v0, val_main_cst]
  simp only [h0, h1, ofBits_scale, EReal.coe_mul]

/-- The largest score. -/
theorem v3_at (h : Fin 8) (j : Fin 16384) : val_main_v3 x0 x1 (ix2 h j) = (top q k h j : EReal) := by
  pointwise [val_main_v3, val_main_cst_0]
  rw [ofBits_bot]
  simp only [v2_at h0 h1]
  rw [fold_max_coe]
  unfold top
  rfl

omit h0 h1 in
/-- The largest score again, for the logarithms. -/
theorem v20_eq : val_main_v20 (F := Ideal) x0 x1 = val_main_v2 x0 x1 := by
  rw [val_main_v20, val_main_v2]

omit h0 h1 in
theorem v21_eq : val_main_v21 (F := Ideal) x0 x1 = val_main_v3 x0 x1 := by
  rw [val_main_v21, val_main_v3, v20_eq, val_main_cst_4, val_main_cst_0]

/-- The exponentials. -/
theorem v9_at (h : Fin 8) (j r : Fin 16384) : val_main_v9 x0 x1 (ix3 h j r) = (ex q k h j r : EReal) := by
  rw [val_main_v9, val_main_v8, val_main_v7, val_main_v6, val_main_v5, most_form]
  refine (exps_form _ _ h j r).trans ?_
  rw [v2_at h0 h1, v3_at h0 h1, exp_sub, ex]

/-- Their sum. -/
theorem v10_at (h : Fin 8) (j : Fin 16384) : val_main_v10 x0 x1 (ix2 h j) = (tot q k h j : EReal) := by
  have e : val_main_v10 x0 x1 (ix2 h j) = ∑ r, val_main_v9 x0 x1 (ix3 h j r) := by
    pointwise [val_main_v10, val_main_cst_2]
  rw [e]
  simp only [v9_at h0 h1]
  exact (coe_sum _ _).symm

/-- The exponentials again, -/
theorem v25_at (h : Fin 8) (j r : Fin 16384) : val_main_v25 x0 x1 (ix3 h j r) = (ex q k h j r : EReal) := by
  rw [val_main_v25, val_main_v24, val_main_v23, val_main_v22]
  refine (exps_form _ _ h j r).trans ?_
  rw [v21_eq, v20_eq, v2_at h0 h1, v3_at h0 h1, exp_sub, ex]

/-- and their sum. -/
theorem v26_at (h : Fin 8) (j : Fin 16384) : val_main_v26 x0 x1 (ix2 h j) = (tot q k h j : EReal) := by
  have e : val_main_v26 x0 x1 (ix2 h j) = ∑ r, val_main_v25 x0 x1 (ix3 h j r) := by
    pointwise [val_main_v26, val_main_cst_5]
  rw [e]
  simp only [v25_at h0 h1]
  exact (coe_sum _ _).symm

/-- The row's logarithm, in base two. -/
theorem v34_at (h : Fin 8) (z : Fin 1) (j : Fin 16384) :
    val_main_v34 (F := Ideal) x0 x1 (ix3 h z j) = (((top q k h j + Real.log (tot q k h j)) / Real.log 2 : ℝ) : EReal) := by
  rw [val_main_v34, val_main_v33, val_main_v32, val_main_v30, val_main_v29, val_main_v28, val_main_v27, val_main_v22]
  refine (logs_form _ _ _ h z j).trans ?_
  rw [v21_eq, v3_at h0 h1, v26_at h0 h1, v31_at, log_add _ _ _ (tot_pos q k h j) (Real.log_pos (by norm_num)).ne']

include h2

/-- An output of a head, -/
theorem v15_at (j : Fin 16384) (h : Fin 8) (d : Fin 64) : val_main_v15 (F := Ideal) x0 x1 x2 (ix3 j h d) = (out q k v h j d : EReal) := by
  have e : val_main_v15 (F := Ideal) x0 x1 x2 (ix3 j h d)
      = ∑ r, x2 (ix3 r h d) * Ideal.div (val_main_v9 x0 x1 (ix3 h j r)) (val_main_v10 x0 x1 (ix2 h j)) := by
    pointwise [val_main_v15, val_main_v14, val_main_v13, val_main_v12, val_main_v11]
  rw [e]
  simp only [v9_at h0 h1, v10_at h0 h1, h2, div_coe_coe _ _ (tot_ne q k h j), ← EReal.coe_mul]
  exact (coe_sum _ _).symm

/-- and the padded heads. -/
theorem v19_at (j : Fin 16384) (a : Fin 1024) : val_main_v19 (F := Ideal) x0 x1 x2 (ix2 j a)
    = (lanes (out q k v ⟨a.val / 128, by omega⟩ j) ⟨a.val % 128, by omega⟩ : EReal) := by
  have ha := a.isLt
  have e : val_main_v19 (F := Ideal) x0 x1 x2 (ix2 j a)
      = if h : a.val % 128 < 64 then val_main_v15 (F := Ideal) x0 x1 x2 (ix3 j ⟨a.val / 128, by omega⟩ ⟨a.val % 128, h⟩) else 0 := by
    pointwise [val_main_v19, val_main_v18, val_main_v17, val_main_v16, val_main_cst_3]
  rw [e]
  refine Eq.trans ?_ (lanes_coe (fun d => (out q k v ⟨a.val / 128, by omega⟩ j d : EReal)) _ (fun _ => rfl) ⟨a.val % 128, by omega⟩)
  simp only [v15_at h0 h1 h2]

end Cert.Fla

end
-- ==== Proof.Fla.Final.lean ====
/- The two output arrays of the attention's forward kernel are the reference's outputs and row logarithms. -/
module

public import proofs.«01_k».proof.Defs
public import proofs.«01_k».proof.Proof.Fla.Value
public import proofs.«01_k».proof.Proof.Fla.Ref
public import proofs.«01_k».proof.Proof.Gen.Pre_finite_fla
public import Idealize.ShloMosaic.Lib.Claim

@[expose] public section

set_option maxRecDepth 16384

noncomputable section

namespace Cert.KernelFlaIdeal.Value

open Idealize.ShloMosaic Idealize.ShloMosaic.TcCoe Idealize.SL.Sem
open Cert.KernelFlaIdeal Cert.KernelFlaIdeal.Gen Cert.Common Cert.Att Cert.Fla
open Cert.ReferenceFlaIdeal.Read

/-- The parts of the body repeat one pair of chunks. -/
theorem scores_eq : k0_pay34 (F := Ideal) = k0_pay20 ∧ k0_pay44 (F := Ideal) = k0_pay20 ∧ k0_pay54 (F := Ideal) = k0_pay20
    ∧ k0_pay64 (F := Ideal) = k0_pay20 ∧ k0_pay74 (F := Ideal) = k0_pay20 ∧ k0_pay84 (F := Ideal) = k0_pay20 ∧ k0_pay24 (F := Ideal) = k0_pay20 :=
  ⟨rfl, rfl, rfl, rfl, rfl, rfl, rfl⟩

theorem levels_eq : k0_pay35 (F := Ideal) = k0_pay25 ∧ k0_pay45 (F := Ideal) = k0_pay25 ∧ k0_pay55 (F := Ideal) = k0_pay25
    ∧ k0_pay65 (F := Ideal) = k0_pay25 ∧ k0_pay75 (F := Ideal) = k0_pay25 ∧ k0_pay85 (F := Ideal) = k0_pay25 :=
  ⟨rfl, rfl, rfl, rfl, rfl, rfl⟩

theorem sums_eq : k0_pay38 (F := Ideal) = k0_pay28 ∧ k0_pay48 (F := Ideal) = k0_pay28 ∧ k0_pay58 (F := Ideal) = k0_pay28
    ∧ k0_pay68 (F := Ideal) = k0_pay28 ∧ k0_pay78 (F := Ideal) = k0_pay28 ∧ k0_pay88 (F := Ideal) = k0_pay28 :=
  ⟨rfl, rfl, rfl, rfl, rfl, rfl⟩

theorem accs_eq : k0_pay39 (F := Ideal) = k0_pay29 ∧ k0_pay49 (F := Ideal) = k0_pay29 ∧ k0_pay59 (F := Ideal) = k0_pay29
    ∧ k0_pay69 (F := Ideal) = k0_pay29 ∧ k0_pay79 (F := Ideal) = k0_pay29 ∧ k0_pay89 (F := Ideal) = k0_pay29 :=
  ⟨rfl, rfl, rfl, rfl, rfl, rfl⟩

section Chain

variable {s : ℕ → ℝ} {v : Fin 128 → ℕ → ℝ} {i : Fin 1024}
variable {Q : FVec Ideal S1024x128 .bf16} {K : FVec Ideal S16384x128 .bf16} {Wt : FVec Ideal S128x16384 .bf16}

/-- The first chunk, as the body takes it, from the query's block before its cast. -/
theorem first (q : Vec Ideal S1024x128 .bf16) (G : Given s v i (k0_pay12 q) K Wt) (h) (h') :
    At s v i 1024 (k0_pay15 q (k0_pay9 (F := Ideal)) (kc K 0 h)) (k0_pay18 q (k0_pay9 (F := Ideal)) (k0_pay10 (F := Ideal)) (kc K 0 h))
      (k0_pay19 q (k0_pay9 (F := Ideal)) (k0_pay11 (F := Ideal)) (kc K 0 h) (vc Wt 0 h')) :=
  G.chunk 0 (by decide) h h' at_none

theorem cast_q (q : FVec Ideal S1024x128 .bf16) (G : Given s v i q K Wt) : Given s v i (k0_pay12 q) K Wt where
  score r := by
    have e (l : Fin 128) : k0_pay12 (F := Ideal) q (ix2 i l) = q (ix2 i l) := by pointwise [k0_pay12]
    rw [← G.score r]
    exact Finset.sum_congr rfl fun l _ => by rw [e]
  value := G.value

theorem second (q k : Vec Ideal S1024x128 .bf16) : k0_pay14 (F := Ideal) q k = k0_pay20 (k0_pay12 q) k := rfl

end Chain

variable (q k : Fin 16384 → Fin 8 → Fin 96 → ℝ) (v : Fin 16384 → Fin 8 → Fin 64 → ℝ) (h : Fin 8) (j : Fin 16384)

/-- The quotient after all the chunks is the output, -/
theorem out_of {i : Fin 1024} {M L : FVec Ideal S1x1024 .f32} {A : FVec Ideal S128x1024 .f32}
    (H : At (num (sco2 q k h j)) (fun d => num fun r => lanes (v r h) d) i 16384 M L A) (d : Fin 128) :
    k0_pay7 (F := Ideal) A L (ix2 i d) = (lanes (out q k v h j) d : EReal) := by
  obtain ⟨e, -⟩ | ⟨x, -, eL, eA⟩ := H
  · exact absurd e (by decide)
  · have e : A (ix2 d i) = (part (num (sco2 q k h j)) (num fun r => lanes (v r h) d) 16384 x : EReal) := eA d
    rw [out_at, eL, e, div_coe_coe _ _ (part_pos q k h j x).ne', out_all]

/-- and the level with the sum's logarithm the row's logarithm. -/
theorem log_of {i : Fin 1024} {M L : FVec Ideal S1x1024 .f32} {A : FVec Ideal S128x1024 .f32}
    (H : At (num (sco2 q k h j)) (fun d => num fun r => lanes (v r h) d) i 16384 M L A) :
    k0_pay8 (F := Ideal) M L (ix3 0 0 i) = (((top q k h j + Real.log (tot q k h j)) / Real.log 2 : ℝ) : EReal) := by
  obtain ⟨e, -⟩ | ⟨x, eM, eL, -⟩ := H
  · exact absurd e (by decide)
  · rw [logsum_at, eM, eL, Ideal.log_coe, if_neg (not_le.mpr (part_pos q k h j x)), ← EReal.coe_mul, ← EReal.coe_add, log_all]

variable (m : (ℓ : Loc nD τ sig) → Buf (Elt Ideal) ℓ) (c : Dev nD) {q k v}
variable (h0 : ∀ j h d, aQ m c (ix3 j h d) = (q j h d : EReal)) (h1 : ∀ j h d, aK m c (ix3 j h d) = (k j h d : EReal))
variable (h2 : ∀ j h d, aV m c (ix3 j h d) = (v j h d : EReal))
include h0 h1 h2

set_option maxHeartbeats 2000000 in
/-- A point's block of the outputs, -/
theorem after_out (t : Fin cfg0.N) (i : Fin 1024) (d : Fin 128) :
    (dats m 0 c).after 3 t (ix2 i d) = (lanes (out q k v (head t) (row t i)) d : EReal) := by
  have G := cast_q _ (given m c h0 h1 h2 t i)
  rw [after0_3]
  unfold outsAt0
  dsimp only
  frame_out
  obtain ⟨a1, a2, a3, a4, a5, a6, a7⟩ := scores_eq
  obtain ⟨b1, b2, b3, b4, b5, b6⟩ := levels_eq
  obtain ⟨c1, c2, c3, c4, c5, c6⟩ := sums_eq
  obtain ⟨d1, d2, d3, d4, d5, d6⟩ := accs_eq
  simp only [second, a1, a2, a3, a4, a5, a6, a7, b1, b2, b3, b4, b5, b6, c1, c2, c3, c4, c5, c6, d1, d2, d3, d4, d5, d6]
  exact out_of q k v (head t) (row t i) (G.last 15360 (by decide) _ _ (G.pair 13312 (by decide) _ _ _ _ (G.pair 11264 (by decide) _ _ _ _
    (G.pair 9216 (by decide) _ _ _ _ (G.pair 7168 (by decide) _ _ _ _ (G.pair 5120 (by decide) _ _ _ _ (G.pair 3072 (by decide) _ _ _ _
      (G.pair 1024 (by decide) _ _ _ _ (first _ G _ _))))))))) d

set_option maxHeartbeats 2000000 in
/-- and of the logarithms. -/
theorem after_log (t : Fin cfg0.N) (i : Fin 1024) :
    (dats m 0 c).after 4 t (ix3 0 0 i) = (((top q k (head t) (row t i) + Real.log (tot q k (head t) (row t i))) / Real.log 2 : ℝ) : EReal) := by
  have G := cast_q _ (given m c h0 h1 h2 t i)
  rw [after0_4]
  unfold outsAt0
  dsimp only
  frame_out
  obtain ⟨a1, a2, a3, a4, a5, a6, a7⟩ := scores_eq
  obtain ⟨b1, b2, b3, b4, b5, b6⟩ := levels_eq
  obtain ⟨c1, c2, c3, c4, c5, c6⟩ := sums_eq
  simp only [second, a1, a2, a3, a4, a5, a6, a7, b1, b2, b3, b4, b5, b6, c1, c2, c3, c4, c5, c6]
  exact log_of q k v (head t) (row t i) (G.last 15360 (by decide) _ (by decide) (G.pair 13312 (by decide) _ (by decide) _ (by decide)
    (G.pair 11264 (by decide) _ (by decide) _ (by decide) (G.pair 9216 (by decide) _ (by decide) _ (by decide)
      (G.pair 7168 (by decide) _ (by decide) _ (by decide) (G.pair 5120 (by decide) _ (by decide) _ (by decide)
        (G.pair 3072 (by decide) _ (by decide) _ (by decide) (G.pair 1024 (by decide) _ (by decide) _ (by decide) (first _ G _ (by decide))))))))))

/-- The array of the outputs, -/
theorem arr3 : (dats m 0 c).arrAt 3 cfg0.N = val_main_v19 (F := Ideal) (aQ m c) (aK m c) (aV m c) := by
  refine (dats m 0 c).arrAt_eq_of_covers 3 _ (by decide +kernel) fun t hf y => ?_
  obtain ⟨i, d, rfl⟩ : ∃ (i : Fin 1024) (d : Fin 128), y = ix2 i d := ⟨y 0, y 1, eq_ix2 y⟩
  have e := v19_at h0 h1 h2 (row t i) (col (head t) d)
  simp only [col_mod, col_div] at e
  refine (after_out m c h0 h1 h2 t i d).trans (e.symm.trans (congrArg _ ?_))
  unfold col head row
  blk_ext [idx t]

/-- and that of the logarithms. -/
theorem arr4 : (dats m 0 c).arrAt 4 cfg0.N = val_main_v34 (F := Ideal) (aQ m c) (aK m c) := by
  refine (dats m 0 c).arrAt_eq_of_covers 4 _ (by decide +kernel) fun t hf y => ?_
  obtain ⟨z, z', i, rfl⟩ : ∃ (z z' : Fin 1) (i : Fin 1024), y = ix3 z z' i := ⟨y 0, y 1, y 2, eq_ix3 y⟩
  obtain rfl : z = 0 := Subsingleton.elim _ _
  obtain rfl : z' = 0 := Subsingleton.elim _ _
  refine (after_log m c h0 h1 h2 t i).trans ((v34_at h0 h1 (head t) 0 (row t i)).symm.trans (congrArg _ ?_))
  unfold head row
  blk_ext [idx t]

omit h0 h1 h2 in
/-- The arguments are real numbers where the claim supposes them finite. -/
theorem finite_args (hpre : Cert.Pre_KernelFlaIdeal_finite_fla m) (c : Dev nD) : ∃ (q k : Fin 16384 → Fin 8 → Fin 96 → ℝ)
    (v : Fin 16384 → Fin 8 → Fin 64 → ℝ), (∀ j h d, aQ m c (ix3 j h d) = (q j h d : EReal)) ∧ (∀ j h d, aK m c (ix3 j h d) = (k j h d : EReal))
    ∧ ∀ j h d, aV m c (ix3 j h d) = (v j h d : EReal) := by
  have h := congrFun (hpre c) ix0
  simp only [Cert.Pre_finite_fla.fn] at h
  obtain ⟨h, h3⟩ := andi_one _ _ _ h
  obtain ⟨h1, h2⟩ := andi_one _ _ _ h
  have r1 := re_of_all _ _ (fun _ => rfl) _ _ _ _ h1
  have r2 := re_of_all _ _ (fun _ => rfl) _ _ _ _ h2
  have r3 := re_of_all _ _ (fun _ => rfl) _ _ _ _ h3
  exact ⟨fun j h d => (r1 (ix3 j h d)).choose, fun j h d => (r2 (ix3 j h d)).choose, fun j h d => (r3 (ix3 j h d)).choose,
    fun j h d => (r1 _).choose_spec, fun j h d => (r2 _).choose_spec, fun j h d => (r3 _).choose_spec⟩

variable (hpre : Cert.Pre_KernelFlaIdeal_finite_fla m)
omit h0 h1 h2
include hpre

/-- The outputs. -/
theorem final3 : (dats m 0 c).arrAt 3 cfg0.N = val_main_v19 (F := Ideal) (aQ m c) (aK m c) (aV m c) := by
  obtain ⟨q, k, v, h0, h1, h2⟩ := finite_args m hpre c
  exact arr3 m c h0 h1 h2

/-- The rows' logarithms. -/
theorem final4 : (dats m 0 c).arrAt 4 cfg0.N = val_main_v34 (F := Ideal) (aQ m c) (aK m c) := by
  obtain ⟨q, k, v, h0, h1, h2⟩ := finite_args m hpre c
  exact arr4 m c h0 h1 h2

end Cert.KernelFlaIdeal.Value

end
-- ==== Proof.Fla.Claim.lean ====
/- The claim about this call: kernel and reference compute the same arrays. -/
module

public import proofs.«01_k».proof.Defs
public import proofs.«01_k».proof.Proof.Fla.Final
public import proofs.«01_k».proof.Proof.Gen.KernelFla.Frame
public import proofs.«01_k».proof.Proof.Gen.ReferenceFlaIdeal.Run
public import proofs.«01_k».proof.Proof.Gen.Pre_finite_fla
public import Idealize.ShloMosaic.Lib.Claim

@[expose] public section

set_option maxRecDepth 16384

noncomputable section

namespace Cert.Fla

open Idealize.ShloMosaic Idealize.SL.Sem Cert.ReferenceFlaIdeal.Read

local instance : Cert.KernelFlaIdeal.Facts := Cert.KernelFlaIdeal.Gen.facts
local instance : Cert.ReferenceFlaIdeal.Facts := Cert.ReferenceFlaIdeal.Gen.facts
local instance : Cert.Pre_finite_fla.Facts := Cert.Pre_finite_fla.Gen.facts

/-- The idealized kernel is the kernel over the extended reals, with the logarithm of e to the base two at the word that rounds it. -/
theorem preserves : Cert.preserves_KernelFla_KernelFlaIdeal :=
  IdealRules.named_const.statement Cert.KernelFlaIdeal.κ "log2_e" .f32 0x3FB8AA3B#32 _ rfl

/-- The reference terminates and leaves its arguments alone. -/
theorem frame_reference : Cert.quiescent_ReferenceFlaIdeal (hReferenceFlaIdeal := Cert.ReferenceFlaIdeal.Gen.facts) :=
  fun m ρ _ => (θ_run Cert.ReferenceFlaIdeal.defs _ _).mono
    (fun r h => ⟨fun c => (h c).2.2, Idealize.ShloMosaic.sem_eq_zero_of_no_sems (by decide) r.2⟩)
    (Cert.ReferenceFlaIdeal.Value.run (F := Ideal) m ρ)

set_option maxRecDepth 100000 in
set_option maxHeartbeats 1600000 in
/-- Kernel and reference compute the same arrays. -/
theorem algebraic : Cert.algebraic_KernelFlaIdeal_ReferenceFlaIdeal_pre_finite_fla (hKernelFlaIdeal := Cert.KernelFlaIdeal.Gen.facts)
    (hReferenceFlaIdeal := Cert.ReferenceFlaIdeal.Gen.facts) (hPre_finite_fla := Cert.Pre_finite_fla.Gen.facts) := by
  pair_intro
  · run_from Cert.KernelFlaIdeal.Value.run_blocks m g
  · hlo_run
    all_goals obtain ⟨h0, h1, h2⟩ := hagree c
    · refine (val_main_v19_eq ..).trans ?_; (try simp only [h0, h1, h2]); exact (Cert.KernelFlaIdeal.Value.final3 m c hpre).symm
    · refine (val_main_v34_eq ..).trans ?_; (try simp only [h0, h1, h2]); exact (Cert.KernelFlaIdeal.Value.final4 m c hpre).symm

end Cert.Fla

end
-- ==== Proof.Ffnf.Block.lean ====
/- What one run of the feed-forward layer's forward body computes of its blocks, entry by entry, and what the reference's arrays hold. -/
module

public import proofs.«01_k».proof.Defs
public import proofs.«01_k».proof.Proof.Gen.KernelFfnfIdeal.Value
public import proofs.«01_k».proof.Proof.Gen.ReferenceFfnfIdeal.Read
public import proofs.«01_k».proof.Proof.Common.Consts
public import proofs.«01_k».proof.Proof.Common.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnfIdeal.Value

open Cert.KernelFfnfIdeal Cert.KernelFfnfIdeal.Gen Cert.ReferenceFfnfIdeal.Read Cert.Common

/-- The sigmoid's multiple of a number. -/
def silu (x : EReal) : EReal := x * Ideal.logistic x

/-- A row's factor in its norm. -/
def rstd {ι : Type*} [Fintype ι] (X : ι → EReal) : EReal := Ideal.rsqrt (msq X 1024 eps)

section Block

variable (x s p : Vec Ideal S512x1024 .f32) (gn : Vec Ideal S1x1024 .f32) (h : Vec Ideal S512x1024 .bf16)
  (wg wu : Vec Ideal S1x1x1024x1408 .bf16) (wd : Vec Ideal S1x1408x1024 .bf16) (i : Fin 512) (l : Fin 1408) (d : Fin 1024)

/-- The normed rows, -/
theorem pay2_at : k0_pay2 (F := Ideal) x gn (ix2 i d) = x (ix2 i d) * rstd (fun k : Fin 1024 => x (ix2 i k)) * gn (ix2 0 d) := by
  rw [rstd, ← msq_mul _ (show (0 : ℝ) < 1024 by norm_num)]
  pointwise [k0_pay2]
  simp only [ofBits_inv1024, ofBits_eps]

/-- the zeros that the sums begin with, -/
theorem pay3_at : k0_pay3 (F := Ideal) (ix2 i d) = 0 := by pointwise [k0_pay3]

/-- the two products with the gate's weight, -/
theorem pay6_at : k0_pay6 (F := Ideal) h wg (ix2 i l) = ∑ k : Fin 1024, h (ix2 i k) * wg (ix4 0 0 k l) := by
  pointwise [k0_pay6, k0_pay4]

theorem pay7_at : k0_pay7 (F := Ideal) h wu (ix2 i l) = ∑ k : Fin 1024, h (ix2 i k) * wu (ix4 0 0 k l) := by
  pointwise [k0_pay7, k0_pay5]

/-- the sums with one tile's part added, -/
theorem pay8_at : k0_pay8 (F := Ideal) h wg wu p wd (ix2 i d)
    = p (ix2 i d) + ∑ l : Fin 1408, silu (k0_pay6 (F := Ideal) h wg (ix2 i l)) * k0_pay7 (F := Ideal) h wu (ix2 i l) * wd (ix3 0 l d) := by
  have e6 : k0_pay6 (F := Ideal) h wg = k0_pay4 (F := Ideal) h wg := rfl
  have e7 : k0_pay7 (F := Ideal) h wu = k0_pay5 (F := Ideal) h wu := rfl
  rw [e6, e7]
  generalize e4 : k0_pay4 (F := Ideal) h wg = a
  generalize e5 : k0_pay5 (F := Ideal) h wu = b
  pointwise [k0_pay8]
  rw [e4, e5]
  rfl

/-- and the layer's output. -/
theorem pay1_at : k0_pay1 (F := Ideal) x s (ix2 i d) = x (ix2 i d) + Ideal.ofBits .f32 0x3F000000#32 * s (ix2 i d) := by
  pointwise [k0_pay1]

end Block

section Ref

variable (x0 : FVec Ideal S16384x1024 .f32) (x1 : FVec Ideal S1024 .f32) (x2 : FVec Ideal S1024x5632 .f32) (x3 : FVec Ideal S2816x1024 .f32)
  (R : Fin 16384) (K : Fin 2816) (d : Fin 1024)

/-- A hidden column among the gates' columns, and among the other factor's. -/
def lo (K : Fin 2816) : Fin 5632 := ⟨K.val, by omega⟩
def hi (K : Fin 2816) : Fin 5632 := ⟨2816 + K.val, by omega⟩

/-- The layer's first product. -/
def pre (k : Fin 5632) : EReal :=
  ∑ d : Fin 1024, x0 (ix2 R d) * rstd (fun k : Fin 1024 => x0 (ix2 R k)) * x1 (ix1 d) * x2 (ix2 d k)

theorem v7_at : val_main_v7 (F := Ideal) x0 (ix2 R 0) = rstd (fun k : Fin 1024 => x0 (ix2 R k)) := by
  pointwise [val_main_v7, val_main_v6, val_main_v5, val_main_v4, val_main_v3, val_main_v2, val_main_v1, val_main_v0, val_main_cst, val_main_cst_0, val_main_cst_1]
  simp only [ofBits_1024, ofBits_eps]
  rfl

theorem v13_at (k : Fin 5632) : val_main_v13 (F := Ideal) x0 x1 x2 (ix2 R k) = pre x0 x1 x2 R k := by
  rw [pre, ← v7_at]
  pointwise [val_main_v13, val_main_v12, val_main_v11, val_main_v10, val_main_v9, val_main_v8]

theorem v14_at : val_main_v14 (F := Ideal) x0 x1 x2 (ix2 R K) = pre x0 x1 x2 R (lo K) := by
  rw [← v13_at]; generalize e : val_main_v13 (F := Ideal) x0 x1 x2 = w
  pointwise [val_main_v14]; rw [e]; exact congrArg w (by unfold lo; blk_ext [])

theorem v15_at : val_main_v15 (F := Ideal) x0 x1 x2 (ix2 R K) = pre x0 x1 x2 R (hi K) := by
  rw [← v13_at]; generalize e : val_main_v13 (F := Ideal) x0 x1 x2 = w
  pointwise [val_main_v15]; rw [e]; exact congrArg w (by unfold hi; blk_ext [])

/-- The sigmoid as the reference writes it. -/
theorem sig_at : val_main_call0_v5 (F := Ideal) x0 x1 x2 (ix2 R K) = Ideal.logistic (pre x0 x1 x2 R (lo K)) := by
  rw [← v14_at]
  pointwise [val_main_call0_v5, val_main_call0_v4, val_main_call0_v3, val_main_call0_v2, val_main_call0_v1, val_main_call0_v0, val_main_call0_cst, val_main_call0_cst_0]
  rfl

/-- The gated activation. -/
def actR : EReal := silu (pre x0 x1 x2 R (lo K)) * pre x0 x1 x2 R (hi K)

theorem v17_at : val_main_v17 (F := Ideal) x0 x1 x2 (ix2 R K) = actR x0 x1 x2 R K :=
  congrArg₂ (· * ·) (congrArg₂ (· * ·) (v14_at x0 x1 x2 R K) (sig_at x0 x1 x2 R K)) (v15_at x0 x1 x2 R K)

/-- The layer's output. -/
theorem v21_at : val_main_v21 (F := Ideal) x0 x1 x2 x3 (ix2 R d)
    = x0 (ix2 R d) + Ideal.ofBits .f32 0x3F000000#32 * ∑ K : Fin 2816, actR x0 x1 x2 R K * x3 (ix2 K d) := by
  simp only [← v17_at]
  pointwise [val_main_v21, val_main_v20, val_main_v19, val_main_v18, val_main_cst_2]

theorem v22_at : val_main_v22 (F := Ideal) x0 x1 x2 (ix2 R K) = pre x0 x1 x2 R (lo K) := v14_at x0 x1 x2 R K

theorem v23_at : val_main_v23 (F := Ideal) x0 x1 x2 (ix2 R K) = pre x0 x1 x2 R (hi K) := v15_at x0 x1 x2 R K

end Ref

end Cert.KernelFfnfIdeal.Value

end
-- ==== Proof.Ffnf.Value.lean ====
/- What the feed-forward layer's forward kernel leaves in its three output arrays, against the reference's. -/
module

public import proofs.«01_k».proof.Proof.Ffnf.Block

@[expose] public section

set_option maxRecDepth 16384

noncomputable section

open Idealize.ShloMosaic Idealize.ShloMosaic.TcCoe Idealize.SL.Sem
open Idealize.ShloMosaic.Pipeline (Dat)

namespace Cert.KernelFfnfIdeal.Value

open Cert.KernelFfnfIdeal Cert.KernelFfnfIdeal.Gen Cert.ReferenceFfnfIdeal.Read Cert.Common

variable (m : (ℓ : Loc nD τ sig) → Buf (Elt Ideal) ℓ)

/-- The arguments: the rows, the gain and the two weights. -/
abbrev aX (c : Dev nD) : FVec Ideal S16384x1024 .f32 := m ((c : Thread nD τ).loc main_arg0)
abbrev aG (c : Dev nD) : FVec Ideal S1024 .f32 := m ((c : Thread nD τ).loc main_arg1)
abbrev aW (c : Dev nD) : FVec Ideal S1024x5632 .f32 := m ((c : Thread nD τ).loc main_arg2)
abbrev aD (c : Dev nD) : FVec Ideal S2816x1024 .f32 := m ((c : Thread nD τ).loc main_arg3)

/-- Which block each window holds at a point. -/
theorem idx : ∀ t : Fin cfg0.N, win0_0.index t = ![t.val / 2, 0] ∧ win0_1.index t = ![0, 0]
    ∧ win0_2.index t = ![t.val % 2, 0, 0, 0] ∧ win0_3.index t = ![2 + t.val % 2, 0, 0, 0] ∧ win0_4.index t = ![0, t.val % 2, 0]
    ∧ win0_5.index t = ![t.val / 2, 0] ∧ win0_6.index t = ![t.val / 2, t.val % 2] ∧ win0_7.index t = ![t.val / 2, t.val % 2] :=
  (by decide +kernel : ∀ t : Fin grid0.N, _)

theorem lt_N (t : Fin cfg0.N) : t.val < 64 := t.isLt

/-- Row `i` of a point's block, and hidden column `l` of its tile. -/
def row (t : Fin cfg0.N) (i : Fin 512) : Fin 16384 := ⟨t.val / 2 * 512 + i.val, by have := lt_N t; omega⟩
def hid (t : Fin cfg0.N) (l : Fin 1408) : Fin 2816 := ⟨t.val % 2 * 1408 + l.val, by omega⟩

/-- The two weights in the layout that the host gives them: the gate's in four blocks of columns. -/
def hW (w : FVec Ideal S1024x5632 .f32) : FVec Ideal S4x1x1024x1408 .bf16 :=
  truncf .bf16 (broadcastInDim S4x1x1024x1408 ![0, 2, 3] bcast_S4x1024x1408_S4x1x1024x1408_0_2_3
    (transpose S4x1024x1408 [1, 0, 2] (shapeCast S1024x4x1408 w shapeCasts_S1024x5632_S1024x4x1408) transposes_S1024x4x1408_S4x1024x1408_1_0_2)) bitsLt_bf16_f32
def hD (w : FVec Ideal S2816x1024 .f32) : FVec Ideal S1x2816x1024 .bf16 :=
  truncf .bf16 (broadcastInDim S1x2816x1024 ![1, 2] bcast_S2816x1024_S1x2816x1024_1_2 w) bitsLt_bf16_f32
def hN (w : FVec Ideal S1024 .f32) : FVec Ideal S1x1024 .f32 := broadcastInDim S1x1024 ![1] bcast_S1024_S1x1024_1 w

theorem operands (c : Dev nD) : V m c main_v4 = hN (aG m c) ∧ V m c main_v3 = hW (aW m c) ∧ V m c main_v6 = hD (aD m c) := by
  unfold V hostOps0
  refine ⟨?_, ?_, ?_⟩ <;> (after_results; rfl)

theorem hW_at (w : FVec Ideal S1024x5632 .f32) (n : Fin 4) (d : Fin 1024) (l : Fin 1408) (k : Fin 5632) (h : n.val * 1408 + l.val = k.val) :
    hW w (ix4 n 0 d l) = w (ix2 d k) := by
  unfold hW; pointwise []; exact congrArg w (by blk_ext [])

theorem hD_at (w : FVec Ideal S2816x1024 .f32) (K : Fin 2816) (k : Fin 1024) : hD w (ix3 0 K k) = w (ix2 K k) := by
  unfold hD; pointwise []

theorem hN_at (w : FVec Ideal S1024 .f32) (k : Fin 1024) : hN w (ix2 0 k) = w (ix1 k) := by
  unfold hN; pointwise []

section Blocks

variable (c : Dev nD) (t : Fin cfg0.N)

/-- The blocks of a point: the rows, the gain, the two tiles of the gate's weight and the tile of the other. -/
abbrev bX : Vec Ideal S512x1024 .f32 := iblk m c 0 t
abbrev bN : Vec Ideal S1x1024 .f32 := iblk m c 1 t
abbrev bG : Vec Ideal S1x1x1024x1408 .bf16 := iblk m c 2 t
abbrev bU : Vec Ideal S1x1x1024x1408 .bf16 := iblk m c 3 t
abbrev bD : Vec Ideal S1x1408x1024 .bf16 := iblk m c 4 t

theorem x_at (i : Fin 512) (k : Fin 1024) : bX m c t (ix2 i k) = aX m c (ix2 (row t i) k) := by
  show V m c main_arg0 ((win0_0.blk t).view.emb (ix2 i k)) = _
  rw [show (win0_0.blk t).view.emb (ix2 i k) = ix2 (row t i) k by unfold row; blk_ext [idx t]]; rfl

theorem gn_at (k : Fin 1024) : bN m c t (ix2 0 k) = aG m c (ix1 k) := by
  show V m c main_v4 ((win0_1.blk t).view.emb (ix2 0 k)) = _
  rw [(operands m c).1, show (win0_1.blk t).view.emb (ix2 0 k) = ix2 0 k by blk_ext [idx t], hN_at]

theorem wg_at (d : Fin 1024) (l : Fin 1408) : bG m c t (ix4 0 0 d l) = aW m c (ix2 d (lo (hid t l))) := by
  show V m c main_v3 ((win0_2.blk t).view.emb (ix4 0 0 d l)) = _
  rw [(operands m c).2.1, show (win0_2.blk t).view.emb (ix4 0 0 d l) = ix4 (⟨t.val % 2, by omega⟩ : Fin 4) 0 d l by blk_ext [idx t]]
  exact hW_at _ _ d l _ rfl

theorem wu_at (d : Fin 1024) (l : Fin 1408) : bU m c t (ix4 0 0 d l) = aW m c (ix2 d (hi (hid t l))) := by
  show V m c main_v3 ((win0_3.blk t).view.emb (ix4 0 0 d l)) = _
  rw [(operands m c).2.1, show (win0_3.blk t).view.emb (ix4 0 0 d l) = ix4 (⟨2 + t.val % 2, by omega⟩ : Fin 4) 0 d l by blk_ext [idx t]]
  exact hW_at _ _ d l _ (by show (2 + t.val % 2) * 1408 + l.val = 2816 + (t.val % 2 * 1408 + l.val); omega)

theorem wd_at (l : Fin 1408) (k : Fin 1024) : bD m c t (ix3 0 l k) = aD m c (ix2 (hid t l) k) := by
  show V m c main_v6 ((win0_4.blk t).view.emb (ix3 0 l k)) = _
  rw [(operands m c).2.2, show (win0_4.blk t).view.emb (ix3 0 l k) = ix3 0 (hid t l) k by unfold hid; blk_ext [idx t], hD_at]

/-- The first of the two points of the same rows. -/
def ev : Fin cfg0.N := ⟨t.val - t.val % 2, Nat.lt_of_le_of_lt (Nat.sub_le _ _) t.isLt⟩

theorem row_ev (i : Fin 512) : row (ev t) i = row t i := by
  refine Fin.ext ?_
  show (t.val - t.val % 2) / 2 * 512 + i.val = t.val / 2 * 512 + i.val
  omega

/-- The normed rows of a point's block. -/
def normed : Vec Ideal S512x1024 .bf16 := k0_pay2 (F := Ideal) (bX m c (ev t)) (bN m c (ev t))

theorem normed_at (i : Fin 512) (k : Fin 1024) : normed m c t (ix2 i k)
    = aX m c (ix2 (row t i) k) * rstd (fun k : Fin 1024 => aX m c (ix2 (row t i) k)) * aG m c (ix1 k) := by
  rw [normed, pay2_at]
  simp only [x_at, gn_at, row_ev]

/-- A point's tile of the two products with the gate's weight, -/
theorem gate_at (i : Fin 512) (l : Fin 1408) : k0_pay6 (F := Ideal) (normed m c t) (bG m c t) (ix2 i l)
    = pre (aX m c) (aG m c) (aW m c) (row t i) (lo (hid t l)) := by
  rw [pay6_at, pre]
  exact Finset.sum_congr rfl fun k _ => by rw [normed_at, wg_at]

theorem up_at (i : Fin 512) (l : Fin 1408) : k0_pay7 (F := Ideal) (normed m c t) (bU m c t) (ix2 i l)
    = pre (aX m c) (aG m c) (aW m c) (row t i) (hi (hid t l)) := by
  rw [pay7_at, pre]
  exact Finset.sum_congr rfl fun k _ => by rw [normed_at, wu_at]

/-- and the sums with its part of the layer's second product added. -/
theorem sums_at (p : Vec Ideal S512x1024 .f32) (i : Fin 512) (d : Fin 1024) :
    k0_pay8 (F := Ideal) (normed m c t) (bG m c t) (bU m c t) p (bD m c t) (ix2 i d)
      = p (ix2 i d) + ∑ l : Fin 1408, actR (aX m c) (aG m c) (aW m c) (row t i) (hid t l) * aD m c (ix2 (hid t l) d) := by
  rw [pay8_at]
  exact congrArg (p (ix2 i d) + ·) (Finset.sum_congr rfl fun l _ => by rw [gate_at, up_at, wd_at, actR])

/-- A first point keeps the normed rows and its part of the sums; -/
theorem kept (h : t.val % 2 = 0) : (outsAt0 m c t.val t.isLt).2.2.2.1 = normed m c t
    ∧ (outsAt0 m c t.val t.isLt).2.2.2.2 = k0_pay8 (F := Ideal) (normed m c t) (bG m c t) (bU m c t) (k0_pay3 (F := Ideal)) (bD m c t) := by
  have e : ev t = t := Fin.ext (by show t.val - t.val % 2 = t.val; omega)
  rw [normed, e, outsAt0_A m c t h (by omega)]
  constructor <;> frame_out

theorem kept_ev : (outsAt0 m c (ev t).val (ev t).isLt).2.2.2.1 = normed m c t
    ∧ (outsAt0 m c (ev t).val (ev t).isLt).2.2.2.2
      = k0_pay8 (F := Ideal) (normed m c (ev t)) (bG m c (ev t)) (bU m c (ev t)) (k0_pay3 (F := Ideal)) (bD m c (ev t)) := by
  have e : normed m c (ev t) = normed m c t := by
    rw [normed, normed, show ev (ev t) = ev t from Fin.ext (by show t.val - t.val % 2 - (t.val - t.val % 2) % 2 = t.val - t.val % 2; omega)]
  have h := kept m c (ev t) (by show (t.val - t.val % 2) % 2 = 0; omega)
  exact ⟨h.1.trans e, h.2⟩

end Blocks

end Cert.KernelFfnfIdeal.Value

namespace Cert.Ffnf

open Cert.KernelFfnfIdeal Cert.KernelFfnfIdeal.Gen Cert.KernelFfnfIdeal.Value Cert.ReferenceFfnfIdeal.Read Cert.Common

variable (m : (ℓ : Loc nD τ sig) → Buf (Elt Ideal) ℓ) (c : Dev nD)

/-- What a second point finds kept. -/
theorem before (t : Fin cfg0.N) (ht : t.val % 2 = 1) :
    (outsAt0 m c (t.val - 1) (Nat.lt_of_le_of_lt (Nat.sub_le _ _) t.isLt)).2.2.2.1 = normed m c t
      ∧ (outsAt0 m c (t.val - 1) (Nat.lt_of_le_of_lt (Nat.sub_le _ _) t.isLt)).2.2.2.2
        = k0_pay8 (F := Ideal) (normed m c (ev t)) (bG m c (ev t)) (bU m c (ev t)) (k0_pay3 (F := Ideal)) (bD m c (ev t)) := by
  have h := kept_ev m c t
  have e : (ev t).val = t.val - 1 := by show t.val - t.val % 2 = t.val - 1; omega
  simp only [e] at h
  exact h

/-- The layer's output: both tiles' parts are the whole product. -/
theorem array5 : (dats m 0 c).arrAt 5 cfg0.N = val_main_v21 (F := Ideal) (aX m c) (aG m c) (aW m c) (aD m c) := by
  refine (dats m 0 c).arrAt_eq_of_covers 5 _ (by decide +kernel) fun t hf y => ?_
  obtain ⟨i, d, rfl⟩ : ∃ (i : Fin 512) (d : Fin 1024), y = ix2 i d := ⟨y 0, y 1, eq_ix2 y⟩
  have ht : t.val % 2 = 1 := (flush0_5 t).mp hf
  have k := before m c t ht
  rw [after0_5, outsAt0_B m c t (by omega) ht]
  frame_out
  rw [k.1, k.2]
  refine (pay1_at ..).trans (Eq.trans ?_ ((v21_at _ _ _ _ (row t i) d).symm.trans (congrArg _ ?_)))
  · refine congrArg₂ (fun a b => a + Ideal.ofBits .f32 0x3F000000#32 * b) (x_at m c t i d) ?_
    refine (congrArg₂ (fun a b => k0_pay8 (F := Ideal) a (bG m c t) (bU m c t) b (bD m c t) (ix2 i d))
      (Memref.IsWhole.read_unread _ _) (Memref.IsWhole.read_unread _ _)).trans ((sums_at m c t _ i d).trans ?_)
    rw [sums_at m c (ev t), pay3_at, zero_add, row_ev]
    have e : ∑ K : Fin 2816, actR (aX m c) (aG m c) (aW m c) (row t i) K * aD m c (ix2 K d)
        = ∑ K : Fin (1408 + 1408), actR (aX m c) (aG m c) (aW m c) (row t i) (K : Fin 2816) * aD m c (ix2 (K : Fin 2816) d) := rfl
    have e0 : ∀ l : Fin 1408, hid (ev t) l = Fin.castAdd 1408 l := fun l => Fin.ext (by
      show (t.val - t.val % 2) % 2 * 1408 + l.val = l.val; omega)
    have e1 : ∀ l : Fin 1408, hid t l = Fin.natAdd 1408 l := fun l => Fin.ext (by
      show t.val % 2 * 1408 + l.val = 1408 + l.val; omega)
    rw [e, Fin.sum_univ_add]
    simp only [e0, e1]
  · unfold row; blk_ext [idx t]

/-- The two products with the gate's weight that the layer keeps for its gradient: at a first tile the normed rows are new, at a
    second they are the kept ones. -/
theorem array6 : (dats m 0 c).arrAt 6 cfg0.N = val_main_v22 (F := Ideal) (aX m c) (aG m c) (aW m c) := by
  refine (dats m 0 c).arrAt_eq_of_covers 6 _ (by decide +kernel) fun t hf y => ?_
  obtain ⟨i, l, rfl⟩ : ∃ (i : Fin 512) (l : Fin 1408), y = ix2 i l := ⟨y 0, y 1, eq_ix2 y⟩
  refine Eq.trans ?_ ((gate_at m c t i l).trans ((v22_at _ _ _ (row t i) (hid t l)).symm.trans (congrArg _ ?_)))
  · rw [after0_6]
    by_cases h : t.val % 2 = 0
    · have e : ev t = t := Fin.ext (by show t.val - t.val % 2 = t.val; omega)
      rw [outsAt0_A m c t h (by omega), normed, e]
      frame_out
      rfl
    · rw [outsAt0_B m c t h (by omega)]
      frame_out
      rw [(before m c t (by omega)).1]
      exact congrArg (fun a => k0_pay6 (F := Ideal) a (bG m c t) (ix2 i l)) (Memref.IsWhole.read_unread _ _)
  · unfold row hid; blk_ext [idx t]

theorem array7 : (dats m 0 c).arrAt 7 cfg0.N = val_main_v23 (F := Ideal) (aX m c) (aG m c) (aW m c) := by
  refine (dats m 0 c).arrAt_eq_of_covers 7 _ (by decide +kernel) fun t hf y => ?_
  obtain ⟨i, l, rfl⟩ : ∃ (i : Fin 512) (l : Fin 1408), y = ix2 i l := ⟨y 0, y 1, eq_ix2 y⟩
  refine Eq.trans ?_ ((up_at m c t i l).trans ((v23_at _ _ _ (row t i) (hid t l)).symm.trans (congrArg _ ?_)))
  · rw [after0_7]
    by_cases h : t.val % 2 = 0
    · have e : ev t = t := Fin.ext (by show t.val - t.val % 2 = t.val; omega)
      rw [outsAt0_A m c t h (by omega), normed, e]
      frame_out
      rfl
    · rw [outsAt0_B m c t h (by omega)]
      frame_out
      rw [(before m c t (by omega)).1]
      exact congrArg (fun a => k0_pay7 (F := Ideal) a (bU m c t) (ix2 i l)) (Memref.IsWhole.read_unread _ _)
  · unfold row hid; blk_ext [idx t]

end Cert.Ffnf

end
-- ==== Proof.Ffnf.Claim.lean ====
/- The claim about this call: kernel and reference compute the same arrays. -/
module

public import proofs.«01_k».proof.Defs
public import proofs.«01_k».proof.Proof.Ffnf.Value
public import proofs.«01_k».proof.Proof.Gen.KernelFfnf.Frame
public import proofs.«01_k».proof.Proof.Gen.ReferenceFfnfIdeal.Run
public import Idealize.ShloMosaic.Lib.Claim

@[expose] public section

set_option maxRecDepth 16384

noncomputable section

namespace Cert.Ffnf

open Idealize.ShloMosaic Idealize.SL.Sem Cert.ReferenceFfnfIdeal.Read

local instance : Cert.KernelFfnfIdeal.Facts := Cert.KernelFfnfIdeal.Gen.facts
local instance : Cert.ReferenceFfnfIdeal.Facts := Cert.ReferenceFfnfIdeal.Gen.facts

/-- The reference terminates and leaves its arguments alone. -/
theorem frame_reference : Cert.quiescent_ReferenceFfnfIdeal (hReferenceFfnfIdeal := Cert.ReferenceFfnfIdeal.Gen.facts) :=
  fun m ρ _ => (θ_run Cert.ReferenceFfnfIdeal.defs _ _).mono
    (fun r h => ⟨fun c => (h c).2.2.2, Idealize.ShloMosaic.sem_eq_zero_of_no_sems (by decide) r.2⟩)
    (Cert.ReferenceFfnfIdeal.Value.run (F := Ideal) m ρ)

set_option maxHeartbeats 1600000 in
/-- Kernel and reference compute the same arrays. -/
theorem algebraic : Cert.algebraic_KernelFfnfIdeal_ReferenceFfnfIdeal (hKernelFfnfIdeal := Cert.KernelFfnfIdeal.Gen.facts)
    (hReferenceFfnfIdeal := Cert.ReferenceFfnfIdeal.Gen.facts) := by
  pair_intro
  · run_from Cert.KernelFfnfIdeal.Value.run_blocks m g
  · hlo_run
    all_goals obtain ⟨h0, h1, h2, h3⟩ := hagree c
    · refine (val_main_v21_eq ..).trans ?_; (try simp only [h0, h1, h2, h3]); exact (Cert.Ffnf.array5 m c).symm
    · refine (val_main_v22_eq ..).trans ?_; (try simp only [h0, h1, h2, h3]); exact (Cert.Ffnf.array6 m c).symm
    · refine (val_main_v23_eq ..).trans ?_; (try simp only [h0, h1, h2, h3]); exact (Cert.Ffnf.array7 m c).symm

end Cert.Ffnf

end
-- ==== Proof.Pool.Window.lean ====
/- Windows of rows: their bounds and lengths in 32-bit words, and the sum over a window as a masked sum over all rows. -/
module

public import proofs.«01_k».proof.Proof.Common.Sums
public import Idealize.ShloMosaic.Lib.Pointwise

@[expose] public section

noncomputable section

open Idealize.ShloMosaic

namespace Cert.Pool

/-- A column of rows with eight zeros before it and zeros after it: at `X` stands row `X - 8`. -/
def pad (f : Fin 16384 → EReal) (X : ℕ) : EReal := if h : 8 ≤ X ∧ X < 16392 then f ⟨X - 8, by omega⟩ else 0

/-- The sum over `w` consecutive places is the sum over all rows under the window's mask. -/
theorem sum_pad (f : Fin 16384 → EReal) (X w : ℕ) :
    ∑ k ∈ Finset.range w, pad f (X + k) = ∑ s : Fin 16384, if X ≤ s.val + 8 ∧ s.val + 8 < X + w then f s else 0 := by
  have h : ∀ k, pad f (X + k) = ∑ s : Fin 16384, if s.val + 8 = X + k then f s else 0 := by
    intro k
    unfold pad
    split
    · rename_i h
      rw [Finset.sum_eq_single (⟨X + k - 8, by omega⟩ : Fin 16384)]
      · rw [if_pos (by show X + k - 8 + 8 = X + k; omega)]
      · intro s _ hs
        rw [if_neg]
        intro e
        exact hs (Fin.ext (by show s.val = X + k - 8; omega))
      · intro h'; exact absurd (Finset.mem_univ _) h'
    · rename_i h
      exact (Finset.sum_eq_zero fun s _ => if_neg (by have := s.isLt; omega)).symm
  rw [Finset.sum_congr rfl fun k _ => h k, Finset.sum_comm]
  refine Finset.sum_congr rfl fun s _ => ?_
  by_cases hw : X ≤ s.val + 8 ∧ s.val + 8 < X + w
  · rw [if_pos hw, Finset.sum_eq_single (s.val + 8 - X)]
    · rw [if_pos (by omega)]
    · intro k _ hk; exact if_neg (by omega)
    · intro h'; exact absurd (Finset.mem_range.mpr (by omega)) h'
  · rw [if_neg hw]
    exact Finset.sum_eq_zero fun k hk => if_neg (by have := Finset.mem_range.mp hk; omega)

/-- Half a group's window, and the number of rows of the window around row `R` that exist. -/
def half (g : Fin 4) : ℕ := 2 ^ g.val
def count (g : Fin 4) (R : ℕ) : ℕ := min (R + half g) 16384 - (R - half g)

theorem half_le (g : Fin 4) : 1 ≤ half g ∧ half g ≤ 8 := by
  revert g; decide

theorem count_pos (g : Fin 4) (R : ℕ) (h : R < 16384) : 1 ≤ count g R := by
  have := half_le g; unfold count; omega

theorem toInt_ofNat (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem slt_ofNat (a b : ℕ) (ha : a < 2 ^ 31) (hb : b < 2 ^ 31) : (BitVec.ofNat 32 a).slt (BitVec.ofNat 32 b) = decide (a < b) := by
  rw [BitVec.slt, toInt_ofNat a ha, toInt_ofNat b hb]
  simp

theorem minsi_ofNat (a b : ℕ) (ha : a < 2 ^ 31) (hb : b < 2 ^ 31) : IntOp.minsi (BitVec.ofNat 32 a) (BitVec.ofNat 32 b) = BitVec.ofNat 32 (min a b) := by
  rw [IntOp.minsi, slt_ofNat a b ha hb]
  by_cases h : a < b
  · simp [h, Nat.min_eq_left (Nat.le_of_lt h)]
  · simp [h, Nat.min_eq_right (Nat.le_of_not_lt h)]

theorem maxsi_ofNat (a b : ℕ) (ha : a < 2 ^ 31) (hb : b < 2 ^ 31) : IntOp.maxsi (BitVec.ofNat 32 a) (BitVec.ofNat 32 b) = BitVec.ofNat 32 (max a b) := by
  rw [IntOp.maxsi, slt_ofNat b a hb ha]
  by_cases h : b < a
  · simp [h, Nat.max_eq_left (Nat.le_of_lt h)]
  · simp [h, Nat.max_eq_right (Nat.le_of_not_lt h)]

theorem addi_ofNat (a b : ℕ) : IntOp.addi (BitVec.ofNat 32 a) (BitVec.ofNat 32 b) = BitVec.ofNat 32 (a + b) :=
  (BitVec.ofNat_add ..).symm

theorem subi_ofNat (a b : ℕ) (h : b ≤ a) (ha : a < 2 ^ 31) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

/-- The first row of a window, which may lie before the first of all. -/
theorem first_ofNat (R l : ℕ) (hl : l < 2 ^ 30) (hR : R < 2 ^ 30) :
    IntOp.maxsi (IntOp.subi (BitVec.ofNat 32 R) (BitVec.ofNat 32 l)) (BitVec.ofNat 32 0) = BitVec.ofNat 32 (R - l) := by
  by_cases h : l ≤ R
  · rw [subi_ofNat R l h (by omega), maxsi_ofNat _ _ (by omega) (by omega), Nat.max_eq_left (Nat.zero_le _)]
  · have hn : (IntOp.subi (BitVec.ofNat 32 R) (BitVec.ofNat 32 l)).toInt < 0 := by
      show (BitVec.ofNat 32 R - BitVec.ofNat 32 l).toInt < 0
      rw [BitVec.toInt_eq_toNat_cond, BitVec.toNat_sub, BitVec.toNat_ofNat, BitVec.toNat_ofNat]
      split <;> omega
    rw [IntOp.maxsi, if_neg, Nat.sub_eq_zero_of_le (by omega)]
    rw [BitVec.slt, toInt_ofNat 0 (by omega)]
    simp only [decide_eq_true_eq]
    omega

theorem maxsi_comm (a b : BitVec 32) : IntOp.maxsi a b = IntOp.maxsi b a := by
  unfold IntOp.maxsi
  simp only [BitVec.slt, decide_eq_true_eq]
  by_cases h : a.toInt < b.toInt
  · rw [if_neg (by omega), if_pos h]
  · by_cases h' : b.toInt < a.toInt
    · rw [if_pos h', if_neg h]
    · rw [if_neg h', if_neg h]
      exact BitVec.eq_of_toInt_eq (by omega)

/-- The number of rows of a window, as both programs compute it. -/
theorem count_ofNat (g : Fin 4) (R : ℕ) (hR : R < 16384) :
    IntOp.subi (IntOp.minsi (IntOp.addi (IntOp.addi (BitVec.ofNat 32 R) (BitVec.ofNat 32 (half g - 1))) (BitVec.ofNat 32 1)) (BitVec.ofNat 32 16384))
      (IntOp.maxsi (IntOp.subi (BitVec.ofNat 32 R) (BitVec.ofNat 32 (half g))) (BitVec.ofNat 32 0)) = BitVec.ofNat 32 (count g R) := by
  have := half_le g
  rw [addi_ofNat, addi_ofNat, minsi_ofNat _ _ (by omega) (by omega), first_ofNat R _ (by omega) (by omega), subi_ofNat _ _ (by omega) (by omega)]
  unfold count
  congr 2; omega

/-- Division by a number that is not zero leaves zero alone. -/
theorem zero_div (n : BitVec 32) (h : 1 ≤ n.toInt) : Ideal.div 0 ((n.toInt : ℝ) : EReal) = 0 := by
  rw [Ideal.div_coe (by exact_mod_cast (by omega : n.toInt ≠ 0)), zero_mul]

theorem one_le_maxsi (n : BitVec 32) : 1 ≤ (IntOp.maxsi n (BitVec.ofNat 32 1)).toInt := by
  unfold IntOp.maxsi
  have h1 : (BitVec.ofNat 32 1).toInt = 1 := by decide
  simp only [BitVec.slt, decide_eq_true_eq, h1]
  split
  · omega
  · rw [h1]

end Cert.Pool

end
-- ==== Proof.Pool.Block.lean ====
/- The window kernel's expressions, entry by entry, over arbitrary blocks. -/
module

public import proofs.«01_k».proof.Defs
public import proofs.«01_k».proof.Proof.Gen.KernelPoolIdeal.Value
public import proofs.«01_k».proof.Proof.Pool.Window
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Pool

open Cert.KernelPoolIdeal Cert.KernelPoolIdeal.Gen

/-- A sum divided by the number of rows of the window around the row whose number is `n`, as a word; -/
def quot (l r : ℕ) (s : EReal) (n : BitVec 32) : EReal :=
  Ideal.div s (((IntOp.subi (IntOp.minsi (IntOp.addi (IntOp.addi n (BitVec.ofNat 32 r)) (BitVec.ofNat 32 1)) (BitVec.ofNat 32 16384))
    (IntOp.maxsi (IntOp.subi n (BitVec.ofNat 32 l)) (BitVec.ofNat 32 0))).toInt : ℝ) : EReal)

/-- and by that number or one, whichever is more. -/
def quotM (l r : ℕ) (s : EReal) (n : BitVec 32) : EReal :=
  Ideal.div s (((IntOp.maxsi (IntOp.subi (IntOp.minsi (IntOp.addi (IntOp.addi n (BitVec.ofNat 32 r)) (BitVec.ofNat 32 1)) (BitVec.ofNat 32 16384))
    (IntOp.maxsi (IntOp.subi n (BitVec.ofNat 32 l)) (BitVec.ofNat 32 0))) (BitVec.ofNat 32 1)).toInt : ℝ) : EReal)

theorem quot_ofNat (g : Fin 4) (s : EReal) (R : ℕ) (h : R < 16384) :
    quot (half g) (half g - 1) s (BitVec.ofNat 32 R) = Ideal.div s ((count g R : ℝ) : EReal) := by
  have hc : count g R < 2 ^ 31 := by unfold count; have := half_le g; omega
  rw [quot, count_ofNat g R h, toInt_ofNat _ hc]; norm_cast

theorem quotM_ofNat (g : Fin 4) (s : EReal) (R : ℕ) (h : R < 16384) :
    quotM (half g) (half g - 1) s (BitVec.ofNat 32 R) = Ideal.div s ((count g R : ℝ) : EReal) := by
  have hc : count g R < 2 ^ 31 := by unfold count; have := half_le g; omega
  rw [quotM, count_ofNat g R h, maxsi_ofNat _ _ hc (by omega), Nat.max_eq_left (count_pos g R h), toInt_ofNat _ hc]; norm_cast

theorem quotM_zero (l r : ℕ) (n : BitVec 32) : quotM l r 0 n = 0 := zero_div _ (one_le_maxsi _)

section Words

variable (co : grid0.Coords)

theorem word_at (i : Fin 512) : k0_pay8 co (ix2 i 0) = BitVec.ofNat 32 ((co 0).val * 512 + i.val) := by
  have h : k0_pay8 co (ix2 i 0) = IntOp.addi (IntOp.muli (BitVec.ofNat 32 (co 0).val) (BitVec.ofNat 32 512)) (BitVec.ofNat 32 i.val) := by
    pointwise [k0_pay8]; rfl
  rw [h, show IntOp.muli (BitVec.ofNat 32 (co 0).val) (BitVec.ofNat 32 512) = BitVec.ofNat 32 ((co 0).val * 512) from (BitVec.ofNat_mul ..).symm, addi_ofNat]

theorem eword_at (e : Fin 528) (h : 8 ≤ (co 0).val * 512 + e.val) :
    k0_pay22 (BitVec.ofNat 32 (co 0).val) (ix2 e 0) = BitVec.ofNat 32 ((co 0).val * 512 + e.val - 8) := by
  have h' : k0_pay22 (BitVec.ofNat 32 (co 0).val) (ix2 e 0)
      = IntOp.addi (IntOp.subi (IntOp.muli (BitVec.ofNat 32 (co 0).val) (BitVec.ofNat 32 512)) (BitVec.ofNat 32 8)) (BitVec.ofNat 32 e.val) := by
    pointwise [k0_pay22]; rfl
  have hc : (co 0).val < 32 := (co 0).isLt
  rw [h', show IntOp.muli (BitVec.ofNat 32 (co 0).val) (BitVec.ofNat 32 512) = BitVec.ofNat 32 ((co 0).val * 512) from (BitVec.ofNat_mul ..).symm]
  refine BitVec.eq_of_toNat_eq ?_
  show (BitVec.ofNat 32 ((co 0).val * 512) - BitVec.ofNat 32 8 + BitVec.ofNat 32 e.val).toNat = _
  rw [BitVec.toNat_add, BitVec.toNat_sub, BitVec.toNat_ofNat, BitVec.toNat_ofNat, BitVec.toNat_ofNat, BitVec.toNat_ofNat]
  omega

end Words

section Means

variable (b : FVec Ideal S512x512 .f32) (W : IVec S512x1 32) (co : grid0.Coords) (i : Fin 512) (k : Fin 128)

theorem mix0_at (x y : Vec Ideal S512x128 .f32) : k0_pay12 (F := Ideal) b (k0_pay9 co) (k0_pay10 co) k0_pay11 x y (ix2 i k)
    = quot 1 0 (x (ix2 i k) + y (ix2 i k)) (k0_pay8 co (ix2 i 0)) - b (ix2 i ⟨0 + k.val, by omega⟩) := by
  unfold k0_pay9 k0_pay10
  generalize k0_pay8 co = W
  pointwise [k0_pay12, k0_pay11]; rfl

theorem mix1_at (x0 x1 x2 x3 : Vec Ideal S512x128 .f32) : k0_pay13 (F := Ideal) b W x0 x1 x2 x3 (ix2 i k)
    = quot 2 1 (x0 (ix2 i k) + x1 (ix2 i k) + x2 (ix2 i k) + x3 (ix2 i k)) (W (ix2 i 0)) - b (ix2 i ⟨128 + k.val, by omega⟩) := by
  pointwise [k0_pay13]; rfl

theorem mix2_at (x0 x1 x2 x3 x4 x5 x6 x7 : Vec Ideal S512x128 .f32) : k0_pay15 (F := Ideal) b W (k0_pay14 W) 4#32 x0 x1 x2 x3 x4 x5 x6 x7 (ix2 i k)
    = quot 4 3 (x0 (ix2 i k) + x1 (ix2 i k) + x2 (ix2 i k) + x3 (ix2 i k) + x4 (ix2 i k) + x5 (ix2 i k) + x6 (ix2 i k) + x7 (ix2 i k)) (W (ix2 i 0))
      - b (ix2 i ⟨256 + k.val, by omega⟩) := by
  pointwise [k0_pay15, k0_pay14]; rfl

theorem mix3_at (x0 x1 x2 x3 x4 x5 x6 x7 x8 x9 x10 x11 x12 x13 x14 x15 : Vec Ideal S512x128 .f32) :
    k0_pay18 (F := Ideal) b (k0_pay16 W) (k0_pay17 x0 x1 x2 x3 x4 x5 x6 x7 x8 x9 x10 x11 x12 x13 x14) x15 (ix2 i k)
    = quot 8 7 (x0 (ix2 i k) + x1 (ix2 i k) + x2 (ix2 i k) + x3 (ix2 i k) + x4 (ix2 i k) + x5 (ix2 i k) + x6 (ix2 i k) + x7 (ix2 i k)
        + x8 (ix2 i k) + x9 (ix2 i k) + x10 (ix2 i k) + x11 (ix2 i k) + x12 (ix2 i k) + x13 (ix2 i k) + x14 (ix2 i k) + x15 (ix2 i k)) (W (ix2 i 0))
      - b (ix2 i ⟨384 + k.val, by omega⟩) := by
  pointwise [k0_pay18, k0_pay16, k0_pay17]; rfl

end Means

section Scaled

variable (x : Vec Ideal S512x128 .f32) (s : Vec Ideal S1x128 .f32) (i : Fin 512) (k : Fin 128)

/-- The scaled cotangent, the same in each group. -/
theorem scaled_at : k0_pay25 (F := Ideal) x s (ix2 i k) = x (ix2 i k) * s (ix2 0 k) := by pointwise [k0_pay25]
theorem scaled_eq : k0_pay33 (F := Ideal) x s = k0_pay25 x s ∧ k0_pay39 (F := Ideal) x s = k0_pay25 x s ∧ k0_pay46 (F := Ideal) x s = k0_pay25 x s :=
  ⟨rfl, rfl, rfl⟩

end Scaled

section Back

variable (x : Vec Ideal S528x128 .f32) (s : Vec Ideal S1x128 .f32) (w : Vec Ideal S1x128x128 .bf16) (V : IVec S528x1 32) (e : Fin 528) (k : Fin 128)

/-- The means' cotangent, the same in each group, -/
theorem back_at : k0_pay26 (F := Ideal) x s w (ix2 e k) = ∑ d : Fin 128, x (ix2 e d) * s (ix2 0 d) * w (ix3 0 k d) := by pointwise [k0_pay26]
theorem back_eq : k0_pay34 (F := Ideal) (k0_pay32 x s) w = k0_pay26 x s w ∧ k0_pay40 (F := Ideal) x s w = k0_pay26 x s w
    ∧ k0_pay47 (F := Ideal) x s w = k0_pay26 x s w := ⟨rfl, rfl, rfl⟩

variable (y : FVec Ideal S528x128 .f32)

/-- and that divided by the windows' lengths. -/
theorem share0_at : k0_pay28 (F := Ideal) y (k0_pay27 V) (ix2 e k) = quotM 1 0 (y (ix2 e k)) (V (ix2 e 0)) := by
  pointwise [k0_pay28, k0_pay27]; rfl
theorem share1_at : k0_pay35 (F := Ideal) V (k0_pay32 x s) w (ix2 e k) = quotM 2 1 (k0_pay26 (F := Ideal) x s w (ix2 e k)) (V (ix2 e 0)) := by
  rw [← back_eq x s w |>.1]
  unfold k0_pay35
  generalize k0_pay34 (F := Ideal) (k0_pay32 x s) w = y
  pointwise []; rfl
theorem share2_at : k0_pay42 (F := Ideal) V y (k0_pay41 V) 4#32 (ix2 e k) = quotM 4 3 (y (ix2 e k)) (V (ix2 e 0)) := by
  pointwise [k0_pay42, k0_pay41]; rfl
theorem share3_at : k0_pay50 (F := Ideal) y (k0_pay48 V) (k0_pay49 V) (ix2 e k) = quotM 8 7 (y (ix2 e k)) (V (ix2 e 0)) := by
  pointwise [k0_pay50, k0_pay48, k0_pay49]; rfl

end Back

section Gathered

variable (y : FVec Ideal S528x128 .f32) (x : Vec Ideal S528x128 .f32) (s : Vec Ideal S1x128 .f32) (w : Vec Ideal S1x128x128 .bf16) (i : Fin 512) (k : Fin 128)

/-- The gradient of a row: the shares of the windows that hold it, less its own part. -/
theorem grad0_at (x0 x1 : Vec Ideal S512x128 .f32) : k0_pay29 (F := Ideal) y x0 x1 (ix2 i k)
    = x0 (ix2 i k) + x1 (ix2 i k) - y (ix2 ⟨8 + i.val, by omega⟩ k) := by pointwise [k0_pay29]

theorem grad1_at (x0 x1 x2 x3 : Vec Ideal S512x128 .f32) : k0_pay36 (F := Ideal) (k0_pay32 x s) w x0 x1 x2 x3 (ix2 i k)
    = x0 (ix2 i k) + x1 (ix2 i k) + x2 (ix2 i k) + x3 (ix2 i k) - k0_pay26 (F := Ideal) x s w (ix2 ⟨8 + i.val, by omega⟩ k) := by
  rw [← back_eq x s w |>.1]
  unfold k0_pay36
  generalize k0_pay34 (F := Ideal) (k0_pay32 x s) w = y
  pointwise []

theorem grad2_at (x0 x1 x2 x3 x4 x5 x6 x7 : Vec Ideal S512x128 .f32) : k0_pay43 (F := Ideal) y x0 x1 x2 x3 x4 x5 x6 x7 (ix2 i k)
    = x0 (ix2 i k) + x1 (ix2 i k) + x2 (ix2 i k) + x3 (ix2 i k) + x4 (ix2 i k) + x5 (ix2 i k) + x6 (ix2 i k) + x7 (ix2 i k)
      - y (ix2 ⟨8 + i.val, by omega⟩ k) := by pointwise [k0_pay43]

theorem grad3_at (x0 x1 x2 x3 x4 x5 x6 x7 x8 x9 x10 x11 x12 x13 x14 x15 : Vec Ideal S512x128 .f32) :
    k0_pay1 (F := Ideal) y (k0_pay51 x0 x1 x2 x3 x4 x5 x6 x7 x8 x9 x10 x11) x12 x13 x14 x15 (ix2 i k)
    = x0 (ix2 i k) + x1 (ix2 i k) + x2 (ix2 i k) + x3 (ix2 i k) + x4 (ix2 i k) + x5 (ix2 i k) + x6 (ix2 i k) + x7 (ix2 i k)
        + x8 (ix2 i k) + x9 (ix2 i k) + x10 (ix2 i k) + x11 (ix2 i k) + x12 (ix2 i k) + x13 (ix2 i k) + x14 (ix2 i k) + x15 (ix2 i k)
      - y (ix2 ⟨8 + i.val, by omega⟩ k) := by pointwise [k0_pay1, k0_pay51]

end Gathered

section Scale

variable (v : FVec Ideal S512x128 .f32) (x : Vec Ideal S512x128 .f32) (w : Vec Ideal S1x128x128 .bf16) (k : Fin 128)

/-- A tile's part of the scale's gradient, the same in each group. -/
theorem scale_at : k0_pay24 (F := Ideal) (k0_pay23 v) x w (ix2 0 k)
    = ∑ i : Fin 512, x (ix2 i k) * ∑ d : Fin 128, v (ix2 i d) * w (ix3 0 d k) := by pointwise [k0_pay24, k0_pay23]
theorem scale_eq : k0_pay31 (F := Ideal) v x w = k0_pay24 (k0_pay23 v) x w ∧ k0_pay38 (F := Ideal) v x w = k0_pay24 (k0_pay23 v) x w
    ∧ k0_pay45 (F := Ideal) (k0_pay44 v) x w = k0_pay24 (k0_pay23 v) x w := ⟨rfl, rfl, rfl⟩

end Scale

end Cert.Pool

end
-- ==== Proof.Pool.Ref.lean ====
/- What the reference computes, entry by entry: the windows' means, their products with the weight, and the gradients. -/
module

public import proofs.«01_k».proof.Defs
public import proofs.«01_k».proof.Proof.Gen.ReferencePoolIdeal.Run
public import proofs.«01_k».proof.Proof.Gen.ReferencePoolIdeal.Read
public import proofs.«01_k».proof.Proof.Common.Consts
public import proofs.«01_k».proof.Proof.Pool.Window
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Pool

open Cert.ReferencePoolIdeal Cert.ReferencePoolIdeal.Gen Cert.ReferencePoolIdeal.Read

section Masks

variable (g : Fin 4) (s t : Fin 16384)

theorem left_at : val_main_v8 (F := Ideal) (ix2 g 0) = BitVec.ofNat 32 (half g) := by
  match g with
  | ⟨0, _⟩ => rfl
  | ⟨1, _⟩ => rfl
  | ⟨2, _⟩ => rfl
  | ⟨3, _⟩ => rfl

theorem right_at : val_main_v13 (F := Ideal) (ix2 g 0) = BitVec.ofNat 32 (half g - 1) := by
  match g with
  | ⟨0, _⟩ => rfl
  | ⟨1, _⟩ => rfl
  | ⟨2, _⟩ => rfl
  | ⟨3, _⟩ => rfl

/-- The first row of a window, and the first after it. -/
theorem lo_at : val_main_v17 (F := Ideal) (ix2 g s) = BitVec.ofNat 32 (s.val - half g) := by
  have h : val_main_v17 (F := Ideal) (ix2 g s) = IntOp.minsi (BitVec.ofNat 32 16384) (IntOp.maxsi (BitVec.ofNat 32 0)
      (IntOp.subi (BitVec.ofNat 32 s.val) (val_main_v8 (F := Ideal) (ix2 g 0)))) := by
    rw [val_main_v17_apply, val_main_call0_v4_apply, val_main_call0_v2_apply, val_main_call0_v1_apply, val_main_v16_apply, val_main_v14_apply, val_main_v15_apply,
      val_main_v3_apply, val_main_v2_apply, show idx_main_v15 (ix2 g s) = ix2 g 0 by blk_ext []]
    rfl
  have := half_le g
  have := s.isLt
  rw [h, left_at, maxsi_comm, first_ofNat _ _ (by omega) (by omega), minsi_ofNat _ _ (by omega) (by omega), Nat.min_eq_right (by omega)]

theorem hi_at : val_main_v23 (F := Ideal) (ix2 g s) = BitVec.ofNat 32 (min (s.val + half g) 16384) := by
  have h : val_main_v23 (F := Ideal) (ix2 g s) = IntOp.minsi (BitVec.ofNat 32 16384) (IntOp.maxsi (BitVec.ofNat 32 0)
      (IntOp.addi (IntOp.addi (BitVec.ofNat 32 s.val) (val_main_v13 (F := Ideal) (ix2 g 0))) (BitVec.ofNat 32 1))) := by
    rw [val_main_v23_apply, val_main_call1_v4_apply, val_main_call1_v2_apply, val_main_call1_v1_apply, val_main_v22_apply, val_main_v20_apply, val_main_v18_apply,
      val_main_v19_apply, val_main_v3_apply, val_main_v2_apply, show idx_main_v19 (ix2 g s) = ix2 g 0 by blk_ext []]
    rfl
  have := half_le g
  have := s.isLt
  rw [h, right_at, addi_ofNat, addi_ofNat, maxsi_ofNat _ _ (by omega) (by omega), minsi_ofNat _ _ (by omega) (by omega)]
  congr 1; omega

/-- The windows' mask, -/
theorem in_at : val_main_v35 (F := Ideal) (ix3 g s t) = if s.val ≤ t.val + half g ∧ t.val < s.val + half g then 1 else 0 := by
  have h : val_main_v35 (F := Ideal) (ix3 g s t)
      = Scalar.select (IntOp.andi (IntOp.cmpi .sge (BitVec.ofNat 32 t.val) (val_main_v17 (F := Ideal) (ix2 g s)))
          (IntOp.cmpi .slt (BitVec.ofNat 32 t.val) (val_main_v23 (F := Ideal) (ix2 g s))))
        (FloatOps.ofBits (F := Ideal) .f32 0x3F800000#32) (FloatOps.ofBits (F := Ideal) .f32 0x00000000#32) := by
    rw [val_main_v35_apply, val_main_v34_apply, val_main_v29_apply, val_main_v33_apply, val_main_v27_apply, val_main_v28_apply, val_main_v31_apply,
      val_main_v32_apply, val_main_v26_apply, val_main_v30_apply, val_main_v25_apply, val_main_v24_apply,
      show idx_main_v26 (idx_main_v28 (ix3 g s t)) = ix2 g s by blk_ext [], show idx_main_v30 (idx_main_v32 (ix3 g s t)) = ix2 g s by blk_ext []]
    rfl
  have hh := half_le g
  have hs := s.isLt
  have ht := t.isLt
  have e1 : (FloatOps.ofBits (F := Ideal) .f32 0x3F800000#32 : EReal) = 1 := Ideal.ofBits_one_f32
  have e0 : (FloatOps.ofBits (F := Ideal) .f32 0x00000000#32 : EReal) = 0 := Ideal.ofBits_zero_f32
  rw [h, lo_at, hi_at, e1, e0]
  have b : ∀ x y : ℕ, x < 2 ^ 31 → y < 2 ^ 31 → IntOp.cmpi .slt (BitVec.ofNat 32 x) (BitVec.ofNat 32 y) = BitVec.ofBool (decide (x < y)) := by
    intro x y hx hy
    show BitVec.ofBool ((BitVec.ofNat 32 x).slt (BitVec.ofNat 32 y)) = _
    rw [slt_ofNat x y hx hy]
  have b' : ∀ x y : ℕ, x < 2 ^ 31 → y < 2 ^ 31 → IntOp.cmpi .sge (BitVec.ofNat 32 x) (BitVec.ofNat 32 y) = BitVec.ofBool (decide (y ≤ x)) := by
    intro x y hx hy
    show BitVec.ofBool ((BitVec.ofNat 32 y).sle (BitVec.ofNat 32 x)) = _
    rw [BitVec.sle, toInt_ofNat x hx, toInt_ofNat y hy]; simp
  rw [b _ _ (by omega) (by omega), b' _ _ (by omega) (by omega)]
  by_cases p : s.val - half g ≤ t.val
  · by_cases q : t.val < min (s.val + half g) 16384
    · rw [if_pos (by omega), decide_eq_true p, decide_eq_true q]; rfl
    · rw [if_neg (by omega), decide_eq_true p, decide_eq_false q]; rfl
  · rw [if_neg (by omega), decide_eq_false p]
    by_cases q : t.val < min (s.val + half g) 16384
    · rw [decide_eq_true q]; rfl
    · rw [decide_eq_false q]; rfl

/-- and their lengths. -/
theorem count_at : val_main_v38 (F := Ideal) (ix2 g s) = ((count g s.val : ℝ) : EReal) := by
  rw [val_main_v38_apply, val_main_v37_apply, lo_at, hi_at]
  have := half_le g
  have := s.isLt
  rw [subi_ofNat _ _ (by omega) (by omega)]
  show (((BitVec.ofNat 32 _).toInt : ℝ) : EReal) = _
  rw [toInt_ofNat _ (by omega)]
  unfold count
  norm_cast

end Masks

variable (x0 : FVec Ideal S16384x512 .f32) (x1 : FVec Ideal S16384x1184 .f32) (x2 : FVec Ideal S4x128x128 .f32) (x3 : FVec Ideal S512 .f32)
variable (s : Fin 16384) (g : Fin 4) (k : Fin 128)

/-- Column `k` of a group among all. -/
def col : Fin 512 := ⟨g.val * 128 + k.val, by omega⟩

/-- The pooled columns of the input, the means less the rows themselves, -/
def pooled (t : Fin 16384) : EReal := x1 (ix2 t ⟨672 + (col g k).val, by have := (col g k).isLt; omega⟩)
def mixed : EReal := Ideal.div (∑ j ∈ Finset.range (2 * half g), pad (pooled x1 g k) (s.val + 8 - half g + j)) ((count g s.val : ℝ) : EReal) - pooled x1 g k s

/-- the cotangent of the means, -/
def back : EReal := ∑ d : Fin 128, x0 (ix2 s (col g d)) * x3 (ix1 (col g d)) * x2 (ix3 g k d)
def shared (t : Fin 16384) : EReal := Ideal.div (back x0 x2 x3 t g k) ((count g t.val : ℝ) : EReal)

/-- and the pooled columns' gradient. -/
def grad : EReal := (∑ j ∈ Finset.range (2 * half g), pad (shared x0 x2 x3 g k) (s.val + 9 - half g + j)) - back x0 x2 x3 s g k

theorem pooled_at : val_main_v1 (F := Ideal) x1 (ix3 s g k) = pooled x1 g k s := by
  rw [val_main_v1_apply, val_main_v0_apply, pooled]
  refine congrArg x1 ?_
  unfold col
  blk_ext []

theorem mixed_at : val_main_v43 (F := Ideal) x1 (ix3 s g k) = mixed x1 s g k := by
  rw [val_main_v43_apply, pooled_at, val_main_v42_apply, show idx_main_v42 (ix3 s g k) = ix3 g s k by blk_ext [],
    val_main_v41_apply, val_main_v40_apply, val_main_v39_apply, show idx_main_v39 (idx_main_v40 (ix3 g s k)) = ix2 g s by blk_ext [], count_at,
    val_main_v36_apply]
  have h : ∀ t : Fin 16384, val_main_v35 (F := Ideal) (lidx_main_v36 (ix3 g s k) t) * val_main_v1 (F := Ideal) x1 (ridx_main_v36 (ix3 g s k) t)
      = if s.val + 8 - half g ≤ t.val + 8 ∧ t.val + 8 < s.val + 8 - half g + 2 * half g then pooled x1 g k t else 0 := by
    intro t
    have := half_le g
    rw [show lidx_main_v36 (ix3 g s k) t = ix3 g s t by blk_ext [], show ridx_main_v36 (ix3 g s k) t = ix3 t g k by blk_ext [], in_at, pooled_at]
    by_cases p : s.val ≤ t.val + half g ∧ t.val < s.val + half g
    · rw [if_pos p, if_pos (by omega), one_mul]
    · rw [if_neg p, if_neg (by omega), zero_mul]
  rw [Finset.sum_congr rfl fun t _ => h t, ← sum_pad]
  rfl

theorem scaled_ref : val_main_v54 (F := Ideal) x0 x3 (ix2 s (col g k)) = x0 (ix2 s (col g k)) * x3 (ix1 (col g k)) := by
  rw [val_main_v54_apply, val_main_v53_apply, val_main_v47_apply, show idx_main_v47 (idx_main_v53 (ix2 s (col g k))) = ix1 (col g k) by blk_ext []]
  rfl

theorem back_ref : val_main_v58 (F := Ideal) x0 x2 x3 (ix3 g s k) = back x0 x2 x3 s g k := by
  rw [val_main_v58_apply]
  refine Finset.sum_congr rfl fun d _ => ?_
  rw [val_main_v57_apply, val_main_v56_apply, show idx_main_v56 (idx_main_v57 (lidx_main_v58 (ix3 g s k) d)) = ix2 s (col g d) by unfold col; blk_ext [],
    scaled_ref, show ridx_main_v58 (ix3 g s k) d = ix3 g k d by blk_ext []]

theorem grad_ref : val_main_v66 (F := Ideal) x0 x2 x3 (ix3 s g k) = grad x0 x2 x3 s g k := by
  rw [val_main_v66_apply, val_main_v60_apply, val_main_v59_apply, show idx_main_v59 (ix3 s g k) = ix3 g s k by blk_ext [], back_ref,
    val_main_v65_apply, show idx_main_v65 (ix3 s g k) = ix3 g k s by blk_ext [], val_main_v64_apply]
  have h : ∀ t : Fin 16384, val_main_v63 (F := Ideal) x0 x2 x3 (lidx_main_v64 (ix3 g k s) t) * val_main_v35 (F := Ideal) (ridx_main_v64 (ix3 g k s) t)
      = if s.val + 9 - half g ≤ t.val + 8 ∧ t.val + 8 < s.val + 9 - half g + 2 * half g then shared x0 x2 x3 g k t else 0 := by
    intro t
    have := half_le g
    rw [show lidx_main_v64 (ix3 g k s) t = ix3 g t k by blk_ext [], show ridx_main_v64 (ix3 g k s) t = ix3 g t s by blk_ext [], in_at,
      val_main_v63_apply, val_main_v62_apply, val_main_v61_apply, val_main_v59_apply,
      show idx_main_v59 (idx_main_v61 (ix3 g t k)) = ix3 g t k by blk_ext [], back_ref, val_main_v39_apply,
      show idx_main_v39 (idx_main_v62 (ix3 g t k)) = ix2 g t by blk_ext [], count_at]
    by_cases p : t.val ≤ s.val + half g ∧ s.val < t.val + half g
    · rw [if_pos p, if_pos (by omega), mul_one]; rfl
    · rw [if_neg p, if_neg (by omega), mul_zero]
  rw [Finset.sum_congr rfl fun t _ => h t, ← sum_pad]
  show -back x0 x2 x3 s g k + _ = _
  rw [add_comm]
  rfl

/-- The reference's results, entry by entry. -/
theorem ref_grad : val_main_v67 (F := Ideal) x0 x2 x3 (ix2 s (col g k)) = grad x0 x2 x3 s g k := by
  rw [val_main_v67_apply, show idx_main_v67 (ix2 s (col g k)) = ix3 s g k by unfold col; blk_ext [], grad_ref]

theorem ref_mixed : val_main_v69 (F := Ideal) x1 (ix2 s (col g k)) = mixed x1 s g k := by
  rw [val_main_v69_apply, val_main_v68_apply, show idx_main_v68 (ix2 s (col g k)) = ix3 s g k by unfold col; blk_ext [], mixed_at]
  rfl

theorem ref_scaled : val_main_v70 (F := Ideal) x0 x3 (ix2 s (col g k)) = x0 (ix2 s (col g k)) * x3 (ix1 (col g k)) := by
  rw [val_main_v70_apply, scaled_ref]; rfl

theorem ref_scale : val_main_v71 (F := Ideal) x0 x1 x2 (ix2 0 (col g k))
    = ∑ s : Fin 16384, x0 (ix2 s (col g k)) * ∑ d : Fin 128, mixed x1 s g d * x2 (ix3 g d k) := by
  rw [val_main_v71_apply, show idx_main_v71 (ix2 0 (col g k)) = ix1 (col g k) by blk_ext [], val_main_v55_apply, Fin.sum_univ_one, val_main_v52_apply,
    show idx_main_v52 (idx_main_v55 (ix1 (col g k)) 0) = ix1 (col g k) by blk_ext [], val_main_v51_apply, val_main_cst_13_apply, val_main_cst_14_apply]
  have e0 : (FloatOps.ofBits (F := Ideal) .f32 0x00000000#32 : EReal) = 0 := Ideal.ofBits_zero_f32
  rw [e0, zero_add, zero_add]
  refine Finset.sum_congr rfl fun s _ => ?_
  rw [show idx_main_v51 (ix1 (col g k)) s = ix2 s (col g k) by blk_ext [], val_main_v50_apply, val_main_v46_apply, val_main_v45_apply,
    show idx_main_v45 (idx_main_v46 (ix2 s (col g k))) = ix3 g k s by unfold col; blk_ext [], val_main_v44_apply]
  refine (mul_comm _ _).trans (congrArg (x0 (ix2 s (col g k)) * ·) (Finset.sum_congr rfl fun d _ => ?_))
  rw [show lidx_main_v44 (ix3 g k s) d = ix3 g d k by blk_ext [], show ridx_main_v44 (ix3 g k s) d = ix3 s g d by blk_ext [], mixed_at, mul_comm]

end Cert.Pool

end
-- ==== Proof.Pool.Ext.lean ====
/- What a point's body finds in its blocks and in the two extended copies of rows that it keeps in scratch. -/
module

public import proofs.«01_k».proof.Defs
public import proofs.«01_k».proof.Proof.Gen.KernelPoolIdeal.Value
public import proofs.«01_k».proof.Proof.Pool.Block
public import proofs.«01_k».proof.Proof.Pool.Ref
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Pool

variable (m : (ℓ : Loc nD τ sig) → Buf (Elt Ideal) ℓ)

/-- The arguments: the cotangent, the input's projections, the groups' weights and the scale. -/
abbrev aD (c : Dev nD) : FVec Ideal S16384x512 .f32 := m ((c : Thread nD τ).loc main_arg0)
abbrev aZ (c : Dev nD) : FVec Ideal S16384x1184 .f32 := m ((c : Thread nD τ).loc main_arg1)
abbrev aW (c : Dev nD) : FVec Ideal S4x128x128 .f32 := m ((c : Thread nD τ).loc main_arg2)
abbrev aS (c : Dev nD) : FVec Ideal S512 .f32 := m ((c : Thread nD τ).loc main_arg3)

theorem lt_N (t : Fin cfg0.N) : t.val < 32 := t.isLt

/-- Which block each window holds at a point. -/
theorem idx : ∀ t : Fin cfg0.N, win0_0.index t = ![t.val * 64 - 1, 0] ∧ win0_1.index t = ![t.val, 0] ∧ win0_2.index t = ![min (t.val * 64 + 64) 2047, 0]
    ∧ win0_3.index t = ![t.val * 64 - 1, 0] ∧ win0_4.index t = ![t.val, 0] ∧ win0_5.index t = ![min (t.val * 64 + 64) 2047, 0]
    ∧ win0_6.index t = ![0, 0, 0] ∧ win0_7.index t = ![0, 0] ∧ win0_8.index t = ![t.val, 0] ∧ win0_9.index t = ![t.val, 0]
    ∧ win0_10.index t = ![t.val, 0] ∧ win0_11.index t = ![0, 0] :=
  (by decide +kernel : ∀ t : Fin grid0.N, _)

theorem coord : ∀ t : Fin cfg0.N, (grid0.coords t 0).val = t.val := (by decide +kernel : ∀ t : Fin grid0.N, _)

/-- Row `i` of a point's block. -/
def row (t : Fin cfg0.N) (i : Fin 512) : Fin 16384 := ⟨t.val * 512 + i.val, by have := lt_N t; omega⟩

/-- The projections in the order of columns that the host gives them. -/
def hZ (z : FVec Ideal S16384x1184 .f32) : FVec Ideal S16384x1280 .f32 :=
  concatenate S16384x1280 1 [⟨S16384x640, extractStridedSlice S16384x640 ![0, 0] z slices_S16384x1184_S16384x640_0_0⟩,
    ⟨S16384x512, extractStridedSlice S16384x512 ![0, 672] z slices_S16384x1184_S16384x512_0_672⟩,
    ⟨S16384x64, broadcastInDim S16384x64 ![] bcast_S_S16384x64 (constant (F := Ideal) S_ .f32 0x00000000#32)⟩,
    ⟨S16384x32, extractStridedSlice S16384x32 ![0, 640] z slices_S16384x1184_S16384x32_0_640⟩,
    ⟨S16384x32, broadcastInDim S16384x32 ![] bcast_S_S16384x32 (constant (F := Ideal) S_ .f32 0x00000000#32)⟩]
    concatenates_S16384x640_S16384x512_S16384x64_S16384x32_S16384x32_S16384x1280_d1

theorem operands (c : Dev nD) : V m c main_v5 = hZ (aZ m c) ∧ V m c main_v6 = truncf (F := Ideal) .bf16 (aW m c) bitsLt_bf16_f32
    ∧ V m c main_v7 = broadcastInDim S1x512 ![1] bcast_S512_S1x512_1 (aS m c) := by
  unfold V hostOps0
  refine ⟨?_, ?_, ?_⟩ <;> (after_results; try rfl)

theorem hZ_at (z : FVec Ideal S16384x1184 .f32) (s : Fin 16384) (k : Fin 512) :
    hZ z (ix2 s ⟨640 + k.val, by omega⟩) = z (ix2 s ⟨672 + k.val, by omega⟩) := by
  unfold hZ
  refine (concatenate_apply_piece (1 : Fin S16384x1280.rank) _ _ _ 1 (by simp) S16384x512 _ rfl rfl 640 (by rfl) (ix2 s k) (fun b hb => ?_) rfl).trans ?_
  · match b with
    | ⟨0, _⟩ => rfl
    | ⟨1, _⟩ => exact absurd rfl hb
  · pointwise []

/-- A column of the cotangent, and one of the pooled projections. -/
def colD (c : Dev nD) (k : Fin 512) (s : Fin 16384) : EReal := aD m c (ix2 s k)
def colZ (c : Dev nD) (k : Fin 512) (s : Fin 16384) : EReal := aZ m c (ix2 s ⟨672 + k.val, by omega⟩)

/-- The rows before a block and after it are zeroed at the ends of the sequence. -/
theorem before_at (a : ℕ) (h : a < 2 ^ 31) (v : Vec Ideal S8x512 .f32) (x : S8x512.Idx) :
    k0_pay19 (F := Ideal) (BitVec.ofNat 32 a) v x = if 0 < a then v x else 0 := by
  have e : Scalar.cmpi .sgt (BitVec.ofNat 32 a) 0#32 = BitVec.ofBool (decide (0 < a)) := by
    show BitVec.ofBool ((BitVec.ofNat 32 0).slt (BitVec.ofNat 32 a)) = _
    rw [slt_ofNat 0 a (by omega) h]
  unfold k0_pay19
  simp only [e]
  by_cases p : 0 < a
  · rw [decide_eq_true p, if_pos p]; pointwise []
  · rw [decide_eq_false p, if_neg p]; exact Ideal.ofBits_zero_f32

theorem after_at (a : ℕ) (h : a < 2 ^ 31) (v : Vec Ideal S8x512 .f32) (x : S8x512.Idx) :
    k0_pay21 (F := Ideal) (BitVec.ofNat 32 a) v x = if a < 31 then v x else 0 := by
  have e : Scalar.cmpi .slt (BitVec.ofNat 32 a) 31#32 = BitVec.ofBool (decide (a < 31)) := by
    show BitVec.ofBool ((BitVec.ofNat 32 a).slt (BitVec.ofNat 32 31)) = _
    rw [slt_ofNat a 31 h (by omega)]
  unfold k0_pay21
  simp only [e]
  by_cases p : a < 31
  · rw [decide_eq_true p, if_pos p]; pointwise []
  · rw [decide_eq_false p, if_neg p]; exact Ideal.ofBits_zero_f32

theorem before_eq (co : grid0.Coords) (v : Vec Ideal S8x512 .f32) : k0_pay5 (F := Ideal) co v = k0_pay19 (BitVec.ofNat 32 (co 0).val) v := by
  funext x; unfold k0_pay5 k0_pay19; pointwise []
theorem after_eq (co : grid0.Coords) (v : Vec Ideal S8x512 .f32) : k0_pay7 (F := Ideal) co v = k0_pay21 (BitVec.ofNat 32 (co 0).val) v := by
  funext x; unfold k0_pay7 k0_pay21; pointwise []

/-- Rows as the body keeps them: 512 of its block between eight before and eight after. -/
def ext (f : Fin 512 → Fin 16384 → EReal) (t : Fin cfg0.N) (y : S528x512.Idx) : EReal := Pool.pad (f (y 1)) (t.val * 512 + (y 0).val)

section Blocks

variable (c : Dev nD) (t : Fin cfg0.N)

/-- The rows of the projections that a point stores in its scratch, -/
abbrev LZ : List (View.Piece (Elt Ideal) S528x512 .f32) :=
  [⟨Rect.unit ![520, 0] ![8, 512] inb_S528x512_S8x512_520_0, k0_pay7 (grid0.coords t) (View.ld (iblk m c 5 t) (Rect.unit ![0, 640] ![8, 512] inb_S8x1280_S8x512_0_640))⟩,
    ⟨Rect.unit ![8, 0] ![512, 512] inb_S528x512_S512x512_8_0, k0_pay6 (View.ld (iblk m c 4 t) (Rect.unit ![0, 640] ![512, 512] inb_S512x1280_S512x512_0_640))⟩,
    ⟨Rect.unit ![0, 0] ![8, 512] inb_S528x512_S8x512_0_0, k0_pay5 (grid0.coords t) (View.ld (iblk m c 3 t) (Rect.unit ![0, 640] ![8, 512] inb_S8x1280_S8x512_0_640))⟩]

/-- and the cotangent's, over them. -/
abbrev LD : List (View.Piece (Elt Ideal) S528x512 .f32) :=
  [⟨Rect.unit ![520, 0] ![8, 512] inb_S528x512_S8x512_520_0, k0_pay21 (BitVec.ofNat 32 (grid0.coords t 0).val) (iblk m c 2 t)⟩,
    ⟨Rect.unit ![8, 0] ![512, 512] inb_S528x512_S512x512_8_0, k0_pay20 (iblk m c 1 t)⟩,
    ⟨Rect.unit ![0, 0] ![8, 512] inb_S528x512_S8x512_0_0, k0_pay19 (BitVec.ofNat 32 (grid0.coords t 0).val) (iblk m c 0 t)⟩]

theorem ext_before (f : Fin 512 → Fin 16384 → EReal) (v : Vec Ideal S8x512 .f32)
    (h : 0 < t.val → ∀ (i : Fin 8) (k : Fin 512) (s : Fin 16384), s.val = t.val * 512 - 8 + i.val → v (ix2 i k) = f k s) (i : Fin 8) (k : Fin 512) :
    k0_pay19 (F := Ideal) (BitVec.ofNat 32 (grid0.coords t 0).val) v (ix2 i k) = ext f t (ix2 ⟨i.val, by omega⟩ k) := by
  have := lt_N t
  rw [coord, before_at _ (by omega)]
  show _ = Pool.pad (f k) (t.val * 512 + i.val)
  unfold Pool.pad
  by_cases p : 0 < t.val
  · rw [if_pos p, dif_pos (by omega)]; exact h p i k _ (by show t.val * 512 + i.val - 8 = _; omega)
  · rw [if_neg p, dif_neg (by omega)]

theorem ext_after (f : Fin 512 → Fin 16384 → EReal) (v : Vec Ideal S8x512 .f32)
    (h : t.val < 31 → ∀ (i : Fin 8) (k : Fin 512) (s : Fin 16384), s.val = t.val * 512 + 512 + i.val → v (ix2 i k) = f k s) (i : Fin 8) (k : Fin 512) :
    k0_pay21 (F := Ideal) (BitVec.ofNat 32 (grid0.coords t 0).val) v (ix2 i k) = ext f t (ix2 ⟨520 + i.val, by omega⟩ k) := by
  have := lt_N t
  rw [coord, after_at _ (by omega)]
  show _ = Pool.pad (f k) (t.val * 512 + (520 + i.val))
  unfold Pool.pad
  by_cases p : t.val < 31
  · rw [if_pos p, dif_pos (by omega)]; exact h p i k _ (by show t.val * 512 + (520 + i.val) - 8 = _; omega)
  · rw [if_neg p, dif_neg (by omega)]

theorem ext_mid (f : Fin 512 → Fin 16384 → EReal) (i : Fin 512) (k : Fin 512) : ext f t (ix2 ⟨8 + i.val, by omega⟩ k) = f k (row t i) := by
  have := lt_N t
  show Pool.pad (f k) (t.val * 512 + (8 + i.val)) = _
  unfold Pool.pad
  rw [dif_pos (by omega)]
  exact congrArg (f k) (Fin.ext (by show t.val * 512 + (8 + i.val) - 8 = t.val * 512 + i.val; omega))

/-- The blocks. -/
theorem z_mid (i k : Fin 512) : View.ld (iblk m c 4 t) (Rect.unit ![0, 640] ![512, 512] inb_S512x1280_S512x512_0_640) (ix2 i k) = colZ m c k (row t i) := by
  show V m c main_v5 ((win0_4.blk t).view.emb ((Rect.unit (s := S512x1280) ![0, 640] ![512, 512] inb_S512x1280_S512x512_0_640).emb (ix2 i k))) = _
  rw [(operands m c).1, show (win0_4.blk t).view.emb ((Rect.unit (s := S512x1280) ![0, 640] ![512, 512] inb_S512x1280_S512x512_0_640).emb (ix2 i k)) = ix2 (row t i) ⟨640 + k.val, by omega⟩ by
    unfold row; blk_ext [idx t], hZ_at]
  rfl

theorem z_before (h : 0 < t.val) (i : Fin 8) (k : Fin 512) (s : Fin 16384) (hs : s.val = t.val * 512 - 8 + i.val) :
    View.ld (iblk m c 3 t) (Rect.unit ![0, 640] ![8, 512] inb_S8x1280_S8x512_0_640) (ix2 i k) = colZ m c k s := by
  show V m c main_v5 ((win0_3.blk t).view.emb ((Rect.unit (s := S8x1280) ![0, 640] ![8, 512] inb_S8x1280_S8x512_0_640).emb (ix2 i k))) = _
  rw [(operands m c).1, show (win0_3.blk t).view.emb ((Rect.unit (s := S8x1280) ![0, 640] ![8, 512] inb_S8x1280_S8x512_0_640).emb (ix2 i k)) = ix2 s ⟨640 + k.val, by omega⟩ by
    blk_ext [idx t], hZ_at]
  rfl

theorem z_after (h : t.val < 31) (i : Fin 8) (k : Fin 512) (s : Fin 16384) (hs : s.val = t.val * 512 + 512 + i.val) :
    View.ld (iblk m c 5 t) (Rect.unit ![0, 640] ![8, 512] inb_S8x1280_S8x512_0_640) (ix2 i k) = colZ m c k s := by
  show V m c main_v5 ((win0_5.blk t).view.emb ((Rect.unit (s := S8x1280) ![0, 640] ![8, 512] inb_S8x1280_S8x512_0_640).emb (ix2 i k))) = _
  rw [(operands m c).1, show (win0_5.blk t).view.emb ((Rect.unit (s := S8x1280) ![0, 640] ![8, 512] inb_S8x1280_S8x512_0_640).emb (ix2 i k)) = ix2 s ⟨640 + k.val, by omega⟩ by
    blk_ext [idx t], hZ_at]
  rfl

theorem d_mid (i k : Fin 512) : (iblk m c 1 t : Vec Ideal S512x512 .f32) (ix2 i k) = colD m c k (row t i) := by
  show V m c main_arg0 ((win0_1.blk t).view.emb (ix2 i k)) = _
  rw [show (win0_1.blk t).view.emb (ix2 i k) = ix2 (row t i) k by unfold row; blk_ext [idx t]]
  rfl

theorem d_before (h : 0 < t.val) (i : Fin 8) (k : Fin 512) (s : Fin 16384) (hs : s.val = t.val * 512 - 8 + i.val) :
    (iblk m c 0 t : Vec Ideal S8x512 .f32) (ix2 i k) = colD m c k s := by
  show V m c main_arg0 ((win0_0.blk t).view.emb (ix2 i k)) = _
  rw [show (win0_0.blk t).view.emb (ix2 i k) = ix2 s k by blk_ext [idx t]]
  rfl

theorem d_after (h : t.val < 31) (i : Fin 8) (k : Fin 512) (s : Fin 16384) (hs : s.val = t.val * 512 + 512 + i.val) :
    (iblk m c 2 t : Vec Ideal S8x512 .f32) (ix2 i k) = colD m c k s := by
  show V m c main_arg0 ((win0_2.blk t).view.emb (ix2 i k)) = _
  rw [show (win0_2.blk t).view.emb (ix2 i k) = ix2 s k by blk_ext [idx t]]
  rfl

theorem pieces_z : View.PiecesOf (ext (colZ m c) t) (LZ m c t) := by
  refine ⟨fun x => ?_, fun x => ?_, fun x => ?_, trivial⟩ <;> obtain ⟨i, k, rfl⟩ : ∃ i k, x = ix2 i k := ⟨x 0, x 1, eq_ix2 x⟩
  · exact (congrFun (after_eq _ _) _).trans ((ext_after t _ _ (fun h => z_after m c t h) i k).trans (congrArg _ (by blk_ext [])))
  · refine Eq.trans (by pointwise [k0_pay6, k0_pay4]) ((z_mid m c t i k).trans ((ext_mid t (colZ m c) i k).symm.trans (congrArg _ (by blk_ext []))))
  · exact (congrFun (before_eq _ _) _).trans ((ext_before t _ _ (fun h => z_before m c t h) i k).trans (congrArg _ (by blk_ext [])))

theorem pieces_d : View.PiecesOf (ext (colD m c) t) (LD m c t) := by
  refine ⟨fun x => ?_, fun x => ?_, fun x => ?_, trivial⟩ <;> obtain ⟨i, k, rfl⟩ : ∃ i k, x = ix2 i k := ⟨x 0, x 1, eq_ix2 x⟩
  · exact (ext_after t _ _ (fun h => d_after m c t h) i k).trans (congrArg _ (by blk_ext []))
  · refine Eq.trans (by pointwise [k0_pay20]) ((d_mid m c t i k).trans ((ext_mid t (colD m c) i k).symm.trans (congrArg _ (by blk_ext []))))
  · exact (ext_before t _ _ (fun h => d_before m c t h) i k).trans (congrArg _ (by blk_ext []))

/-- Three pieces of rows cover the scratch. -/
theorem covered (p q r : _) (y : S528x512.Idx) : ∃ u ∈ ([⟨Rect.unit ![520, 0] ![8, 512] inb_S528x512_S8x512_520_0, p⟩,
    ⟨Rect.unit ![8, 0] ![512, 512] inb_S528x512_S512x512_8_0, q⟩, ⟨Rect.unit ![0, 0] ![8, 512] inb_S528x512_S8x512_0_0, r⟩] : List (View.Piece (Elt Ideal) S528x512 .f32)), y ∈ u.1.set := by
  have h0 := (y 0).isLt
  have h1 := (y 1).isLt
  have h0' : (y 0).val < 528 := h0
  have h1' : (y 1).val < 512 := h1
  by_cases a : 520 ≤ (y 0).val
  · refine ⟨_, List.mem_cons_self, (Rect.mem_set_unit (inb := inb_S528x512_S8x512_520_0)).mpr fun j => ?_⟩
    match j with
    | ⟨0, _⟩ => exact ⟨a, h0'⟩
    | ⟨1, _⟩ => exact ⟨Nat.zero_le _, h1'⟩
  · by_cases b : 8 ≤ (y 0).val
    · refine ⟨_, List.mem_cons_of_mem _ List.mem_cons_self, (Rect.mem_set_unit (inb := inb_S528x512_S512x512_8_0)).mpr fun j => ?_⟩
      match j with
      | ⟨0, _⟩ => exact ⟨b, by show (y 0).val < 520; omega⟩
      | ⟨1, _⟩ => exact ⟨Nat.zero_le _, h1'⟩
    · refine ⟨_, List.mem_cons_of_mem _ (List.mem_cons_of_mem _ List.mem_cons_self), (Rect.mem_set_unit (inb := inb_S528x512_S8x512_0_0)).mpr fun j => ?_⟩
      match j with
      | ⟨0, _⟩ => exact ⟨Nat.zero_le _, by show (y 0).val < 8; omega⟩
      | ⟨1, _⟩ => exact ⟨Nat.zero_le _, h1'⟩

theorem kept_z : View.canon (LZ m c t) = ext (colZ m c) t :=
  funext fun y => View.canon_apply_of_pieces _ _ (pieces_z m c t).mem y (covered _ _ _ y)

theorem kept_d (L : List (View.Piece (Elt Ideal) S528x512 .f32)) : View.canon (LD m c t ++ L) = ext (colD m c) t :=
  funext fun y => View.canon_append_of_piecesOf _ _ _ (pieces_d m c t) y (covered _ _ _ y)

/-- A load of all rows of the cotangent. -/
theorem d_load (L : List (View.Piece (Elt Ideal) S528x512 .f32)) (g : Fin 4) (o : ℕ)
    (inb : ∀ j, (![0, o] : Fin 2 → ℕ) j + (![528, 128] : Fin 2 → ℕ) j ≤ S528x512.size j) (h : o = g.val * 128) (e : Fin 528) (k : Fin 128) :
    (View.whole cc0_scratch0).readCov (LD m c t ++ L) (Rect.unit (s := S528x512) ![0, o] ![528, 128] inb).toLoadRect (ix2 e k)
      = Pool.pad (colD m c (col g k)) (t.val * 512 + e.val) := by
  subst h
  rw [View.readCov_eq_canon', kept_d]
  show Pool.pad _ _ = _
  refine congrArg₂ Pool.pad (congrArg (colD m c) (Fin.ext ?_)) ?_
  · show g.val * 128 + 1 * k.val = g.val * 128 + k.val; omega
  · show t.val * 512 + (0 + 1 * e.val) = t.val * 512 + e.val; omega

/-- Loads of a group's columns of the cotangent, of its part of the scale, and of its weight. -/
theorem dg_load (g : Fin 4) (o : ℕ) (inb : ∀ j, (![0, o] : Fin 2 → ℕ) j + (![512, 128] : Fin 2 → ℕ) j ≤ S512x512.size j) (h : o = g.val * 128) (i : Fin 512) (k : Fin 128) :
    View.ld (iblk m c 1 t : Vec Ideal S512x512 .f32) (Rect.unit (s := S512x512) ![0, o] ![512, 128] inb) (ix2 i k) = aD m c (ix2 (row t i) (col g k)) := by
  subst h
  show V m c main_arg0 ((win0_1.blk t).view.emb ((Rect.unit (s := S512x512) ![0, g.val * 128] ![512, 128] inb).emb (ix2 i k))) = _
  rw [show (win0_1.blk t).view.emb ((Rect.unit (s := S512x512) ![0, g.val * 128] ![512, 128] inb).emb (ix2 i k)) = ix2 (row t i) (col g k) by
    unfold row col; blk_ext [idx t]]
  rfl

theorem s_load (g : Fin 4) (o : ℕ) (inb : ∀ j, (![0, o] : Fin 2 → ℕ) j + (![1, 128] : Fin 2 → ℕ) j ≤ S1x512.size j) (h : o = g.val * 128) (k : Fin 128) :
    View.ld (iblk m c 7 t : Vec Ideal S1x512 .f32) (Rect.unit (s := S1x512) ![0, o] ![1, 128] inb) (ix2 0 k) = aS m c (ix1 (col g k)) := by
  subst h
  show V m c main_v7 ((win0_7.blk t).view.emb ((Rect.unit (s := S1x512) ![0, g.val * 128] ![1, 128] inb).emb (ix2 0 k))) = _
  rw [(operands m c).2.2, show (win0_7.blk t).view.emb ((Rect.unit (s := S1x512) ![0, g.val * 128] ![1, 128] inb).emb (ix2 0 k)) = ix2 0 (col g k) by
    unfold col; blk_ext [idx t]]
  pointwise []

theorem w_load (g : Fin 4) (o : ℕ) (inb : ∀ j, (![o, 0, 0] : Fin 3 → ℕ) j + (![1, 128, 128] : Fin 3 → ℕ) j ≤ S4x128x128.size j) (h : o = g.val) (k d : Fin 128) :
    View.ld (iblk m c 6 t : Vec Ideal S4x128x128 .bf16) (Rect.unit (s := S4x128x128) ![o, 0, 0] ![1, 128, 128] inb) (ix3 0 k d) = aW m c (ix3 g k d) := by
  subst h
  show V m c main_v6 ((win0_6.blk t).view.emb ((Rect.unit (s := S4x128x128) ![g.val, 0, 0] ![1, 128, 128] inb).emb (ix3 0 k d))) = _
  rw [(operands m c).2.1, show (win0_6.blk t).view.emb ((Rect.unit (s := S4x128x128) ![g.val, 0, 0] ![1, 128, 128] inb).emb (ix3 0 k d)) = ix3 g k d by
    blk_ext [idx t]]
  rfl

end Blocks

end Cert.KernelPoolIdeal.Value

end
-- ==== Proof.Pool.Point.lean ====
/- A point's means, their cotangent and its shares, and the four output arrays against the reference's. -/
module

public import proofs.«01_k».proof.Proof.Pool.Ext

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Pool Cert.ReferencePoolIdeal.Read

variable (m : (ℓ : Loc nD τ sig) → Buf (Elt Ideal) ℓ)

section Means

variable {sig' : RefSig} {κ' : Kind} {sp' : Space} (v : View sig' κ' sp' S528x512 .f32) (L : List (View.Piece (Elt Ideal) S528x512 .f32)) (b : FVec Ideal S512x512 .f32)
variable (z : FVec Ideal S16384x1184 .f32) (t : Fin cfg0.N)

/-- 512 of the rows kept around a block, of a group's columns. -/
abbrev zl (a o : ℕ) (inb : ∀ j, (![a, o] : Fin 2 → ℕ) j + (![512, 128] : Fin 2 → ℕ) j ≤ S528x512.size j) : Vec Ideal S512x128 .f32 :=
  v.readCov L (Rect.unit (s := S528x512) ![a, o] ![512, 128] inb).toLoadRect

/-- The four groups' means, less the rows themselves. -/
abbrev m0 : FVec Ideal S512x128 .f32 := k0_pay12 (F := Ideal) b (k0_pay9 (grid0.coords t)) (k0_pay10 (grid0.coords t)) k0_pay11
  (zl v L 7 0 inb_S528x512_S512x128_7_0) (zl v L 8 0 inb_S528x512_S512x128_8_0)
abbrev m1 : FVec Ideal S512x128 .f32 := k0_pay13 (F := Ideal) b (k0_pay8 (grid0.coords t))
  (zl v L 6 128 inb_S528x512_S512x128_6_128) (zl v L 7 128 inb_S528x512_S512x128_7_128) (zl v L 8 128 inb_S528x512_S512x128_8_128) (zl v L 9 128 inb_S528x512_S512x128_9_128)
abbrev m2 : FVec Ideal S512x128 .f32 := k0_pay15 (F := Ideal) b (k0_pay8 (grid0.coords t)) (k0_pay14 (k0_pay8 (grid0.coords t))) 4#32
  (zl v L 4 256 inb_S528x512_S512x128_4_256) (zl v L 5 256 inb_S528x512_S512x128_5_256) (zl v L 6 256 inb_S528x512_S512x128_6_256) (zl v L 7 256 inb_S528x512_S512x128_7_256) (zl v L 8 256 inb_S528x512_S512x128_8_256) (zl v L 9 256 inb_S528x512_S512x128_9_256) (zl v L 10 256 inb_S528x512_S512x128_10_256) (zl v L 11 256 inb_S528x512_S512x128_11_256)
abbrev m3 : FVec Ideal S512x128 .f32 := k0_pay18 (F := Ideal) b (k0_pay16 (k0_pay8 (grid0.coords t)))
  (k0_pay17 (zl v L 0 384 inb_S528x512_S512x128_0_384) (zl v L 1 384 inb_S528x512_S512x128_1_384) (zl v L 2 384 inb_S528x512_S512x128_2_384) (zl v L 3 384 inb_S528x512_S512x128_3_384) (zl v L 4 384 inb_S528x512_S512x128_4_384) (zl v L 5 384 inb_S528x512_S512x128_5_384) (zl v L 6 384 inb_S528x512_S512x128_6_384) (zl v L 7 384 inb_S528x512_S512x128_7_384) (zl v L 8 384 inb_S528x512_S512x128_8_384) (zl v L 9 384 inb_S528x512_S512x128_9_384) (zl v L 10 384 inb_S528x512_S512x128_10_384) (zl v L 11 384 inb_S528x512_S512x128_11_384) (zl v L 12 384 inb_S528x512_S512x128_12_384) (zl v L 13 384 inb_S528x512_S512x128_13_384) (zl v L 14 384 inb_S528x512_S512x128_14_384)) (zl v L 15 384 inb_S528x512_S512x128_15_384)

/-- The rows kept are the projections', and so are the block's own. -/
structure Kept : Prop where
  list : View.canon L = ext (fun k s => z (ix2 s ⟨672 + k.val, by omega⟩)) t
  own : ∀ i l : Fin 512, b (ix2 i l) = z (ix2 (row t i) ⟨672 + l.val, by omega⟩)

variable {L b z t} (H : Kept L b z t)

include H

theorem kept_load (g : Fin 4) (a o : ℕ) (inb : ∀ j, (![a, o] : Fin 2 → ℕ) j + (![512, 128] : Fin 2 → ℕ) j ≤ S528x512.size j) (h : o = g.val * 128) (i : Fin 512) (k : Fin 128) :
    v.readCov L (Rect.unit (s := S528x512) ![a, o] ![512, 128] inb).toLoadRect (ix2 i k) = Pool.pad (pooled z g k) ((row t i).val + a) := by
  subst h
  rw [View.readCov_eq_canon', H.list]
  show Pool.pad _ _ = _
  refine congrArg₂ Pool.pad (congrArg (fun k s => z (ix2 s ⟨672 + k.val, by omega⟩)) (Fin.ext (a := _) (b := col g k) ?_)) ?_
  · show g.val * 128 + 1 * k.val = g.val * 128 + k.val; omega
  · show t.val * 512 + (a + 1 * i.val) = t.val * 512 + i.val + a; omega

theorem b_at (i : Fin 512) (g : Fin 4) (k : Fin 128) (l : Fin 512) (h : l.val = g.val * 128 + k.val) : b (ix2 i l) = pooled z g k (row t i) := by
  have e : l = col g k := Fin.ext h
  subst e
  exact H.own i _

omit H in
theorem word_row (i : Fin 512) : k0_pay8 (grid0.coords t) (ix2 i 0) = BitVec.ofNat 32 (row t i).val := by
  rw [word_at, coord]; rfl

theorem mean0 (i : Fin 512) (k : Fin 128) : m0 v L b t (ix2 i k) = mixed z (row t i) 0 k := by
  rw [m0, mix0_at, word_row, b_at H i 0 k _ rfl]
  simp only [zl, kept_load v H 0 _ 0 _ rfl]
  refine (congrArg (· - _) (quot_ofNat 0 _ _ (row t i).isLt)).trans ?_
  have e : ∀ j, (row t i).val + 8 - half 0 + j = (row t i).val + (7 + j) := fun j => by show (row t i).val + 8 - 1 + j = _; omega
  rw [mixed, show 2 * half 0 = 2 from rfl]
  simp only [Finset.sum_range_succ, Finset.sum_range_zero, zero_add, e, Nat.reduceAdd, Nat.add_zero]

theorem mean1 (i : Fin 512) (k : Fin 128) : m1 v L b t (ix2 i k) = mixed z (row t i) 1 k := by
  rw [m1, mix1_at, word_row, b_at H i 1 k _ rfl]
  simp only [zl, kept_load v H 1 _ 128 _ rfl]
  refine (congrArg (· - _) (quot_ofNat 1 _ _ (row t i).isLt)).trans ?_
  have e : ∀ j, (row t i).val + 8 - half 1 + j = (row t i).val + (6 + j) := fun j => by show (row t i).val + 8 - 2 + j = _; omega
  rw [mixed, show 2 * half 1 = 4 from rfl]
  simp only [Finset.sum_range_succ, Finset.sum_range_zero, zero_add, e, Nat.reduceAdd, Nat.add_zero]

theorem mean2 (i : Fin 512) (k : Fin 128) : m2 v L b t (ix2 i k) = mixed z (row t i) 2 k := by
  rw [m2, mix2_at, word_row, b_at H i 2 k _ rfl]
  simp only [zl, kept_load v H 2 _ 256 _ rfl]
  refine (congrArg (· - _) (quot_ofNat 2 _ _ (row t i).isLt)).trans ?_
  have e : ∀ j, (row t i).val + 8 - half 2 + j = (row t i).val + (4 + j) := fun j => by show (row t i).val + 8 - 4 + j = _; omega
  rw [mixed, show 2 * half 2 = 8 from rfl]
  simp only [Finset.sum_range_succ, Finset.sum_range_zero, zero_add, e, Nat.reduceAdd, Nat.add_zero]

theorem mean3 (i : Fin 512) (k : Fin 128) : m3 v L b t (ix2 i k) = mixed z (row t i) 3 k := by
  rw [m3, mix3_at, word_row, b_at H i 3 k _ rfl]
  simp only [zl, kept_load v H 3 _ 384 _ rfl]
  refine (congrArg (· - _) (quot_ofNat 3 _ _ (row t i).isLt)).trans ?_
  have e : ∀ j, (row t i).val + 8 - half 3 + j = (row t i).val + j := fun j => by show (row t i).val + 8 - 8 + j = _; omega
  rw [mixed, show 2 * half 3 = 16 from rfl]
  simp only [Finset.sum_range_succ, Finset.sum_range_zero, zero_add, e, Nat.reduceAdd, Nat.add_zero]

end Means

section Point

variable (c : Dev nD) (t : Fin cfg0.N)

/-- The block's own rows, and its means. -/
abbrev bB : FVec Ideal S512x512 .f32 := k0_pay4 (F := Ideal) (View.ld (iblk m c 4 t) (Rect.unit ![0, 640] ![512, 512] inb_S512x1280_S512x512_0_640))

theorem kept_here : Kept (LZ m c t) (bB m c t) (aZ m c) t :=
  ⟨kept_z m c t, fun i l => Eq.trans (by pointwise [k0_pay4]) (z_mid m c t i l)⟩

abbrev M0 : FVec Ideal S512x128 .f32 := m0 (View.whole cc0_scratch0) (LZ m c t) (bB m c t) t
abbrev M1 : FVec Ideal S512x128 .f32 := m1 (View.whole cc0_scratch0) (LZ m c t) (bB m c t) t
abbrev M2 : FVec Ideal S512x128 .f32 := m2 (View.whole cc0_scratch0) (LZ m c t) (bB m c t) t
abbrev M3 : FVec Ideal S512x128 .f32 := m3 (View.whole cc0_scratch0) (LZ m c t) (bB m c t) t

/-- A group's columns of all the cotangent's rows that are kept, of the scale, of the block's cotangent, and its weight. -/
abbrev dl (o : ℕ) (inb : ∀ j, (![0, o] : Fin 2 → ℕ) j + (![528, 128] : Fin 2 → ℕ) j ≤ S528x512.size j) : Vec Ideal S528x128 .f32 :=
  (View.whole cc0_scratch0).readCov (LD m c t ++ LZ m c t) (Rect.unit (s := S528x512) ![0, o] ![528, 128] inb).toLoadRect
abbrev sl (o : ℕ) (inb : ∀ j, (![0, o] : Fin 2 → ℕ) j + (![1, 128] : Fin 2 → ℕ) j ≤ S1x512.size j) : Vec Ideal S1x128 .f32 :=
  View.ld (iblk m c 7 t : Vec Ideal S1x512 .f32) (Rect.unit (s := S1x512) ![0, o] ![1, 128] inb)
abbrev gl (o : ℕ) (inb : ∀ j, (![0, o] : Fin 2 → ℕ) j + (![512, 128] : Fin 2 → ℕ) j ≤ S512x512.size j) : Vec Ideal S512x128 .f32 :=
  View.ld (iblk m c 1 t : Vec Ideal S512x512 .f32) (Rect.unit (s := S512x512) ![0, o] ![512, 128] inb)
abbrev wl (o : ℕ) (inb : ∀ j, (![o, 0, 0] : Fin 3 → ℕ) j + (![1, 128, 128] : Fin 3 → ℕ) j ≤ S4x128x128.size j) : Vec Ideal S1x128x128 .bf16 :=
  View.ld (iblk m c 6 t : Vec Ideal S4x128x128 .bf16) (Rect.unit (s := S4x128x128) ![o, 0, 0] ![1, 128, 128] inb)

/-- The numbers of the kept rows. -/
abbrev nums : IVec S528x1 32 := k0_pay22 (BitVec.ofNat 32 (grid0.coords t 0).val)

/-- The means' cotangent in the kept rows, and zero outside the sequence, -/
theorem back_val (g : Fin 4) (o w : ℕ) (inb inb' inbw) (h : o = g.val * 128) (hw : w = g.val) (e : Fin 528) (k : Fin 128) :
    k0_pay26 (F := Ideal) (dl m c t o inb) (sl m c t o inb') (wl m c t w inbw) (ix2 e k)
      = Pool.pad (fun s => back (aD m c) (aW m c) (aS m c) s g k) (t.val * 512 + e.val) := by
  rw [back_at]
  simp only [dl, sl, wl, d_load m c t _ g o inb h, s_load m c t g o inb' h, w_load m c t g w inbw hw]
  unfold Pool.pad
  by_cases p : 8 ≤ t.val * 512 + e.val ∧ t.val * 512 + e.val < 16392
  · simp only [dif_pos p]; rfl
  · simp only [dif_neg p]
    exact Finset.sum_eq_zero fun d _ => by rw [zero_mul, zero_mul]

/-- and so its shares. -/
theorem share_val (g : Fin 4) (e : Fin 528) (k : Fin 128) :
    quotM (half g) (half g - 1) (Pool.pad (fun s => back (aD m c) (aW m c) (aS m c) s g k) (t.val * 512 + e.val)) (nums t (ix2 e 0))
      = Pool.pad (shared (aD m c) (aW m c) (aS m c) g k) (t.val * 512 + e.val) := by
  unfold Pool.pad
  by_cases p : 8 ≤ t.val * 512 + e.val ∧ t.val * 512 + e.val < 16392
  · rw [dif_pos p, dif_pos p, nums, eword_at (grid0.coords t) e (by rw [coord]; exact p.1), coord, quotM_ofNat g _ _ (by omega)]
    rfl
  · rw [dif_neg p, dif_neg p, quotM_zero]

/-- The four groups' cotangents, and their shares as the scratch keeps them. -/
abbrev y0 : FVec Ideal S528x128 .f32 := k0_pay26 (F := Ideal) (dl m c t 0 inb_S528x512_S528x128_0_0) (sl m c t 0 inb_S1x512_S1x128_0_0) (wl m c t 0 inb_S4x128x128_S1x128x128_0_0_0)
abbrev y1 : FVec Ideal S528x128 .bf16 := k0_pay32 (F := Ideal) (dl m c t 128 inb_S528x512_S528x128_0_128) (sl m c t 128 inb_S1x512_S1x128_0_128)
abbrev y2 : FVec Ideal S528x128 .f32 := k0_pay40 (F := Ideal) (dl m c t 256 inb_S528x512_S528x128_0_256) (sl m c t 256 inb_S1x512_S1x128_0_256) (wl m c t 2 inb_S4x128x128_S1x128x128_2_0_0)
abbrev y3 : FVec Ideal S528x128 .f32 := k0_pay47 (F := Ideal) (dl m c t 384 inb_S528x512_S528x128_0_384) (sl m c t 384 inb_S1x512_S1x128_0_384) (wl m c t 3 inb_S4x128x128_S1x128x128_3_0_0)
abbrev h0 : FVec Ideal S528x128 .f32 := k0_pay28 (F := Ideal) (y0 m c t) (k0_pay27 (nums t))
abbrev h1 : FVec Ideal S528x128 .f32 := k0_pay35 (F := Ideal) (nums t) (y1 m c t) (wl m c t 1 inb_S4x128x128_S1x128x128_1_0_0)
abbrev h2 : FVec Ideal S528x128 .f32 := k0_pay42 (F := Ideal) (nums t) (y2 m c t) (k0_pay41 (nums t)) 4#32
abbrev h3 : FVec Ideal S528x128 .f32 := k0_pay50 (F := Ideal) (y3 m c t) (k0_pay48 (nums t)) (k0_pay49 (nums t))
abbrev L0 : List (View.Piece (Elt Ideal) S528x512 .f32) := [⟨Rect.unit ![0, 0] ![528, 128] inb_S528x512_S528x128_0_0, h0 m c t⟩]
abbrev L1 : List (View.Piece (Elt Ideal) S528x512 .f32) := ⟨Rect.unit ![0, 128] ![528, 128] inb_S528x512_S528x128_0_128, h1 m c t⟩ :: L0 m c t
abbrev L2 : List (View.Piece (Elt Ideal) S528x512 .f32) := ⟨Rect.unit ![0, 256] ![528, 128] inb_S528x512_S528x128_0_256, h2 m c t⟩ :: L1 m c t
abbrev L3 : List (View.Piece (Elt Ideal) S528x512 .f32) := ⟨Rect.unit ![0, 384] ![528, 128] inb_S528x512_S528x128_0_384, h3 m c t⟩ :: L2 m c t
abbrev tl (L : List (View.Piece (Elt Ideal) S528x512 .f32)) (a o : ℕ) (inb : ∀ j, (![a, o] : Fin 2 → ℕ) j + (![512, 128] : Fin 2 → ℕ) j ≤ S528x512.size j) :
    Vec Ideal S512x128 .f32 :=
  (View.whole cc0_scratch1).readCov L (Rect.unit (s := S528x512) ![a, o] ![512, 128] inb).toLoadRect

/-- A load of 512 rows of the group that was stored last. -/
theorem t_load (L : List (View.Piece (Elt Ideal) S528x512 .f32)) (a o : ℕ)
    (inb : ∀ j, (![0, o] : Fin 2 → ℕ) j + (![528, 128] : Fin 2 → ℕ) j ≤ S528x512.size j)
    (inb' : ∀ j, (![a, o] : Fin 2 → ℕ) j + (![512, 128] : Fin 2 → ℕ) j ≤ S528x512.size j) (w : S528x128.Idx → EReal) (f : Fin 16384 → EReal) (k : Fin 128)
    (hw : ∀ e : Fin 528, w (ix2 e k) = Pool.pad f (t.val * 512 + e.val)) (i : Fin 512) :
    tl (⟨Rect.unit (s := S528x512) ![0, o] ![528, 128] inb, w⟩ :: L) a o inb' (ix2 i k) = Pool.pad f ((row t i).val + a) := by
  have ha : a + 512 ≤ 528 := inb' 0
  rw [tl, View.readCov_eq_canon']
  have e : (Rect.unit (s := S528x512) ![a, o] ![512, 128] inb').toLoadRect.idx (ix2 i k)
      = (Rect.unit (s := S528x512) ![0, o] ![528, 128] inb).emb (ix2 ⟨a + i.val, by omega⟩ k) := by
    funext j
    match j with
    | ⟨0, _⟩ => exact Fin.ext (by show a + 1 * i.val = 0 + 1 * (a + i.val); omega)
    | ⟨1, _⟩ => rfl
  show View.canon _ ((Rect.unit (s := S528x512) ![a, o] ![512, 128] inb').toLoadRect.idx (ix2 i k)) = _
  rw [e, View.canon_cons_emb]
  exact (hw _).trans (congrArg (Pool.pad f) (by show t.val * 512 + (a + i.val) = t.val * 512 + i.val + a; omega))

theorem kept0 (e : Fin 528) (k : Fin 128) : h0 m c t (ix2 e k) = Pool.pad (shared (aD m c) (aW m c) (aS m c) 0 k) (t.val * 512 + e.val) := by
  rw [h0, y0, share0_at, back_val m c t 0 0 0 _ _ _ rfl rfl]; exact share_val m c t 0 e k
theorem kept1 (e : Fin 528) (k : Fin 128) : h1 m c t (ix2 e k) = Pool.pad (shared (aD m c) (aW m c) (aS m c) 1 k) (t.val * 512 + e.val) := by
  rw [h1, y1, share1_at, back_val m c t 1 128 1 _ _ _ rfl rfl]; exact share_val m c t 1 e k
theorem kept2 (e : Fin 528) (k : Fin 128) : h2 m c t (ix2 e k) = Pool.pad (shared (aD m c) (aW m c) (aS m c) 2 k) (t.val * 512 + e.val) := by
  rw [h2, share2_at, y2, (back_eq ..).2.1, back_val m c t 2 256 2 _ _ _ rfl rfl]; exact share_val m c t 2 e k
theorem kept3 (e : Fin 528) (k : Fin 128) : h3 m c t (ix2 e k) = Pool.pad (shared (aD m c) (aW m c) (aS m c) 3 k) (t.val * 512 + e.val) := by
  rw [h3, share3_at, y3, (back_eq ..).2.2, back_val m c t 3 384 3 _ _ _ rfl rfl]; exact share_val m c t 3 e k

theorem back_mid (g : Fin 4) (i : Fin 512) (k : Fin 128) : Pool.pad (fun s => back (aD m c) (aW m c) (aS m c) s g k) (t.val * 512 + (8 + i.val))
    = back (aD m c) (aW m c) (aS m c) (row t i) g k :=
  ext_mid t (fun _ s => back (aD m c) (aW m c) (aS m c) s g k) i 0

/-- The four groups' gradients of the pooled columns. -/
abbrev g0 : FVec Ideal S512x128 .f32 := k0_pay29 (F := Ideal) (y0 m c t)
  (tl (L0 m c t) 8 0 inb_S528x512_S512x128_8_0) (tl (L0 m c t) 9 0 inb_S528x512_S512x128_9_0)
abbrev g1 : FVec Ideal S512x128 .f32 := k0_pay36 (F := Ideal) (y1 m c t) (wl m c t 1 inb_S4x128x128_S1x128x128_1_0_0)
  (tl (L1 m c t) 7 128 inb_S528x512_S512x128_7_128) (tl (L1 m c t) 8 128 inb_S528x512_S512x128_8_128) (tl (L1 m c t) 9 128 inb_S528x512_S512x128_9_128) (tl (L1 m c t) 10 128 inb_S528x512_S512x128_10_128)
abbrev g2 : FVec Ideal S512x128 .f32 := k0_pay43 (F := Ideal) (y2 m c t)
  (tl (L2 m c t) 5 256 inb_S528x512_S512x128_5_256) (tl (L2 m c t) 6 256 inb_S528x512_S512x128_6_256) (tl (L2 m c t) 7 256 inb_S528x512_S512x128_7_256) (tl (L2 m c t) 8 256 inb_S528x512_S512x128_8_256) (tl (L2 m c t) 9 256 inb_S528x512_S512x128_9_256) (tl (L2 m c t) 10 256 inb_S528x512_S512x128_10_256) (tl (L2 m c t) 11 256 inb_S528x512_S512x128_11_256) (tl (L2 m c t) 12 256 inb_S528x512_S512x128_12_256)
abbrev g3 : FVec Ideal S512x128 .f32 := k0_pay1 (F := Ideal) (y3 m c t)
  (k0_pay51 (tl (L3 m c t) 1 384 inb_S528x512_S512x128_1_384) (tl (L3 m c t) 2 384 inb_S528x512_S512x128_2_384) (tl (L3 m c t) 3 384 inb_S528x512_S512x128_3_384) (tl (L3 m c t) 4 384 inb_S528x512_S512x128_4_384) (tl (L3 m c t) 5 384 inb_S528x512_S512x128_5_384) (tl (L3 m c t) 6 384 inb_S528x512_S512x128_6_384) (tl (L3 m c t) 7 384 inb_S528x512_S512x128_7_384) (tl (L3 m c t) 8 384 inb_S528x512_S512x128_8_384) (tl (L3 m c t) 9 384 inb_S528x512_S512x128_9_384) (tl (L3 m c t) 10 384 inb_S528x512_S512x128_10_384) (tl (L3 m c t) 11 384 inb_S528x512_S512x128_11_384) (tl (L3 m c t) 12 384 inb_S528x512_S512x128_12_384)) (tl (L3 m c t) 13 384 inb_S528x512_S512x128_13_384) (tl (L3 m c t) 14 384 inb_S528x512_S512x128_14_384) (tl (L3 m c t) 15 384 inb_S528x512_S512x128_15_384) (tl (L3 m c t) 16 384 inb_S528x512_S512x128_16_384)

theorem grad0 (i : Fin 512) (k : Fin 128) : g0 m c t (ix2 i k) = grad (aD m c) (aW m c) (aS m c) (row t i) 0 k := by
  rw [g0, y0, grad0_at, back_val m c t 0 0 0 _ _ _ rfl rfl]
  simp only [t_load t _ _ _ _ _ _ _ k (kept0 m c t · k)]
  have e : ∀ j, (row t i).val + 9 - half 0 + j = (row t i).val + (8 + j) := fun j => by show (row t i).val + 9 - 1 + j = _; omega
  rw [grad, show 2 * half 0 = 2 from rfl, back_mid]
  simp only [Finset.sum_range_succ, Finset.sum_range_zero, zero_add, e, Nat.reduceAdd, Nat.add_zero]

theorem grad1 (i : Fin 512) (k : Fin 128) : g1 m c t (ix2 i k) = grad (aD m c) (aW m c) (aS m c) (row t i) 1 k := by
  rw [g1, y1, grad1_at, back_val m c t 1 128 1 _ _ _ rfl rfl]
  simp only [t_load t _ _ _ _ _ _ _ k (kept1 m c t · k)]
  have e : ∀ j, (row t i).val + 9 - half 1 + j = (row t i).val + (7 + j) := fun j => by show (row t i).val + 9 - 2 + j = _; omega
  rw [grad, show 2 * half 1 = 4 from rfl, back_mid]
  simp only [Finset.sum_range_succ, Finset.sum_range_zero, zero_add, e, Nat.reduceAdd, Nat.add_zero]

theorem grad2 (i : Fin 512) (k : Fin 128) : g2 m c t (ix2 i k) = grad (aD m c) (aW m c) (aS m c) (row t i) 2 k := by
  rw [g2, grad2_at, y2, (back_eq ..).2.1, back_val m c t 2 256 2 _ _ _ rfl rfl]
  simp only [t_load t _ _ _ _ _ _ _ k (kept2 m c t · k)]
  have e : ∀ j, (row t i).val + 9 - half 2 + j = (row t i).val + (5 + j) := fun j => by show (row t i).val + 9 - 4 + j = _; omega
  rw [grad, show 2 * half 2 = 8 from rfl, back_mid]
  simp only [Finset.sum_range_succ, Finset.sum_range_zero, zero_add, e, Nat.reduceAdd, Nat.add_zero]

theorem grad3 (i : Fin 512) (k : Fin 128) : g3 m c t (ix2 i k) = grad (aD m c) (aW m c) (aS m c) (row t i) 3 k := by
  rw [g3, grad3_at, y3, (back_eq ..).2.2, back_val m c t 3 384 3 _ _ _ rfl rfl]
  simp only [t_load t _ _ _ _ _ _ _ k (kept3 m c t · k)]
  have e : ∀ j, (row t i).val + 9 - half 3 + j = (row t i).val + (1 + j) := fun j => by show (row t i).val + 9 - 8 + j = _; omega
  rw [grad, show 2 * half 3 = 16 from rfl, back_mid]
  simp only [Finset.sum_range_succ, Finset.sum_range_zero, zero_add, e, Nat.reduceAdd, Nat.add_zero]

/-- Every column is one of a group's. -/
theorem col_surj (l : Fin 512) : ∃ g k, l = col g k :=
  ⟨⟨l.val / 128, by omega⟩, ⟨l.val % 128, by omega⟩, Fin.ext (by show l.val = l.val / 128 * 128 + l.val % 128; omega)⟩

/-- Four pieces of columns that are a function's leave it whole. -/
theorem four (φ : EltTy) (G : S512x512.Idx → Elt Ideal φ) (v0 v1 v2 v3 : S512x128.Idx → Elt Ideal φ)
    (e0 : ∀ i k, v0 (ix2 i k) = G (ix2 i (col 0 k))) (e1 : ∀ i k, v1 (ix2 i k) = G (ix2 i (col 1 k)))
    (e2 : ∀ i k, v2 (ix2 i k) = G (ix2 i (col 2 k))) (e3 : ∀ i k, v3 (ix2 i k) = G (ix2 i (col 3 k))) (y : S512x512.Idx) :
    View.canon (Val := Elt Ideal) (s := S512x512) (e := φ) [⟨Rect.unit ![0, 384] ![512, 128] inb_S512x512_S512x128_0_384, v3⟩, ⟨Rect.unit ![0, 256] ![512, 128] inb_S512x512_S512x128_0_256, v2⟩,
      ⟨Rect.unit ![0, 128] ![512, 128] inb_S512x512_S512x128_0_128, v1⟩, ⟨Rect.unit ![0, 0] ![512, 128] inb_S512x512_S512x128_0_0, v0⟩] y = G y := by
  refine View.canon_apply_of_pieces G _ (View.PiecesOf.mem (L := [⟨Rect.unit (s := S512x512) ![0, 384] ![512, 128] inb_S512x512_S512x128_0_384, v3⟩, ⟨Rect.unit (s := S512x512) ![0, 256] ![512, 128] inb_S512x512_S512x128_0_256, v2⟩,
      ⟨Rect.unit (s := S512x512) ![0, 128] ![512, 128] inb_S512x512_S512x128_0_128, v1⟩, ⟨Rect.unit (s := S512x512) ![0, 0] ![512, 128] inb_S512x512_S512x128_0_0, v0⟩]) ⟨fun x => ?_, fun x => ?_, fun x => ?_, fun x => ?_, trivial⟩) y ?_
  · obtain ⟨i, k, rfl⟩ : ∃ i k, x = ix2 i k := ⟨x 0, x 1, eq_ix2 x⟩
    exact (e3 i k).trans (congrArg G (by unfold col; blk_ext []))
  · obtain ⟨i, k, rfl⟩ : ∃ i k, x = ix2 i k := ⟨x 0, x 1, eq_ix2 x⟩
    exact (e2 i k).trans (congrArg G (by unfold col; blk_ext []))
  · obtain ⟨i, k, rfl⟩ : ∃ i k, x = ix2 i k := ⟨x 0, x 1, eq_ix2 x⟩
    exact (e1 i k).trans (congrArg G (by unfold col; blk_ext []))
  · obtain ⟨i, k, rfl⟩ : ∃ i k, x = ix2 i k := ⟨x 0, x 1, eq_ix2 x⟩
    exact (e0 i k).trans (congrArg G (by unfold col; blk_ext []))
  · have b0 : (y 0).val < 512 := (y 0).isLt
    have b1 : (y 1).val < 512 := (y 1).isLt
    have hit : ∀ (o : ℕ) (inb : ∀ j, (![0, o] : Fin 2 → ℕ) j + (![512, 128] : Fin 2 → ℕ) j ≤ S512x512.size j), o ≤ (y 1).val → (y 1).val < o + 128 →
        y ∈ (Rect.unit (s := S512x512) ![0, o] ![512, 128] inb).set := fun o inb p q => (Rect.mem_set_unit (inb := inb)).mpr fun j => by
      match j with
      | ⟨0, _⟩ => exact ⟨Nat.zero_le _, by show (y 0).val < 0 + 512; omega⟩
      | ⟨1, _⟩ => exact ⟨p, q⟩
    by_cases p : 384 ≤ (y 1).val
    · exact ⟨_, List.mem_cons_self, hit 384 inb_S512x512_S512x128_0_384 p (by omega)⟩
    · by_cases q : 256 ≤ (y 1).val
      · exact ⟨_, List.mem_cons_of_mem _ List.mem_cons_self, hit 256 inb_S512x512_S512x128_0_256 q (by omega)⟩
      · by_cases r : 128 ≤ (y 1).val
        · exact ⟨_, List.mem_cons_of_mem _ (List.mem_cons_of_mem _ List.mem_cons_self), hit 128 inb_S512x512_S512x128_0_128 r (by omega)⟩
        · exact ⟨_, List.mem_cons_of_mem _ (List.mem_cons_of_mem _ (List.mem_cons_of_mem _ List.mem_cons_self)), hit 0 inb_S512x512_S512x128_0_0 (Nat.zero_le _) (by omega)⟩

/-- The three blocks that a point leaves. -/
theorem block8 (i k : Fin 512) : (outsAt0 m c t.val t.isLt).1 (ix2 i k) = val_main_v67 (F := Ideal) (aD m c) (aW m c) (aS m c) (ix2 (row t i) k) := by
  have h := four .f32 (fun y => val_main_v67 (F := Ideal) (aD m c) (aW m c) (aS m c) (ix2 (row t (y 0)) (y 1))) (g0 m c t) (g1 m c t) (g2 m c t) (g3 m c t)
    (fun i k => (grad0 m c t i k).trans (ref_grad ..).symm) (fun i k => (grad1 m c t i k).trans (ref_grad ..).symm)
    (fun i k => (grad2 m c t i k).trans (ref_grad ..).symm) (fun i k => (grad3 m c t i k).trans (ref_grad ..).symm) (ix2 i k)
  have := lt_N t
  by_cases p : t.val % 32 = 0
  · rw [outsAt0_A m c t p (by omega)]; frame_out; exact h
  · rw [outsAt0_B m c t p (by omega)]; frame_out; exact h

theorem block9 (i k : Fin 512) : (outsAt0 m c t.val t.isLt).2.1 (ix2 i k) = val_main_v69 (F := Ideal) (aZ m c) (ix2 (row t i) k) := by
  have h := four .bf16 (fun y => val_main_v69 (F := Ideal) (aZ m c) (ix2 (row t (y 0)) (y 1))) (k0_pay23 (F := Ideal) (M0 m c t)) (k0_pay30 (F := Ideal) (M1 m c t))
    (k0_pay37 (F := Ideal) (M2 m c t)) (k0_pay44 (F := Ideal) (M3 m c t))
    (fun i k => (mean0 _ (kept_here m c t) i k).trans (ref_mixed ..).symm) (fun i k => (mean1 _ (kept_here m c t) i k).trans (ref_mixed ..).symm)
    (fun i k => (mean2 _ (kept_here m c t) i k).trans (ref_mixed ..).symm) (fun i k => (mean3 _ (kept_here m c t) i k).trans (ref_mixed ..).symm) (ix2 i k)
  have := lt_N t
  by_cases p : t.val % 32 = 0
  · rw [outsAt0_A m c t p (by omega)]; frame_out; exact h
  · rw [outsAt0_B m c t p (by omega)]; frame_out; exact h

theorem scaled_val (g : Fin 4) (o : ℕ) (inb inb') (h : o = g.val * 128) (i : Fin 512) (k : Fin 128) :
    k0_pay25 (F := Ideal) (gl m c t o inb) (sl m c t o inb') (ix2 i k) = val_main_v70 (F := Ideal) (aD m c) (aS m c) (ix2 (row t i) (col g k)) := by
  rw [scaled_at, gl, sl, dg_load m c t g o inb h, s_load m c t g o inb' h, ref_scaled]

theorem block10 (i k : Fin 512) : (outsAt0 m c t.val t.isLt).2.2.1 (ix2 i k) = val_main_v70 (F := Ideal) (aD m c) (aS m c) (ix2 (row t i) k) := by
  have h := four .bf16 (fun y => val_main_v70 (F := Ideal) (aD m c) (aS m c) (ix2 (row t (y 0)) (y 1)))
    (k0_pay25 (F := Ideal) (gl m c t 0 inb_S512x512_S512x128_0_0) (sl m c t 0 inb_S1x512_S1x128_0_0))
    (k0_pay33 (F := Ideal) (gl m c t 128 inb_S512x512_S512x128_0_128) (sl m c t 128 inb_S1x512_S1x128_0_128))
    (k0_pay39 (F := Ideal) (gl m c t 256 inb_S512x512_S512x128_0_256) (sl m c t 256 inb_S1x512_S1x128_0_256))
    (k0_pay46 (F := Ideal) (gl m c t 384 inb_S512x512_S512x128_0_384) (sl m c t 384 inb_S1x512_S1x128_0_384))
    (fun i k => scaled_val m c t 0 0 _ _ rfl i k) (fun i k => (congrFun (scaled_eq ..).1 _).trans (scaled_val m c t 1 128 _ _ rfl i k))
    (fun i k => (congrFun (scaled_eq ..).2.1 _).trans (scaled_val m c t 2 256 _ _ rfl i k))
    (fun i k => (congrFun (scaled_eq ..).2.2 _).trans (scaled_val m c t 3 384 _ _ rfl i k)) (ix2 i k)
  have := lt_N t
  by_cases p : t.val % 32 = 0
  · rw [outsAt0_A m c t p (by omega)]; frame_out; exact h
  · rw [outsAt0_B m c t p (by omega)]; frame_out; exact h

end Point

end Cert.KernelPoolIdeal.Value

end
-- ==== Proof.Pool.Value.lean ====
/- The four output arrays are the reference's. -/
module

public import proofs.«01_k».proof.Proof.Pool.Point

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Pool Cert.ReferencePoolIdeal.Read

/-- The four groups' rows of scale gradients side by side, by columns, -/
theorem row_at (v0 v1 v2 v3 : FVec Ideal S1x128 .f32) (k : Fin 128) :
    k0_pay2 (F := Ideal) v0 v1 v2 v3 (ix2 0 (col 0 k)) = v0 (ix2 0 k) ∧ k0_pay2 (F := Ideal) v0 v1 v2 v3 (ix2 0 (col 1 k)) = v1 (ix2 0 k)
      ∧ k0_pay2 (F := Ideal) v0 v1 v2 v3 (ix2 0 (col 2 k)) = v2 (ix2 0 k) ∧ k0_pay2 (F := Ideal) v0 v1 v2 v3 (ix2 0 (col 3 k)) = v3 (ix2 0 k) := by
  have hb : ∀ (l : Fin 512) (b : Fin S1x512.rank), b ≠ 1 → ((ix2 (0 : Fin 1) k : S1x128.Idx) b).val = ((ix2 (0 : Fin 1) l : S1x512.Idx) b).val := fun l b h => by
    match b with
    | ⟨0, _⟩ => rfl
    | ⟨1, _⟩ => exact absurd rfl h
  unfold k0_pay2
  refine ⟨?_, ?_, ?_, ?_⟩
  · exact (concatenate_apply_piece (1 : Fin S1x512.rank) _ _ _ 0 (by simp) S1x128 _ rfl rfl 0 (by rfl) (ix2 0 k) (fun b h => hb (col 0 k) b h) (by unfold col; show 0 * 128 + k.val = 0 + k.val; omega))
  · exact (concatenate_apply_piece (1 : Fin S1x512.rank) _ _ _ 1 (by simp) S1x128 _ rfl rfl 128 (by rfl) (ix2 0 k) (fun b h => hb (col 1 k) b h) rfl)
  · exact (concatenate_apply_piece (1 : Fin S1x512.rank) _ _ _ 2 (by simp) S1x128 _ rfl rfl 256 (by rfl) (ix2 0 k) (fun b h => hb (col 2 k) b h) rfl)
  · exact (concatenate_apply_piece (1 : Fin S1x512.rank) _ _ _ 3 (by simp) S1x128 _ rfl rfl 384 (by rfl) (ix2 0 k) (fun b h => hb (col 3 k) b h) rfl)

/-- and the row added to what the points before left. -/
theorem add_at (v0 v1 v2 v3 : FVec Ideal S1x128 .f32) (p : Vec Ideal S1x512 .f32) (j : S1x512.Idx) :
    k0_pay3 (F := Ideal) v0 v1 v2 v3 p j = p j + k0_pay2 v0 v1 v2 v3 j := by
  pointwise [k0_pay3, k0_pay2]

variable (m : (ℓ : Loc nD τ sig) → Buf (Elt Ideal) ℓ) (c : Dev nD)

/-- A point's part of the scale's gradient. -/
abbrev part (t : Fin cfg0.N) : FVec Ideal S1x512 .f32 := k0_pay2 (F := Ideal)
  (k0_pay24 (k0_pay23 (M0 m c t)) (gl m c t 0 inb_S512x512_S512x128_0_0) (wl m c t 0 inb_S4x128x128_S1x128x128_0_0_0))
  (k0_pay31 (M1 m c t) (gl m c t 128 inb_S512x512_S512x128_0_128) (wl m c t 1 inb_S4x128x128_S1x128x128_1_0_0))
  (k0_pay38 (M2 m c t) (gl m c t 256 inb_S512x512_S512x128_0_256) (wl m c t 2 inb_S4x128x128_S1x128x128_2_0_0))
  (k0_pay45 (k0_pay44 (M3 m c t)) (gl m c t 384 inb_S512x512_S512x128_0_384) (wl m c t 3 inb_S4x128x128_S1x128x128_3_0_0))

/-- One row's term of the scale's gradient. -/
def term (g : Fin 4) (k : Fin 128) (s : Fin 16384) : EReal := aD m c (ix2 s (col g k)) * ∑ d : Fin 128, mixed (aZ m c) s g d * aW m c (ix3 g d k)

theorem group_at (t : Fin cfg0.N) (g : Fin 4) (v : FVec Ideal S512x128 .f32) (hv : ∀ i k, v (ix2 i k) = mixed (aZ m c) (row t i) g k) (o w : ℕ) (inb inbw)
    (h : o = g.val * 128) (hw : w = g.val) (k : Fin 128) :
    k0_pay24 (F := Ideal) (k0_pay23 v) (gl m c t o inb) (wl m c t w inbw) (ix2 0 k) = ∑ i : Fin 512, term m c g k (row t i) := by
  rw [scale_at]
  simp only [gl, wl, hv, dg_load m c t g o inb h, w_load m c t g w inbw hw]
  rfl

theorem part_at (t : Fin cfg0.N) (g : Fin 4) (k : Fin 128) : part m c t (ix2 0 (col g k)) = ∑ i : Fin 512, term m c g k (row t i) := by
  match g with
  | 0 => exact (row_at _ _ _ _ k).1.trans (group_at m c t 0 _ (mean0 _ (kept_here m c t)) 0 0 _ _ rfl rfl k)
  | 1 => exact (row_at _ _ _ _ k).2.1.trans ((congrFun (scale_eq ..).1 _).trans (group_at m c t 1 _ (mean1 _ (kept_here m c t)) 128 1 _ _ rfl rfl k))
  | 2 => exact (row_at _ _ _ _ k).2.2.1.trans ((congrFun (scale_eq ..).2.1 _).trans (group_at m c t 2 _ (mean2 _ (kept_here m c t)) 256 2 _ _ rfl rfl k))
  | 3 => exact (row_at _ _ _ _ k).2.2.2.trans ((congrFun (scale_eq ..).2.2 _).trans (group_at m c t 3 _ (mean3 _ (kept_here m c t)) 384 3 _ _ rfl rfl k))

/-- The pooled columns' gradient, -/
theorem final8 : (dats m 0 c).arrAt 8 (cfgs 0).N = val_main_v67 (F := Ideal) (aD m c) (aW m c) (aS m c) := by
  refine (dats m 0 c).arrAt_eq_of_covers 8 _ (by decide +kernel) fun t hf y => ?_
  obtain ⟨i, k, rfl⟩ : ∃ (i : Fin 512) (k : Fin 512), y = ix2 i k := ⟨y 0, y 1, eq_ix2 y⟩
  rw [after0_8]
  exact (block8 m c t i k).trans (congrArg _ (by unfold row; blk_ext [idx t]))

/-- the means that the weight's gradient takes, -/
theorem final9 : (dats m 0 c).arrAt 9 (cfgs 0).N = val_main_v69 (F := Ideal) (aZ m c) := by
  refine (dats m 0 c).arrAt_eq_of_covers 9 _ (by decide +kernel) fun t hf y => ?_
  obtain ⟨i, k, rfl⟩ : ∃ (i : Fin 512) (k : Fin 512), y = ix2 i k := ⟨y 0, y 1, eq_ix2 y⟩
  rw [after0_9]
  exact (block9 m c t i k).trans (congrArg _ (by unfold row; blk_ext [idx t]))

/-- the scaled cotangent that it takes with them, -/
theorem final10 : (dats m 0 c).arrAt 10 (cfgs 0).N = val_main_v70 (F := Ideal) (aD m c) (aS m c) := by
  refine (dats m 0 c).arrAt_eq_of_covers 10 _ (by decide +kernel) fun t hf y => ?_
  obtain ⟨i, k, rfl⟩ : ∃ (i : Fin 512) (k : Fin 512), y = ix2 i k := ⟨y 0, y 1, eq_ix2 y⟩
  rw [after0_10]
  exact (block10 m c t i k).trans (congrArg _ (by unfold row; blk_ext [idx t]))

/-- and the scale's gradient, the sum of all points' parts. -/
theorem final11 : (dats m 0 c).arrAt 11 (cfgs 0).N = val_main_v71 (F := Ideal) (aD m c) (aZ m c) (aW m c) := by
  refine (dats m 0 c).arrAt_eq_of_covers 11 _ (by decide +kernel) fun t hf y => ?_
  blk_simp
  obtain ⟨g, k, rfl⟩ : ∃ (g : Fin 4) (k : Fin 128), y = ix2 (0 : Fin 1) (col g k) := by
    obtain ⟨g, k, h⟩ := col_surj (y 1)
    exact ⟨g, k, (eq_ix2 y).trans (by rw [h, show y 0 = (0 : Fin 1) from Fin.ext (by have : (y 0).val < 1 := (y 0).isLt; show (y 0).val = 0; omega)])⟩
  rw [after0_11, Pipeline.eq_sum_fin_of_reset_step_apply_of_flush (fun n h => (outsAt0 m c n h).2.2.2) 32 (fun _ => (0 : EReal)) (part m c)
    (fun t h j => by rw [outsAt0_A m c t h (by have := lt_N t; omega)]; frame_out; exact (zero_add _).symm)
    (fun t h j => by rw [outsAt0_B m c t h (by omega)]; frame_out; exact add_at ..) t ((flush0_11 t).mp hf) _, zero_add]
  refine Eq.trans ?_ ((ref_scale _ _ _ g k).symm.trans (congrArg _ (by unfold col; blk_ext [idx t])))
  refine (Finset.sum_congr rfl fun s _ => part_at m c _ g k).trans ?_
  refine Fin.sum_mul_add_congr fun s r hl => ?_
  have ht : t.val / 32 = 0 := by have := lt_N t; omega
  exact congrArg (term m c g k) (Fin.ext (by show (32 * (t.val / 32) + s.val) * 512 + r.val = s.val * 512 + r.val; rw [ht]; omega))

end Cert.KernelPoolIdeal.Value

end
-- ==== Proof.Pool.Claim.lean ====
/- The claim about this call: kernel and reference compute the same arrays. -/
module

public import proofs.«01_k».proof.Defs
public import proofs.«01_k».proof.Proof.Pool.Value
public import proofs.«01_k».proof.Proof.Gen.KernelPool.Frame
public import proofs.«01_k».proof.Proof.Gen.ReferencePoolIdeal.Run
public import Idealize.ShloMosaic.Lib.Claim

@[expose] public section

set_option maxRecDepth 16384

noncomputable section

namespace Cert.Pool

open Idealize.ShloMosaic Idealize.SL.Sem Cert.ReferencePoolIdeal.Read

local instance : Cert.KernelPoolIdeal.Facts := Cert.KernelPoolIdeal.Gen.facts
local instance : Cert.ReferencePoolIdeal.Facts := Cert.ReferencePoolIdeal.Gen.facts

/-- The reference terminates and leaves its arguments alone. -/
theorem frame_reference : Cert.quiescent_ReferencePoolIdeal (hReferencePoolIdeal := Cert.ReferencePoolIdeal.Gen.facts) :=
  fun m ρ _ => (θ_run Cert.ReferencePoolIdeal.defs _ _).mono
    (fun r h => ⟨fun c => (h c).2.2.2.2, Idealize.ShloMosaic.sem_eq_zero_of_no_sems (by decide) r.2⟩)
    (Cert.ReferencePoolIdeal.Value.run (F := Ideal) m ρ)

set_option maxHeartbeats 1600000 in
/-- Kernel and reference compute the same arrays. -/
theorem algebraic : Cert.algebraic_KernelPoolIdeal_ReferencePoolIdeal (hKernelPoolIdeal := Cert.KernelPoolIdeal.Gen.facts)
    (hReferencePoolIdeal := Cert.ReferencePoolIdeal.Gen.facts) := by
  pair_intro
  · run_from Cert.KernelPoolIdeal.Value.run_blocks m g
  · run_from Cert.ReferencePoolIdeal.Value.run m' g'
    all_goals obtain ⟨h0, h1, h2, h3⟩ := hagree c
    · rw [val_main_v67_eq]; (try simp only [h0, h1, h2, h3]); exact (Cert.KernelPoolIdeal.Value.final8 m c).symm
    · rw [val_main_v69_eq]; (try simp only [h0, h1, h2, h3]); exact (Cert.KernelPoolIdeal.Value.final9 m c).symm
    · rw [val_main_v70_eq]; (try simp only [h0, h1, h2, h3]); exact (Cert.KernelPoolIdeal.Value.final10 m c).symm
    · rw [val_main_v71_eq]; (try simp only [h0, h1, h2, h3]); exact (Cert.KernelPoolIdeal.Value.final11 m c).symm

end Cert.Pool

end
-- ==== Proof.Poolf.Ref.lean ====
/- What the reference of the pool's forward call computes, entry by entry, and its product with the columns in the kernel's order. -/
module

public import proofs.«01_k».proof.Defs
public import proofs.«01_k».proof.Proof.Gen.ReferencePoolfIdeal.Run
public import proofs.«01_k».proof.Proof.Gen.ReferencePoolfIdeal.Read
public import proofs.«01_k».proof.Proof.Pool.Ref

@[expose] public section

set_option maxRecDepth 16384

noncomputable section

open Idealize.ShloMosaic Idealize.ShloMosaic.TcCoe Idealize.SL.Sem
open Idealize.ShloMosaic.Pipeline (Dat)

namespace Cert.Poolf

open Cert.ReferencePoolfIdeal Cert.ReferencePoolfIdeal.Gen Cert.ReferencePoolfIdeal.Read Cert.Pool

variable (x0 : FVec Ideal S16384x1024 .f32) (x1 : FVec Ideal S16384x1184 .f32) (x2 : FVec Ideal S16384x512 .f32)
variable (x3 : FVec Ideal S4x128x128 .f32) (x4 : FVec Ideal S512 .f32) (x5 : FVec Ideal S1024x1024 .f32)
variable (s : Fin 16384) (g : Fin 4) (k : Fin 128)

/-- The windows' means are those of the backward call's reference. -/
theorem means_at : val_main_v43 (F := Ideal) x1 (ix3 s g k) = mixed x1 s g k :=
  mixed_at x1 s g k

/-- The pool's output: the means' products with the group's weight, scaled. -/
def pool : EReal := (∑ d : Fin 128, mixed x1 s g d * x3 (ix3 g d k)) * x4 (ix1 (col g k))

theorem pool_at : val_main_v49 (F := Ideal) x1 x3 x4 (ix2 s (col g k)) = pool x1 x3 x4 s g k := by
  rw [val_main_v49_apply, val_main_v46_apply, val_main_v45_apply, val_main_v48_apply, val_main_v47_apply,
    show idx_main_v45 (idx_main_v46 (ix2 s (col g k))) = ix3 g k s by unfold col; blk_ext [],
    show idx_main_v47 (idx_main_v48 (ix2 s (col g k))) = ix1 (col g k) by blk_ext [], val_main_v44_apply]
  refine congrArg (· * x4 (ix1 (col g k))) (Finset.sum_congr rfl fun d _ => ?_)
  rw [show lidx_main_v44 (ix3 g k s) d = ix3 g d k by blk_ext [], show ridx_main_v44 (ix3 g k s) d = ix3 s g d by blk_ext [], means_at, mul_comm]

/-- The attention's output with each head's 64 columns followed by 64 of zeros. -/
theorem heads_at (j : Fin 1024) : val_main_v53 (F := Ideal) x2 (ix2 s j)
    = if h : j.val % 128 < 64 then x2 (ix2 s ⟨j.val / 128 * 64 + j.val % 128, by omega⟩) else 0 := by
  pointwise [val_main_v53, val_main_v52, val_main_v51, val_main_v50, val_main_cst_13]

/-- The concatenations' columns. -/
theorem cat_left (j : Fin 1024) : val_main_v58 (F := Ideal) x1 x2 x3 x4 (ix2 s ⟨j.val, by omega⟩) = val_main_v53 (F := Ideal) x2 (ix2 s j) := by
  unfold val_main_v58 val_main_v57
  generalize val_main_v53 (F := Ideal) x2 = p
  generalize val_main_v49 (F := Ideal) x1 x3 x4 = q
  pointwise []
theorem cat_right (j : Fin 512) : val_main_v58 (F := Ideal) x1 x2 x3 x4 (ix2 s ⟨1024 + j.val, by omega⟩) = val_main_v49 (F := Ideal) x1 x3 x4 (ix2 s j) := by
  unfold val_main_v58 val_main_v57
  generalize val_main_v53 (F := Ideal) x2 = p
  generalize val_main_v49 (F := Ideal) x1 x3 x4 = q
  pointwise []
theorem both_left (j : Fin 512) : val_main_v54 (F := Ideal) x1 x2 x3 x4 (ix2 s ⟨j.val, by omega⟩) = x2 (ix2 s j) := by
  unfold val_main_v54
  generalize val_main_v49 (F := Ideal) x1 x3 x4 = q
  pointwise []
theorem both_right (j : Fin 512) : val_main_v54 (F := Ideal) x1 x2 x3 x4 (ix2 s ⟨512 + j.val, by omega⟩) = val_main_v49 (F := Ideal) x1 x3 x4 (ix2 s j) := by
  unfold val_main_v54
  generalize val_main_v49 (F := Ideal) x1 x3 x4 = q
  pointwise []

/-- A sum over `n` heads' columns, head by head. -/
theorem sum_heads (n d N : ℕ) (e : N = n * d) (f : Fin N → EReal) :
    ∑ j, f j = ∑ a : Fin n, ∑ l : Fin d, f ⟨a.val * d + l.val, by subst e; have := a.isLt; have := l.isLt; nlinarith⟩ := by
  subst e
  rw [← finProdFinEquiv.sum_comp, Fintype.sum_prod_type]
  refine Finset.sum_congr rfl fun a _ => Finset.sum_congr rfl fun l _ => congrArg f (Fin.ext ?_)
  show l.val + d * a.val = a.val * d + l.val
  rw [mul_comm]; omega

/-- Zero columns add nothing to a sum over the heads. -/
theorem sum_padded (f : Fin 512 → EReal) :
    ∑ j : Fin 1024, (if h : j.val % 128 < 64 then f ⟨j.val / 128 * 64 + j.val % 128, by omega⟩ else 0) = ∑ j, f j := by
  rw [sum_heads 8 128 1024 rfl, sum_heads 8 64 512 rfl f]
  refine Finset.sum_congr rfl fun a _ => ?_
  rw [show (∑ l : Fin 128, (if h : (a.val * 128 + l.val) % 128 < 64 then f ⟨(a.val * 128 + l.val) / 128 * 64 + (a.val * 128 + l.val) % 128, by omega⟩ else 0))
      = ∑ l : Fin (64 + 64), (if h : (a.val * 128 + l.val) % 128 < 64 then f ⟨(a.val * 128 + l.val) / 128 * 64 + (a.val * 128 + l.val) % 128, by omega⟩ else 0) from rfl,
    Fin.sum_univ_add, ← add_zero (∑ l : Fin 64, f _)]
  refine congrArg₂ _ (Finset.sum_congr rfl fun l _ => ?_) (Finset.sum_eq_zero fun l _ => ?_)
  · have e : (Fin.castAdd 64 l).val = l.val := rfl
    rw [dif_pos (by rw [e]; omega)]
    refine congrArg f (Fin.ext ?_)
    simp only [e]; omega
  · have e : (Fin.natAdd 64 l).val = 64 + l.val := rfl
    rw [dif_neg (by rw [e]; omega)]

/-- The output projection's weight with its rows in the order of the concatenation. -/
def rows (j : Fin 1536) (n : Fin 1024) : EReal :=
  if h : j.val < 1024 then (if h : j.val % 128 < 64 then x5 (ix2 ⟨j.val / 128 * 64 + j.val % 128, by omega⟩ n) else 0) else x5 (ix2 ⟨512 + (j.val - 1024), by omega⟩ n)

/-- The product over the padded columns is the product over the columns that are there. -/
theorem product_at (n : Fin 1024) : ∑ j : Fin 1536, val_main_v58 (F := Ideal) x1 x2 x3 x4 (ix2 s j) * rows x5 j n = val_main_v55 (F := Ideal) x1 x2 x3 x4 x5 (ix2 s n) := by
  rw [val_main_v55_apply]
  have hl : ∀ j : Fin 1024, lidx_main_v55 (ix2 s n) j = ix2 s j := fun j => by blk_ext []
  have hr : ∀ j : Fin 1024, ridx_main_v55 (ix2 s n) j = ix2 j n := fun j => by blk_ext []
  simp only [hl, hr]
  rw [show (∑ j : Fin 1536, val_main_v58 (F := Ideal) x1 x2 x3 x4 (ix2 s j) * rows x5 j n)
      = ∑ j : Fin (1024 + 512), val_main_v58 (F := Ideal) x1 x2 x3 x4 (ix2 s j) * rows x5 j n from rfl,
    show (∑ j : Fin 1024, val_main_v54 (F := Ideal) x1 x2 x3 x4 (ix2 s j) * x5 (ix2 j n))
      = ∑ j : Fin (512 + 512), val_main_v54 (F := Ideal) x1 x2 x3 x4 (ix2 s j) * x5 (ix2 j n) from rfl, Fin.sum_univ_add, Fin.sum_univ_add]
  refine congrArg₂ _ ((Eq.trans (Finset.sum_congr rfl fun j _ => ?_) (sum_padded fun j => x2 (ix2 s j) * x5 (ix2 ⟨j.val, by omega⟩ n))).trans
    (Finset.sum_congr rfl fun j _ => congrArg (· * x5 (ix2 ⟨j.val, by omega⟩ n)) (both_left x1 x2 x3 x4 s j).symm)) (Finset.sum_congr rfl fun j _ => ?_)
  · refine (congrArg₂ (· * ·) ((cat_left x1 x2 x3 x4 s j).trans (heads_at x2 s j)) (dif_pos j.isLt)).trans ?_
    show (if h : j.val % 128 < 64 then _ else _) * (if h : j.val % 128 < 64 then _ else _) = _
    by_cases h : j.val % 128 < 64
    · rw [dif_pos h, dif_pos h, dif_pos h]; rfl
    · rw [dif_neg h, dif_neg h, dif_neg h, zero_mul]
  · refine (congrArg₂ (· * ·) (cat_right x1 x2 x3 x4 s j) ((dif_neg (by show ¬ 1024 + j.val < 1024; omega)).trans ?_)).trans (congrArg (· * _) (both_right x1 x2 x3 x4 s j)).symm
    exact congrArg (fun q => x5 (ix2 q n)) (Fin.ext (by show 512 + (1024 + j.val - 1024) = 512 + j.val; omega))

end Cert.Poolf

end
-- ==== Proof.Poolf.Value.lean ====
/- The two arrays that the pool's forward call leaves: the residual sum and the concatenation that the backward pass reads. -/
module

public import proofs.«01_k».proof.Defs
public import proofs.«01_k».proof.Proof.Gen.KernelPoolfIdeal.Value
public import proofs.«01_k».proof.Proof.Pool.Point
public import proofs.«01_k».proof.Proof.Poolf.Ref
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPoolfIdeal.Value

open Cert.KernelPoolfIdeal Cert.KernelPoolfIdeal.Gen Cert.Pool Cert.Poolf
open Cert.KernelPoolIdeal.Value (row ext hZ hZ_at ext_before ext_after ext_mid before_eq after_eq covered Kept)
open Cert.ReferencePoolfIdeal.Read

variable (m : (ℓ : Loc nD τ sig) → Buf (Elt Ideal) ℓ)

/-- The arguments: the residual stream, the projections, the attention's output, the groups' weights, the scale, the output projection. -/
abbrev aX (c : Dev nD) : FVec Ideal S16384x1024 .f32 := m ((c : Thread nD τ).loc main_arg0)
abbrev aZ (c : Dev nD) : FVec Ideal S16384x1184 .f32 := m ((c : Thread nD τ).loc main_arg1)
abbrev aA (c : Dev nD) : FVec Ideal S16384x512 .f32 := m ((c : Thread nD τ).loc main_arg2)
abbrev aW (c : Dev nD) : FVec Ideal S4x128x128 .f32 := m ((c : Thread nD τ).loc main_arg3)
abbrev aS (c : Dev nD) : FVec Ideal S512 .f32 := m ((c : Thread nD τ).loc main_arg4)
abbrev aO (c : Dev nD) : FVec Ideal S1024x1024 .f32 := m ((c : Thread nD τ).loc main_arg5)

theorem lt_N (t : Fin cfg0.N) : t.val < 32 := t.isLt

/-- Which block each window holds at a point. -/
theorem idx : ∀ t : Fin cfg0.N, win0_0.index t = ![t.val, 0] ∧ win0_1.index t = ![t.val * 64 - 1, 0] ∧ win0_2.index t = ![t.val, 0]
    ∧ win0_3.index t = ![min (t.val * 64 + 64) 2047, 0] ∧ win0_4.index t = ![t.val, 0] ∧ win0_5.index t = ![0, 0, 0] ∧ win0_6.index t = ![0, 0]
    ∧ win0_7.index t = ![0, 0] ∧ win0_8.index t = ![t.val, 0] ∧ win0_9.index t = ![t.val, 0] :=
  (by decide +kernel : ∀ t : Fin grid0.N, _)

/-- The same point of the backward call's grid. -/
abbrev up (t : Fin cfg0.N) : Fin Cert.KernelPoolIdeal.cfg0.N := ⟨t.val, lt_N t⟩

/-- Each head's 64 columns with 64 columns of zeros behind them, -/
def padA (x : FVec Ideal S16384x512 .f32) : FVec Ideal S16384x1024 .f32 :=
  shapeCast S16384x1024 (Idealize.ShloMosaic.pad S16384x8x128 ![0, 0, 0] ![0, 0, 64] ![0, 0, 0] (shapeCast S16384x8x64 x shapeCasts_S16384x512_S16384x8x64)
    (sitofp .f32 (constantI S_ 32 0#32)) pads_S16384x8x64_S16384x8x128_000_000_0640 h_S_) shapeCasts_S16384x8x128_S16384x1024

/-- and the weight's rows in the same order. -/
def padW (w : FVec Ideal S1024x1024 .f32) : FVec Ideal S1536x1024 .f32 :=
  concatenate S1536x1024 0 [⟨S1024x1024, transpose S1024x1024 [1, 0] (shapeCast S1024x1024 (Idealize.ShloMosaic.pad S1024x8x128 ![0, 0, 0] ![0, 0, 64] ![0, 0, 0]
    (shapeCast S1024x8x64 (transpose S1024x512 [1, 0] (extractStridedSlice S512x1024 ![0, 0] w slices_S1024x1024_S512x1024_0_0)
      transposes_S512x1024_S1024x512_1_0) shapeCasts_S1024x512_S1024x8x64)
    (sitofp .f32 (constantI S_ 32 0#32)) pads_S1024x8x64_S1024x8x128_000_000_0640 h_S_) shapeCasts_S1024x8x128_S1024x1024)
    transposes_S1024x1024_S1024x1024_1_0⟩, ⟨S512x1024, extractStridedSlice S512x1024 ![512, 0] w slices_S1024x1024_S512x1024_512_0⟩]
    concatenates_S1024x1024_S512x1024_S1536x1024_d0

theorem operands (c : Dev nD) : V m c main_v5 = hZ (aZ m c) ∧ V m c main_v14 = truncf (F := Ideal) .bf16 (padW (aO m c)) bitsLt_bf16_f32
    ∧ V m c main_v18 = truncf (F := Ideal) .bf16 (padA (aA m c)) bitsLt_bf16_f32
    ∧ V m c main_v19 = truncf (F := Ideal) .bf16 (aW m c) bitsLt_bf16_f32 ∧ V m c main_v20 = broadcastInDim S1x512 ![1] bcast_S512_S1x512_1 (aS m c) := by
  unfold V hostOps0 hostOps0_1 hostOps0_2 hostOps0_3 hostOps0_4
  simp only [List.flatten_cons, List.flatten_nil, List.append_nil, List.cons_append, List.nil_append]
  refine ⟨?_, ?_, ?_, ?_, ?_⟩ <;> (after_results; try rfl)

theorem sitofp_zero : FloatOps.sitofp (F := Ideal) FTy.f32 0#32 = (0 : EReal) := by
  simp [FloatOps.sitofp]

theorem padW_at (w : FVec Ideal S1024x1024 .f32) (j : Fin 1536) (n : Fin 1024) : padW w (ix2 j n) = rows w j n := by
  unfold rows
  pointwise [padW]
  split_ifs <;> first | rfl | (exfalso; omega) | exact sitofp_zero

theorem padA_at (x : FVec Ideal S16384x512 .f32) (s : Fin 16384) (j : Fin 1024) : padA x (ix2 s j) = val_main_v53 (F := Ideal) x (ix2 s j) := by
  rw [heads_at]
  pointwise [padA]
  split_ifs <;> first | rfl | (exfalso; omega) | exact sitofp_zero

section Blocks

variable (c : Dev nD) (t : Fin cfg0.N)

/-- The rows of the projections that a point stores in its scratch. -/
abbrev LZ : List (View.Piece (Elt Ideal) S528x512 .f32) :=
  [⟨Rect.unit ![520, 0] ![8, 512] inb_S528x512_S8x512_520_0, k0_pay7 (grid0.coords t) (View.ld (iblk m c 3 t) (Rect.unit ![0, 640] ![8, 512] inb_S8x1280_S8x512_0_640))⟩,
    ⟨Rect.unit ![8, 0] ![512, 512] inb_S528x512_S512x512_8_0, k0_pay6 (View.ld (iblk m c 2 t) (Rect.unit ![0, 640] ![512, 512] inb_S512x1280_S512x512_0_640))⟩,
    ⟨Rect.unit ![0, 0] ![8, 512] inb_S528x512_S8x512_0_0, k0_pay5 (grid0.coords t) (View.ld (iblk m c 1 t) (Rect.unit ![0, 640] ![8, 512] inb_S8x1280_S8x512_0_640))⟩]

/-- A pooled column of the projections. -/
abbrev colZ (k : Fin 512) (s : Fin 16384) : EReal := aZ m c (ix2 s ⟨672 + k.val, by omega⟩)

theorem z_mid (i k : Fin 512) : View.ld (iblk m c 2 t) (Rect.unit ![0, 640] ![512, 512] inb_S512x1280_S512x512_0_640) (ix2 i k) = colZ m c k (row (up t) i) := by
  show V m c main_v5 ((win0_2.blk t).view.emb ((Rect.unit (s := S512x1280) ![0, 640] ![512, 512] inb_S512x1280_S512x512_0_640).emb (ix2 i k))) = _
  rw [(operands m c).1, show (win0_2.blk t).view.emb ((Rect.unit (s := S512x1280) ![0, 640] ![512, 512] inb_S512x1280_S512x512_0_640).emb (ix2 i k)) = ix2 (row (up t) i) ⟨640 + k.val, by omega⟩ by
    unfold row; blk_ext [idx t], hZ_at]

theorem z_before (h : 0 < t.val) (i : Fin 8) (k : Fin 512) (s : Fin 16384) (hs : s.val = t.val * 512 - 8 + i.val) :
    View.ld (iblk m c 1 t) (Rect.unit ![0, 640] ![8, 512] inb_S8x1280_S8x512_0_640) (ix2 i k) = colZ m c k s := by
  show V m c main_v5 ((win0_1.blk t).view.emb ((Rect.unit (s := S8x1280) ![0, 640] ![8, 512] inb_S8x1280_S8x512_0_640).emb (ix2 i k))) = _
  rw [(operands m c).1, show (win0_1.blk t).view.emb ((Rect.unit (s := S8x1280) ![0, 640] ![8, 512] inb_S8x1280_S8x512_0_640).emb (ix2 i k)) = ix2 s ⟨640 + k.val, by omega⟩ by
    blk_ext [idx t], hZ_at]

theorem z_after (h : t.val < 31) (i : Fin 8) (k : Fin 512) (s : Fin 16384) (hs : s.val = t.val * 512 + 512 + i.val) :
    View.ld (iblk m c 3 t) (Rect.unit ![0, 640] ![8, 512] inb_S8x1280_S8x512_0_640) (ix2 i k) = colZ m c k s := by
  show V m c main_v5 ((win0_3.blk t).view.emb ((Rect.unit (s := S8x1280) ![0, 640] ![8, 512] inb_S8x1280_S8x512_0_640).emb (ix2 i k))) = _
  rw [(operands m c).1, show (win0_3.blk t).view.emb ((Rect.unit (s := S8x1280) ![0, 640] ![8, 512] inb_S8x1280_S8x512_0_640).emb (ix2 i k)) = ix2 s ⟨640 + k.val, by omega⟩ by
    blk_ext [idx t], hZ_at]

theorem pieces_z : View.PiecesOf (ext (colZ m c) (up t)) (LZ m c t) := by
  refine ⟨fun x => ?_, fun x => ?_, fun x => ?_, trivial⟩ <;> obtain ⟨i, k, rfl⟩ : ∃ i k, x = ix2 i k := ⟨x 0, x 1, eq_ix2 x⟩
  · exact (congrFun (after_eq (Cert.KernelPoolIdeal.grid0.coords (up t)) _) _).trans ((ext_after (up t) _ _ (fun h => z_after m c t h) i k).trans (congrArg _ (by blk_ext [])))
  · refine Eq.trans (by pointwise [k0_pay6, k0_pay4]) ((z_mid m c t i k).trans ((ext_mid (up t) (colZ m c) i k).symm.trans (congrArg _ (by blk_ext []))))
  · exact (congrFun (before_eq (Cert.KernelPoolIdeal.grid0.coords (up t)) _) _).trans ((ext_before (up t) _ _ (fun h => z_before m c t h) i k).trans (congrArg _ (by blk_ext [])))

/-- The block's own rows, -/
abbrev bB : FVec Ideal S512x512 .f32 := k0_pay4 (F := Ideal) (View.ld (iblk m c 2 t) (Rect.unit ![0, 640] ![512, 512] inb_S512x1280_S512x512_0_640))

theorem kept_here : Kept (LZ m c t) (bB m c t) (aZ m c) (up t) :=
  ⟨funext fun y => View.canon_apply_of_pieces _ _ (pieces_z m c t).mem y (covered _ _ _ y), fun i l => Eq.trans (by pointwise [k0_pay4]) (z_mid m c t i l)⟩

/-- and the four groups' means. -/
abbrev M0 : FVec Ideal S512x128 .f32 := Cert.KernelPoolIdeal.Value.m0 (View.whole cc0_scratch0) (LZ m c t) (bB m c t) (up t)
abbrev M1 : FVec Ideal S512x128 .f32 := Cert.KernelPoolIdeal.Value.m1 (View.whole cc0_scratch0) (LZ m c t) (bB m c t) (up t)
abbrev M2 : FVec Ideal S512x128 .f32 := Cert.KernelPoolIdeal.Value.m2 (View.whole cc0_scratch0) (LZ m c t) (bB m c t) (up t)
abbrev M3 : FVec Ideal S512x128 .f32 := Cert.KernelPoolIdeal.Value.m3 (View.whole cc0_scratch0) (LZ m c t) (bB m c t) (up t)

/-- Loads of a group's part of the scale, of its weight, and of the blocks of the attention's output, the weight and the residual stream. -/
abbrev sl (o : ℕ) (inb : ∀ j, (![0, o] : Fin 2 → ℕ) j + (![1, 128] : Fin 2 → ℕ) j ≤ S1x512.size j) : Vec Ideal S1x128 .f32 :=
  View.ld (iblk m c 6 t : Vec Ideal S1x512 .f32) (Rect.unit (s := S1x512) ![0, o] ![1, 128] inb)
abbrev wl (o : ℕ) (inb : ∀ j, (![o, 0, 0] : Fin 3 → ℕ) j + (![1, 128, 128] : Fin 3 → ℕ) j ≤ S4x128x128.size j) : Vec Ideal S1x128x128 .bf16 :=
  View.ld (iblk m c 5 t : Vec Ideal S4x128x128 .bf16) (Rect.unit (s := S4x128x128) ![o, 0, 0] ![1, 128, 128] inb)

theorem s_load (g : Fin 4) (o : ℕ) (inb) (h : o = g.val * 128) (k : Fin 128) : sl m c t o inb (ix2 0 k) = aS m c (ix1 (col g k)) := by
  subst h
  show V m c main_v20 ((win0_6.blk t).view.emb ((Rect.unit (s := S1x512) ![0, g.val * 128] ![1, 128] inb).emb (ix2 0 k))) = _
  rw [(operands m c).2.2.2.2, show (win0_6.blk t).view.emb ((Rect.unit (s := S1x512) ![0, g.val * 128] ![1, 128] inb).emb (ix2 0 k)) = ix2 0 (col g k) by
    unfold col; blk_ext [idx t]]
  pointwise []

theorem w_load (g : Fin 4) (o : ℕ) (inb) (h : o = g.val) (k d : Fin 128) : wl m c t o inb (ix3 0 k d) = aW m c (ix3 g k d) := by
  subst h
  show V m c main_v19 ((win0_5.blk t).view.emb ((Rect.unit (s := S4x128x128) ![g.val, 0, 0] ![1, 128, 128] inb).emb (ix3 0 k d))) = _
  rw [(operands m c).2.2.2.1, show (win0_5.blk t).view.emb ((Rect.unit (s := S4x128x128) ![g.val, 0, 0] ![1, 128, 128] inb).emb (ix3 0 k d)) = ix3 g k d by
    blk_ext [idx t]]
  rfl

theorem a_block (i : Fin 512) (j : Fin 1024) : (iblk m c 4 t : Vec Ideal S512x1024 .bf16) (ix2 i j) = val_main_v53 (F := Ideal) (aA m c) (ix2 (row (up t) i) j) := by
  show V m c main_v18 ((win0_4.blk t).view.emb (ix2 i j)) = _
  rw [(operands m c).2.2.1, show (win0_4.blk t).view.emb (ix2 i j) = ix2 (row (up t) i) j by unfold row; blk_ext [idx t]]
  exact padA_at _ _ _

theorem o_block (j : Fin 1536) (n : Fin 1024) : (iblk m c 7 t : Vec Ideal S1536x1024 .bf16) (ix2 j n) = rows (aO m c) j n := by
  show V m c main_v14 ((win0_7.blk t).view.emb (ix2 j n)) = _
  rw [(operands m c).2.1, show (win0_7.blk t).view.emb (ix2 j n) = ix2 j n by blk_ext [idx t]]
  exact padW_at _ _ _

theorem x_block (i : Fin 512) (n : Fin 1024) : (iblk m c 0 t : Vec Ideal S512x1024 .f32) (ix2 i n) = aX m c (ix2 (row (up t) i) n) := by
  show V m c main_arg0 ((win0_0.blk t).view.emb (ix2 i n)) = _
  rw [show (win0_0.blk t).view.emb (ix2 i n) = ix2 (row (up t) i) n by unfold row; blk_ext [idx t]]
  rfl

end Blocks

section Group

variable (v : FVec Ideal S512x128 .f32) (w : Vec Ideal S1x128x128 .bf16) (s : Vec Ideal S1x128 .f32) (i : Fin 512) (k : Fin 128)

/-- A group's product with its weight, scaled, the same in each group. -/
theorem group_at : k0_pay20 (F := Ideal) v w s (ix2 i k) = (∑ d : Fin 128, v (ix2 i d) * w (ix3 0 d k)) * s (ix2 0 k) := by pointwise [k0_pay20]
theorem group_eq : k0_pay21 (F := Ideal) v w s = k0_pay20 v w s ∧ k0_pay1 (F := Ideal) (k0_pay22 v w) s = k0_pay20 v w s ∧ k0_pay2 (F := Ideal) v w s = k0_pay20 v w s :=
  ⟨rfl, rfl, rfl⟩

/-- The residual sum. -/
theorem sum_at (x : Vec Ideal S512x1024 .f32) (b : Vec Ideal S512x1536 .bf16) (o : Vec Ideal S1536x1024 .bf16) (n : Fin 1024) :
    k0_pay3 (F := Ideal) x b o (ix2 i n) = x (ix2 i n) + ∑ j : Fin 1536, b (ix2 i j) * o (ix2 j n) := by pointwise [k0_pay3]

end Group

section Point

variable (c : Dev nD) (t : Fin cfg0.N)

/-- What the concatenation's block holds. -/
def block (y : S512x1536.Idx) : EReal := val_main_v58 (F := Ideal) (aZ m c) (aA m c) (aW m c) (aS m c) (ix2 (row (up t) (y 0)) (y 1))

/-- A group's columns in it. -/
theorem piece_at (g : Fin 4) (v : FVec Ideal S512x128 .f32) (hv : ∀ i k, v (ix2 i k) = mixed (aZ m c) (row (up t) i) g k) (o w : ℕ) (inbo inbw)
    (h : o = g.val * 128) (hw : w = g.val) (i : Fin 512) (k : Fin 128) (j : Fin 1536) (hj : j.val = 1024 + (g.val * 128 + k.val)) :
    k0_pay20 (F := Ideal) v (wl m c t w inbw) (sl m c t o inbo) (ix2 i k) = block m c t (ix2 i j) := by
  obtain rfl : j = ⟨1024 + (col g k).val, Nat.add_lt_add_left (col g k).isLt 1024⟩ := Fin.ext hj
  refine Eq.trans ?_ ((cat_right (aZ m c) (aA m c) (aW m c) (aS m c) (row (up t) i) (col g k)).trans (pool_at (aZ m c) (aW m c) (aS m c) (row (up t) i) g k)).symm
  rw [group_at, s_load m c t g o inbo h]
  exact congrArg (· * _) (Finset.sum_congr rfl fun d _ => congrArg₂ _ (hv i d) (w_load m c t g w inbw hw d k))

/-- The five pieces that a point stores of it. -/
abbrev LB : List (View.Piece (Elt Ideal) S512x1536 .bf16) :=
  [⟨Rect.unit ![0, 1408] ![512, 128] inb_S512x1536_S512x128_0_1408, k0_pay2 (F := Ideal) (M3 m c t) (wl m c t 3 inb_S4x128x128_S1x128x128_3_0_0) (sl m c t 384 inb_S1x512_S1x128_0_384)⟩,
    ⟨Rect.unit ![0, 1280] ![512, 128] inb_S512x1536_S512x128_0_1280, k0_pay1 (F := Ideal) (k0_pay22 (M2 m c t) (wl m c t 2 inb_S4x128x128_S1x128x128_2_0_0)) (sl m c t 256 inb_S1x512_S1x128_0_256)⟩,
    ⟨Rect.unit ![0, 1152] ![512, 128] inb_S512x1536_S512x128_0_1152, k0_pay21 (F := Ideal) (M1 m c t) (wl m c t 1 inb_S4x128x128_S1x128x128_1_0_0) (sl m c t 128 inb_S1x512_S1x128_0_128)⟩,
    ⟨Rect.unit ![0, 1024] ![512, 128] inb_S512x1536_S512x128_0_1024, k0_pay20 (F := Ideal) (M0 m c t) (wl m c t 0 inb_S4x128x128_S1x128x128_0_0_0) (sl m c t 0 inb_S1x512_S1x128_0_0)⟩,
    ⟨Rect.unit ![0, 0] ![512, 1024] inb_S512x1536_S512x1024_0_0, k0_pay19 (F := Ideal) (iblk m c 4 t)⟩]

theorem pieces_b : View.PiecesOf (block m c t) (LB m c t) := by
  refine ⟨fun x => ?_, fun x => ?_, fun x => ?_, fun x => ?_, fun x => ?_, trivial⟩ <;> obtain ⟨i, k, rfl⟩ : ∃ i k, x = ix2 i k := ⟨x 0, x 1, eq_ix2 x⟩
  · refine (congrFun (group_eq ..).2.2 _).trans ((piece_at m c t 3 _ (Cert.KernelPoolIdeal.Value.mean3 _ (kept_here m c t)) 384 3 _ _ rfl rfl i k ⟨1408 + k.val, by omega⟩ ?_).trans (congrArg (block m c t) (by blk_ext [])))
    show 1408 + k.val = 1024 + (3 * 128 + k.val); omega
  · refine (congrFun (group_eq ..).2.1 _).trans ((piece_at m c t 2 _ (Cert.KernelPoolIdeal.Value.mean2 _ (kept_here m c t)) 256 2 _ _ rfl rfl i k ⟨1280 + k.val, by omega⟩ ?_).trans (congrArg (block m c t) (by blk_ext [])))
    show 1280 + k.val = 1024 + (2 * 128 + k.val); omega
  · refine (congrFun (group_eq ..).1 _).trans ((piece_at m c t 1 _ (Cert.KernelPoolIdeal.Value.mean1 _ (kept_here m c t)) 128 1 _ _ rfl rfl i k ⟨1152 + k.val, by omega⟩ ?_).trans (congrArg (block m c t) (by blk_ext [])))
    show 1152 + k.val = 1024 + (1 * 128 + k.val); omega
  · refine (piece_at m c t 0 _ (Cert.KernelPoolIdeal.Value.mean0 _ (kept_here m c t)) 0 0 _ _ rfl rfl i k ⟨1024 + k.val, by omega⟩ ?_).trans (congrArg (block m c t) (by blk_ext []))
    show 1024 + k.val = 1024 + (0 * 128 + k.val); omega
  · refine Eq.trans (by pointwise [k0_pay19]) ((a_block m c t i k).trans ((cat_left (aZ m c) (aA m c) (aW m c) (aS m c) (row (up t) i) k).symm.trans
      (congrArg (block m c t) (a₁ := ix2 i ⟨k.val, by omega⟩) (by blk_ext []))))

theorem covered_b (p q r s u : _) (y : S512x1536.Idx) : ∃ b ∈ ([⟨Rect.unit ![0, 1408] ![512, 128] inb_S512x1536_S512x128_0_1408, p⟩, ⟨Rect.unit ![0, 1280] ![512, 128] inb_S512x1536_S512x128_0_1280, q⟩,
    ⟨Rect.unit ![0, 1152] ![512, 128] inb_S512x1536_S512x128_0_1152, r⟩, ⟨Rect.unit ![0, 1024] ![512, 128] inb_S512x1536_S512x128_0_1024, s⟩,
    ⟨Rect.unit ![0, 0] ![512, 1024] inb_S512x1536_S512x1024_0_0, u⟩] : List (View.Piece (Elt Ideal) S512x1536 .bf16)), y ∈ b.1.set := by
  have b0 : (y 0).val < 512 := (y 0).isLt
  have b1 : (y 1).val < 1536 := (y 1).isLt
  have hit : ∀ (o w : ℕ) (inb : ∀ j, (![0, o] : Fin 2 → ℕ) j + (![512, w] : Fin 2 → ℕ) j ≤ S512x1536.size j), o ≤ (y 1).val → (y 1).val < o + w →
      y ∈ (Rect.unit (s := S512x1536) ![0, o] ![512, w] inb).set := fun o w inb p q => (Rect.mem_set_unit (inb := inb)).mpr fun j => by
    match j with
    | ⟨0, _⟩ => exact ⟨Nat.zero_le _, by show (y 0).val < 0 + 512; omega⟩
    | ⟨1, _⟩ => exact ⟨p, q⟩
  by_cases h3 : 1408 ≤ (y 1).val
  · exact ⟨_, List.mem_cons_self, hit 1408 128 inb_S512x1536_S512x128_0_1408 h3 (by omega)⟩
  · refine (?_ : ∃ b, _ ∧ _).imp fun b hb => ⟨List.mem_cons_of_mem _ hb.1, hb.2⟩
    by_cases h2 : 1280 ≤ (y 1).val
    · exact ⟨_, List.mem_cons_self, hit 1280 128 inb_S512x1536_S512x128_0_1280 h2 (by omega)⟩
    · refine (?_ : ∃ b, _ ∧ _).imp fun b hb => ⟨List.mem_cons_of_mem _ hb.1, hb.2⟩
      by_cases h1 : 1152 ≤ (y 1).val
      · exact ⟨_, List.mem_cons_self, hit 1152 128 inb_S512x1536_S512x128_0_1152 h1 (by omega)⟩
      · refine (?_ : ∃ b, _ ∧ _).imp fun b hb => ⟨List.mem_cons_of_mem _ hb.1, hb.2⟩
        by_cases h0 : 1024 ≤ (y 1).val
        · exact ⟨_, List.mem_cons_self, hit 1024 128 inb_S512x1536_S512x128_0_1024 h0 (by omega)⟩
        · exact ⟨_, List.mem_cons_of_mem _ List.mem_cons_self, hit 0 1024 inb_S512x1536_S512x1024_0_0 (Nat.zero_le _) (by omega)⟩

theorem kept_b : View.canon (LB m c t) = block m c t :=
  funext fun y => View.canon_apply_of_pieces _ _ (pieces_b m c t).mem y (covered_b _ _ _ _ _ y)

theorem block9 (y : S512x1536.Idx) : (outsAt0 m c t).2 y = block m c t y := by
  refine Eq.trans ?_ (congrFun (kept_b m c t) y)
  unfold outsAt0 out0_A_8 out0_A_9
  frame_out
  rfl

theorem block8 (i : Fin 512) (n : Fin 1024) : (outsAt0 m c t).1 (ix2 i n)
    = val_main_v56 (F := Ideal) (aX m c) (aZ m c) (aA m c) (aW m c) (aS m c) (aO m c) (ix2 (row (up t) i) n) := by
  have h : (outsAt0 m c t).1 (ix2 i n) = k0_pay3 (F := Ideal) (iblk m c 0 t)
      ((ms0_9 t).view.readCov (LB m c t) (Rect.unit (s := S512x1536) ![0, 0] ![512, 1536] inb_S512x1536_S512x1536_0_0).toLoadRect) (iblk m c 7 t) (ix2 i n) := by
    unfold outsAt0 out0_A_8 out0_A_9
    frame_out
    rfl
  rw [h, sum_at, x_block, val_main_v56_apply, ← product_at]
  refine congrArg (aX m c (ix2 (row (up t) i) n) + ·) (Finset.sum_congr rfl fun j _ => congrArg₂ (· * ·) ?_ (o_block m c t j n))
  rw [View.readCov_eq_canon', kept_b]
  show block m c t _ = block m c t (ix2 i j)
  refine congrArg (block m c t) ?_
  funext a
  match a with
  | ⟨0, _⟩ => exact Fin.ext (by show 0 + 1 * i.val = i.val; omega)
  | ⟨1, _⟩ => exact Fin.ext (by show 0 + 1 * j.val = j.val; omega)

end Point

variable (c : Dev nD)

/-- The residual sum, -/
theorem final8 : (dats m 0 c).arrAt 8 (cfgs 0).N = val_main_v56 (F := Ideal) (aX m c) (aZ m c) (aA m c) (aW m c) (aS m c) (aO m c) := by
  refine (dats m 0 c).arrAt_eq_of_covers 8 _ (by decide +kernel) fun t hf y => ?_
  obtain ⟨i, k, rfl⟩ : ∃ (i : Fin 512) (k : Fin 1024), y = ix2 i k := ⟨y 0, y 1, eq_ix2 y⟩
  rw [after0_8]
  exact (block8 m c t i k).trans (congrArg (val_main_v56 (F := Ideal) (aX m c) (aZ m c) (aA m c) (aW m c) (aS m c) (aO m c)) (by unfold row; blk_ext [idx t]))

/-- and the concatenation of the attention's padded heads with the pool's output. -/
theorem final9 : (dats m 0 c).arrAt 9 (cfgs 0).N = val_main_v58 (F := Ideal) (aZ m c) (aA m c) (aW m c) (aS m c) := by
  refine (dats m 0 c).arrAt_eq_of_covers 9 _ (by decide +kernel) fun t hf y => ?_
  obtain ⟨i, k, rfl⟩ : ∃ (i : Fin 512) (k : Fin 1536), y = ix2 i k := ⟨y 0, y 1, eq_ix2 y⟩
  rw [after0_9]
  exact (block9 m c t (ix2 i k)).trans (congrArg (val_main_v58 (F := Ideal) (aZ m c) (aA m c) (aW m c) (aS m c)) (by unfold row; blk_ext [idx t]))

end Cert.KernelPoolfIdeal.Value

end
-- ==== Proof.Poolf.Claim.lean ====
/- The claim about this call: kernel and reference compute the same arrays. -/
module

public import proofs.«01_k».proof.Defs
public import proofs.«01_k».proof.Proof.Poolf.Value
public import proofs.«01_k».proof.Proof.Gen.KernelPoolf.Frame
public import proofs.«01_k».proof.Proof.Gen.ReferencePoolfIdeal.Run
public import Idealize.ShloMosaic.Lib.Claim

@[expose] public section

set_option maxRecDepth 16384

noncomputable section

namespace Cert.Poolf

open Idealize.ShloMosaic Idealize.SL.Sem Cert.ReferencePoolfIdeal.Read

local instance : Cert.KernelPoolfIdeal.Facts := Cert.KernelPoolfIdeal.Gen.facts
local instance : Cert.ReferencePoolfIdeal.Facts := Cert.ReferencePoolfIdeal.Gen.facts

/-- The reference terminates and leaves its arguments alone. -/
theorem frame_reference : Cert.quiescent_ReferencePoolfIdeal (hReferencePoolfIdeal := Cert.ReferencePoolfIdeal.Gen.facts) :=
  fun m ρ _ => (θ_run Cert.ReferencePoolfIdeal.defs _ _).mono
    (fun r h => ⟨fun c => (h c).2.2, Idealize.ShloMosaic.sem_eq_zero_of_no_sems (by decide) r.2⟩)
    (Cert.ReferencePoolfIdeal.Value.run (F := Ideal) m ρ)

set_option maxHeartbeats 1600000 in
/-- Kernel and reference compute the same arrays. -/
theorem algebraic : Cert.algebraic_KernelPoolfIdeal_ReferencePoolfIdeal (hKernelPoolfIdeal := Cert.KernelPoolfIdeal.Gen.facts)
    (hReferencePoolfIdeal := Cert.ReferencePoolfIdeal.Gen.facts) := by
  pair_intro
  · run_from Cert.KernelPoolfIdeal.Value.run_blocks m g
  · run_from Cert.ReferencePoolfIdeal.Value.run m' g'
    all_goals obtain ⟨h0, h1, h2, h3, h4, h5⟩ := hagree c
    · rw [val_main_v56_eq]; (try simp only [h0, h1, h2, h3, h4, h5]); exact (Cert.KernelPoolfIdeal.Value.final8 m c).symm
    · rw [val_main_v58_eq]; (try simp only [h0, h1, h2, h3, h4, h5]); exact (Cert.KernelPoolfIdeal.Value.final9 m c).symm

end Cert.Poolf

end
-- ==== Proof.lean ====
/- The proof of the certificate's claim: for each call the frames, what idealization preserves, and the equation of
   kernel and reference, assembled from the calls' own modules. -/
module

public import proofs.«01_k».proof.Defs
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Loss.Claim
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Mix.Claim
public import proofs.«01_k».proof.Proof.Gen.Pre_finite_mix
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Out.Claim
public import proofs.«01_k».proof.Proof.Gen.KernelAtt
public import proofs.«01_k».proof.Proof.Gen.KernelAtt.Skeleton
public import proofs.«01_k».proof.Proof.Gen.KernelAtt.Launch
public import proofs.«01_k».proof.Proof.Gen.KernelAtt.Points
public import proofs.«01_k».proof.Proof.Gen.KernelAttIdeal
public import proofs.«01_k».proof.Proof.Gen.KernelAttIdeal.Skeleton
public import proofs.«01_k».proof.Proof.Gen.KernelAttIdeal.Launch
public import proofs.«01_k».proof.Proof.Gen.KernelAttIdeal.Points
public import proofs.«01_k».proof.Proof.Gen.ReferenceAttIdeal
public import proofs.«01_k».proof.Proof.Gen.ReferenceAttIdeal.Run
public import proofs.«01_k».proof.Proof.Gen.ReferenceAttIdeal.Read
public import proofs.«01_k».proof.Proof.Att.Claim
public import proofs.«01_k».proof.Proof.Gen.Pre_finite_att
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Ffn.Claim
public import proofs.«01_k».proof.Proof.Gen.Pre_finite_ffn
public import proofs.«01_k».proof.Proof.Gen.KernelFla
public import proofs.«01_k».proof.Proof.Gen.KernelFla.Skeleton
public import proofs.«01_k».proof.Proof.Gen.KernelFla.Launch
public import proofs.«01_k».proof.Proof.Gen.KernelFla.Points
public import proofs.«01_k».proof.Proof.Gen.KernelFla.Frame
public import proofs.«01_k».proof.Proof.Gen.KernelFlaIdeal
public import proofs.«01_k».proof.Proof.Gen.KernelFlaIdeal.Skeleton
public import proofs.«01_k».proof.Proof.Gen.KernelFlaIdeal.Launch
public import proofs.«01_k».proof.Proof.Gen.KernelFlaIdeal.Points
public import proofs.«01_k».proof.Proof.Gen.KernelFlaIdeal.Frame
public import proofs.«01_k».proof.Proof.Gen.ReferenceFlaIdeal
public import proofs.«01_k».proof.Proof.Gen.KernelFlaIdeal.Value
public import proofs.«01_k».proof.Proof.Gen.ReferenceFlaIdeal.Run
public import proofs.«01_k».proof.Proof.Gen.ReferenceFlaIdeal.Read
public import proofs.«01_k».proof.Proof.Fla.Claim
public import proofs.«01_k».proof.Proof.Gen.Pre_finite_fla
public import proofs.«01_k».proof.Proof.Gen.KernelFfnf
public import proofs.«01_k».proof.Proof.Gen.KernelFfnf.Skeleton
public import proofs.«01_k».proof.Proof.Gen.KernelFfnf.Launch
public import proofs.«01_k».proof.Proof.Gen.KernelFfnf.Points
public import proofs.«01_k».proof.Proof.Gen.KernelFfnf.Frame
public import proofs.«01_k».proof.Proof.Gen.KernelFfnfIdeal
public import proofs.«01_k».proof.Proof.Gen.KernelFfnfIdeal.Skeleton
public import proofs.«01_k».proof.Proof.Gen.KernelFfnfIdeal.Launch
public import proofs.«01_k».proof.Proof.Gen.KernelFfnfIdeal.Points
public import proofs.«01_k».proof.Proof.Gen.KernelFfnfIdeal.Frame
public import proofs.«01_k».proof.Proof.Gen.ReferenceFfnfIdeal
public import proofs.«01_k».proof.Proof.Gen.KernelFfnfIdeal.Value
public import proofs.«01_k».proof.Proof.Gen.ReferenceFfnfIdeal.Run
public import proofs.«01_k».proof.Proof.Gen.ReferenceFfnfIdeal.Read
public import proofs.«01_k».proof.Proof.Ffnf.Claim
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.ReferencePoolIdeal
public import proofs.«01_k».proof.Proof.Gen.KernelPoolIdeal.Value
public import proofs.«01_k».proof.Proof.Gen.ReferencePoolIdeal.Run
public import proofs.«01_k».proof.Proof.Gen.ReferencePoolIdeal.Read
public import proofs.«01_k».proof.Proof.Pool.Claim
public import proofs.«01_k».proof.Proof.Gen.KernelPoolf
public import proofs.«01_k».proof.Proof.Gen.KernelPoolf.Skeleton
public import proofs.«01_k».proof.Proof.Gen.KernelPoolf.Launch
public import proofs.«01_k».proof.Proof.Gen.KernelPoolf.Points
public import proofs.«01_k».proof.Proof.Gen.KernelPoolf.Frame
public import proofs.«01_k».proof.Proof.Gen.KernelPoolfIdeal
public import proofs.«01_k».proof.Proof.Gen.KernelPoolfIdeal.Skeleton
public import proofs.«01_k».proof.Proof.Gen.KernelPoolfIdeal.Launch
public import proofs.«01_k».proof.Proof.Gen.KernelPoolfIdeal.Points
public import proofs.«01_k».proof.Proof.Gen.KernelPoolfIdeal.Frame
public import proofs.«01_k».proof.Proof.Gen.ReferencePoolfIdeal
public import proofs.«01_k».proof.Proof.Gen.KernelPoolfIdeal.Value
public import proofs.«01_k».proof.Proof.Gen.ReferencePoolfIdeal.Run
public import proofs.«01_k».proof.Proof.Gen.ReferencePoolfIdeal.Read
public import proofs.«01_k».proof.Proof.Poolf.Claim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.KernelLoss.Gen.facts, Cert.KernelLossIdeal.Gen.facts, Cert.ReferenceLossIdeal.Gen.facts, Cert.KernelMix.Gen.facts, Cert.KernelMixIdeal.Gen.facts, Cert.ReferenceMixIdeal.Gen.facts, Cert.KernelOut.Gen.facts, Cert.KernelOutIdeal.Gen.facts, Cert.ReferenceOutIdeal.Gen.facts, Cert.KernelAtt.Gen.facts, Cert.KernelAttIdeal.Gen.facts, Cert.ReferenceAttIdeal.Gen.facts, Cert.KernelFfn.Gen.facts, Cert.KernelFfnIdeal.Gen.facts, Cert.ReferenceFfnIdeal.Gen.facts, Cert.KernelFla.Gen.facts, Cert.KernelFlaIdeal.Gen.facts, Cert.ReferenceFlaIdeal.Gen.facts, Cert.KernelFfnf.Gen.facts, Cert.KernelFfnfIdeal.Gen.facts, Cert.ReferenceFfnfIdeal.Gen.facts, Cert.KernelPool.Gen.facts, Cert.KernelPoolIdeal.Gen.facts, Cert.ReferencePoolIdeal.Gen.facts, Cert.KernelPoolf.Gen.facts, Cert.KernelPoolfIdeal.Gen.facts, Cert.ReferencePoolfIdeal.Gen.facts, Cert.Pre_finite_mix.Gen.facts, Cert.Pre_finite_att.Gen.facts, Cert.Pre_finite_ffn.Gen.facts, Cert.Pre_finite_fla.Gen.facts, by
  exact ⟨fun m ρ _ => Cert.KernelLoss.Gen.frame m ρ,
    fun m ρ _ => Cert.KernelLossIdeal.Gen.frame m ρ,
    Cert.Loss.frame_reference,
    fun m ρ _ => Cert.KernelMix.Gen.frame m ρ,
    fun m ρ _ => Cert.KernelMixIdeal.Gen.frame m ρ,
    fun m ρ _ => Cert.KernelMixIdeal.Gen.frame m ρ,
    Cert.Mix.frame_reference,
    fun m ρ _ => Cert.Mix.frame_reference m ρ trivial,
    fun m ρ _ => Cert.KernelOut.Gen.frame m ρ,
    fun m ρ _ => Cert.KernelOutIdeal.Gen.frame m ρ,
    Cert.Out.frame_reference,
    Cert.Att.frame_kernel,
    Cert.Att.frame_ideal,
    fun m ρ _ => Cert.Att.frame_ideal m ρ trivial,
    Cert.Att.frame_reference,
    fun m ρ _ => Cert.Att.frame_reference m ρ trivial,
    Cert.Ffn.frame_kernel,
    Cert.Ffn.frame_ideal,
    fun m ρ _ => Cert.Ffn.frame_ideal m ρ trivial,
    Cert.Ffn.frame_reference,
    fun m ρ _ => Cert.Ffn.frame_reference m ρ trivial,
    fun m ρ _ => Cert.KernelFla.Gen.frame m ρ,
    fun m ρ _ => Cert.KernelFlaIdeal.Gen.frame m ρ,
    fun m ρ _ => Cert.KernelFlaIdeal.Gen.frame m ρ,
    Cert.Fla.frame_reference,
    fun m ρ _ => Cert.Fla.frame_reference m ρ trivial,
    fun m ρ _ => Cert.KernelFfnf.Gen.frame m ρ,
    fun m ρ _ => Cert.KernelFfnfIdeal.Gen.frame m ρ,
    Cert.Ffnf.frame_reference,
    fun m ρ _ => Cert.KernelPool.Gen.frame m ρ,
    fun m ρ _ => Cert.KernelPoolIdeal.Gen.frame m ρ,
    Cert.Pool.frame_reference,
    fun m ρ _ => Cert.KernelPoolf.Gen.frame m ρ,
    fun m ρ _ => Cert.KernelPoolfIdeal.Gen.frame m ρ,
    Cert.Poolf.frame_reference,
    trivial,
    Cert.Loss.algebraic,
    trivial,
    Cert.Mix.algebraic,
    trivial,
    Cert.Out.algebraic,
    Cert.Att.preserves,
    Cert.Att.algebraic,
    trivial,
    Cert.Ffn.algebraic,
    Cert.Fla.preserves,
    Cert.Fla.algebraic,
    trivial,
    Cert.Ffnf.algebraic,
    trivial,
    Cert.Pool.algebraic,
    trivial,
    Cert.Poolf.algebraic⟩⟩

end Cert.Proof

end
